-- ==== Defs.lean ====
def Pre_Kernel [hPre_starts_in_bounds : Cert.Pre_starts_in_bounds.Facts] (m : (ℓ : Loc Cert.Kernel.nD Cert.Kernel.τ Cert.Kernel.sig) → Buf (Elt Bits) ℓ) : Prop :=
  ∀ c : Dev Cert.Kernel.nD,
    (Cert.Pre_starts_in_bounds.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).1 = (fun _ => 1#1)
    ∧ (Cert.Pre_starts_in_bounds.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2 = (fun _ => 1#1)

def Pre_KernelIdeal [hPre_starts_in_bounds : Cert.Pre_starts_in_bounds.Facts] (m : (ℓ : Loc Cert.KernelIdeal.nD Cert.KernelIdeal.τ Cert.KernelIdeal.sig) → Buf (Elt Ideal) ℓ) : Prop :=
  ∀ c : Dev Cert.KernelIdeal.nD,
    (Cert.Pre_starts_in_bounds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_starts_in_bounds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_KernelIdeal_rows_in_order_and_finite [hPre_rows_in_order_and_finite : Cert.Pre_rows_in_order_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_order_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_rows_in_order_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_rows_in_order_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_rows_in_order_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_rows_in_order_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_rows_in_order_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_rows_in_order_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_rows_in_order_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_order_and_finite [hPre_rows_in_order_and_finite : Cert.Pre_rows_in_order_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_order_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_rows_in_order_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_rows_in_order_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_rows_in_order_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_rows_in_order_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_rows_in_order_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_rows_in_order_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_rows_in_order_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def quiescent_Kernel [hKernel : Cert.Kernel.Facts] [hPre_starts_in_bounds : Cert.Pre_starts_in_bounds.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_starts_in_bounds : Cert.Pre_starts_in_bounds.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_rows_in_order_and_finite [hKernelIdeal : Cert.KernelIdeal.Facts] [hPre_rows_in_order_and_finite : Cert.Pre_rows_in_order_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_in_order_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_rows_in_order_and_finite [hReferenceIdeal : Cert.ReferenceIdeal.Facts] [hPre_rows_in_order_and_finite : Cert.Pre_rows_in_order_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_order_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_rows_in_order_and_finite [hKernelIdeal : Cert.KernelIdeal.Facts] [hReferenceIdeal : Cert.ReferenceIdeal.Facts] [hPre_rows_in_order_and_finite : Cert.Pre_rows_in_order_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_in_order_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_starts_in_bounds : Cert.Pre_starts_in_bounds.Facts) (hPre_rows_in_order_and_finite : Cert.Pre_rows_in_order_and_finite.Facts),
    quiescent_Kernel (hKernel := hKernel) (hPre_starts_in_bounds := hPre_starts_in_bounds)
    ∧ quiescent_KernelIdeal (hKernelIdeal := hKernelIdeal) (hPre_starts_in_bounds := hPre_starts_in_bounds)
    ∧ quiescent_KernelIdeal_pre_rows_in_order_and_finite (hKernelIdeal := hKernelIdeal) (hPre_rows_in_order_and_finite := hPre_rows_in_order_and_finite)
    ∧ quiescent_ReferenceIdeal (hReferenceIdeal := hReferenceIdeal)
    ∧ quiescent_ReferenceIdeal_pre_rows_in_order_and_finite (hReferenceIdeal := hReferenceIdeal) (hPre_rows_in_order_and_finite := hPre_rows_in_order_and_finite)
    ∧ preserves_Kernel_KernelIdeal
    ∧ algebraic_KernelIdeal_ReferenceIdeal_pre_rows_in_order_and_finite (hKernelIdeal := hKernelIdeal) (hReferenceIdeal := hReferenceIdeal) (hPre_rows_in_order_and_finite := hPre_rows_in_order_and_finite)
-- ==== Pre_rows_in_order_and_finite.lean ====
abbrev S1536x32 : Shape := ⟨2, ![1536, 32]⟩
abbrev S1536 : Shape := ⟨1, ![1536]⟩
abbrev S1024x128 : Shape := ⟨2, ![1024, 128]⟩
abbrev S1537 : Shape := ⟨1, ![1537]⟩
abbrev S49152 : Shape := ⟨1, ![49152]⟩
abbrev S1536x320 : Shape := ⟨2, ![1536, 320]⟩
abbrev S_ : Shape := ⟨0, ![]⟩

class Facts : Prop where
  bcast_S_S1537 : S_.BroadcastsInDim S1537 (![] : Fin 0 → Fin S1537.rank)
  slices_S1537_S1536_0 : S1537.Slices ![0] S1536
  slices_S1537_S1536_1 : S1537.Slices ![1] S1536
  bcast_S_S49152 : S_.BroadcastsInDim S49152 (![] : Fin 0 → Fin S49152.rank)
  bcast_S_S1536 : S_.BroadcastsInDim S1536 (![] : Fin 0 → Fin S1536.rank)

variable [Facts]

def fn_part1 {F : FTy → Type} [FloatOps F] (main_v1 : IVec S1537 1) (main_v3 : IVec S1537 1) (main_v6 : IVec S1536 1) (main_v8 : IVec S49152 1) (main_v10 : IVec S49152 1) (main_v13 : IVec S49152 1) (main_v16 : IVec S1536 1) (main_v17 : FVec F S1536 .f32) : IVec S1537 1 × IVec S1537 1 × IVec S1536 1 × IVec S49152 1 × IVec S49152 1 × IVec S49152 1 × IVec S1536 1 × IVec S1536 1 :=
  let main_cst_4 : FVec F S_ .f32 := constant S_ .f32 0x7F800000#32
  let main_v18 : FVec F S1536 .f32 := broadcastInDim S1536 ![] bcast_S_S1536 main_cst_4
  let main_v19 : IVec S1536 1 := cmpf .olt main_v17 main_v18
  (main_v1, main_v3, main_v6, main_v8, main_v10, main_v13, main_v16, main_v19)

def fn {F : FTy → Type} [FloatOps F] (main_arg0 : IVec S1536x32 8) (main_arg1 : FVec F S1536 .f32) (main_arg2 : FVec F S1536 .f32) (main_arg3 : IVec S1024x128 8) (main_arg4 : IVec S1537 32) (main_arg5 : IVec S49152 32) (main_arg6 : FVec F S49152 .f32) (main_arg7 : FVec F S1536x320 .bf16) : IVec S1537 1 × IVec S1537 1 × IVec S1536 1 × IVec S49152 1 × IVec S49152 1 × IVec S49152 1 × IVec S1536 1 × IVec S1536 1 :=
  let main_c : IVec S_ 32 := constantI S_ 32 0#32
  let main_v0 : IVec S1537 32 := broadcastInDim S1537 ![] bcast_S_S1537 main_c
  let main_v1 : IVec S1537 1 := cmpi .sge main_arg4 main_v0
  let main_c_0 : IVec S_ 32 := constantI S_ 32 49152#32
  let main_v2 : IVec S1537 32 := broadcastInDim S1537 ![] bcast_S_S1537 main_c_0
  let main_v3 : IVec S1537 1 := cmpi .sle main_arg4 main_v2
  let main_v4 : IVec S1536 32 := (extractStridedSlice S1536 ![0] · slices_S1537_S1536_0) main_arg4
  let main_v5 : IVec S1536 32 := (extractStridedSlice S1536 ![1] · slices_S1537_S1536_1) main_arg4
  let main_v6 : IVec S1536 1 := cmpi .sle main_v4 main_v5
  let main_c_1 : IVec S_ 32 := constantI S_ 32 0#32
  let main_v7 : IVec S49152 32 := broadcastInDim S49152 ![] bcast_S_S49152 main_c_1
  let main_v8 : IVec S49152 1 := cmpi .sge main_arg5 main_v7
  let main_c_2 : IVec S_ 32 := constantI S_ 32 1536#32
  let main_v9 : IVec S49152 32 := broadcastInDim S49152 ![] bcast_S_S49152 main_c_2
  let main_v10 : IVec S49152 1 := cmpi .slt main_arg5 main_v9
  let main_v11 : FVec F S49152 .f32 := Host.absf main_arg6
  let main_cst : FVec F S_ .f32 := constant S_ .f32 0x7F800000#32
  let main_v12 : FVec F S49152 .f32 := broadcastInDim S49152 ![] bcast_S_S49152 main_cst
  let main_v13 : IVec S49152 1 := cmpf .olt main_v11 main_v12
  let main_v14 : FVec F S1536 .f32 := Host.absf main_arg2
  let main_cst_3 : FVec F S_ .f32 := constant S_ .f32 0x7F800000#32
  let main_v15 : FVec F S1536 .f32 := broadcastInDim S1536 ![] bcast_S_S1536 main_cst_3
  let main_v16 : IVec S1536 1 := cmpf .olt main_v14 main_v15
  let main_v17 : FVec F S1536 .f32 := Host.absf main_arg1
  fn_part1 (F := F) main_v1 main_v3 main_v6 main_v8 main_v10 main_v13 main_v16 main_v17
-- ==== Pre_starts_in_bounds.lean ====
abbrev S1536x32 : Shape := ⟨2, ![1536, 32]⟩
abbrev S1536 : Shape := ⟨1, ![1536]⟩
abbrev S1024x128 : Shape := ⟨2, ![1024, 128]⟩
abbrev S1537 : Shape := ⟨1, ![1537]⟩
abbrev S49152 : Shape := ⟨1, ![49152]⟩
abbrev S1536x320 : Shape := ⟨2, ![1536, 320]⟩
abbrev S_ : Shape := ⟨0, ![]⟩

class Facts : Prop where
  bcast_S_S1537 : S_.BroadcastsInDim S1537 (![] : Fin 0 → Fin S1537.rank)

variable [Facts]

def fn {F : FTy → Type} [FloatOps F] (main_arg0 : IVec S1536x32 8) (main_arg1 : FVec F S1536 .f32) (main_arg2 : FVec F S1536 .f32) (main_arg3 : IVec S1024x128 8) (main_arg4 : IVec S1537 32) (main_arg5 : IVec S49152 32) (main_arg6 : FVec F S49152 .f32) (main_arg7 : FVec F S1536x320 .bf16) : IVec S1537 1 × IVec S1537 1 :=
  let main_c : IVec S_ 32 := constantI S_ 32 0#32
  let main_v0 : IVec S1537 32 := broadcastInDim S1537 ![] bcast_S_S1537 main_c
  let main_v1 : IVec S1537 1 := cmpi .sge main_arg4 main_v0
  let main_c_0 : IVec S_ 32 := constantI S_ 32 49152#32
  let main_v2 : IVec S1537 32 := broadcastInDim S1537 ![] bcast_S_S1537 main_c_0
  let main_v3 : IVec S1537 1 := cmpi .sle main_arg4 main_v2
  (main_v1, main_v3)
-- ==== Kernel.lean ====
abbrev S1536x32 : Shape := ⟨2, ![1536, 32]⟩
abbrev S1536 : Shape := ⟨1, ![1536]⟩
abbrev S1024x128 : Shape := ⟨2, ![1024, 128]⟩
abbrev S1537 : Shape := ⟨1, ![1537]⟩
abbrev S49152 : Shape := ⟨1, ![49152]⟩
abbrev S1536x320 : Shape := ⟨2, ![1536, 320]⟩
abbrev S384x128 : Shape := ⟨2, ![384, 128]⟩
abbrev S1024x320 : Shape := ⟨2, ![1024, 320]⟩
abbrev S1536x1024 : Shape := ⟨2, ![1536, 1024]⟩
abbrev S1536x1536 : Shape := ⟨2, ![1536, 1536]⟩
abbrev S1544x128 : Shape := ⟨2, ![1544, 128]⟩
abbrev S1536x128 : Shape := ⟨2, ![1536, 128]⟩
abbrev S384x1024 : Shape := ⟨2, ![384, 1024]⟩
abbrev S128 : Shape := ⟨1, ![128]⟩
abbrev S1x128 : Shape := ⟨2, ![1, 128]⟩
abbrev S128x128 : Shape := ⟨2, ![128, 128]⟩
abbrev S1 : Shape := ⟨1, ![1]⟩
abbrev S8x128 : Shape := ⟨2, ![8, 128]⟩
abbrev S128x1024 : Shape := ⟨2, ![128, 1024]⟩
abbrev S256x128 : Shape := ⟨2, ![256, 128]⟩
abbrev S48x128 : Shape := ⟨2, ![48, 128]⟩
abbrev S256x256 : Shape := ⟨2, ![256, 256]⟩
abbrev S48x256 : Shape := ⟨2, ![48, 256]⟩
abbrev S144x256 : Shape := ⟨2, ![144, 256]⟩
abbrev S8x256 : Shape := ⟨2, ![8, 256]⟩
abbrev S256 : Shape := ⟨1, ![256]⟩
abbrev S1x256 : Shape := ⟨2, ![1, 256]⟩
abbrev S256x1 : Shape := ⟨2, ![256, 1]⟩
abbrev S256x384 : Shape := ⟨2, ![256, 384]⟩
abbrev S256x1024 : Shape := ⟨2, ![256, 1024]⟩
abbrev S256x320 : Shape := ⟨2, ![256, 320]⟩

abbrev nBuf : Space → Nat
  | .hbm => 12
  | .vmem => 14
  | .smem => 1
  | _ => 0

abbrev bufTy : (tb : Table) → Fin (tcTables nBuf tb) → BufTy
  | .hbm, ⟨0, _⟩ => ⟨S1536x32, .i8⟩
  | .hbm, ⟨1, _⟩ => ⟨S1536, .f32⟩
  | .hbm, ⟨2, _⟩ => ⟨S1536, .f32⟩
  | .hbm, ⟨3, _⟩ => ⟨S1024x128, .i8⟩
  | .hbm, ⟨4, _⟩ => ⟨S1537, .i32⟩
  | .hbm, ⟨5, _⟩ => ⟨S49152, .i32⟩
  | .hbm, ⟨6, _⟩ => ⟨S49152, .f32⟩
  | .hbm, ⟨7, _⟩ => ⟨S1536x320, .bf16⟩
  | .hbm, ⟨8, _⟩ => ⟨S384x128, .i32⟩
  | .hbm, ⟨9, _⟩ => ⟨S384x128, .f32⟩
  | .hbm, ⟨10, _⟩ => ⟨S1024x320, .f32⟩
  | .hbm, ⟨11, _⟩ => ⟨S1536x1024, .bf16⟩
  | .local _ .vmem, ⟨0, _⟩ => ⟨S1537, .i32⟩
  | .local _ .vmem, ⟨1, _⟩ => ⟨S384x128, .i32⟩
  | .local _ .vmem, ⟨2, _⟩ => ⟨S384x128, .f32⟩
  | .local _ .vmem, ⟨3, _⟩ => ⟨S1536x32, .i8⟩
  | .local _ .vmem, ⟨4, _⟩ => ⟨S1536, .f32⟩
  | .local _ .vmem, ⟨5, _⟩ => ⟨S1536, .f32⟩
  | .local _ .vmem, ⟨6, _⟩ => ⟨S1024x128, .i8⟩
  | .local _ .vmem, ⟨7, _⟩ => ⟨S1536x320, .bf16⟩
  | .local _ .vmem, ⟨8, _⟩ => ⟨S1024x320, .f32⟩
  | .local _ .vmem, ⟨9, _⟩ => ⟨S1536x1024, .bf16⟩
  | .local _ .vmem, ⟨10, _⟩ => ⟨S1536x1536, .f32⟩
  | .local _ .vmem, ⟨11, _⟩ => ⟨S1544x128, .i32⟩
  | .local _ .vmem, ⟨12, _⟩ => ⟨S1536x128, .bf16⟩
  | .local _ .vmem, ⟨13, _⟩ => ⟨S384x1024, .bf16⟩
  | .local _ .smem, ⟨0, _⟩ => ⟨S1537, .i32⟩
  | _, _ => ⟨S1536x32, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

def k0_off1 (arg15 : BitVec 32) : Fin 1 → Nat :=
  let c191_i32 : BitVec 32 := 191#32
  let v1351 : BitVec 32 := Scalar.minsi arg15 c191_i32
  let c8_i32 : BitVec 32 := 8#32
  let v1352 : BitVec 32 := Scalar.muli v1351 c8_i32
  let v1353 : Index := Scalar.indexCast v1352
  ![v1353.toNat]

def k0_off2 (arg15 : BitVec 32) : Fin 2 → Nat :=
  let c191_i32 : BitVec 32 := 191#32
  let v1351 : BitVec 32 := Scalar.minsi arg15 c191_i32
  let c8_i32_492 : BitVec 32 := 8#32
  let v1373 : BitVec 32 := Scalar.muli v1351 c8_i32_492
  let v1374 : Index := Scalar.indexCast v1373
  let c0_493 : Index := 0#32
  ![v1374.toNat, 0]
def k0_off3 (arg15 : BitVec 32) : Fin 2 → Nat :=
  let c191_i32 : BitVec 32 := 191#32
  let v1351 : BitVec 32 := Scalar.minsi arg15 c191_i32
  let c8_i32_494 : BitVec 32 := 8#32
  let v1376 : BitVec 32 := Scalar.muli v1351 c8_i32_494
  let c1_i32_495 : BitVec 32 := 1#32
  let v1377 : BitVec 32 := Scalar.addi v1376 c1_i32_495
  let v1378 : Index := Scalar.indexCast v1377
  let c0_496 : Index := 0#32
  ![v1378.toNat, 0]
def k0_off4 (arg16 : BitVec 32) (c0_i32_497 : BitVec 32) : Fin 2 → Nat :=
  let v1380 : BitVec 32 := Scalar.addi arg16 c0_i32_497
  let c383_i32 : BitVec 32 := 383#32
  let v1381 : BitVec 32 := Scalar.minsi v1380 c383_i32
  let v1382 : Index := Scalar.indexCast v1381
  let c0_498 : Index := 0#32
  ![v1382.toNat, 0]

def k0_chk2 (arg16 : BitVec 32) : Prop :=
  (∀ (r : Fin 2), ∀ a, (k0_off4 arg16 (BitVec.ofNat 32 r.val)) a + S1x128.size a ≤ S384x128.size a)
theorem k0_off4_inb : ∀ (arg16 : BitVec 32) (k0_hw2 : k0_chk2 arg16), ∀ (r : Fin 2), ∀ a, (k0_off4 arg16 (BitVec.ofNat 32 r.val)) a + S1x128.size a ≤ S384x128.size a := fun arg16 k0_hw2 r => k0_hw2 r

def k0_off5 (arg15 : BitVec 32) : Fin 2 → Nat :=
  let c191_i32 : BitVec 32 := 191#32
  let v1351 : BitVec 32 := Scalar.minsi arg15 c191_i32
  let c8_i32_548 : BitVec 32 := 8#32
  let v1578 : BitVec 32 := Scalar.muli v1351 c8_i32_548
  let v1579 : Index := Scalar.indexCast v1578
  let c0_549 : Index := 0#32
  ![v1579.toNat, 0]
def k0_off6 (arg15 : BitVec 32) : Fin 2 → Nat :=
  let c191_i32 : BitVec 32 := 191#32
  let v1351 : BitVec 32 := Scalar.minsi arg15 c191_i32
  let c8_i32_552 : BitVec 32 := 8#32
  let v1589 : BitVec 32 := Scalar.muli v1351 c8_i32_552
  let v1590 : Index := Scalar.indexCast v1589
  let c256_553 : Index := 256#32
  ![v1590.toNat, 256]
def k0_off7 (arg15 : BitVec 32) : Fin 2 → Nat :=
  let c191_i32 : BitVec 32 := 191#32
  let v1351 : BitVec 32 := Scalar.minsi arg15 c191_i32
  let c8_i32_556 : BitVec 32 := 8#32
  let v1600 : BitVec 32 := Scalar.muli v1351 c8_i32_556
  let v1601 : Index := Scalar.indexCast v1600
  let c512_557 : Index := 512#32
  ![v1601.toNat, 512]
def k0_off8 (arg15 : BitVec 32) : Fin 2 → Nat :=
  let c191_i32 : BitVec 32 := 191#32
  let v1351 : BitVec 32 := Scalar.minsi arg15 c191_i32
  let c8_i32_560 : BitVec 32 := 8#32
  let v1611 : BitVec 32 := Scalar.muli v1351 c8_i32_560
  let v1612 : Index := Scalar.indexCast v1611
  let c768_561 : Index := 768#32
  ![v1612.toNat, 768]
def k0_off9 (arg15 : BitVec 32) : Fin 2 → Nat :=
  let c191_i32 : BitVec 32 := 191#32
  let v1351 : BitVec 32 := Scalar.minsi arg15 c191_i32
  let c8_i32_564 : BitVec 32 := 8#32
  let v1622 : BitVec 32 := Scalar.muli v1351 c8_i32_564
  let v1623 : Index := Scalar.indexCast v1622
  let c1024_565 : Index := 1024#32
  ![v1623.toNat, 1024]
def k0_off10 (arg15 : BitVec 32) : Fin 2 → Nat :=
  let c191_i32 : BitVec 32 := 191#32
  let v1351 : BitVec 32 := Scalar.minsi arg15 c191_i32
  let c8_i32_568 : BitVec 32 := 8#32
  let v1633 : BitVec 32 := Scalar.muli v1351 c8_i32_568
  let v1634 : Index := Scalar.indexCast v1633
  let c1280_569 : Index := 1280#32
  ![v1634.toNat, 1280]
def k0_off11 (arg15 : BitVec 32) : Fin 1 → Nat :=
  let c191_i32 : BitVec 32 := 191#32
  let v1351 : BitVec 32 := Scalar.minsi arg15 c191_i32
  let c1_i32_574 : BitVec 32 := 1#32
  let v1646 : BitVec 32 := Scalar.addi v1351 c1_i32_574
  let c8_i32_575 : BitVec 32 := 8#32
  let v1647 : BitVec 32 := Scalar.muli v1646 c8_i32_575
  let v1648 : Index := Scalar.indexCast v1647
  ![v1648.toNat]
def k0_off12 (arg15 : BitVec 32) : Fin 1 → Nat :=
  let c1_i32_576 : BitVec 32 := 1#32
  let v1651 : BitVec 32 := Scalar.addi arg15 c1_i32_576
  let c191_i32_577 : BitVec 32 := 191#32
  let v1652 : BitVec 32 := Scalar.minsi v1651 c191_i32_577
  let c8_i32_578 : BitVec 32 := 8#32
  let v1653 : BitVec 32 := Scalar.muli v1652 c8_i32_578
  let v1654 : Index := Scalar.indexCast v1653
  ![v1654.toNat]

def k0_chk1 (arg15 : BitVec 32) : Prop :=
  (∀ a, (k0_off1 arg15) a + S1.size a ≤ S1537.size a) ∧
  (∀ a, (k0_off2 arg15) a + S8x128.size a ≤ S1544x128.size a) ∧
  (∀ a, (k0_off3 arg15) a + S8x128.size a ≤ S1544x128.size a) ∧
  (∀ a, (k0_off5 arg15) a + S8x256.size a ≤ S1536x1536.size a) ∧
  (∀ a, (k0_off6 arg15) a + S8x256.size a ≤ S1536x1536.size a) ∧
  (∀ a, (k0_off7 arg15) a + S8x256.size a ≤ S1536x1536.size a) ∧
  (∀ a, (k0_off8 arg15) a + S8x256.size a ≤ S1536x1536.size a) ∧
  (∀ a, (k0_off9 arg15) a + S8x256.size a ≤ S1536x1536.size a) ∧
  (∀ a, (k0_off10 arg15) a + S8x256.size a ≤ S1536x1536.size a) ∧
  (∀ a, (k0_off11 arg15) a + S1.size a ≤ S1537.size a) ∧
  (∀ a, (k0_off12 arg15) a + S1.size a ≤ S1537.size a)
theorem k0_off1_inb : ∀ (arg15 : BitVec 32) (k0_hw1 : k0_chk1 arg15), ∀ a, (k0_off1 arg15) a + S1.size a ≤ S1537.size a := fun arg15 k0_hw1 => k0_hw1.1
theorem k0_off2_inb : ∀ (arg15 : BitVec 32) (k0_hw1 : k0_chk1 arg15), ∀ a, (k0_off2 arg15) a + S8x128.size a ≤ S1544x128.size a := fun arg15 k0_hw1 => k0_hw1.2.1
theorem k0_off3_inb : ∀ (arg15 : BitVec 32) (k0_hw1 : k0_chk1 arg15), ∀ a, (k0_off3 arg15) a + S8x128.size a ≤ S1544x128.size a := fun arg15 k0_hw1 => k0_hw1.2.2.1
theorem k0_off5_inb : ∀ (arg15 : BitVec 32) (k0_hw1 : k0_chk1 arg15), ∀ a, (k0_off5 arg15) a + S8x256.size a ≤ S1536x1536.size a := fun arg15 k0_hw1 => k0_hw1.2.2.2.1
theorem k0_off6_inb : ∀ (arg15 : BitVec 32) (k0_hw1 : k0_chk1 arg15), ∀ a, (k0_off6 arg15) a + S8x256.size a ≤ S1536x1536.size a := fun arg15 k0_hw1 => k0_hw1.2.2.2.2.1
theorem k0_off7_inb : ∀ (arg15 : BitVec 32) (k0_hw1 : k0_chk1 arg15), ∀ a, (k0_off7 arg15) a + S8x256.size a ≤ S1536x1536.size a := fun arg15 k0_hw1 => k0_hw1.2.2.2.2.2.1
theorem k0_off8_inb : ∀ (arg15 : BitVec 32) (k0_hw1 : k0_chk1 arg15), ∀ a, (k0_off8 arg15) a + S8x256.size a ≤ S1536x1536.size a := fun arg15 k0_hw1 => k0_hw1.2.2.2.2.2.2.1
theorem k0_off9_inb : ∀ (arg15 : BitVec 32) (k0_hw1 : k0_chk1 arg15), ∀ a, (k0_off9 arg15) a + S8x256.size a ≤ S1536x1536.size a := fun arg15 k0_hw1 => k0_hw1.2.2.2.2.2.2.2.1
theorem k0_off10_inb : ∀ (arg15 : BitVec 32) (k0_hw1 : k0_chk1 arg15), ∀ a, (k0_off10 arg15) a + S8x256.size a ≤ S1536x1536.size a := fun arg15 k0_hw1 => k0_hw1.2.2.2.2.2.2.2.2.1
theorem k0_off11_inb : ∀ (arg15 : BitVec 32) (k0_hw1 : k0_chk1 arg15), ∀ a, (k0_off11 arg15) a + S1.size a ≤ S1537.size a := fun arg15 k0_hw1 => k0_hw1.2.2.2.2.2.2.2.2.2.1
theorem k0_off12_inb : ∀ (arg15 : BitVec 32) (k0_hw1 : k0_chk1 arg15), ∀ a, (k0_off12 arg15) a + S1.size a ≤ S1537.size a := fun arg15 k0_hw1 => k0_hw1.2.2.2.2.2.2.2.2.2.2

def k0_off13 (arg15 : BitVec 32) (arg16 : BitVec 32) (v1649 : BitVec 32) : Fin 1 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let v1674 : BitVec 32 := Scalar.select v1650 v1651 arg15
  let c191_i32_586 : BitVec 32 := 191#32
  let v1678 : BitVec 32 := Scalar.minsi v1674 c191_i32_586
  let c8_i32_587 : BitVec 32 := 8#32
  let v1679 : BitVec 32 := Scalar.muli v1678 c8_i32_587
  let v1680 : Index := Scalar.indexCast v1679
  ![v1680.toNat]

def k0_off14 (arg15 : BitVec 32) (arg16 : BitVec 32) (v1649 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let v1674 : BitVec 32 := Scalar.select v1650 v1651 arg15
  let c191_i32_586 : BitVec 32 := 191#32
  let v1678 : BitVec 32 := Scalar.minsi v1674 c191_i32_586
  let c8_i32_595 : BitVec 32 := 8#32
  let v1700 : BitVec 32 := Scalar.muli v1678 c8_i32_595
  let v1701 : Index := Scalar.indexCast v1700
  let c0_596 : Index := 0#32
  ![v1701.toNat, 0]
def k0_off15 (arg15 : BitVec 32) (arg16 : BitVec 32) (v1649 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let v1674 : BitVec 32 := Scalar.select v1650 v1651 arg15
  let c191_i32_586 : BitVec 32 := 191#32
  let v1678 : BitVec 32 := Scalar.minsi v1674 c191_i32_586
  let c8_i32_597 : BitVec 32 := 8#32
  let v1703 : BitVec 32 := Scalar.muli v1678 c8_i32_597
  let c1_i32_598 : BitVec 32 := 1#32
  let v1704 : BitVec 32 := Scalar.addi v1703 c1_i32_598
  let v1705 : Index := Scalar.indexCast v1704
  let c0_599 : Index := 0#32
  ![v1705.toNat, 0]
def k0_off16 (arg15 : BitVec 32) (arg16 : BitVec 32) (v1649 : BitVec 32) (v1655 : BitVec 32) (c0_i32_600 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let v1707 : BitVec 32 := Scalar.addi v1677 c0_i32_600
  let c383_i32_601 : BitVec 32 := 383#32
  let v1708 : BitVec 32 := Scalar.minsi v1707 c383_i32_601
  let v1709 : Index := Scalar.indexCast v1708
  let c0_602 : Index := 0#32
  ![v1709.toNat, 0]

def k0_chk4 (arg15 : BitVec 32) (arg16 : BitVec 32) (v1649 : BitVec 32) (v1655 : BitVec 32) : Prop :=
  (∀ (r : Fin 2), ∀ a, (k0_off16 arg15 arg16 v1649 v1655 (BitVec.ofNat 32 r.val)) a + S1x128.size a ≤ S384x128.size a)
theorem k0_off16_inb : ∀ (arg15 : BitVec 32) (arg16 : BitVec 32) (v1649 : BitVec 32) (v1655 : BitVec 32) (k0_hw4 : k0_chk4 arg15 arg16 v1649 v1655), ∀ (r : Fin 2), ∀ a, (k0_off16 arg15 arg16 v1649 v1655 (BitVec.ofNat 32 r.val)) a + S1x128.size a ≤ S384x128.size a := fun arg15 arg16 v1649 v1655 k0_hw4 r => k0_hw4 r

def k0_off17 (arg15 : BitVec 32) (arg16 : BitVec 32) (v1649 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let v1674 : BitVec 32 := Scalar.select v1650 v1651 arg15
  let c191_i32_586 : BitVec 32 := 191#32
  let v1678 : BitVec 32 := Scalar.minsi v1674 c191_i32_586
  let c8_i32_655 : BitVec 32 := 8#32
  let v1905 : BitVec 32 := Scalar.muli v1678 c8_i32_655
  let v1906 : Index := Scalar.indexCast v1905
  let c0_656 : Index := 0#32
  ![v1906.toNat, 0]
def k0_off18 (arg15 : BitVec 32) (arg16 : BitVec 32) (v1649 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let v1674 : BitVec 32 := Scalar.select v1650 v1651 arg15
  let c191_i32_586 : BitVec 32 := 191#32
  let v1678 : BitVec 32 := Scalar.minsi v1674 c191_i32_586
  let c8_i32_659 : BitVec 32 := 8#32
  let v1916 : BitVec 32 := Scalar.muli v1678 c8_i32_659
  let v1917 : Index := Scalar.indexCast v1916
  let c256_660 : Index := 256#32
  ![v1917.toNat, 256]
def k0_off19 (arg15 : BitVec 32) (arg16 : BitVec 32) (v1649 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let v1674 : BitVec 32 := Scalar.select v1650 v1651 arg15
  let c191_i32_586 : BitVec 32 := 191#32
  let v1678 : BitVec 32 := Scalar.minsi v1674 c191_i32_586
  let c8_i32_663 : BitVec 32 := 8#32
  let v1927 : BitVec 32 := Scalar.muli v1678 c8_i32_663
  let v1928 : Index := Scalar.indexCast v1927
  let c512_664 : Index := 512#32
  ![v1928.toNat, 512]
def k0_off20 (arg15 : BitVec 32) (arg16 : BitVec 32) (v1649 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let v1674 : BitVec 32 := Scalar.select v1650 v1651 arg15
  let c191_i32_586 : BitVec 32 := 191#32
  let v1678 : BitVec 32 := Scalar.minsi v1674 c191_i32_586
  let c8_i32_667 : BitVec 32 := 8#32
  let v1938 : BitVec 32 := Scalar.muli v1678 c8_i32_667
  let v1939 : Index := Scalar.indexCast v1938
  let c768_668 : Index := 768#32
  ![v1939.toNat, 768]
def k0_off21 (arg15 : BitVec 32) (arg16 : BitVec 32) (v1649 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let v1674 : BitVec 32 := Scalar.select v1650 v1651 arg15
  let c191_i32_586 : BitVec 32 := 191#32
  let v1678 : BitVec 32 := Scalar.minsi v1674 c191_i32_586
  let c8_i32_671 : BitVec 32 := 8#32
  let v1949 : BitVec 32 := Scalar.muli v1678 c8_i32_671
  let v1950 : Index := Scalar.indexCast v1949
  let c1024_672 : Index := 1024#32
  ![v1950.toNat, 1024]
def k0_off22 (arg15 : BitVec 32) (arg16 : BitVec 32) (v1649 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let v1674 : BitVec 32 := Scalar.select v1650 v1651 arg15
  let c191_i32_586 : BitVec 32 := 191#32
  let v1678 : BitVec 32 := Scalar.minsi v1674 c191_i32_586
  let c8_i32_675 : BitVec 32 := 8#32
  let v1960 : BitVec 32 := Scalar.muli v1678 c8_i32_675
  let v1961 : Index := Scalar.indexCast v1960
  let c1280_676 : Index := 1280#32
  ![v1961.toNat, 1280]
def k0_off23 (arg15 : BitVec 32) (arg16 : BitVec 32) (v1649 : BitVec 32) : Fin 1 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let v1674 : BitVec 32 := Scalar.select v1650 v1651 arg15
  let c191_i32_586 : BitVec 32 := 191#32
  let v1678 : BitVec 32 := Scalar.minsi v1674 c191_i32_586
  let c1_i32_681 : BitVec 32 := 1#32
  let v1973 : BitVec 32 := Scalar.addi v1678 c1_i32_681
  let c8_i32_682 : BitVec 32 := 8#32
  let v1974 : BitVec 32 := Scalar.muli v1973 c8_i32_682
  let v1975 : Index := Scalar.indexCast v1974
  ![v1975.toNat]
def k0_off24 (arg15 : BitVec 32) (arg16 : BitVec 32) (v1649 : BitVec 32) : Fin 1 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let v1674 : BitVec 32 := Scalar.select v1650 v1651 arg15
  let c1_i32_683 : BitVec 32 := 1#32
  let v1978 : BitVec 32 := Scalar.addi v1674 c1_i32_683
  let c191_i32_684 : BitVec 32 := 191#32
  let v1979 : BitVec 32 := Scalar.minsi v1978 c191_i32_684
  let c8_i32_685 : BitVec 32 := 8#32
  let v1980 : BitVec 32 := Scalar.muli v1979 c8_i32_685
  let v1981 : Index := Scalar.indexCast v1980
  ![v1981.toNat]

def k0_chk3 (arg15 : BitVec 32) (arg16 : BitVec 32) (v1649 : BitVec 32) : Prop :=
  (∀ a, (k0_off13 arg15 arg16 v1649) a + S1.size a ≤ S1537.size a) ∧
  (∀ a, (k0_off14 arg15 arg16 v1649) a + S8x128.size a ≤ S1544x128.size a) ∧
  (∀ a, (k0_off15 arg15 arg16 v1649) a + S8x128.size a ≤ S1544x128.size a) ∧
  (∀ a, (k0_off17 arg15 arg16 v1649) a + S8x256.size a ≤ S1536x1536.size a) ∧
  (∀ a, (k0_off18 arg15 arg16 v1649) a + S8x256.size a ≤ S1536x1536.size a) ∧
  (∀ a, (k0_off19 arg15 arg16 v1649) a + S8x256.size a ≤ S1536x1536.size a) ∧
  (∀ a, (k0_off20 arg15 arg16 v1649) a + S8x256.size a ≤ S1536x1536.size a) ∧
  (∀ a, (k0_off21 arg15 arg16 v1649) a + S8x256.size a ≤ S1536x1536.size a) ∧
  (∀ a, (k0_off22 arg15 arg16 v1649) a + S8x256.size a ≤ S1536x1536.size a) ∧
  (∀ a, (k0_off23 arg15 arg16 v1649) a + S1.size a ≤ S1537.size a) ∧
  (∀ a, (k0_off24 arg15 arg16 v1649) a + S1.size a ≤ S1537.size a)
theorem k0_off13_inb : ∀ (arg15 : BitVec 32) (arg16 : BitVec 32) (v1649 : BitVec 32) (k0_hw3 : k0_chk3 arg15 arg16 v1649), ∀ a, (k0_off13 arg15 arg16 v1649) a + S1.size a ≤ S1537.size a := fun arg15 arg16 v1649 k0_hw3 => k0_hw3.1
theorem k0_off14_inb : ∀ (arg15 : BitVec 32) (arg16 : BitVec 32) (v1649 : BitVec 32) (k0_hw3 : k0_chk3 arg15 arg16 v1649), ∀ a, (k0_off14 arg15 arg16 v1649) a + S8x128.size a ≤ S1544x128.size a := fun arg15 arg16 v1649 k0_hw3 => k0_hw3.2.1
theorem k0_off15_inb : ∀ (arg15 : BitVec 32) (arg16 : BitVec 32) (v1649 : BitVec 32) (k0_hw3 : k0_chk3 arg15 arg16 v1649), ∀ a, (k0_off15 arg15 arg16 v1649) a + S8x128.size a ≤ S1544x128.size a := fun arg15 arg16 v1649 k0_hw3 => k0_hw3.2.2.1
theorem k0_off17_inb : ∀ (arg15 : BitVec 32) (arg16 : BitVec 32) (v1649 : BitVec 32) (k0_hw3 : k0_chk3 arg15 arg16 v1649), ∀ a, (k0_off17 arg15 arg16 v1649) a + S8x256.size a ≤ S1536x1536.size a := fun arg15 arg16 v1649 k0_hw3 => k0_hw3.2.2.2.1
theorem k0_off18_inb : ∀ (arg15 : BitVec 32) (arg16 : BitVec 32) (v1649 : BitVec 32) (k0_hw3 : k0_chk3 arg15 arg16 v1649), ∀ a, (k0_off18 arg15 arg16 v1649) a + S8x256.size a ≤ S1536x1536.size a := fun arg15 arg16 v1649 k0_hw3 => k0_hw3.2.2.2.2.1
theorem k0_off19_inb : ∀ (arg15 : BitVec 32) (arg16 : BitVec 32) (v1649 : BitVec 32) (k0_hw3 : k0_chk3 arg15 arg16 v1649), ∀ a, (k0_off19 arg15 arg16 v1649) a + S8x256.size a ≤ S1536x1536.size a := fun arg15 arg16 v1649 k0_hw3 => k0_hw3.2.2.2.2.2.1
theorem k0_off20_inb : ∀ (arg15 : BitVec 32) (arg16 : BitVec 32) (v1649 : BitVec 32) (k0_hw3 : k0_chk3 arg15 arg16 v1649), ∀ a, (k0_off20 arg15 arg16 v1649) a + S8x256.size a ≤ S1536x1536.size a := fun arg15 arg16 v1649 k0_hw3 => k0_hw3.2.2.2.2.2.2.1
theorem k0_off21_inb : ∀ (arg15 : BitVec 32) (arg16 : BitVec 32) (v1649 : BitVec 32) (k0_hw3 : k0_chk3 arg15 arg16 v1649), ∀ a, (k0_off21 arg15 arg16 v1649) a + S8x256.size a ≤ S1536x1536.size a := fun arg15 arg16 v1649 k0_hw3 => k0_hw3.2.2.2.2.2.2.2.1
theorem k0_off22_inb : ∀ (arg15 : BitVec 32) (arg16 : BitVec 32) (v1649 : BitVec 32) (k0_hw3 : k0_chk3 arg15 arg16 v1649), ∀ a, (k0_off22 arg15 arg16 v1649) a + S8x256.size a ≤ S1536x1536.size a := fun arg15 arg16 v1649 k0_hw3 => k0_hw3.2.2.2.2.2.2.2.2.1
theorem k0_off23_inb : ∀ (arg15 : BitVec 32) (arg16 : BitVec 32) (v1649 : BitVec 32) (k0_hw3 : k0_chk3 arg15 arg16 v1649), ∀ a, (k0_off23 arg15 arg16 v1649) a + S1.size a ≤ S1537.size a := fun arg15 arg16 v1649 k0_hw3 => k0_hw3.2.2.2.2.2.2.2.2.2.1
theorem k0_off24_inb : ∀ (arg15 : BitVec 32) (arg16 : BitVec 32) (v1649 : BitVec 32) (k0_hw3 : k0_chk3 arg15 arg16 v1649), ∀ a, (k0_off24 arg15 arg16 v1649) a + S1.size a ≤ S1537.size a := fun arg15 arg16 v1649 k0_hw3 => k0_hw3.2.2.2.2.2.2.2.2.2.2

def k0_off25 (arg15 : BitVec 32) (arg16 : BitVec 32) (v1649 : BitVec 32) (v1655 : BitVec 32) (v1976 : BitVec 32) : Fin 1 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let v2001 : BitVec 32 := Scalar.select v1977 v1978 v1674
  let c191_i32_695 : BitVec 32 := 191#32
  let v2005 : BitVec 32 := Scalar.minsi v2001 c191_i32_695
  let c8_i32_696 : BitVec 32 := 8#32
  let v2006 : BitVec 32 := Scalar.muli v2005 c8_i32_696
  let v2007 : Index := Scalar.indexCast v2006
  ![v2007.toNat]

def k0_off26 (arg15 : BitVec 32) (arg16 : BitVec 32) (v1649 : BitVec 32) (v1655 : BitVec 32) (v1976 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let v2001 : BitVec 32 := Scalar.select v1977 v1978 v1674
  let c191_i32_695 : BitVec 32 := 191#32
  let v2005 : BitVec 32 := Scalar.minsi v2001 c191_i32_695
  let c8_i32_704 : BitVec 32 := 8#32
  let v2027 : BitVec 32 := Scalar.muli v2005 c8_i32_704
  let v2028 : Index := Scalar.indexCast v2027
  let c0_705 : Index := 0#32
  ![v2028.toNat, 0]
def k0_off27 (arg15 : BitVec 32) (arg16 : BitVec 32) (v1649 : BitVec 32) (v1655 : BitVec 32) (v1976 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let v2001 : BitVec 32 := Scalar.select v1977 v1978 v1674
  let c191_i32_695 : BitVec 32 := 191#32
  let v2005 : BitVec 32 := Scalar.minsi v2001 c191_i32_695
  let c8_i32_706 : BitVec 32 := 8#32
  let v2030 : BitVec 32 := Scalar.muli v2005 c8_i32_706
  let c1_i32_707 : BitVec 32 := 1#32
  let v2031 : BitVec 32 := Scalar.addi v2030 c1_i32_707
  let v2032 : Index := Scalar.indexCast v2031
  let c0_708 : Index := 0#32
  ![v2032.toNat, 0]
def k0_off28 (arg15 : BitVec 32) (arg16 : BitVec 32) (v1649 : BitVec 32) (v1655 : BitVec 32) (v1976 : BitVec 32) (v1982 : BitVec 32) (c0_i32_709 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let v2034 : BitVec 32 := Scalar.addi v2004 c0_i32_709
  let c383_i32_710 : BitVec 32 := 383#32
  let v2035 : BitVec 32 := Scalar.minsi v2034 c383_i32_710
  let v2036 : Index := Scalar.indexCast v2035
  let c0_711 : Index := 0#32
  ![v2036.toNat, 0]

def k0_chk6 (arg15 : BitVec 32) (arg16 : BitVec 32) (v1649 : BitVec 32) (v1655 : BitVec 32) (v1976 : BitVec 32) (v1982 : BitVec 32) : Prop :=
  (∀ (r : Fin 2), ∀ a, (k0_off28 arg15 arg16 v1649 v1655 v1976 v1982 (BitVec.ofNat 32 r.val)) a + S1x128.size a ≤ S384x128.size a)
theorem k0_off28_inb : ∀ (arg15 : BitVec 32) (arg16 : BitVec 32) (v1649 : BitVec 32) (v1655 : BitVec 32) (v1976 : BitVec 32) (v1982 : BitVec 32) (k0_hw6 : k0_chk6 arg15 arg16 v1649 v1655 v1976 v1982), ∀ (r : Fin 2), ∀ a, (k0_off28 arg15 arg16 v1649 v1655 v1976 v1982 (BitVec.ofNat 32 r.val)) a + S1x128.size a ≤ S384x128.size a := fun arg15 arg16 v1649 v1655 v1976 v1982 k0_hw6 r => k0_hw6 r

def k0_off29 (arg15 : BitVec 32) (arg16 : BitVec 32) (v1649 : BitVec 32) (v1655 : BitVec 32) (v1976 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let v2001 : BitVec 32 := Scalar.select v1977 v1978 v1674
  let c191_i32_695 : BitVec 32 := 191#32
  let v2005 : BitVec 32 := Scalar.minsi v2001 c191_i32_695
  let c8_i32_764 : BitVec 32 := 8#32
  let v2232 : BitVec 32 := Scalar.muli v2005 c8_i32_764
  let v2233 : Index := Scalar.indexCast v2232
  let c0_765 : Index := 0#32
  ![v2233.toNat, 0]
def k0_off30 (arg15 : BitVec 32) (arg16 : BitVec 32) (v1649 : BitVec 32) (v1655 : BitVec 32) (v1976 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let v2001 : BitVec 32 := Scalar.select v1977 v1978 v1674
  let c191_i32_695 : BitVec 32 := 191#32
  let v2005 : BitVec 32 := Scalar.minsi v2001 c191_i32_695
  let c8_i32_768 : BitVec 32 := 8#32
  let v2243 : BitVec 32 := Scalar.muli v2005 c8_i32_768
  let v2244 : Index := Scalar.indexCast v2243
  let c256_769 : Index := 256#32
  ![v2244.toNat, 256]
def k0_off31 (arg15 : BitVec 32) (arg16 : BitVec 32) (v1649 : BitVec 32) (v1655 : BitVec 32) (v1976 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let v2001 : BitVec 32 := Scalar.select v1977 v1978 v1674
  let c191_i32_695 : BitVec 32 := 191#32
  let v2005 : BitVec 32 := Scalar.minsi v2001 c191_i32_695
  let c8_i32_772 : BitVec 32 := 8#32
  let v2254 : BitVec 32 := Scalar.muli v2005 c8_i32_772
  let v2255 : Index := Scalar.indexCast v2254
  let c512_773 : Index := 512#32
  ![v2255.toNat, 512]
def k0_off32 (arg15 : BitVec 32) (arg16 : BitVec 32) (v1649 : BitVec 32) (v1655 : BitVec 32) (v1976 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let v2001 : BitVec 32 := Scalar.select v1977 v1978 v1674
  let c191_i32_695 : BitVec 32 := 191#32
  let v2005 : BitVec 32 := Scalar.minsi v2001 c191_i32_695
  let c8_i32_776 : BitVec 32 := 8#32
  let v2265 : BitVec 32 := Scalar.muli v2005 c8_i32_776
  let v2266 : Index := Scalar.indexCast v2265
  let c768_777 : Index := 768#32
  ![v2266.toNat, 768]
def k0_off33 (arg15 : BitVec 32) (arg16 : BitVec 32) (v1649 : BitVec 32) (v1655 : BitVec 32) (v1976 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let v2001 : BitVec 32 := Scalar.select v1977 v1978 v1674
  let c191_i32_695 : BitVec 32 := 191#32
  let v2005 : BitVec 32 := Scalar.minsi v2001 c191_i32_695
  let c8_i32_780 : BitVec 32 := 8#32
  let v2276 : BitVec 32 := Scalar.muli v2005 c8_i32_780
  let v2277 : Index := Scalar.indexCast v2276
  let c1024_781 : Index := 1024#32
  ![v2277.toNat, 1024]
def k0_off34 (arg15 : BitVec 32) (arg16 : BitVec 32) (v1649 : BitVec 32) (v1655 : BitVec 32) (v1976 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let v2001 : BitVec 32 := Scalar.select v1977 v1978 v1674
  let c191_i32_695 : BitVec 32 := 191#32
  let v2005 : BitVec 32 := Scalar.minsi v2001 c191_i32_695
  let c8_i32_784 : BitVec 32 := 8#32
  let v2287 : BitVec 32 := Scalar.muli v2005 c8_i32_784
  let v2288 : Index := Scalar.indexCast v2287
  let c1280_785 : Index := 1280#32
  ![v2288.toNat, 1280]
def k0_off35 (arg15 : BitVec 32) (arg16 : BitVec 32) (v1649 : BitVec 32) (v1655 : BitVec 32) (v1976 : BitVec 32) : Fin 1 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let v2001 : BitVec 32 := Scalar.select v1977 v1978 v1674
  let c191_i32_695 : BitVec 32 := 191#32
  let v2005 : BitVec 32 := Scalar.minsi v2001 c191_i32_695
  let c1_i32_790 : BitVec 32 := 1#32
  let v2300 : BitVec 32 := Scalar.addi v2005 c1_i32_790
  let c8_i32_791 : BitVec 32 := 8#32
  let v2301 : BitVec 32 := Scalar.muli v2300 c8_i32_791
  let v2302 : Index := Scalar.indexCast v2301
  ![v2302.toNat]
def k0_off36 (arg15 : BitVec 32) (arg16 : BitVec 32) (v1649 : BitVec 32) (v1655 : BitVec 32) (v1976 : BitVec 32) : Fin 1 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let v2001 : BitVec 32 := Scalar.select v1977 v1978 v1674
  let c1_i32_792 : BitVec 32 := 1#32
  let v2305 : BitVec 32 := Scalar.addi v2001 c1_i32_792
  let c191_i32_793 : BitVec 32 := 191#32
  let v2306 : BitVec 32 := Scalar.minsi v2305 c191_i32_793
  let c8_i32_794 : BitVec 32 := 8#32
  let v2307 : BitVec 32 := Scalar.muli v2306 c8_i32_794
  let v2308 : Index := Scalar.indexCast v2307
  ![v2308.toNat]

def k0_chk5 (arg15 : BitVec 32) (arg16 : BitVec 32) (v1649 : BitVec 32) (v1655 : BitVec 32) (v1976 : BitVec 32) : Prop :=
  (∀ a, (k0_off25 arg15 arg16 v1649 v1655 v1976) a + S1.size a ≤ S1537.size a) ∧
  (∀ a, (k0_off26 arg15 arg16 v1649 v1655 v1976) a + S8x128.size a ≤ S1544x128.size a) ∧
  (∀ a, (k0_off27 arg15 arg16 v1649 v1655 v1976) a + S8x128.size a ≤ S1544x128.size a) ∧
  (∀ a, (k0_off29 arg15 arg16 v1649 v1655 v1976) a + S8x256.size a ≤ S1536x1536.size a) ∧
  (∀ a, (k0_off30 arg15 arg16 v1649 v1655 v1976) a + S8x256.size a ≤ S1536x1536.size a) ∧
  (∀ a, (k0_off31 arg15 arg16 v1649 v1655 v1976) a + S8x256.size a ≤ S1536x1536.size a) ∧
  (∀ a, (k0_off32 arg15 arg16 v1649 v1655 v1976) a + S8x256.size a ≤ S1536x1536.size a) ∧
  (∀ a, (k0_off33 arg15 arg16 v1649 v1655 v1976) a + S8x256.size a ≤ S1536x1536.size a) ∧
  (∀ a, (k0_off34 arg15 arg16 v1649 v1655 v1976) a + S8x256.size a ≤ S1536x1536.size a) ∧
  (∀ a, (k0_off35 arg15 arg16 v1649 v1655 v1976) a + S1.size a ≤ S1537.size a) ∧
  (∀ a, (k0_off36 arg15 arg16 v1649 v1655 v1976) a + S1.size a ≤ S1537.size a)
theorem k0_off25_inb : ∀ (arg15 : BitVec 32) (arg16 : BitVec 32) (v1649 : BitVec 32) (v1655 : BitVec 32) (v1976 : BitVec 32) (k0_hw5 : k0_chk5 arg15 arg16 v1649 v1655 v1976), ∀ a, (k0_off25 arg15 arg16 v1649 v1655 v1976) a + S1.size a ≤ S1537.size a := fun arg15 arg16 v1649 v1655 v1976 k0_hw5 => k0_hw5.1
theorem k0_off26_inb : ∀ (arg15 : BitVec 32) (arg16 : BitVec 32) (v1649 : BitVec 32) (v1655 : BitVec 32) (v1976 : BitVec 32) (k0_hw5 : k0_chk5 arg15 arg16 v1649 v1655 v1976), ∀ a, (k0_off26 arg15 arg16 v1649 v1655 v1976) a + S8x128.size a ≤ S1544x128.size a := fun arg15 arg16 v1649 v1655 v1976 k0_hw5 => k0_hw5.2.1
theorem k0_off27_inb : ∀ (arg15 : BitVec 32) (arg16 : BitVec 32) (v1649 : BitVec 32) (v1655 : BitVec 32) (v1976 : BitVec 32) (k0_hw5 : k0_chk5 arg15 arg16 v1649 v1655 v1976), ∀ a, (k0_off27 arg15 arg16 v1649 v1655 v1976) a + S8x128.size a ≤ S1544x128.size a := fun arg15 arg16 v1649 v1655 v1976 k0_hw5 => k0_hw5.2.2.1
theorem k0_off29_inb : ∀ (arg15 : BitVec 32) (arg16 : BitVec 32) (v1649 : BitVec 32) (v1655 : BitVec 32) (v1976 : BitVec 32) (k0_hw5 : k0_chk5 arg15 arg16 v1649 v1655 v1976), ∀ a, (k0_off29 arg15 arg16 v1649 v1655 v1976) a + S8x256.size a ≤ S1536x1536.size a := fun arg15 arg16 v1649 v1655 v1976 k0_hw5 => k0_hw5.2.2.2.1
theorem k0_off30_inb : ∀ (arg15 : BitVec 32) (arg16 : BitVec 32) (v1649 : BitVec 32) (v1655 : BitVec 32) (v1976 : BitVec 32) (k0_hw5 : k0_chk5 arg15 arg16 v1649 v1655 v1976), ∀ a, (k0_off30 arg15 arg16 v1649 v1655 v1976) a + S8x256.size a ≤ S1536x1536.size a := fun arg15 arg16 v1649 v1655 v1976 k0_hw5 => k0_hw5.2.2.2.2.1
theorem k0_off31_inb : ∀ (arg15 : BitVec 32) (arg16 : BitVec 32) (v1649 : BitVec 32) (v1655 : BitVec 32) (v1976 : BitVec 32) (k0_hw5 : k0_chk5 arg15 arg16 v1649 v1655 v1976), ∀ a, (k0_off31 arg15 arg16 v1649 v1655 v1976) a + S8x256.size a ≤ S1536x1536.size a := fun arg15 arg16 v1649 v1655 v1976 k0_hw5 => k0_hw5.2.2.2.2.2.1
theorem k0_off32_inb : ∀ (arg15 : BitVec 32) (arg16 : BitVec 32) (v1649 : BitVec 32) (v1655 : BitVec 32) (v1976 : BitVec 32) (k0_hw5 : k0_chk5 arg15 arg16 v1649 v1655 v1976), ∀ a, (k0_off32 arg15 arg16 v1649 v1655 v1976) a + S8x256.size a ≤ S1536x1536.size a := fun arg15 arg16 v1649 v1655 v1976 k0_hw5 => k0_hw5.2.2.2.2.2.2.1
theorem k0_off33_inb : ∀ (arg15 : BitVec 32) (arg16 : BitVec 32) (v1649 : BitVec 32) (v1655 : BitVec 32) (v1976 : BitVec 32) (k0_hw5 : k0_chk5 arg15 arg16 v1649 v1655 v1976), ∀ a, (k0_off33 arg15 arg16 v1649 v1655 v1976) a + S8x256.size a ≤ S1536x1536.size a := fun arg15 arg16 v1649 v1655 v1976 k0_hw5 => k0_hw5.2.2.2.2.2.2.2.1
theorem k0_off34_inb : ∀ (arg15 : BitVec 32) (arg16 : BitVec 32) (v1649 : BitVec 32) (v1655 : BitVec 32) (v1976 : BitVec 32) (k0_hw5 : k0_chk5 arg15 arg16 v1649 v1655 v1976), ∀ a, (k0_off34 arg15 arg16 v1649 v1655 v1976) a + S8x256.size a ≤ S1536x1536.size a := fun arg15 arg16 v1649 v1655 v1976 k0_hw5 => k0_hw5.2.2.2.2.2.2.2.2.1
theorem k0_off35_inb : ∀ (arg15 : BitVec 32) (arg16 : BitVec 32) (v1649 : BitVec 32) (v1655 : BitVec 32) (v1976 : BitVec 32) (k0_hw5 : k0_chk5 arg15 arg16 v1649 v1655 v1976), ∀ a, (k0_off35 arg15 arg16 v1649 v1655 v1976) a + S1.size a ≤ S1537.size a := fun arg15 arg16 v1649 v1655 v1976 k0_hw5 => k0_hw5.2.2.2.2.2.2.2.2.2.1
theorem k0_off36_inb : ∀ (arg15 : BitVec 32) (arg16 : BitVec 32) (v1649 : BitVec 32) (v1655 : BitVec 32) (v1976 : BitVec 32) (k0_hw5 : k0_chk5 arg15 arg16 v1649 v1655 v1976), ∀ a, (k0_off36 arg15 arg16 v1649 v1655 v1976) a + S1.size a ≤ S1537.size a := fun arg15 arg16 v1649 v1655 v1976 k0_hw5 => k0_hw5.2.2.2.2.2.2.2.2.2.2

def k0_off37 (arg15 : BitVec 32) (arg16 : BitVec 32) (v1649 : BitVec 32) (v1655 : BitVec 32) (v1976 : BitVec 32) (v1982 : BitVec 32) (v2303 : BitVec 32) : Fin 1 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let v2328 : BitVec 32 := Scalar.select v2304 v2305 v2001
  let c191_i32_804 : BitVec 32 := 191#32
  let v2332 : BitVec 32 := Scalar.minsi v2328 c191_i32_804
  let c8_i32_805 : BitVec 32 := 8#32
  let v2333 : BitVec 32 := Scalar.muli v2332 c8_i32_805
  let v2334 : Index := Scalar.indexCast v2333
  ![v2334.toNat]

def k0_off38 (arg15 : BitVec 32) (arg16 : BitVec 32) (v1649 : BitVec 32) (v1655 : BitVec 32) (v1976 : BitVec 32) (v1982 : BitVec 32) (v2303 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let v2328 : BitVec 32 := Scalar.select v2304 v2305 v2001
  let c191_i32_804 : BitVec 32 := 191#32
  let v2332 : BitVec 32 := Scalar.minsi v2328 c191_i32_804
  let c8_i32_813 : BitVec 32 := 8#32
  let v2354 : BitVec 32 := Scalar.muli v2332 c8_i32_813
  let v2355 : Index := Scalar.indexCast v2354
  let c0_814 : Index := 0#32
  ![v2355.toNat, 0]
def k0_off39 (arg15 : BitVec 32) (arg16 : BitVec 32) (v1649 : BitVec 32) (v1655 : BitVec 32) (v1976 : BitVec 32) (v1982 : BitVec 32) (v2303 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let v2328 : BitVec 32 := Scalar.select v2304 v2305 v2001
  let c191_i32_804 : BitVec 32 := 191#32
  let v2332 : BitVec 32 := Scalar.minsi v2328 c191_i32_804
  let c8_i32_815 : BitVec 32 := 8#32
  let v2357 : BitVec 32 := Scalar.muli v2332 c8_i32_815
  let c1_i32_816 : BitVec 32 := 1#32
  let v2358 : BitVec 32 := Scalar.addi v2357 c1_i32_816
  let v2359 : Index := Scalar.indexCast v2358
  let c0_817 : Index := 0#32
  ![v2359.toNat, 0]
def k0_off40 (arg15 : BitVec 32) (arg16 : BitVec 32) (v1649 : BitVec 32) (v1655 : BitVec 32) (v1976 : BitVec 32) (v1982 : BitVec 32) (v2303 : BitVec 32) (v2309 : BitVec 32) (c0_i32_818 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let v2361 : BitVec 32 := Scalar.addi v2331 c0_i32_818
  let c383_i32_819 : BitVec 32 := 383#32
  let v2362 : BitVec 32 := Scalar.minsi v2361 c383_i32_819
  let v2363 : Index := Scalar.indexCast v2362
  let c0_820 : Index := 0#32
  ![v2363.toNat, 0]

def k0_chk8 (arg15 : BitVec 32) (arg16 : BitVec 32) (v1649 : BitVec 32) (v1655 : BitVec 32) (v1976 : BitVec 32) (v1982 : BitVec 32) (v2303 : BitVec 32) (v2309 : BitVec 32) : Prop :=
  (∀ (r : Fin 2), ∀ a, (k0_off40 arg15 arg16 v1649 v1655 v1976 v1982 v2303 v2309 (BitVec.ofNat 32 r.val)) a + S1x128.size a ≤ S384x128.size a)
theorem k0_off40_inb : ∀ (arg15 : BitVec 32) (arg16 : BitVec 32) (v1649 : BitVec 32) (v1655 : BitVec 32) (v1976 : BitVec 32) (v1982 : BitVec 32) (v2303 : BitVec 32) (v2309 : BitVec 32) (k0_hw8 : k0_chk8 arg15 arg16 v1649 v1655 v1976 v1982 v2303 v2309), ∀ (r : Fin 2), ∀ a, (k0_off40 arg15 arg16 v1649 v1655 v1976 v1982 v2303 v2309 (BitVec.ofNat 32 r.val)) a + S1x128.size a ≤ S384x128.size a := fun arg15 arg16 v1649 v1655 v1976 v1982 v2303 v2309 k0_hw8 r => k0_hw8 r

def k0_off41 (arg15 : BitVec 32) (arg16 : BitVec 32) (v1649 : BitVec 32) (v1655 : BitVec 32) (v1976 : BitVec 32) (v1982 : BitVec 32) (v2303 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let v2328 : BitVec 32 := Scalar.select v2304 v2305 v2001
  let c191_i32_804 : BitVec 32 := 191#32
  let v2332 : BitVec 32 := Scalar.minsi v2328 c191_i32_804
  let c8_i32_873 : BitVec 32 := 8#32
  let v2559 : BitVec 32 := Scalar.muli v2332 c8_i32_873
  let v2560 : Index := Scalar.indexCast v2559
  let c0_874 : Index := 0#32
  ![v2560.toNat, 0]
def k0_off42 (arg15 : BitVec 32) (arg16 : BitVec 32) (v1649 : BitVec 32) (v1655 : BitVec 32) (v1976 : BitVec 32) (v1982 : BitVec 32) (v2303 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let v2328 : BitVec 32 := Scalar.select v2304 v2305 v2001
  let c191_i32_804 : BitVec 32 := 191#32
  let v2332 : BitVec 32 := Scalar.minsi v2328 c191_i32_804
  let c8_i32_877 : BitVec 32 := 8#32
  let v2570 : BitVec 32 := Scalar.muli v2332 c8_i32_877
  let v2571 : Index := Scalar.indexCast v2570
  let c256_878 : Index := 256#32
  ![v2571.toNat, 256]
def k0_off43 (arg15 : BitVec 32) (arg16 : BitVec 32) (v1649 : BitVec 32) (v1655 : BitVec 32) (v1976 : BitVec 32) (v1982 : BitVec 32) (v2303 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let v2328 : BitVec 32 := Scalar.select v2304 v2305 v2001
  let c191_i32_804 : BitVec 32 := 191#32
  let v2332 : BitVec 32 := Scalar.minsi v2328 c191_i32_804
  let c8_i32_881 : BitVec 32 := 8#32
  let v2581 : BitVec 32 := Scalar.muli v2332 c8_i32_881
  let v2582 : Index := Scalar.indexCast v2581
  let c512_882 : Index := 512#32
  ![v2582.toNat, 512]
def k0_off44 (arg15 : BitVec 32) (arg16 : BitVec 32) (v1649 : BitVec 32) (v1655 : BitVec 32) (v1976 : BitVec 32) (v1982 : BitVec 32) (v2303 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let v2328 : BitVec 32 := Scalar.select v2304 v2305 v2001
  let c191_i32_804 : BitVec 32 := 191#32
  let v2332 : BitVec 32 := Scalar.minsi v2328 c191_i32_804
  let c8_i32_885 : BitVec 32 := 8#32
  let v2592 : BitVec 32 := Scalar.muli v2332 c8_i32_885
  let v2593 : Index := Scalar.indexCast v2592
  let c768_886 : Index := 768#32
  ![v2593.toNat, 768]
def k0_off45 (arg15 : BitVec 32) (arg16 : BitVec 32) (v1649 : BitVec 32) (v1655 : BitVec 32) (v1976 : BitVec 32) (v1982 : BitVec 32) (v2303 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let v2328 : BitVec 32 := Scalar.select v2304 v2305 v2001
  let c191_i32_804 : BitVec 32 := 191#32
  let v2332 : BitVec 32 := Scalar.minsi v2328 c191_i32_804
  let c8_i32_889 : BitVec 32 := 8#32
  let v2603 : BitVec 32 := Scalar.muli v2332 c8_i32_889
  let v2604 : Index := Scalar.indexCast v2603
  let c1024_890 : Index := 1024#32
  ![v2604.toNat, 1024]
def k0_off46 (arg15 : BitVec 32) (arg16 : BitVec 32) (v1649 : BitVec 32) (v1655 : BitVec 32) (v1976 : BitVec 32) (v1982 : BitVec 32) (v2303 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let v2328 : BitVec 32 := Scalar.select v2304 v2305 v2001
  let c191_i32_804 : BitVec 32 := 191#32
  let v2332 : BitVec 32 := Scalar.minsi v2328 c191_i32_804
  let c8_i32_893 : BitVec 32 := 8#32
  let v2614 : BitVec 32 := Scalar.muli v2332 c8_i32_893
  let v2615 : Index := Scalar.indexCast v2614
  let c1280_894 : Index := 1280#32
  ![v2615.toNat, 1280]
def k0_off47 (arg15 : BitVec 32) (arg16 : BitVec 32) (v1649 : BitVec 32) (v1655 : BitVec 32) (v1976 : BitVec 32) (v1982 : BitVec 32) (v2303 : BitVec 32) : Fin 1 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let v2328 : BitVec 32 := Scalar.select v2304 v2305 v2001
  let c191_i32_804 : BitVec 32 := 191#32
  let v2332 : BitVec 32 := Scalar.minsi v2328 c191_i32_804
  let c1_i32_899 : BitVec 32 := 1#32
  let v2627 : BitVec 32 := Scalar.addi v2332 c1_i32_899
  let c8_i32_900 : BitVec 32 := 8#32
  let v2628 : BitVec 32 := Scalar.muli v2627 c8_i32_900
  let v2629 : Index := Scalar.indexCast v2628
  ![v2629.toNat]
def k0_off48 (arg15 : BitVec 32) (arg16 : BitVec 32) (v1649 : BitVec 32) (v1655 : BitVec 32) (v1976 : BitVec 32) (v1982 : BitVec 32) (v2303 : BitVec 32) : Fin 1 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let v2328 : BitVec 32 := Scalar.select v2304 v2305 v2001
  let c1_i32_901 : BitVec 32 := 1#32
  let v2632 : BitVec 32 := Scalar.addi v2328 c1_i32_901
  let c191_i32_902 : BitVec 32 := 191#32
  let v2633 : BitVec 32 := Scalar.minsi v2632 c191_i32_902
  let c8_i32_903 : BitVec 32 := 8#32
  let v2634 : BitVec 32 := Scalar.muli v2633 c8_i32_903
  let v2635 : Index := Scalar.indexCast v2634
  ![v2635.toNat]

def k0_chk7 (arg15 : BitVec 32) (arg16 : BitVec 32) (v1649 : BitVec 32) (v1655 : BitVec 32) (v1976 : BitVec 32) (v1982 : BitVec 32) (v2303 : BitVec 32) : Prop :=
  (∀ a, (k0_off37 arg15 arg16 v1649 v1655 v1976 v1982 v2303) a + S1.size a ≤ S1537.size a) ∧
  (∀ a, (k0_off38 arg15 arg16 v1649 v1655 v1976 v1982 v2303) a + S8x128.size a ≤ S1544x128.size a) ∧
  (∀ a, (k0_off39 arg15 arg16 v1649 v1655 v1976 v1982 v2303) a + S8x128.size a ≤ S1544x128.size a) ∧
  (∀ a, (k0_off41 arg15 arg16 v1649 v1655 v1976 v1982 v2303) a + S8x256.size a ≤ S1536x1536.size a) ∧
  (∀ a, (k0_off42 arg15 arg16 v1649 v1655 v1976 v1982 v2303) a + S8x256.size a ≤ S1536x1536.size a) ∧
  (∀ a, (k0_off43 arg15 arg16 v1649 v1655 v1976 v1982 v2303) a + S8x256.size a ≤ S1536x1536.size a) ∧
  (∀ a, (k0_off44 arg15 arg16 v1649 v1655 v1976 v1982 v2303) a + S8x256.size a ≤ S1536x1536.size a) ∧
  (∀ a, (k0_off45 arg15 arg16 v1649 v1655 v1976 v1982 v2303) a + S8x256.size a ≤ S1536x1536.size a) ∧
  (∀ a, (k0_off46 arg15 arg16 v1649 v1655 v1976 v1982 v2303) a + S8x256.size a ≤ S1536x1536.size a) ∧
  (∀ a, (k0_off47 arg15 arg16 v1649 v1655 v1976 v1982 v2303) a + S1.size a ≤ S1537.size a) ∧
  (∀ a, (k0_off48 arg15 arg16 v1649 v1655 v1976 v1982 v2303) a + S1.size a ≤ S1537.size a)
theorem k0_off37_inb : ∀ (arg15 : BitVec 32) (arg16 : BitVec 32) (v1649 : BitVec 32) (v1655 : BitVec 32) (v1976 : BitVec 32) (v1982 : BitVec 32) (v2303 : BitVec 32) (k0_hw7 : k0_chk7 arg15 arg16 v1649 v1655 v1976 v1982 v2303), ∀ a, (k0_off37 arg15 arg16 v1649 v1655 v1976 v1982 v2303) a + S1.size a ≤ S1537.size a := fun arg15 arg16 v1649 v1655 v1976 v1982 v2303 k0_hw7 => k0_hw7.1
theorem k0_off38_inb : ∀ (arg15 : BitVec 32) (arg16 : BitVec 32) (v1649 : BitVec 32) (v1655 : BitVec 32) (v1976 : BitVec 32) (v1982 : BitVec 32) (v2303 : BitVec 32) (k0_hw7 : k0_chk7 arg15 arg16 v1649 v1655 v1976 v1982 v2303), ∀ a, (k0_off38 arg15 arg16 v1649 v1655 v1976 v1982 v2303) a + S8x128.size a ≤ S1544x128.size a := fun arg15 arg16 v1649 v1655 v1976 v1982 v2303 k0_hw7 => k0_hw7.2.1
theorem k0_off39_inb : ∀ (arg15 : BitVec 32) (arg16 : BitVec 32) (v1649 : BitVec 32) (v1655 : BitVec 32) (v1976 : BitVec 32) (v1982 : BitVec 32) (v2303 : BitVec 32) (k0_hw7 : k0_chk7 arg15 arg16 v1649 v1655 v1976 v1982 v2303), ∀ a, (k0_off39 arg15 arg16 v1649 v1655 v1976 v1982 v2303) a + S8x128.size a ≤ S1544x128.size a := fun arg15 arg16 v1649 v1655 v1976 v1982 v2303 k0_hw7 => k0_hw7.2.2.1
theorem k0_off41_inb : ∀ (arg15 : BitVec 32) (arg16 : BitVec 32) (v1649 : BitVec 32) (v1655 : BitVec 32) (v1976 : BitVec 32) (v1982 : BitVec 32) (v2303 : BitVec 32) (k0_hw7 : k0_chk7 arg15 arg16 v1649 v1655 v1976 v1982 v2303), ∀ a, (k0_off41 arg15 arg16 v1649 v1655 v1976 v1982 v2303) a + S8x256.size a ≤ S1536x1536.size a := fun arg15 arg16 v1649 v1655 v1976 v1982 v2303 k0_hw7 => k0_hw7.2.2.2.1
theorem k0_off42_inb : ∀ (arg15 : BitVec 32) (arg16 : BitVec 32) (v1649 : BitVec 32) (v1655 : BitVec 32) (v1976 : BitVec 32) (v1982 : BitVec 32) (v2303 : BitVec 32) (k0_hw7 : k0_chk7 arg15 arg16 v1649 v1655 v1976 v1982 v2303), ∀ a, (k0_off42 arg15 arg16 v1649 v1655 v1976 v1982 v2303) a + S8x256.size a ≤ S1536x1536.size a := fun arg15 arg16 v1649 v1655 v1976 v1982 v2303 k0_hw7 => k0_hw7.2.2.2.2.1
theorem k0_off43_inb : ∀ (arg15 : BitVec 32) (arg16 : BitVec 32) (v1649 : BitVec 32) (v1655 : BitVec 32) (v1976 : BitVec 32) (v1982 : BitVec 32) (v2303 : BitVec 32) (k0_hw7 : k0_chk7 arg15 arg16 v1649 v1655 v1976 v1982 v2303), ∀ a, (k0_off43 arg15 arg16 v1649 v1655 v1976 v1982 v2303) a + S8x256.size a ≤ S1536x1536.size a := fun arg15 arg16 v1649 v1655 v1976 v1982 v2303 k0_hw7 => k0_hw7.2.2.2.2.2.1
theorem k0_off44_inb : ∀ (arg15 : BitVec 32) (arg16 : BitVec 32) (v1649 : BitVec 32) (v1655 : BitVec 32) (v1976 : BitVec 32) (v1982 : BitVec 32) (v2303 : BitVec 32) (k0_hw7 : k0_chk7 arg15 arg16 v1649 v1655 v1976 v1982 v2303), ∀ a, (k0_off44 arg15 arg16 v1649 v1655 v1976 v1982 v2303) a + S8x256.size a ≤ S1536x1536.size a := fun arg15 arg16 v1649 v1655 v1976 v1982 v2303 k0_hw7 => k0_hw7.2.2.2.2.2.2.1
theorem k0_off45_inb : ∀ (arg15 : BitVec 32) (arg16 : BitVec 32) (v1649 : BitVec 32) (v1655 : BitVec 32) (v1976 : BitVec 32) (v1982 : BitVec 32) (v2303 : BitVec 32) (k0_hw7 : k0_chk7 arg15 arg16 v1649 v1655 v1976 v1982 v2303), ∀ a, (k0_off45 arg15 arg16 v1649 v1655 v1976 v1982 v2303) a + S8x256.size a ≤ S1536x1536.size a := fun arg15 arg16 v1649 v1655 v1976 v1982 v2303 k0_hw7 => k0_hw7.2.2.2.2.2.2.2.1
theorem k0_off46_inb : ∀ (arg15 : BitVec 32) (arg16 : BitVec 32) (v1649 : BitVec 32) (v1655 : BitVec 32) (v1976 : BitVec 32) (v1982 : BitVec 32) (v2303 : BitVec 32) (k0_hw7 : k0_chk7 arg15 arg16 v1649 v1655 v1976 v1982 v2303), ∀ a, (k0_off46 arg15 arg16 v1649 v1655 v1976 v1982 v2303) a + S8x256.size a ≤ S1536x1536.size a := fun arg15 arg16 v1649 v1655 v1976 v1982 v2303 k0_hw7 => k0_hw7.2.2.2.2.2.2.2.2.1
theorem k0_off47_inb : ∀ (arg15 : BitVec 32) (arg16 : BitVec 32) (v1649 : BitVec 32) (v1655 : BitVec 32) (v1976 : BitVec 32) (v1982 : BitVec 32) (v2303 : BitVec 32) (k0_hw7 : k0_chk7 arg15 arg16 v1649 v1655 v1976 v1982 v2303), ∀ a, (k0_off47 arg15 arg16 v1649 v1655 v1976 v1982 v2303) a + S1.size a ≤ S1537.size a := fun arg15 arg16 v1649 v1655 v1976 v1982 v2303 k0_hw7 => k0_hw7.2.2.2.2.2.2.2.2.2.1
theorem k0_off48_inb : ∀ (arg15 : BitVec 32) (arg16 : BitVec 32) (v1649 : BitVec 32) (v1655 : BitVec 32) (v1976 : BitVec 32) (v1982 : BitVec 32) (v2303 : BitVec 32) (k0_hw7 : k0_chk7 arg15 arg16 v1649 v1655 v1976 v1982 v2303), ∀ a, (k0_off48 arg15 arg16 v1649 v1655 v1976 v1982 v2303) a + S1.size a ≤ S1537.size a := fun arg15 arg16 v1649 v1655 v1976 v1982 v2303 k0_hw7 => k0_hw7.2.2.2.2.2.2.2.2.2.2

def k0_off49 (arg15 : BitVec 32) (arg16 : BitVec 32) (v1649 : BitVec 32) (v1655 : BitVec 32) (v1976 : BitVec 32) (v1982 : BitVec 32) (v2303 : BitVec 32) (v2309 : BitVec 32) (v2630 : BitVec 32) : Fin 1 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let v2655 : BitVec 32 := Scalar.select v2631 v2632 v2328
  let c191_i32_913 : BitVec 32 := 191#32
  let v2659 : BitVec 32 := Scalar.minsi v2655 c191_i32_913
  let c8_i32_914 : BitVec 32 := 8#32
  let v2660 : BitVec 32 := Scalar.muli v2659 c8_i32_914
  let v2661 : Index := Scalar.indexCast v2660
  ![v2661.toNat]

def k0_off50 (arg15 : BitVec 32) (arg16 : BitVec 32) (v1649 : BitVec 32) (v1655 : BitVec 32) (v1976 : BitVec 32) (v1982 : BitVec 32) (v2303 : BitVec 32) (v2309 : BitVec 32) (v2630 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let v2655 : BitVec 32 := Scalar.select v2631 v2632 v2328
  let c191_i32_913 : BitVec 32 := 191#32
  let v2659 : BitVec 32 := Scalar.minsi v2655 c191_i32_913
  let c8_i32_922 : BitVec 32 := 8#32
  let v2681 : BitVec 32 := Scalar.muli v2659 c8_i32_922
  let v2682 : Index := Scalar.indexCast v2681
  let c0_923 : Index := 0#32
  ![v2682.toNat, 0]
def k0_off51 (arg15 : BitVec 32) (arg16 : BitVec 32) (v1649 : BitVec 32) (v1655 : BitVec 32) (v1976 : BitVec 32) (v1982 : BitVec 32) (v2303 : BitVec 32) (v2309 : BitVec 32) (v2630 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let v2655 : BitVec 32 := Scalar.select v2631 v2632 v2328
  let c191_i32_913 : BitVec 32 := 191#32
  let v2659 : BitVec 32 := Scalar.minsi v2655 c191_i32_913
  let c8_i32_924 : BitVec 32 := 8#32
  let v2684 : BitVec 32 := Scalar.muli v2659 c8_i32_924
  let c1_i32_925 : BitVec 32 := 1#32
  let v2685 : BitVec 32 := Scalar.addi v2684 c1_i32_925
  let v2686 : Index := Scalar.indexCast v2685
  let c0_926 : Index := 0#32
  ![v2686.toNat, 0]
def k0_off52 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (c0_i32_927 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let v2688 : BitVec 32 := Scalar.addi v2658 c0_i32_927
  let c383_i32_928 : BitVec 32 := 383#32
  let v2689 : BitVec 32 := Scalar.minsi v2688 c383_i32_928
  let v2690 : Index := Scalar.indexCast v2689
  let c0_929 : Index := 0#32
  ![v2690.toNat, 0]

def k0_chk10 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) : Prop :=
  (∀ (r : Fin 2), ∀ a, (k0_off52 arg15 arg16 v1649 v1655 v1976 v1982 v2303 v2309 v2630 v2636 (BitVec.ofNat 32 r.val)) a + S1x128.size a ≤ S384x128.size a)
theorem k0_off52_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (k0_hw10 : k0_chk10 arg15 arg16 v1649 v1655 v1976 v1982 v2303 v2309 v2630 v2636), ∀ (r : Fin 2), ∀ a, (k0_off52 arg15 arg16 v1649 v1655 v1976 v1982 v2303 v2309 v2630 v2636 (BitVec.ofNat 32 r.val)) a + S1x128.size a ≤ S384x128.size a := fun arg15 arg16 v1649 v1655 v1976 v1982 v2303 v2309 v2630 v2636 k0_hw10 r => k0_hw10 r

def k0_off53 (arg15 : BitVec 32) (arg16 : BitVec 32) (v1649 : BitVec 32) (v1655 : BitVec 32) (v1976 : BitVec 32) (v1982 : BitVec 32) (v2303 : BitVec 32) (v2309 : BitVec 32) (v2630 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let v2655 : BitVec 32 := Scalar.select v2631 v2632 v2328
  let c191_i32_913 : BitVec 32 := 191#32
  let v2659 : BitVec 32 := Scalar.minsi v2655 c191_i32_913
  let c8_i32_982 : BitVec 32 := 8#32
  let v2886 : BitVec 32 := Scalar.muli v2659 c8_i32_982
  let v2887 : Index := Scalar.indexCast v2886
  let c0_983 : Index := 0#32
  ![v2887.toNat, 0]
def k0_off54 (arg15 : BitVec 32) (arg16 : BitVec 32) (v1649 : BitVec 32) (v1655 : BitVec 32) (v1976 : BitVec 32) (v1982 : BitVec 32) (v2303 : BitVec 32) (v2309 : BitVec 32) (v2630 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let v2655 : BitVec 32 := Scalar.select v2631 v2632 v2328
  let c191_i32_913 : BitVec 32 := 191#32
  let v2659 : BitVec 32 := Scalar.minsi v2655 c191_i32_913
  let c8_i32_986 : BitVec 32 := 8#32
  let v2897 : BitVec 32 := Scalar.muli v2659 c8_i32_986
  let v2898 : Index := Scalar.indexCast v2897
  let c256_987 : Index := 256#32
  ![v2898.toNat, 256]
def k0_off55 (arg15 : BitVec 32) (arg16 : BitVec 32) (v1649 : BitVec 32) (v1655 : BitVec 32) (v1976 : BitVec 32) (v1982 : BitVec 32) (v2303 : BitVec 32) (v2309 : BitVec 32) (v2630 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let v2655 : BitVec 32 := Scalar.select v2631 v2632 v2328
  let c191_i32_913 : BitVec 32 := 191#32
  let v2659 : BitVec 32 := Scalar.minsi v2655 c191_i32_913
  let c8_i32_990 : BitVec 32 := 8#32
  let v2908 : BitVec 32 := Scalar.muli v2659 c8_i32_990
  let v2909 : Index := Scalar.indexCast v2908
  let c512_991 : Index := 512#32
  ![v2909.toNat, 512]
def k0_off56 (arg15 : BitVec 32) (arg16 : BitVec 32) (v1649 : BitVec 32) (v1655 : BitVec 32) (v1976 : BitVec 32) (v1982 : BitVec 32) (v2303 : BitVec 32) (v2309 : BitVec 32) (v2630 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let v2655 : BitVec 32 := Scalar.select v2631 v2632 v2328
  let c191_i32_913 : BitVec 32 := 191#32
  let v2659 : BitVec 32 := Scalar.minsi v2655 c191_i32_913
  let c8_i32_994 : BitVec 32 := 8#32
  let v2919 : BitVec 32 := Scalar.muli v2659 c8_i32_994
  let v2920 : Index := Scalar.indexCast v2919
  let c768_995 : Index := 768#32
  ![v2920.toNat, 768]
def k0_off57 (arg15 : BitVec 32) (arg16 : BitVec 32) (v1649 : BitVec 32) (v1655 : BitVec 32) (v1976 : BitVec 32) (v1982 : BitVec 32) (v2303 : BitVec 32) (v2309 : BitVec 32) (v2630 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let v2655 : BitVec 32 := Scalar.select v2631 v2632 v2328
  let c191_i32_913 : BitVec 32 := 191#32
  let v2659 : BitVec 32 := Scalar.minsi v2655 c191_i32_913
  let c8_i32_998 : BitVec 32 := 8#32
  let v2930 : BitVec 32 := Scalar.muli v2659 c8_i32_998
  let v2931 : Index := Scalar.indexCast v2930
  let c1024_999 : Index := 1024#32
  ![v2931.toNat, 1024]
def k0_off58 (arg15 : BitVec 32) (arg16 : BitVec 32) (v1649 : BitVec 32) (v1655 : BitVec 32) (v1976 : BitVec 32) (v1982 : BitVec 32) (v2303 : BitVec 32) (v2309 : BitVec 32) (v2630 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let v2655 : BitVec 32 := Scalar.select v2631 v2632 v2328
  let c191_i32_913 : BitVec 32 := 191#32
  let v2659 : BitVec 32 := Scalar.minsi v2655 c191_i32_913
  let c8_i32_1002 : BitVec 32 := 8#32
  let v2941 : BitVec 32 := Scalar.muli v2659 c8_i32_1002
  let v2942 : Index := Scalar.indexCast v2941
  let c1280_1003 : Index := 1280#32
  ![v2942.toNat, 1280]
def k0_off59 (arg15 : BitVec 32) (arg16 : BitVec 32) (v1649 : BitVec 32) (v1655 : BitVec 32) (v1976 : BitVec 32) (v1982 : BitVec 32) (v2303 : BitVec 32) (v2309 : BitVec 32) (v2630 : BitVec 32) : Fin 1 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let v2655 : BitVec 32 := Scalar.select v2631 v2632 v2328
  let c191_i32_913 : BitVec 32 := 191#32
  let v2659 : BitVec 32 := Scalar.minsi v2655 c191_i32_913
  let c1_i32_1008 : BitVec 32 := 1#32
  let v2954 : BitVec 32 := Scalar.addi v2659 c1_i32_1008
  let c8_i32_1009 : BitVec 32 := 8#32
  let v2955 : BitVec 32 := Scalar.muli v2954 c8_i32_1009
  let v2956 : Index := Scalar.indexCast v2955
  ![v2956.toNat]
def k0_off60 (arg15 : BitVec 32) (arg16 : BitVec 32) (v1649 : BitVec 32) (v1655 : BitVec 32) (v1976 : BitVec 32) (v1982 : BitVec 32) (v2303 : BitVec 32) (v2309 : BitVec 32) (v2630 : BitVec 32) : Fin 1 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let v2655 : BitVec 32 := Scalar.select v2631 v2632 v2328
  let c1_i32_1010 : BitVec 32 := 1#32
  let v2959 : BitVec 32 := Scalar.addi v2655 c1_i32_1010
  let c191_i32_1011 : BitVec 32 := 191#32
  let v2960 : BitVec 32 := Scalar.minsi v2959 c191_i32_1011
  let c8_i32_1012 : BitVec 32 := 8#32
  let v2961 : BitVec 32 := Scalar.muli v2960 c8_i32_1012
  let v2962 : Index := Scalar.indexCast v2961
  ![v2962.toNat]

def k0_chk9 (arg15 : BitVec 32) (arg16 : BitVec 32) (v1649 : BitVec 32) (v1655 : BitVec 32) (v1976 : BitVec 32) (v1982 : BitVec 32) (v2303 : BitVec 32) (v2309 : BitVec 32) (v2630 : BitVec 32) : Prop :=
  (∀ a, (k0_off49 arg15 arg16 v1649 v1655 v1976 v1982 v2303 v2309 v2630) a + S1.size a ≤ S1537.size a) ∧
  (∀ a, (k0_off50 arg15 arg16 v1649 v1655 v1976 v1982 v2303 v2309 v2630) a + S8x128.size a ≤ S1544x128.size a) ∧
  (∀ a, (k0_off51 arg15 arg16 v1649 v1655 v1976 v1982 v2303 v2309 v2630) a + S8x128.size a ≤ S1544x128.size a) ∧
  (∀ a, (k0_off53 arg15 arg16 v1649 v1655 v1976 v1982 v2303 v2309 v2630) a + S8x256.size a ≤ S1536x1536.size a) ∧
  (∀ a, (k0_off54 arg15 arg16 v1649 v1655 v1976 v1982 v2303 v2309 v2630) a + S8x256.size a ≤ S1536x1536.size a) ∧
  (∀ a, (k0_off55 arg15 arg16 v1649 v1655 v1976 v1982 v2303 v2309 v2630) a + S8x256.size a ≤ S1536x1536.size a) ∧
  (∀ a, (k0_off56 arg15 arg16 v1649 v1655 v1976 v1982 v2303 v2309 v2630) a + S8x256.size a ≤ S1536x1536.size a) ∧
  (∀ a, (k0_off57 arg15 arg16 v1649 v1655 v1976 v1982 v2303 v2309 v2630) a + S8x256.size a ≤ S1536x1536.size a) ∧
  (∀ a, (k0_off58 arg15 arg16 v1649 v1655 v1976 v1982 v2303 v2309 v2630) a + S8x256.size a ≤ S1536x1536.size a) ∧
  (∀ a, (k0_off59 arg15 arg16 v1649 v1655 v1976 v1982 v2303 v2309 v2630) a + S1.size a ≤ S1537.size a) ∧
  (∀ a, (k0_off60 arg15 arg16 v1649 v1655 v1976 v1982 v2303 v2309 v2630) a + S1.size a ≤ S1537.size a)
theorem k0_off49_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (k0_hw9 : k0_chk9 arg15 arg16 v1649 v1655 v1976 v1982 v2303 v2309 v2630), ∀ a, (k0_off49 arg15 arg16 v1649 v1655 v1976 v1982 v2303 v2309 v2630) a + S1.size a ≤ S1537.size a := fun arg15 arg16 v1649 v1655 v1976 v1982 v2303 v2309 v2630 k0_hw9 => k0_hw9.1
theorem k0_off50_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (k0_hw9 : k0_chk9 arg15 arg16 v1649 v1655 v1976 v1982 v2303 v2309 v2630), ∀ a, (k0_off50 arg15 arg16 v1649 v1655 v1976 v1982 v2303 v2309 v2630) a + S8x128.size a ≤ S1544x128.size a := fun arg15 arg16 v1649 v1655 v1976 v1982 v2303 v2309 v2630 k0_hw9 => k0_hw9.2.1
theorem k0_off51_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (k0_hw9 : k0_chk9 arg15 arg16 v1649 v1655 v1976 v1982 v2303 v2309 v2630), ∀ a, (k0_off51 arg15 arg16 v1649 v1655 v1976 v1982 v2303 v2309 v2630) a + S8x128.size a ≤ S1544x128.size a := fun arg15 arg16 v1649 v1655 v1976 v1982 v2303 v2309 v2630 k0_hw9 => k0_hw9.2.2.1
theorem k0_off53_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (k0_hw9 : k0_chk9 arg15 arg16 v1649 v1655 v1976 v1982 v2303 v2309 v2630), ∀ a, (k0_off53 arg15 arg16 v1649 v1655 v1976 v1982 v2303 v2309 v2630) a + S8x256.size a ≤ S1536x1536.size a := fun arg15 arg16 v1649 v1655 v1976 v1982 v2303 v2309 v2630 k0_hw9 => k0_hw9.2.2.2.1
theorem k0_off54_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (k0_hw9 : k0_chk9 arg15 arg16 v1649 v1655 v1976 v1982 v2303 v2309 v2630), ∀ a, (k0_off54 arg15 arg16 v1649 v1655 v1976 v1982 v2303 v2309 v2630) a + S8x256.size a ≤ S1536x1536.size a := fun arg15 arg16 v1649 v1655 v1976 v1982 v2303 v2309 v2630 k0_hw9 => k0_hw9.2.2.2.2.1
theorem k0_off55_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (k0_hw9 : k0_chk9 arg15 arg16 v1649 v1655 v1976 v1982 v2303 v2309 v2630), ∀ a, (k0_off55 arg15 arg16 v1649 v1655 v1976 v1982 v2303 v2309 v2630) a + S8x256.size a ≤ S1536x1536.size a := fun arg15 arg16 v1649 v1655 v1976 v1982 v2303 v2309 v2630 k0_hw9 => k0_hw9.2.2.2.2.2.1
theorem k0_off56_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (k0_hw9 : k0_chk9 arg15 arg16 v1649 v1655 v1976 v1982 v2303 v2309 v2630), ∀ a, (k0_off56 arg15 arg16 v1649 v1655 v1976 v1982 v2303 v2309 v2630) a + S8x256.size a ≤ S1536x1536.size a := fun arg15 arg16 v1649 v1655 v1976 v1982 v2303 v2309 v2630 k0_hw9 => k0_hw9.2.2.2.2.2.2.1
theorem k0_off57_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (k0_hw9 : k0_chk9 arg15 arg16 v1649 v1655 v1976 v1982 v2303 v2309 v2630), ∀ a, (k0_off57 arg15 arg16 v1649 v1655 v1976 v1982 v2303 v2309 v2630) a + S8x256.size a ≤ S1536x1536.size a := fun arg15 arg16 v1649 v1655 v1976 v1982 v2303 v2309 v2630 k0_hw9 => k0_hw9.2.2.2.2.2.2.2.1
theorem k0_off58_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (k0_hw9 : k0_chk9 arg15 arg16 v1649 v1655 v1976 v1982 v2303 v2309 v2630), ∀ a, (k0_off58 arg15 arg16 v1649 v1655 v1976 v1982 v2303 v2309 v2630) a + S8x256.size a ≤ S1536x1536.size a := fun arg15 arg16 v1649 v1655 v1976 v1982 v2303 v2309 v2630 k0_hw9 => k0_hw9.2.2.2.2.2.2.2.2.1
theorem k0_off59_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (k0_hw9 : k0_chk9 arg15 arg16 v1649 v1655 v1976 v1982 v2303 v2309 v2630), ∀ a, (k0_off59 arg15 arg16 v1649 v1655 v1976 v1982 v2303 v2309 v2630) a + S1.size a ≤ S1537.size a := fun arg15 arg16 v1649 v1655 v1976 v1982 v2303 v2309 v2630 k0_hw9 => k0_hw9.2.2.2.2.2.2.2.2.2.1
theorem k0_off60_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (k0_hw9 : k0_chk9 arg15 arg16 v1649 v1655 v1976 v1982 v2303 v2309 v2630), ∀ a, (k0_off60 arg15 arg16 v1649 v1655 v1976 v1982 v2303 v2309 v2630) a + S1.size a ≤ S1537.size a := fun arg15 arg16 v1649 v1655 v1976 v1982 v2303 v2309 v2630 k0_hw9 => k0_hw9.2.2.2.2.2.2.2.2.2.2

def k0_off61 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) : Fin 1 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let v2982 : BitVec 32 := Scalar.select v2958 v2959 v2655
  let c191_i32_1022 : BitVec 32 := 191#32
  let v2986 : BitVec 32 := Scalar.minsi v2982 c191_i32_1022
  let c8_i32_1023 : BitVec 32 := 8#32
  let v2987 : BitVec 32 := Scalar.muli v2986 c8_i32_1023
  let v2988 : Index := Scalar.indexCast v2987
  ![v2988.toNat]

def k0_off62 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let v2982 : BitVec 32 := Scalar.select v2958 v2959 v2655
  let c191_i32_1022 : BitVec 32 := 191#32
  let v2986 : BitVec 32 := Scalar.minsi v2982 c191_i32_1022
  let c8_i32_1031 : BitVec 32 := 8#32
  let v3008 : BitVec 32 := Scalar.muli v2986 c8_i32_1031
  let v3009 : Index := Scalar.indexCast v3008
  let c0_1032 : Index := 0#32
  ![v3009.toNat, 0]
def k0_off63 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let v2982 : BitVec 32 := Scalar.select v2958 v2959 v2655
  let c191_i32_1022 : BitVec 32 := 191#32
  let v2986 : BitVec 32 := Scalar.minsi v2982 c191_i32_1022
  let c8_i32_1033 : BitVec 32 := 8#32
  let v3011 : BitVec 32 := Scalar.muli v2986 c8_i32_1033
  let c1_i32_1034 : BitVec 32 := 1#32
  let v3012 : BitVec 32 := Scalar.addi v3011 c1_i32_1034
  let v3013 : Index := Scalar.indexCast v3012
  let c0_1035 : Index := 0#32
  ![v3013.toNat, 0]
def k0_off64 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (c0_i32_1036 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let c192_i32_1020 : BitVec 32 := 192#32
  let v2981 : BitVec 1 := Scalar.cmpi .sge v2959 c192_i32_1020
  let true_1021 : BitVec 1 := 1#1
  let v2983 : BitVec 1 := Scalar.xori v2981 true_1021
  let v2984 : BitVec 1 := Scalar.andi v2958 v2983
  let c0_i32_1014 : BitVec 32 := 0#32
  let v2965 : BitVec 1 := Scalar.cmpi .sgt v2963 c0_i32_1014
  let v2966 : BitVec 32 := Scalar.extui v2965
  let c0_i32_1015 : BitVec 32 := 0#32
  let v2967 : BitVec 1 := Scalar.cmpi .slt v2963 c0_i32_1015
  let v2968 : BitVec 32 := Scalar.extui v2967
  let v2969 : BitVec 32 := Scalar.subi v2966 v2968
  let c128_i32_1013 : BitVec 32 := 128#32
  let c0_i32_1016 : BitVec 32 := 0#32
  let v2970 : BitVec 1 := Scalar.cmpi .sgt c128_i32_1013 c0_i32_1016
  let v2971 : BitVec 32 := Scalar.extui v2970
  let c0_i32_1017 : BitVec 32 := 0#32
  let v2972 : BitVec 1 := Scalar.cmpi .slt c128_i32_1013 c0_i32_1017
  let v2973 : BitVec 32 := Scalar.extui v2972
  let v2974 : BitVec 32 := Scalar.subi v2971 v2973
  let v2975 : BitVec 1 := Scalar.cmpi .ne v2969 v2974
  let v2976 : BitVec 32 := Scalar.remsi v2963 c128_i32_1013
  let c0_i32_1018 : BitVec 32 := 0#32
  let v2977 : BitVec 1 := Scalar.cmpi .ne v2976 c0_i32_1018
  let v2978 : BitVec 1 := Scalar.andi v2975 v2977
  let v2964 : BitVec 32 := Scalar.divsi v2963 c128_i32_1013
  let c1_i32_1019 : BitVec 32 := 1#32
  let v2979 : BitVec 32 := Scalar.subi v2964 c1_i32_1019
  let v2980 : BitVec 32 := Scalar.select v2978 v2979 v2964
  let v2985 : BitVec 32 := Scalar.select v2984 v2980 v2952
  let v3015 : BitVec 32 := Scalar.addi v2985 c0_i32_1036
  let c383_i32_1037 : BitVec 32 := 383#32
  let v3016 : BitVec 32 := Scalar.minsi v3015 c383_i32_1037
  let v3017 : Index := Scalar.indexCast v3016
  let c0_1038 : Index := 0#32
  ![v3017.toNat, 0]

def k0_chk12 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) : Prop :=
  (∀ (r : Fin 2), ∀ a, (k0_off64 arg15 arg16 v1649 v1655 v1976 v1982 v2303 v2309 v2630 v2636 v2957 v2963 (BitVec.ofNat 32 r.val)) a + S1x128.size a ≤ S384x128.size a)
theorem k0_off64_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (k0_hw12 : k0_chk12 arg15 arg16 v1649 v1655 v1976 v1982 v2303 v2309 v2630 v2636 v2957 v2963), ∀ (r : Fin 2), ∀ a, (k0_off64 arg15 arg16 v1649 v1655 v1976 v1982 v2303 v2309 v2630 v2636 v2957 v2963 (BitVec.ofNat 32 r.val)) a + S1x128.size a ≤ S384x128.size a := fun arg15 arg16 v1649 v1655 v1976 v1982 v2303 v2309 v2630 v2636 v2957 v2963 k0_hw12 r => k0_hw12 r

def k0_off65 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let v2982 : BitVec 32 := Scalar.select v2958 v2959 v2655
  let c191_i32_1022 : BitVec 32 := 191#32
  let v2986 : BitVec 32 := Scalar.minsi v2982 c191_i32_1022
  let c8_i32_1091 : BitVec 32 := 8#32
  let v3213 : BitVec 32 := Scalar.muli v2986 c8_i32_1091
  let v3214 : Index := Scalar.indexCast v3213
  let c0_1092 : Index := 0#32
  ![v3214.toNat, 0]
def k0_off66 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let v2982 : BitVec 32 := Scalar.select v2958 v2959 v2655
  let c191_i32_1022 : BitVec 32 := 191#32
  let v2986 : BitVec 32 := Scalar.minsi v2982 c191_i32_1022
  let c8_i32_1095 : BitVec 32 := 8#32
  let v3224 : BitVec 32 := Scalar.muli v2986 c8_i32_1095
  let v3225 : Index := Scalar.indexCast v3224
  let c256_1096 : Index := 256#32
  ![v3225.toNat, 256]
def k0_off67 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let v2982 : BitVec 32 := Scalar.select v2958 v2959 v2655
  let c191_i32_1022 : BitVec 32 := 191#32
  let v2986 : BitVec 32 := Scalar.minsi v2982 c191_i32_1022
  let c8_i32_1099 : BitVec 32 := 8#32
  let v3235 : BitVec 32 := Scalar.muli v2986 c8_i32_1099
  let v3236 : Index := Scalar.indexCast v3235
  let c512_1100 : Index := 512#32
  ![v3236.toNat, 512]
def k0_off68 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let v2982 : BitVec 32 := Scalar.select v2958 v2959 v2655
  let c191_i32_1022 : BitVec 32 := 191#32
  let v2986 : BitVec 32 := Scalar.minsi v2982 c191_i32_1022
  let c8_i32_1103 : BitVec 32 := 8#32
  let v3246 : BitVec 32 := Scalar.muli v2986 c8_i32_1103
  let v3247 : Index := Scalar.indexCast v3246
  let c768_1104 : Index := 768#32
  ![v3247.toNat, 768]
def k0_off69 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let v2982 : BitVec 32 := Scalar.select v2958 v2959 v2655
  let c191_i32_1022 : BitVec 32 := 191#32
  let v2986 : BitVec 32 := Scalar.minsi v2982 c191_i32_1022
  let c8_i32_1107 : BitVec 32 := 8#32
  let v3257 : BitVec 32 := Scalar.muli v2986 c8_i32_1107
  let v3258 : Index := Scalar.indexCast v3257
  let c1024_1108 : Index := 1024#32
  ![v3258.toNat, 1024]
def k0_off70 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let v2982 : BitVec 32 := Scalar.select v2958 v2959 v2655
  let c191_i32_1022 : BitVec 32 := 191#32
  let v2986 : BitVec 32 := Scalar.minsi v2982 c191_i32_1022
  let c8_i32_1111 : BitVec 32 := 8#32
  let v3268 : BitVec 32 := Scalar.muli v2986 c8_i32_1111
  let v3269 : Index := Scalar.indexCast v3268
  let c1280_1112 : Index := 1280#32
  ![v3269.toNat, 1280]
def k0_off71 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) : Fin 1 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let v2982 : BitVec 32 := Scalar.select v2958 v2959 v2655
  let c191_i32_1022 : BitVec 32 := 191#32
  let v2986 : BitVec 32 := Scalar.minsi v2982 c191_i32_1022
  let c1_i32_1117 : BitVec 32 := 1#32
  let v3281 : BitVec 32 := Scalar.addi v2986 c1_i32_1117
  let c8_i32_1118 : BitVec 32 := 8#32
  let v3282 : BitVec 32 := Scalar.muli v3281 c8_i32_1118
  let v3283 : Index := Scalar.indexCast v3282
  ![v3283.toNat]
def k0_off72 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) : Fin 1 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let v2982 : BitVec 32 := Scalar.select v2958 v2959 v2655
  let c1_i32_1119 : BitVec 32 := 1#32
  let v3286 : BitVec 32 := Scalar.addi v2982 c1_i32_1119
  let c191_i32_1120 : BitVec 32 := 191#32
  let v3287 : BitVec 32 := Scalar.minsi v3286 c191_i32_1120
  let c8_i32_1121 : BitVec 32 := 8#32
  let v3288 : BitVec 32 := Scalar.muli v3287 c8_i32_1121
  let v3289 : Index := Scalar.indexCast v3288
  ![v3289.toNat]

def k0_chk11 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) : Prop :=
  (∀ a, (k0_off61 arg15 arg16 v1649 v1655 v1976 v1982 v2303 v2309 v2630 v2636 v2957) a + S1.size a ≤ S1537.size a) ∧
  (∀ a, (k0_off62 arg15 arg16 v1649 v1655 v1976 v1982 v2303 v2309 v2630 v2636 v2957) a + S8x128.size a ≤ S1544x128.size a) ∧
  (∀ a, (k0_off63 arg15 arg16 v1649 v1655 v1976 v1982 v2303 v2309 v2630 v2636 v2957) a + S8x128.size a ≤ S1544x128.size a) ∧
  (∀ a, (k0_off65 arg15 arg16 v1649 v1655 v1976 v1982 v2303 v2309 v2630 v2636 v2957) a + S8x256.size a ≤ S1536x1536.size a) ∧
  (∀ a, (k0_off66 arg15 arg16 v1649 v1655 v1976 v1982 v2303 v2309 v2630 v2636 v2957) a + S8x256.size a ≤ S1536x1536.size a) ∧
  (∀ a, (k0_off67 arg15 arg16 v1649 v1655 v1976 v1982 v2303 v2309 v2630 v2636 v2957) a + S8x256.size a ≤ S1536x1536.size a) ∧
  (∀ a, (k0_off68 arg15 arg16 v1649 v1655 v1976 v1982 v2303 v2309 v2630 v2636 v2957) a + S8x256.size a ≤ S1536x1536.size a) ∧
  (∀ a, (k0_off69 arg15 arg16 v1649 v1655 v1976 v1982 v2303 v2309 v2630 v2636 v2957) a + S8x256.size a ≤ S1536x1536.size a) ∧
  (∀ a, (k0_off70 arg15 arg16 v1649 v1655 v1976 v1982 v2303 v2309 v2630 v2636 v2957) a + S8x256.size a ≤ S1536x1536.size a) ∧
  (∀ a, (k0_off71 arg15 arg16 v1649 v1655 v1976 v1982 v2303 v2309 v2630 v2636 v2957) a + S1.size a ≤ S1537.size a) ∧
  (∀ a, (k0_off72 arg15 arg16 v1649 v1655 v1976 v1982 v2303 v2309 v2630 v2636 v2957) a + S1.size a ≤ S1537.size a)
theorem k0_off61_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (k0_hw11 : k0_chk11 arg15 arg16 v1649 v1655 v1976 v1982 v2303 v2309 v2630 v2636 v2957), ∀ a, (k0_off61 arg15 arg16 v1649 v1655 v1976 v1982 v2303 v2309 v2630 v2636 v2957) a + S1.size a ≤ S1537.size a := fun arg15 arg16 v1649 v1655 v1976 v1982 v2303 v2309 v2630 v2636 v2957 k0_hw11 => k0_hw11.1
theorem k0_off62_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (k0_hw11 : k0_chk11 arg15 arg16 v1649 v1655 v1976 v1982 v2303 v2309 v2630 v2636 v2957), ∀ a, (k0_off62 arg15 arg16 v1649 v1655 v1976 v1982 v2303 v2309 v2630 v2636 v2957) a + S8x128.size a ≤ S1544x128.size a := fun arg15 arg16 v1649 v1655 v1976 v1982 v2303 v2309 v2630 v2636 v2957 k0_hw11 => k0_hw11.2.1
theorem k0_off63_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (k0_hw11 : k0_chk11 arg15 arg16 v1649 v1655 v1976 v1982 v2303 v2309 v2630 v2636 v2957), ∀ a, (k0_off63 arg15 arg16 v1649 v1655 v1976 v1982 v2303 v2309 v2630 v2636 v2957) a + S8x128.size a ≤ S1544x128.size a := fun arg15 arg16 v1649 v1655 v1976 v1982 v2303 v2309 v2630 v2636 v2957 k0_hw11 => k0_hw11.2.2.1
theorem k0_off65_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (k0_hw11 : k0_chk11 arg15 arg16 v1649 v1655 v1976 v1982 v2303 v2309 v2630 v2636 v2957), ∀ a, (k0_off65 arg15 arg16 v1649 v1655 v1976 v1982 v2303 v2309 v2630 v2636 v2957) a + S8x256.size a ≤ S1536x1536.size a := fun arg15 arg16 v1649 v1655 v1976 v1982 v2303 v2309 v2630 v2636 v2957 k0_hw11 => k0_hw11.2.2.2.1
theorem k0_off66_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (k0_hw11 : k0_chk11 arg15 arg16 v1649 v1655 v1976 v1982 v2303 v2309 v2630 v2636 v2957), ∀ a, (k0_off66 arg15 arg16 v1649 v1655 v1976 v1982 v2303 v2309 v2630 v2636 v2957) a + S8x256.size a ≤ S1536x1536.size a := fun arg15 arg16 v1649 v1655 v1976 v1982 v2303 v2309 v2630 v2636 v2957 k0_hw11 => k0_hw11.2.2.2.2.1
theorem k0_off67_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (k0_hw11 : k0_chk11 arg15 arg16 v1649 v1655 v1976 v1982 v2303 v2309 v2630 v2636 v2957), ∀ a, (k0_off67 arg15 arg16 v1649 v1655 v1976 v1982 v2303 v2309 v2630 v2636 v2957) a + S8x256.size a ≤ S1536x1536.size a := fun arg15 arg16 v1649 v1655 v1976 v1982 v2303 v2309 v2630 v2636 v2957 k0_hw11 => k0_hw11.2.2.2.2.2.1
theorem k0_off68_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (k0_hw11 : k0_chk11 arg15 arg16 v1649 v1655 v1976 v1982 v2303 v2309 v2630 v2636 v2957), ∀ a, (k0_off68 arg15 arg16 v1649 v1655 v1976 v1982 v2303 v2309 v2630 v2636 v2957) a + S8x256.size a ≤ S1536x1536.size a := fun arg15 arg16 v1649 v1655 v1976 v1982 v2303 v2309 v2630 v2636 v2957 k0_hw11 => k0_hw11.2.2.2.2.2.2.1
theorem k0_off69_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (k0_hw11 : k0_chk11 arg15 arg16 v1649 v1655 v1976 v1982 v2303 v2309 v2630 v2636 v2957), ∀ a, (k0_off69 arg15 arg16 v1649 v1655 v1976 v1982 v2303 v2309 v2630 v2636 v2957) a + S8x256.size a ≤ S1536x1536.size a := fun arg15 arg16 v1649 v1655 v1976 v1982 v2303 v2309 v2630 v2636 v2957 k0_hw11 => k0_hw11.2.2.2.2.2.2.2.1
theorem k0_off70_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (k0_hw11 : k0_chk11 arg15 arg16 v1649 v1655 v1976 v1982 v2303 v2309 v2630 v2636 v2957), ∀ a, (k0_off70 arg15 arg16 v1649 v1655 v1976 v1982 v2303 v2309 v2630 v2636 v2957) a + S8x256.size a ≤ S1536x1536.size a := fun arg15 arg16 v1649 v1655 v1976 v1982 v2303 v2309 v2630 v2636 v2957 k0_hw11 => k0_hw11.2.2.2.2.2.2.2.2.1
theorem k0_off71_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (k0_hw11 : k0_chk11 arg15 arg16 v1649 v1655 v1976 v1982 v2303 v2309 v2630 v2636 v2957), ∀ a, (k0_off71 arg15 arg16 v1649 v1655 v1976 v1982 v2303 v2309 v2630 v2636 v2957) a + S1.size a ≤ S1537.size a := fun arg15 arg16 v1649 v1655 v1976 v1982 v2303 v2309 v2630 v2636 v2957 k0_hw11 => k0_hw11.2.2.2.2.2.2.2.2.2.1
theorem k0_off72_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (k0_hw11 : k0_chk11 arg15 arg16 v1649 v1655 v1976 v1982 v2303 v2309 v2630 v2636 v2957), ∀ a, (k0_off72 arg15 arg16 v1649 v1655 v1976 v1982 v2303 v2309 v2630 v2636 v2957) a + S1.size a ≤ S1537.size a := fun arg15 arg16 v1649 v1655 v1976 v1982 v2303 v2309 v2630 v2636 v2957 k0_hw11 => k0_hw11.2.2.2.2.2.2.2.2.2.2

def k0_off73 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) : Fin 1 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let c192_i32_1020 : BitVec 32 := 192#32
  let v2981 : BitVec 1 := Scalar.cmpi .sge v2959 c192_i32_1020
  let true_1021 : BitVec 1 := 1#1
  let v2983 : BitVec 1 := Scalar.xori v2981 true_1021
  let v2984 : BitVec 1 := Scalar.andi v2958 v2983
  let c0_i32_1014 : BitVec 32 := 0#32
  let v2965 : BitVec 1 := Scalar.cmpi .sgt v2963 c0_i32_1014
  let v2966 : BitVec 32 := Scalar.extui v2965
  let c0_i32_1015 : BitVec 32 := 0#32
  let v2967 : BitVec 1 := Scalar.cmpi .slt v2963 c0_i32_1015
  let v2968 : BitVec 32 := Scalar.extui v2967
  let v2969 : BitVec 32 := Scalar.subi v2966 v2968
  let c128_i32_1013 : BitVec 32 := 128#32
  let c0_i32_1016 : BitVec 32 := 0#32
  let v2970 : BitVec 1 := Scalar.cmpi .sgt c128_i32_1013 c0_i32_1016
  let v2971 : BitVec 32 := Scalar.extui v2970
  let c0_i32_1017 : BitVec 32 := 0#32
  let v2972 : BitVec 1 := Scalar.cmpi .slt c128_i32_1013 c0_i32_1017
  let v2973 : BitVec 32 := Scalar.extui v2972
  let v2974 : BitVec 32 := Scalar.subi v2971 v2973
  let v2975 : BitVec 1 := Scalar.cmpi .ne v2969 v2974
  let v2976 : BitVec 32 := Scalar.remsi v2963 c128_i32_1013
  let c0_i32_1018 : BitVec 32 := 0#32
  let v2977 : BitVec 1 := Scalar.cmpi .ne v2976 c0_i32_1018
  let v2978 : BitVec 1 := Scalar.andi v2975 v2977
  let v2964 : BitVec 32 := Scalar.divsi v2963 c128_i32_1013
  let c1_i32_1019 : BitVec 32 := 1#32
  let v2979 : BitVec 32 := Scalar.subi v2964 c1_i32_1019
  let v2980 : BitVec 32 := Scalar.select v2978 v2979 v2964
  let v2985 : BitVec 32 := Scalar.select v2984 v2980 v2952
  let c2_i32_1115 : BitVec 32 := 2#32
  let v3279 : BitVec 32 := Scalar.addi v2985 c2_i32_1115
  let c128_i32_1116 : BitVec 32 := 128#32
  let v3280 : BitVec 32 := Scalar.muli v3279 c128_i32_1116
  let v3285 : BitVec 1 := Scalar.cmpi .sge v3280 v3284
  let v2982 : BitVec 32 := Scalar.select v2958 v2959 v2655
  let c1_i32_1119 : BitVec 32 := 1#32
  let v3286 : BitVec 32 := Scalar.addi v2982 c1_i32_1119
  let v3309 : BitVec 32 := Scalar.select v3285 v3286 v2982
  let c191_i32_1131 : BitVec 32 := 191#32
  let v3313 : BitVec 32 := Scalar.minsi v3309 c191_i32_1131
  let c8_i32_1132 : BitVec 32 := 8#32
  let v3314 : BitVec 32 := Scalar.muli v3313 c8_i32_1132
  let v3315 : Index := Scalar.indexCast v3314
  ![v3315.toNat]

def k0_off74 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let c192_i32_1020 : BitVec 32 := 192#32
  let v2981 : BitVec 1 := Scalar.cmpi .sge v2959 c192_i32_1020
  let true_1021 : BitVec 1 := 1#1
  let v2983 : BitVec 1 := Scalar.xori v2981 true_1021
  let v2984 : BitVec 1 := Scalar.andi v2958 v2983
  let c0_i32_1014 : BitVec 32 := 0#32
  let v2965 : BitVec 1 := Scalar.cmpi .sgt v2963 c0_i32_1014
  let v2966 : BitVec 32 := Scalar.extui v2965
  let c0_i32_1015 : BitVec 32 := 0#32
  let v2967 : BitVec 1 := Scalar.cmpi .slt v2963 c0_i32_1015
  let v2968 : BitVec 32 := Scalar.extui v2967
  let v2969 : BitVec 32 := Scalar.subi v2966 v2968
  let c128_i32_1013 : BitVec 32 := 128#32
  let c0_i32_1016 : BitVec 32 := 0#32
  let v2970 : BitVec 1 := Scalar.cmpi .sgt c128_i32_1013 c0_i32_1016
  let v2971 : BitVec 32 := Scalar.extui v2970
  let c0_i32_1017 : BitVec 32 := 0#32
  let v2972 : BitVec 1 := Scalar.cmpi .slt c128_i32_1013 c0_i32_1017
  let v2973 : BitVec 32 := Scalar.extui v2972
  let v2974 : BitVec 32 := Scalar.subi v2971 v2973
  let v2975 : BitVec 1 := Scalar.cmpi .ne v2969 v2974
  let v2976 : BitVec 32 := Scalar.remsi v2963 c128_i32_1013
  let c0_i32_1018 : BitVec 32 := 0#32
  let v2977 : BitVec 1 := Scalar.cmpi .ne v2976 c0_i32_1018
  let v2978 : BitVec 1 := Scalar.andi v2975 v2977
  let v2964 : BitVec 32 := Scalar.divsi v2963 c128_i32_1013
  let c1_i32_1019 : BitVec 32 := 1#32
  let v2979 : BitVec 32 := Scalar.subi v2964 c1_i32_1019
  let v2980 : BitVec 32 := Scalar.select v2978 v2979 v2964
  let v2985 : BitVec 32 := Scalar.select v2984 v2980 v2952
  let c2_i32_1115 : BitVec 32 := 2#32
  let v3279 : BitVec 32 := Scalar.addi v2985 c2_i32_1115
  let c128_i32_1116 : BitVec 32 := 128#32
  let v3280 : BitVec 32 := Scalar.muli v3279 c128_i32_1116
  let v3285 : BitVec 1 := Scalar.cmpi .sge v3280 v3284
  let v2982 : BitVec 32 := Scalar.select v2958 v2959 v2655
  let c1_i32_1119 : BitVec 32 := 1#32
  let v3286 : BitVec 32 := Scalar.addi v2982 c1_i32_1119
  let v3309 : BitVec 32 := Scalar.select v3285 v3286 v2982
  let c191_i32_1131 : BitVec 32 := 191#32
  let v3313 : BitVec 32 := Scalar.minsi v3309 c191_i32_1131
  let c8_i32_1140 : BitVec 32 := 8#32
  let v3335 : BitVec 32 := Scalar.muli v3313 c8_i32_1140
  let v3336 : Index := Scalar.indexCast v3335
  let c0_1141 : Index := 0#32
  ![v3336.toNat, 0]
def k0_off75 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let c192_i32_1020 : BitVec 32 := 192#32
  let v2981 : BitVec 1 := Scalar.cmpi .sge v2959 c192_i32_1020
  let true_1021 : BitVec 1 := 1#1
  let v2983 : BitVec 1 := Scalar.xori v2981 true_1021
  let v2984 : BitVec 1 := Scalar.andi v2958 v2983
  let c0_i32_1014 : BitVec 32 := 0#32
  let v2965 : BitVec 1 := Scalar.cmpi .sgt v2963 c0_i32_1014
  let v2966 : BitVec 32 := Scalar.extui v2965
  let c0_i32_1015 : BitVec 32 := 0#32
  let v2967 : BitVec 1 := Scalar.cmpi .slt v2963 c0_i32_1015
  let v2968 : BitVec 32 := Scalar.extui v2967
  let v2969 : BitVec 32 := Scalar.subi v2966 v2968
  let c128_i32_1013 : BitVec 32 := 128#32
  let c0_i32_1016 : BitVec 32 := 0#32
  let v2970 : BitVec 1 := Scalar.cmpi .sgt c128_i32_1013 c0_i32_1016
  let v2971 : BitVec 32 := Scalar.extui v2970
  let c0_i32_1017 : BitVec 32 := 0#32
  let v2972 : BitVec 1 := Scalar.cmpi .slt c128_i32_1013 c0_i32_1017
  let v2973 : BitVec 32 := Scalar.extui v2972
  let v2974 : BitVec 32 := Scalar.subi v2971 v2973
  let v2975 : BitVec 1 := Scalar.cmpi .ne v2969 v2974
  let v2976 : BitVec 32 := Scalar.remsi v2963 c128_i32_1013
  let c0_i32_1018 : BitVec 32 := 0#32
  let v2977 : BitVec 1 := Scalar.cmpi .ne v2976 c0_i32_1018
  let v2978 : BitVec 1 := Scalar.andi v2975 v2977
  let v2964 : BitVec 32 := Scalar.divsi v2963 c128_i32_1013
  let c1_i32_1019 : BitVec 32 := 1#32
  let v2979 : BitVec 32 := Scalar.subi v2964 c1_i32_1019
  let v2980 : BitVec 32 := Scalar.select v2978 v2979 v2964
  let v2985 : BitVec 32 := Scalar.select v2984 v2980 v2952
  let c2_i32_1115 : BitVec 32 := 2#32
  let v3279 : BitVec 32 := Scalar.addi v2985 c2_i32_1115
  let c128_i32_1116 : BitVec 32 := 128#32
  let v3280 : BitVec 32 := Scalar.muli v3279 c128_i32_1116
  let v3285 : BitVec 1 := Scalar.cmpi .sge v3280 v3284
  let v2982 : BitVec 32 := Scalar.select v2958 v2959 v2655
  let c1_i32_1119 : BitVec 32 := 1#32
  let v3286 : BitVec 32 := Scalar.addi v2982 c1_i32_1119
  let v3309 : BitVec 32 := Scalar.select v3285 v3286 v2982
  let c191_i32_1131 : BitVec 32 := 191#32
  let v3313 : BitVec 32 := Scalar.minsi v3309 c191_i32_1131
  let c8_i32_1142 : BitVec 32 := 8#32
  let v3338 : BitVec 32 := Scalar.muli v3313 c8_i32_1142
  let c1_i32_1143 : BitVec 32 := 1#32
  let v3339 : BitVec 32 := Scalar.addi v3338 c1_i32_1143
  let v3340 : Index := Scalar.indexCast v3339
  let c0_1144 : Index := 0#32
  ![v3340.toNat, 0]
def k0_off76 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (c0_i32_1145 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let c192_i32_1020 : BitVec 32 := 192#32
  let v2981 : BitVec 1 := Scalar.cmpi .sge v2959 c192_i32_1020
  let true_1021 : BitVec 1 := 1#1
  let v2983 : BitVec 1 := Scalar.xori v2981 true_1021
  let v2984 : BitVec 1 := Scalar.andi v2958 v2983
  let c0_i32_1014 : BitVec 32 := 0#32
  let v2965 : BitVec 1 := Scalar.cmpi .sgt v2963 c0_i32_1014
  let v2966 : BitVec 32 := Scalar.extui v2965
  let c0_i32_1015 : BitVec 32 := 0#32
  let v2967 : BitVec 1 := Scalar.cmpi .slt v2963 c0_i32_1015
  let v2968 : BitVec 32 := Scalar.extui v2967
  let v2969 : BitVec 32 := Scalar.subi v2966 v2968
  let c128_i32_1013 : BitVec 32 := 128#32
  let c0_i32_1016 : BitVec 32 := 0#32
  let v2970 : BitVec 1 := Scalar.cmpi .sgt c128_i32_1013 c0_i32_1016
  let v2971 : BitVec 32 := Scalar.extui v2970
  let c0_i32_1017 : BitVec 32 := 0#32
  let v2972 : BitVec 1 := Scalar.cmpi .slt c128_i32_1013 c0_i32_1017
  let v2973 : BitVec 32 := Scalar.extui v2972
  let v2974 : BitVec 32 := Scalar.subi v2971 v2973
  let v2975 : BitVec 1 := Scalar.cmpi .ne v2969 v2974
  let v2976 : BitVec 32 := Scalar.remsi v2963 c128_i32_1013
  let c0_i32_1018 : BitVec 32 := 0#32
  let v2977 : BitVec 1 := Scalar.cmpi .ne v2976 c0_i32_1018
  let v2978 : BitVec 1 := Scalar.andi v2975 v2977
  let v2964 : BitVec 32 := Scalar.divsi v2963 c128_i32_1013
  let c1_i32_1019 : BitVec 32 := 1#32
  let v2979 : BitVec 32 := Scalar.subi v2964 c1_i32_1019
  let v2980 : BitVec 32 := Scalar.select v2978 v2979 v2964
  let v2985 : BitVec 32 := Scalar.select v2984 v2980 v2952
  let c2_i32_1115 : BitVec 32 := 2#32
  let v3279 : BitVec 32 := Scalar.addi v2985 c2_i32_1115
  let c128_i32_1116 : BitVec 32 := 128#32
  let v3280 : BitVec 32 := Scalar.muli v3279 c128_i32_1116
  let v3285 : BitVec 1 := Scalar.cmpi .sge v3280 v3284
  let v2982 : BitVec 32 := Scalar.select v2958 v2959 v2655
  let c1_i32_1119 : BitVec 32 := 1#32
  let v3286 : BitVec 32 := Scalar.addi v2982 c1_i32_1119
  let c192_i32_1129 : BitVec 32 := 192#32
  let v3308 : BitVec 1 := Scalar.cmpi .sge v3286 c192_i32_1129
  let true_1130 : BitVec 1 := 1#1
  let v3310 : BitVec 1 := Scalar.xori v3308 true_1130
  let v3311 : BitVec 1 := Scalar.andi v3285 v3310
  let c0_i32_1123 : BitVec 32 := 0#32
  let v3292 : BitVec 1 := Scalar.cmpi .sgt v3290 c0_i32_1123
  let v3293 : BitVec 32 := Scalar.extui v3292
  let c0_i32_1124 : BitVec 32 := 0#32
  let v3294 : BitVec 1 := Scalar.cmpi .slt v3290 c0_i32_1124
  let v3295 : BitVec 32 := Scalar.extui v3294
  let v3296 : BitVec 32 := Scalar.subi v3293 v3295
  let c128_i32_1122 : BitVec 32 := 128#32
  let c0_i32_1125 : BitVec 32 := 0#32
  let v3297 : BitVec 1 := Scalar.cmpi .sgt c128_i32_1122 c0_i32_1125
  let v3298 : BitVec 32 := Scalar.extui v3297
  let c0_i32_1126 : BitVec 32 := 0#32
  let v3299 : BitVec 1 := Scalar.cmpi .slt c128_i32_1122 c0_i32_1126
  let v3300 : BitVec 32 := Scalar.extui v3299
  let v3301 : BitVec 32 := Scalar.subi v3298 v3300
  let v3302 : BitVec 1 := Scalar.cmpi .ne v3296 v3301
  let v3303 : BitVec 32 := Scalar.remsi v3290 c128_i32_1122
  let c0_i32_1127 : BitVec 32 := 0#32
  let v3304 : BitVec 1 := Scalar.cmpi .ne v3303 c0_i32_1127
  let v3305 : BitVec 1 := Scalar.andi v3302 v3304
  let v3291 : BitVec 32 := Scalar.divsi v3290 c128_i32_1122
  let c1_i32_1128 : BitVec 32 := 1#32
  let v3306 : BitVec 32 := Scalar.subi v3291 c1_i32_1128
  let v3307 : BitVec 32 := Scalar.select v3305 v3306 v3291
  let v3312 : BitVec 32 := Scalar.select v3311 v3307 v3279
  let v3342 : BitVec 32 := Scalar.addi v3312 c0_i32_1145
  let c383_i32_1146 : BitVec 32 := 383#32
  let v3343 : BitVec 32 := Scalar.minsi v3342 c383_i32_1146
  let v3344 : Index := Scalar.indexCast v3343
  let c0_1147 : Index := 0#32
  ![v3344.toNat, 0]

def k0_chk14 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) : Prop :=
  (∀ (r : Fin 2), ∀ a, (k0_off76 arg15 arg16 v1649 v1655 v1976 v1982 v2303 v2309 v2630 v2636 v2957 v2963 v3284 v3290 (BitVec.ofNat 32 r.val)) a + S1x128.size a ≤ S384x128.size a)
theorem k0_off76_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (k0_hw14 : k0_chk14 arg15 arg16 v1649 v1655 v1976 v1982 v2303 v2309 v2630 v2636 v2957 v2963 v3284 v3290), ∀ (r : Fin 2), ∀ a, (k0_off76 arg15 arg16 v1649 v1655 v1976 v1982 v2303 v2309 v2630 v2636 v2957 v2963 v3284 v3290 (BitVec.ofNat 32 r.val)) a + S1x128.size a ≤ S384x128.size a := fun arg15 arg16 v1649 v1655 v1976 v1982 v2303 v2309 v2630 v2636 v2957 v2963 v3284 v3290 k0_hw14 r => k0_hw14 r

def k0_off77 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let c192_i32_1020 : BitVec 32 := 192#32
  let v2981 : BitVec 1 := Scalar.cmpi .sge v2959 c192_i32_1020
  let true_1021 : BitVec 1 := 1#1
  let v2983 : BitVec 1 := Scalar.xori v2981 true_1021
  let v2984 : BitVec 1 := Scalar.andi v2958 v2983
  let c0_i32_1014 : BitVec 32 := 0#32
  let v2965 : BitVec 1 := Scalar.cmpi .sgt v2963 c0_i32_1014
  let v2966 : BitVec 32 := Scalar.extui v2965
  let c0_i32_1015 : BitVec 32 := 0#32
  let v2967 : BitVec 1 := Scalar.cmpi .slt v2963 c0_i32_1015
  let v2968 : BitVec 32 := Scalar.extui v2967
  let v2969 : BitVec 32 := Scalar.subi v2966 v2968
  let c128_i32_1013 : BitVec 32 := 128#32
  let c0_i32_1016 : BitVec 32 := 0#32
  let v2970 : BitVec 1 := Scalar.cmpi .sgt c128_i32_1013 c0_i32_1016
  let v2971 : BitVec 32 := Scalar.extui v2970
  let c0_i32_1017 : BitVec 32 := 0#32
  let v2972 : BitVec 1 := Scalar.cmpi .slt c128_i32_1013 c0_i32_1017
  let v2973 : BitVec 32 := Scalar.extui v2972
  let v2974 : BitVec 32 := Scalar.subi v2971 v2973
  let v2975 : BitVec 1 := Scalar.cmpi .ne v2969 v2974
  let v2976 : BitVec 32 := Scalar.remsi v2963 c128_i32_1013
  let c0_i32_1018 : BitVec 32 := 0#32
  let v2977 : BitVec 1 := Scalar.cmpi .ne v2976 c0_i32_1018
  let v2978 : BitVec 1 := Scalar.andi v2975 v2977
  let v2964 : BitVec 32 := Scalar.divsi v2963 c128_i32_1013
  let c1_i32_1019 : BitVec 32 := 1#32
  let v2979 : BitVec 32 := Scalar.subi v2964 c1_i32_1019
  let v2980 : BitVec 32 := Scalar.select v2978 v2979 v2964
  let v2985 : BitVec 32 := Scalar.select v2984 v2980 v2952
  let c2_i32_1115 : BitVec 32 := 2#32
  let v3279 : BitVec 32 := Scalar.addi v2985 c2_i32_1115
  let c128_i32_1116 : BitVec 32 := 128#32
  let v3280 : BitVec 32 := Scalar.muli v3279 c128_i32_1116
  let v3285 : BitVec 1 := Scalar.cmpi .sge v3280 v3284
  let v2982 : BitVec 32 := Scalar.select v2958 v2959 v2655
  let c1_i32_1119 : BitVec 32 := 1#32
  let v3286 : BitVec 32 := Scalar.addi v2982 c1_i32_1119
  let v3309 : BitVec 32 := Scalar.select v3285 v3286 v2982
  let c191_i32_1131 : BitVec 32 := 191#32
  let v3313 : BitVec 32 := Scalar.minsi v3309 c191_i32_1131
  let c8_i32_1200 : BitVec 32 := 8#32
  let v3540 : BitVec 32 := Scalar.muli v3313 c8_i32_1200
  let v3541 : Index := Scalar.indexCast v3540
  let c0_1201 : Index := 0#32
  ![v3541.toNat, 0]
def k0_off78 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let c192_i32_1020 : BitVec 32 := 192#32
  let v2981 : BitVec 1 := Scalar.cmpi .sge v2959 c192_i32_1020
  let true_1021 : BitVec 1 := 1#1
  let v2983 : BitVec 1 := Scalar.xori v2981 true_1021
  let v2984 : BitVec 1 := Scalar.andi v2958 v2983
  let c0_i32_1014 : BitVec 32 := 0#32
  let v2965 : BitVec 1 := Scalar.cmpi .sgt v2963 c0_i32_1014
  let v2966 : BitVec 32 := Scalar.extui v2965
  let c0_i32_1015 : BitVec 32 := 0#32
  let v2967 : BitVec 1 := Scalar.cmpi .slt v2963 c0_i32_1015
  let v2968 : BitVec 32 := Scalar.extui v2967
  let v2969 : BitVec 32 := Scalar.subi v2966 v2968
  let c128_i32_1013 : BitVec 32 := 128#32
  let c0_i32_1016 : BitVec 32 := 0#32
  let v2970 : BitVec 1 := Scalar.cmpi .sgt c128_i32_1013 c0_i32_1016
  let v2971 : BitVec 32 := Scalar.extui v2970
  let c0_i32_1017 : BitVec 32 := 0#32
  let v2972 : BitVec 1 := Scalar.cmpi .slt c128_i32_1013 c0_i32_1017
  let v2973 : BitVec 32 := Scalar.extui v2972
  let v2974 : BitVec 32 := Scalar.subi v2971 v2973
  let v2975 : BitVec 1 := Scalar.cmpi .ne v2969 v2974
  let v2976 : BitVec 32 := Scalar.remsi v2963 c128_i32_1013
  let c0_i32_1018 : BitVec 32 := 0#32
  let v2977 : BitVec 1 := Scalar.cmpi .ne v2976 c0_i32_1018
  let v2978 : BitVec 1 := Scalar.andi v2975 v2977
  let v2964 : BitVec 32 := Scalar.divsi v2963 c128_i32_1013
  let c1_i32_1019 : BitVec 32 := 1#32
  let v2979 : BitVec 32 := Scalar.subi v2964 c1_i32_1019
  let v2980 : BitVec 32 := Scalar.select v2978 v2979 v2964
  let v2985 : BitVec 32 := Scalar.select v2984 v2980 v2952
  let c2_i32_1115 : BitVec 32 := 2#32
  let v3279 : BitVec 32 := Scalar.addi v2985 c2_i32_1115
  let c128_i32_1116 : BitVec 32 := 128#32
  let v3280 : BitVec 32 := Scalar.muli v3279 c128_i32_1116
  let v3285 : BitVec 1 := Scalar.cmpi .sge v3280 v3284
  let v2982 : BitVec 32 := Scalar.select v2958 v2959 v2655
  let c1_i32_1119 : BitVec 32 := 1#32
  let v3286 : BitVec 32 := Scalar.addi v2982 c1_i32_1119
  let v3309 : BitVec 32 := Scalar.select v3285 v3286 v2982
  let c191_i32_1131 : BitVec 32 := 191#32
  let v3313 : BitVec 32 := Scalar.minsi v3309 c191_i32_1131
  let c8_i32_1204 : BitVec 32 := 8#32
  let v3551 : BitVec 32 := Scalar.muli v3313 c8_i32_1204
  let v3552 : Index := Scalar.indexCast v3551
  let c256_1205 : Index := 256#32
  ![v3552.toNat, 256]
def k0_off79 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let c192_i32_1020 : BitVec 32 := 192#32
  let v2981 : BitVec 1 := Scalar.cmpi .sge v2959 c192_i32_1020
  let true_1021 : BitVec 1 := 1#1
  let v2983 : BitVec 1 := Scalar.xori v2981 true_1021
  let v2984 : BitVec 1 := Scalar.andi v2958 v2983
  let c0_i32_1014 : BitVec 32 := 0#32
  let v2965 : BitVec 1 := Scalar.cmpi .sgt v2963 c0_i32_1014
  let v2966 : BitVec 32 := Scalar.extui v2965
  let c0_i32_1015 : BitVec 32 := 0#32
  let v2967 : BitVec 1 := Scalar.cmpi .slt v2963 c0_i32_1015
  let v2968 : BitVec 32 := Scalar.extui v2967
  let v2969 : BitVec 32 := Scalar.subi v2966 v2968
  let c128_i32_1013 : BitVec 32 := 128#32
  let c0_i32_1016 : BitVec 32 := 0#32
  let v2970 : BitVec 1 := Scalar.cmpi .sgt c128_i32_1013 c0_i32_1016
  let v2971 : BitVec 32 := Scalar.extui v2970
  let c0_i32_1017 : BitVec 32 := 0#32
  let v2972 : BitVec 1 := Scalar.cmpi .slt c128_i32_1013 c0_i32_1017
  let v2973 : BitVec 32 := Scalar.extui v2972
  let v2974 : BitVec 32 := Scalar.subi v2971 v2973
  let v2975 : BitVec 1 := Scalar.cmpi .ne v2969 v2974
  let v2976 : BitVec 32 := Scalar.remsi v2963 c128_i32_1013
  let c0_i32_1018 : BitVec 32 := 0#32
  let v2977 : BitVec 1 := Scalar.cmpi .ne v2976 c0_i32_1018
  let v2978 : BitVec 1 := Scalar.andi v2975 v2977
  let v2964 : BitVec 32 := Scalar.divsi v2963 c128_i32_1013
  let c1_i32_1019 : BitVec 32 := 1#32
  let v2979 : BitVec 32 := Scalar.subi v2964 c1_i32_1019
  let v2980 : BitVec 32 := Scalar.select v2978 v2979 v2964
  let v2985 : BitVec 32 := Scalar.select v2984 v2980 v2952
  let c2_i32_1115 : BitVec 32 := 2#32
  let v3279 : BitVec 32 := Scalar.addi v2985 c2_i32_1115
  let c128_i32_1116 : BitVec 32 := 128#32
  let v3280 : BitVec 32 := Scalar.muli v3279 c128_i32_1116
  let v3285 : BitVec 1 := Scalar.cmpi .sge v3280 v3284
  let v2982 : BitVec 32 := Scalar.select v2958 v2959 v2655
  let c1_i32_1119 : BitVec 32 := 1#32
  let v3286 : BitVec 32 := Scalar.addi v2982 c1_i32_1119
  let v3309 : BitVec 32 := Scalar.select v3285 v3286 v2982
  let c191_i32_1131 : BitVec 32 := 191#32
  let v3313 : BitVec 32 := Scalar.minsi v3309 c191_i32_1131
  let c8_i32_1208 : BitVec 32 := 8#32
  let v3562 : BitVec 32 := Scalar.muli v3313 c8_i32_1208
  let v3563 : Index := Scalar.indexCast v3562
  let c512_1209 : Index := 512#32
  ![v3563.toNat, 512]
def k0_off80 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let c192_i32_1020 : BitVec 32 := 192#32
  let v2981 : BitVec 1 := Scalar.cmpi .sge v2959 c192_i32_1020
  let true_1021 : BitVec 1 := 1#1
  let v2983 : BitVec 1 := Scalar.xori v2981 true_1021
  let v2984 : BitVec 1 := Scalar.andi v2958 v2983
  let c0_i32_1014 : BitVec 32 := 0#32
  let v2965 : BitVec 1 := Scalar.cmpi .sgt v2963 c0_i32_1014
  let v2966 : BitVec 32 := Scalar.extui v2965
  let c0_i32_1015 : BitVec 32 := 0#32
  let v2967 : BitVec 1 := Scalar.cmpi .slt v2963 c0_i32_1015
  let v2968 : BitVec 32 := Scalar.extui v2967
  let v2969 : BitVec 32 := Scalar.subi v2966 v2968
  let c128_i32_1013 : BitVec 32 := 128#32
  let c0_i32_1016 : BitVec 32 := 0#32
  let v2970 : BitVec 1 := Scalar.cmpi .sgt c128_i32_1013 c0_i32_1016
  let v2971 : BitVec 32 := Scalar.extui v2970
  let c0_i32_1017 : BitVec 32 := 0#32
  let v2972 : BitVec 1 := Scalar.cmpi .slt c128_i32_1013 c0_i32_1017
  let v2973 : BitVec 32 := Scalar.extui v2972
  let v2974 : BitVec 32 := Scalar.subi v2971 v2973
  let v2975 : BitVec 1 := Scalar.cmpi .ne v2969 v2974
  let v2976 : BitVec 32 := Scalar.remsi v2963 c128_i32_1013
  let c0_i32_1018 : BitVec 32 := 0#32
  let v2977 : BitVec 1 := Scalar.cmpi .ne v2976 c0_i32_1018
  let v2978 : BitVec 1 := Scalar.andi v2975 v2977
  let v2964 : BitVec 32 := Scalar.divsi v2963 c128_i32_1013
  let c1_i32_1019 : BitVec 32 := 1#32
  let v2979 : BitVec 32 := Scalar.subi v2964 c1_i32_1019
  let v2980 : BitVec 32 := Scalar.select v2978 v2979 v2964
  let v2985 : BitVec 32 := Scalar.select v2984 v2980 v2952
  let c2_i32_1115 : BitVec 32 := 2#32
  let v3279 : BitVec 32 := Scalar.addi v2985 c2_i32_1115
  let c128_i32_1116 : BitVec 32 := 128#32
  let v3280 : BitVec 32 := Scalar.muli v3279 c128_i32_1116
  let v3285 : BitVec 1 := Scalar.cmpi .sge v3280 v3284
  let v2982 : BitVec 32 := Scalar.select v2958 v2959 v2655
  let c1_i32_1119 : BitVec 32 := 1#32
  let v3286 : BitVec 32 := Scalar.addi v2982 c1_i32_1119
  let v3309 : BitVec 32 := Scalar.select v3285 v3286 v2982
  let c191_i32_1131 : BitVec 32 := 191#32
  let v3313 : BitVec 32 := Scalar.minsi v3309 c191_i32_1131
  let c8_i32_1212 : BitVec 32 := 8#32
  let v3573 : BitVec 32 := Scalar.muli v3313 c8_i32_1212
  let v3574 : Index := Scalar.indexCast v3573
  let c768_1213 : Index := 768#32
  ![v3574.toNat, 768]
def k0_off81 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let c192_i32_1020 : BitVec 32 := 192#32
  let v2981 : BitVec 1 := Scalar.cmpi .sge v2959 c192_i32_1020
  let true_1021 : BitVec 1 := 1#1
  let v2983 : BitVec 1 := Scalar.xori v2981 true_1021
  let v2984 : BitVec 1 := Scalar.andi v2958 v2983
  let c0_i32_1014 : BitVec 32 := 0#32
  let v2965 : BitVec 1 := Scalar.cmpi .sgt v2963 c0_i32_1014
  let v2966 : BitVec 32 := Scalar.extui v2965
  let c0_i32_1015 : BitVec 32 := 0#32
  let v2967 : BitVec 1 := Scalar.cmpi .slt v2963 c0_i32_1015
  let v2968 : BitVec 32 := Scalar.extui v2967
  let v2969 : BitVec 32 := Scalar.subi v2966 v2968
  let c128_i32_1013 : BitVec 32 := 128#32
  let c0_i32_1016 : BitVec 32 := 0#32
  let v2970 : BitVec 1 := Scalar.cmpi .sgt c128_i32_1013 c0_i32_1016
  let v2971 : BitVec 32 := Scalar.extui v2970
  let c0_i32_1017 : BitVec 32 := 0#32
  let v2972 : BitVec 1 := Scalar.cmpi .slt c128_i32_1013 c0_i32_1017
  let v2973 : BitVec 32 := Scalar.extui v2972
  let v2974 : BitVec 32 := Scalar.subi v2971 v2973
  let v2975 : BitVec 1 := Scalar.cmpi .ne v2969 v2974
  let v2976 : BitVec 32 := Scalar.remsi v2963 c128_i32_1013
  let c0_i32_1018 : BitVec 32 := 0#32
  let v2977 : BitVec 1 := Scalar.cmpi .ne v2976 c0_i32_1018
  let v2978 : BitVec 1 := Scalar.andi v2975 v2977
  let v2964 : BitVec 32 := Scalar.divsi v2963 c128_i32_1013
  let c1_i32_1019 : BitVec 32 := 1#32
  let v2979 : BitVec 32 := Scalar.subi v2964 c1_i32_1019
  let v2980 : BitVec 32 := Scalar.select v2978 v2979 v2964
  let v2985 : BitVec 32 := Scalar.select v2984 v2980 v2952
  let c2_i32_1115 : BitVec 32 := 2#32
  let v3279 : BitVec 32 := Scalar.addi v2985 c2_i32_1115
  let c128_i32_1116 : BitVec 32 := 128#32
  let v3280 : BitVec 32 := Scalar.muli v3279 c128_i32_1116
  let v3285 : BitVec 1 := Scalar.cmpi .sge v3280 v3284
  let v2982 : BitVec 32 := Scalar.select v2958 v2959 v2655
  let c1_i32_1119 : BitVec 32 := 1#32
  let v3286 : BitVec 32 := Scalar.addi v2982 c1_i32_1119
  let v3309 : BitVec 32 := Scalar.select v3285 v3286 v2982
  let c191_i32_1131 : BitVec 32 := 191#32
  let v3313 : BitVec 32 := Scalar.minsi v3309 c191_i32_1131
  let c8_i32_1216 : BitVec 32 := 8#32
  let v3584 : BitVec 32 := Scalar.muli v3313 c8_i32_1216
  let v3585 : Index := Scalar.indexCast v3584
  let c1024_1217 : Index := 1024#32
  ![v3585.toNat, 1024]
def k0_off82 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let c192_i32_1020 : BitVec 32 := 192#32
  let v2981 : BitVec 1 := Scalar.cmpi .sge v2959 c192_i32_1020
  let true_1021 : BitVec 1 := 1#1
  let v2983 : BitVec 1 := Scalar.xori v2981 true_1021
  let v2984 : BitVec 1 := Scalar.andi v2958 v2983
  let c0_i32_1014 : BitVec 32 := 0#32
  let v2965 : BitVec 1 := Scalar.cmpi .sgt v2963 c0_i32_1014
  let v2966 : BitVec 32 := Scalar.extui v2965
  let c0_i32_1015 : BitVec 32 := 0#32
  let v2967 : BitVec 1 := Scalar.cmpi .slt v2963 c0_i32_1015
  let v2968 : BitVec 32 := Scalar.extui v2967
  let v2969 : BitVec 32 := Scalar.subi v2966 v2968
  let c128_i32_1013 : BitVec 32 := 128#32
  let c0_i32_1016 : BitVec 32 := 0#32
  let v2970 : BitVec 1 := Scalar.cmpi .sgt c128_i32_1013 c0_i32_1016
  let v2971 : BitVec 32 := Scalar.extui v2970
  let c0_i32_1017 : BitVec 32 := 0#32
  let v2972 : BitVec 1 := Scalar.cmpi .slt c128_i32_1013 c0_i32_1017
  let v2973 : BitVec 32 := Scalar.extui v2972
  let v2974 : BitVec 32 := Scalar.subi v2971 v2973
  let v2975 : BitVec 1 := Scalar.cmpi .ne v2969 v2974
  let v2976 : BitVec 32 := Scalar.remsi v2963 c128_i32_1013
  let c0_i32_1018 : BitVec 32 := 0#32
  let v2977 : BitVec 1 := Scalar.cmpi .ne v2976 c0_i32_1018
  let v2978 : BitVec 1 := Scalar.andi v2975 v2977
  let v2964 : BitVec 32 := Scalar.divsi v2963 c128_i32_1013
  let c1_i32_1019 : BitVec 32 := 1#32
  let v2979 : BitVec 32 := Scalar.subi v2964 c1_i32_1019
  let v2980 : BitVec 32 := Scalar.select v2978 v2979 v2964
  let v2985 : BitVec 32 := Scalar.select v2984 v2980 v2952
  let c2_i32_1115 : BitVec 32 := 2#32
  let v3279 : BitVec 32 := Scalar.addi v2985 c2_i32_1115
  let c128_i32_1116 : BitVec 32 := 128#32
  let v3280 : BitVec 32 := Scalar.muli v3279 c128_i32_1116
  let v3285 : BitVec 1 := Scalar.cmpi .sge v3280 v3284
  let v2982 : BitVec 32 := Scalar.select v2958 v2959 v2655
  let c1_i32_1119 : BitVec 32 := 1#32
  let v3286 : BitVec 32 := Scalar.addi v2982 c1_i32_1119
  let v3309 : BitVec 32 := Scalar.select v3285 v3286 v2982
  let c191_i32_1131 : BitVec 32 := 191#32
  let v3313 : BitVec 32 := Scalar.minsi v3309 c191_i32_1131
  let c8_i32_1220 : BitVec 32 := 8#32
  let v3595 : BitVec 32 := Scalar.muli v3313 c8_i32_1220
  let v3596 : Index := Scalar.indexCast v3595
  let c1280_1221 : Index := 1280#32
  ![v3596.toNat, 1280]
def k0_off83 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) : Fin 1 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let c192_i32_1020 : BitVec 32 := 192#32
  let v2981 : BitVec 1 := Scalar.cmpi .sge v2959 c192_i32_1020
  let true_1021 : BitVec 1 := 1#1
  let v2983 : BitVec 1 := Scalar.xori v2981 true_1021
  let v2984 : BitVec 1 := Scalar.andi v2958 v2983
  let c0_i32_1014 : BitVec 32 := 0#32
  let v2965 : BitVec 1 := Scalar.cmpi .sgt v2963 c0_i32_1014
  let v2966 : BitVec 32 := Scalar.extui v2965
  let c0_i32_1015 : BitVec 32 := 0#32
  let v2967 : BitVec 1 := Scalar.cmpi .slt v2963 c0_i32_1015
  let v2968 : BitVec 32 := Scalar.extui v2967
  let v2969 : BitVec 32 := Scalar.subi v2966 v2968
  let c128_i32_1013 : BitVec 32 := 128#32
  let c0_i32_1016 : BitVec 32 := 0#32
  let v2970 : BitVec 1 := Scalar.cmpi .sgt c128_i32_1013 c0_i32_1016
  let v2971 : BitVec 32 := Scalar.extui v2970
  let c0_i32_1017 : BitVec 32 := 0#32
  let v2972 : BitVec 1 := Scalar.cmpi .slt c128_i32_1013 c0_i32_1017
  let v2973 : BitVec 32 := Scalar.extui v2972
  let v2974 : BitVec 32 := Scalar.subi v2971 v2973
  let v2975 : BitVec 1 := Scalar.cmpi .ne v2969 v2974
  let v2976 : BitVec 32 := Scalar.remsi v2963 c128_i32_1013
  let c0_i32_1018 : BitVec 32 := 0#32
  let v2977 : BitVec 1 := Scalar.cmpi .ne v2976 c0_i32_1018
  let v2978 : BitVec 1 := Scalar.andi v2975 v2977
  let v2964 : BitVec 32 := Scalar.divsi v2963 c128_i32_1013
  let c1_i32_1019 : BitVec 32 := 1#32
  let v2979 : BitVec 32 := Scalar.subi v2964 c1_i32_1019
  let v2980 : BitVec 32 := Scalar.select v2978 v2979 v2964
  let v2985 : BitVec 32 := Scalar.select v2984 v2980 v2952
  let c2_i32_1115 : BitVec 32 := 2#32
  let v3279 : BitVec 32 := Scalar.addi v2985 c2_i32_1115
  let c128_i32_1116 : BitVec 32 := 128#32
  let v3280 : BitVec 32 := Scalar.muli v3279 c128_i32_1116
  let v3285 : BitVec 1 := Scalar.cmpi .sge v3280 v3284
  let v2982 : BitVec 32 := Scalar.select v2958 v2959 v2655
  let c1_i32_1119 : BitVec 32 := 1#32
  let v3286 : BitVec 32 := Scalar.addi v2982 c1_i32_1119
  let v3309 : BitVec 32 := Scalar.select v3285 v3286 v2982
  let c191_i32_1131 : BitVec 32 := 191#32
  let v3313 : BitVec 32 := Scalar.minsi v3309 c191_i32_1131
  let c1_i32_1226 : BitVec 32 := 1#32
  let v3608 : BitVec 32 := Scalar.addi v3313 c1_i32_1226
  let c8_i32_1227 : BitVec 32 := 8#32
  let v3609 : BitVec 32 := Scalar.muli v3608 c8_i32_1227
  let v3610 : Index := Scalar.indexCast v3609
  ![v3610.toNat]
def k0_off84 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) : Fin 1 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let c192_i32_1020 : BitVec 32 := 192#32
  let v2981 : BitVec 1 := Scalar.cmpi .sge v2959 c192_i32_1020
  let true_1021 : BitVec 1 := 1#1
  let v2983 : BitVec 1 := Scalar.xori v2981 true_1021
  let v2984 : BitVec 1 := Scalar.andi v2958 v2983
  let c0_i32_1014 : BitVec 32 := 0#32
  let v2965 : BitVec 1 := Scalar.cmpi .sgt v2963 c0_i32_1014
  let v2966 : BitVec 32 := Scalar.extui v2965
  let c0_i32_1015 : BitVec 32 := 0#32
  let v2967 : BitVec 1 := Scalar.cmpi .slt v2963 c0_i32_1015
  let v2968 : BitVec 32 := Scalar.extui v2967
  let v2969 : BitVec 32 := Scalar.subi v2966 v2968
  let c128_i32_1013 : BitVec 32 := 128#32
  let c0_i32_1016 : BitVec 32 := 0#32
  let v2970 : BitVec 1 := Scalar.cmpi .sgt c128_i32_1013 c0_i32_1016
  let v2971 : BitVec 32 := Scalar.extui v2970
  let c0_i32_1017 : BitVec 32 := 0#32
  let v2972 : BitVec 1 := Scalar.cmpi .slt c128_i32_1013 c0_i32_1017
  let v2973 : BitVec 32 := Scalar.extui v2972
  let v2974 : BitVec 32 := Scalar.subi v2971 v2973
  let v2975 : BitVec 1 := Scalar.cmpi .ne v2969 v2974
  let v2976 : BitVec 32 := Scalar.remsi v2963 c128_i32_1013
  let c0_i32_1018 : BitVec 32 := 0#32
  let v2977 : BitVec 1 := Scalar.cmpi .ne v2976 c0_i32_1018
  let v2978 : BitVec 1 := Scalar.andi v2975 v2977
  let v2964 : BitVec 32 := Scalar.divsi v2963 c128_i32_1013
  let c1_i32_1019 : BitVec 32 := 1#32
  let v2979 : BitVec 32 := Scalar.subi v2964 c1_i32_1019
  let v2980 : BitVec 32 := Scalar.select v2978 v2979 v2964
  let v2985 : BitVec 32 := Scalar.select v2984 v2980 v2952
  let c2_i32_1115 : BitVec 32 := 2#32
  let v3279 : BitVec 32 := Scalar.addi v2985 c2_i32_1115
  let c128_i32_1116 : BitVec 32 := 128#32
  let v3280 : BitVec 32 := Scalar.muli v3279 c128_i32_1116
  let v3285 : BitVec 1 := Scalar.cmpi .sge v3280 v3284
  let v2982 : BitVec 32 := Scalar.select v2958 v2959 v2655
  let c1_i32_1119 : BitVec 32 := 1#32
  let v3286 : BitVec 32 := Scalar.addi v2982 c1_i32_1119
  let v3309 : BitVec 32 := Scalar.select v3285 v3286 v2982
  let c1_i32_1228 : BitVec 32 := 1#32
  let v3613 : BitVec 32 := Scalar.addi v3309 c1_i32_1228
  let c191_i32_1229 : BitVec 32 := 191#32
  let v3614 : BitVec 32 := Scalar.minsi v3613 c191_i32_1229
  let c8_i32_1230 : BitVec 32 := 8#32
  let v3615 : BitVec 32 := Scalar.muli v3614 c8_i32_1230
  let v3616 : Index := Scalar.indexCast v3615
  ![v3616.toNat]

def k0_chk13 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) : Prop :=
  (∀ a, (k0_off73 arg15 arg16 v1649 v1655 v1976 v1982 v2303 v2309 v2630 v2636 v2957 v2963 v3284) a + S1.size a ≤ S1537.size a) ∧
  (∀ a, (k0_off74 arg15 arg16 v1649 v1655 v1976 v1982 v2303 v2309 v2630 v2636 v2957 v2963 v3284) a + S8x128.size a ≤ S1544x128.size a) ∧
  (∀ a, (k0_off75 arg15 arg16 v1649 v1655 v1976 v1982 v2303 v2309 v2630 v2636 v2957 v2963 v3284) a + S8x128.size a ≤ S1544x128.size a) ∧
  (∀ a, (k0_off77 arg15 arg16 v1649 v1655 v1976 v1982 v2303 v2309 v2630 v2636 v2957 v2963 v3284) a + S8x256.size a ≤ S1536x1536.size a) ∧
  (∀ a, (k0_off78 arg15 arg16 v1649 v1655 v1976 v1982 v2303 v2309 v2630 v2636 v2957 v2963 v3284) a + S8x256.size a ≤ S1536x1536.size a) ∧
  (∀ a, (k0_off79 arg15 arg16 v1649 v1655 v1976 v1982 v2303 v2309 v2630 v2636 v2957 v2963 v3284) a + S8x256.size a ≤ S1536x1536.size a) ∧
  (∀ a, (k0_off80 arg15 arg16 v1649 v1655 v1976 v1982 v2303 v2309 v2630 v2636 v2957 v2963 v3284) a + S8x256.size a ≤ S1536x1536.size a) ∧
  (∀ a, (k0_off81 arg15 arg16 v1649 v1655 v1976 v1982 v2303 v2309 v2630 v2636 v2957 v2963 v3284) a + S8x256.size a ≤ S1536x1536.size a) ∧
  (∀ a, (k0_off82 arg15 arg16 v1649 v1655 v1976 v1982 v2303 v2309 v2630 v2636 v2957 v2963 v3284) a + S8x256.size a ≤ S1536x1536.size a) ∧
  (∀ a, (k0_off83 arg15 arg16 v1649 v1655 v1976 v1982 v2303 v2309 v2630 v2636 v2957 v2963 v3284) a + S1.size a ≤ S1537.size a) ∧
  (∀ a, (k0_off84 arg15 arg16 v1649 v1655 v1976 v1982 v2303 v2309 v2630 v2636 v2957 v2963 v3284) a + S1.size a ≤ S1537.size a)
theorem k0_off73_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (k0_hw13 : k0_chk13 arg15 arg16 v1649 v1655 v1976 v1982 v2303 v2309 v2630 v2636 v2957 v2963 v3284), ∀ a, (k0_off73 arg15 arg16 v1649 v1655 v1976 v1982 v2303 v2309 v2630 v2636 v2957 v2963 v3284) a + S1.size a ≤ S1537.size a := fun arg15 arg16 v1649 v1655 v1976 v1982 v2303 v2309 v2630 v2636 v2957 v2963 v3284 k0_hw13 => k0_hw13.1
theorem k0_off74_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (k0_hw13 : k0_chk13 arg15 arg16 v1649 v1655 v1976 v1982 v2303 v2309 v2630 v2636 v2957 v2963 v3284), ∀ a, (k0_off74 arg15 arg16 v1649 v1655 v1976 v1982 v2303 v2309 v2630 v2636 v2957 v2963 v3284) a + S8x128.size a ≤ S1544x128.size a := fun arg15 arg16 v1649 v1655 v1976 v1982 v2303 v2309 v2630 v2636 v2957 v2963 v3284 k0_hw13 => k0_hw13.2.1
theorem k0_off75_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (k0_hw13 : k0_chk13 arg15 arg16 v1649 v1655 v1976 v1982 v2303 v2309 v2630 v2636 v2957 v2963 v3284), ∀ a, (k0_off75 arg15 arg16 v1649 v1655 v1976 v1982 v2303 v2309 v2630 v2636 v2957 v2963 v3284) a + S8x128.size a ≤ S1544x128.size a := fun arg15 arg16 v1649 v1655 v1976 v1982 v2303 v2309 v2630 v2636 v2957 v2963 v3284 k0_hw13 => k0_hw13.2.2.1
theorem k0_off77_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (k0_hw13 : k0_chk13 arg15 arg16 v1649 v1655 v1976 v1982 v2303 v2309 v2630 v2636 v2957 v2963 v3284), ∀ a, (k0_off77 arg15 arg16 v1649 v1655 v1976 v1982 v2303 v2309 v2630 v2636 v2957 v2963 v3284) a + S8x256.size a ≤ S1536x1536.size a := fun arg15 arg16 v1649 v1655 v1976 v1982 v2303 v2309 v2630 v2636 v2957 v2963 v3284 k0_hw13 => k0_hw13.2.2.2.1
theorem k0_off78_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (k0_hw13 : k0_chk13 arg15 arg16 v1649 v1655 v1976 v1982 v2303 v2309 v2630 v2636 v2957 v2963 v3284), ∀ a, (k0_off78 arg15 arg16 v1649 v1655 v1976 v1982 v2303 v2309 v2630 v2636 v2957 v2963 v3284) a + S8x256.size a ≤ S1536x1536.size a := fun arg15 arg16 v1649 v1655 v1976 v1982 v2303 v2309 v2630 v2636 v2957 v2963 v3284 k0_hw13 => k0_hw13.2.2.2.2.1
theorem k0_off79_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (k0_hw13 : k0_chk13 arg15 arg16 v1649 v1655 v1976 v1982 v2303 v2309 v2630 v2636 v2957 v2963 v3284), ∀ a, (k0_off79 arg15 arg16 v1649 v1655 v1976 v1982 v2303 v2309 v2630 v2636 v2957 v2963 v3284) a + S8x256.size a ≤ S1536x1536.size a := fun arg15 arg16 v1649 v1655 v1976 v1982 v2303 v2309 v2630 v2636 v2957 v2963 v3284 k0_hw13 => k0_hw13.2.2.2.2.2.1
theorem k0_off80_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (k0_hw13 : k0_chk13 arg15 arg16 v1649 v1655 v1976 v1982 v2303 v2309 v2630 v2636 v2957 v2963 v3284), ∀ a, (k0_off80 arg15 arg16 v1649 v1655 v1976 v1982 v2303 v2309 v2630 v2636 v2957 v2963 v3284) a + S8x256.size a ≤ S1536x1536.size a := fun arg15 arg16 v1649 v1655 v1976 v1982 v2303 v2309 v2630 v2636 v2957 v2963 v3284 k0_hw13 => k0_hw13.2.2.2.2.2.2.1
theorem k0_off81_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (k0_hw13 : k0_chk13 arg15 arg16 v1649 v1655 v1976 v1982 v2303 v2309 v2630 v2636 v2957 v2963 v3284), ∀ a, (k0_off81 arg15 arg16 v1649 v1655 v1976 v1982 v2303 v2309 v2630 v2636 v2957 v2963 v3284) a + S8x256.size a ≤ S1536x1536.size a := fun arg15 arg16 v1649 v1655 v1976 v1982 v2303 v2309 v2630 v2636 v2957 v2963 v3284 k0_hw13 => k0_hw13.2.2.2.2.2.2.2.1
theorem k0_off82_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (k0_hw13 : k0_chk13 arg15 arg16 v1649 v1655 v1976 v1982 v2303 v2309 v2630 v2636 v2957 v2963 v3284), ∀ a, (k0_off82 arg15 arg16 v1649 v1655 v1976 v1982 v2303 v2309 v2630 v2636 v2957 v2963 v3284) a + S8x256.size a ≤ S1536x1536.size a := fun arg15 arg16 v1649 v1655 v1976 v1982 v2303 v2309 v2630 v2636 v2957 v2963 v3284 k0_hw13 => k0_hw13.2.2.2.2.2.2.2.2.1
theorem k0_off83_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (k0_hw13 : k0_chk13 arg15 arg16 v1649 v1655 v1976 v1982 v2303 v2309 v2630 v2636 v2957 v2963 v3284), ∀ a, (k0_off83 arg15 arg16 v1649 v1655 v1976 v1982 v2303 v2309 v2630 v2636 v2957 v2963 v3284) a + S1.size a ≤ S1537.size a := fun arg15 arg16 v1649 v1655 v1976 v1982 v2303 v2309 v2630 v2636 v2957 v2963 v3284 k0_hw13 => k0_hw13.2.2.2.2.2.2.2.2.2.1
theorem k0_off84_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (k0_hw13 : k0_chk13 arg15 arg16 v1649 v1655 v1976 v1982 v2303 v2309 v2630 v2636 v2957 v2963 v3284), ∀ a, (k0_off84 arg15 arg16 v1649 v1655 v1976 v1982 v2303 v2309 v2630 v2636 v2957 v2963 v3284) a + S1.size a ≤ S1537.size a := fun arg15 arg16 v1649 v1655 v1976 v1982 v2303 v2309 v2630 v2636 v2957 v2963 v3284 k0_hw13 => k0_hw13.2.2.2.2.2.2.2.2.2.2

def k0_off85 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (v3611 : BitVec 32) : Fin 1 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let c192_i32_1020 : BitVec 32 := 192#32
  let v2981 : BitVec 1 := Scalar.cmpi .sge v2959 c192_i32_1020
  let true_1021 : BitVec 1 := 1#1
  let v2983 : BitVec 1 := Scalar.xori v2981 true_1021
  let v2984 : BitVec 1 := Scalar.andi v2958 v2983
  let c0_i32_1014 : BitVec 32 := 0#32
  let v2965 : BitVec 1 := Scalar.cmpi .sgt v2963 c0_i32_1014
  let v2966 : BitVec 32 := Scalar.extui v2965
  let c0_i32_1015 : BitVec 32 := 0#32
  let v2967 : BitVec 1 := Scalar.cmpi .slt v2963 c0_i32_1015
  let v2968 : BitVec 32 := Scalar.extui v2967
  let v2969 : BitVec 32 := Scalar.subi v2966 v2968
  let c128_i32_1013 : BitVec 32 := 128#32
  let c0_i32_1016 : BitVec 32 := 0#32
  let v2970 : BitVec 1 := Scalar.cmpi .sgt c128_i32_1013 c0_i32_1016
  let v2971 : BitVec 32 := Scalar.extui v2970
  let c0_i32_1017 : BitVec 32 := 0#32
  let v2972 : BitVec 1 := Scalar.cmpi .slt c128_i32_1013 c0_i32_1017
  let v2973 : BitVec 32 := Scalar.extui v2972
  let v2974 : BitVec 32 := Scalar.subi v2971 v2973
  let v2975 : BitVec 1 := Scalar.cmpi .ne v2969 v2974
  let v2976 : BitVec 32 := Scalar.remsi v2963 c128_i32_1013
  let c0_i32_1018 : BitVec 32 := 0#32
  let v2977 : BitVec 1 := Scalar.cmpi .ne v2976 c0_i32_1018
  let v2978 : BitVec 1 := Scalar.andi v2975 v2977
  let v2964 : BitVec 32 := Scalar.divsi v2963 c128_i32_1013
  let c1_i32_1019 : BitVec 32 := 1#32
  let v2979 : BitVec 32 := Scalar.subi v2964 c1_i32_1019
  let v2980 : BitVec 32 := Scalar.select v2978 v2979 v2964
  let v2985 : BitVec 32 := Scalar.select v2984 v2980 v2952
  let c2_i32_1115 : BitVec 32 := 2#32
  let v3279 : BitVec 32 := Scalar.addi v2985 c2_i32_1115
  let c128_i32_1116 : BitVec 32 := 128#32
  let v3280 : BitVec 32 := Scalar.muli v3279 c128_i32_1116
  let v3285 : BitVec 1 := Scalar.cmpi .sge v3280 v3284
  let v2982 : BitVec 32 := Scalar.select v2958 v2959 v2655
  let c1_i32_1119 : BitVec 32 := 1#32
  let v3286 : BitVec 32 := Scalar.addi v2982 c1_i32_1119
  let c192_i32_1129 : BitVec 32 := 192#32
  let v3308 : BitVec 1 := Scalar.cmpi .sge v3286 c192_i32_1129
  let true_1130 : BitVec 1 := 1#1
  let v3310 : BitVec 1 := Scalar.xori v3308 true_1130
  let v3311 : BitVec 1 := Scalar.andi v3285 v3310
  let c0_i32_1123 : BitVec 32 := 0#32
  let v3292 : BitVec 1 := Scalar.cmpi .sgt v3290 c0_i32_1123
  let v3293 : BitVec 32 := Scalar.extui v3292
  let c0_i32_1124 : BitVec 32 := 0#32
  let v3294 : BitVec 1 := Scalar.cmpi .slt v3290 c0_i32_1124
  let v3295 : BitVec 32 := Scalar.extui v3294
  let v3296 : BitVec 32 := Scalar.subi v3293 v3295
  let c128_i32_1122 : BitVec 32 := 128#32
  let c0_i32_1125 : BitVec 32 := 0#32
  let v3297 : BitVec 1 := Scalar.cmpi .sgt c128_i32_1122 c0_i32_1125
  let v3298 : BitVec 32 := Scalar.extui v3297
  let c0_i32_1126 : BitVec 32 := 0#32
  let v3299 : BitVec 1 := Scalar.cmpi .slt c128_i32_1122 c0_i32_1126
  let v3300 : BitVec 32 := Scalar.extui v3299
  let v3301 : BitVec 32 := Scalar.subi v3298 v3300
  let v3302 : BitVec 1 := Scalar.cmpi .ne v3296 v3301
  let v3303 : BitVec 32 := Scalar.remsi v3290 c128_i32_1122
  let c0_i32_1127 : BitVec 32 := 0#32
  let v3304 : BitVec 1 := Scalar.cmpi .ne v3303 c0_i32_1127
  let v3305 : BitVec 1 := Scalar.andi v3302 v3304
  let v3291 : BitVec 32 := Scalar.divsi v3290 c128_i32_1122
  let c1_i32_1128 : BitVec 32 := 1#32
  let v3306 : BitVec 32 := Scalar.subi v3291 c1_i32_1128
  let v3307 : BitVec 32 := Scalar.select v3305 v3306 v3291
  let v3312 : BitVec 32 := Scalar.select v3311 v3307 v3279
  let c2_i32_1224 : BitVec 32 := 2#32
  let v3606 : BitVec 32 := Scalar.addi v3312 c2_i32_1224
  let c128_i32_1225 : BitVec 32 := 128#32
  let v3607 : BitVec 32 := Scalar.muli v3606 c128_i32_1225
  let v3612 : BitVec 1 := Scalar.cmpi .sge v3607 v3611
  let v3309 : BitVec 32 := Scalar.select v3285 v3286 v2982
  let c1_i32_1228 : BitVec 32 := 1#32
  let v3613 : BitVec 32 := Scalar.addi v3309 c1_i32_1228
  let v3636 : BitVec 32 := Scalar.select v3612 v3613 v3309
  let c191_i32_1240 : BitVec 32 := 191#32
  let v3640 : BitVec 32 := Scalar.minsi v3636 c191_i32_1240
  let c8_i32_1241 : BitVec 32 := 8#32
  let v3641 : BitVec 32 := Scalar.muli v3640 c8_i32_1241
  let v3642 : Index := Scalar.indexCast v3641
  ![v3642.toNat]

def k0_off86 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (v3611 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let c192_i32_1020 : BitVec 32 := 192#32
  let v2981 : BitVec 1 := Scalar.cmpi .sge v2959 c192_i32_1020
  let true_1021 : BitVec 1 := 1#1
  let v2983 : BitVec 1 := Scalar.xori v2981 true_1021
  let v2984 : BitVec 1 := Scalar.andi v2958 v2983
  let c0_i32_1014 : BitVec 32 := 0#32
  let v2965 : BitVec 1 := Scalar.cmpi .sgt v2963 c0_i32_1014
  let v2966 : BitVec 32 := Scalar.extui v2965
  let c0_i32_1015 : BitVec 32 := 0#32
  let v2967 : BitVec 1 := Scalar.cmpi .slt v2963 c0_i32_1015
  let v2968 : BitVec 32 := Scalar.extui v2967
  let v2969 : BitVec 32 := Scalar.subi v2966 v2968
  let c128_i32_1013 : BitVec 32 := 128#32
  let c0_i32_1016 : BitVec 32 := 0#32
  let v2970 : BitVec 1 := Scalar.cmpi .sgt c128_i32_1013 c0_i32_1016
  let v2971 : BitVec 32 := Scalar.extui v2970
  let c0_i32_1017 : BitVec 32 := 0#32
  let v2972 : BitVec 1 := Scalar.cmpi .slt c128_i32_1013 c0_i32_1017
  let v2973 : BitVec 32 := Scalar.extui v2972
  let v2974 : BitVec 32 := Scalar.subi v2971 v2973
  let v2975 : BitVec 1 := Scalar.cmpi .ne v2969 v2974
  let v2976 : BitVec 32 := Scalar.remsi v2963 c128_i32_1013
  let c0_i32_1018 : BitVec 32 := 0#32
  let v2977 : BitVec 1 := Scalar.cmpi .ne v2976 c0_i32_1018
  let v2978 : BitVec 1 := Scalar.andi v2975 v2977
  let v2964 : BitVec 32 := Scalar.divsi v2963 c128_i32_1013
  let c1_i32_1019 : BitVec 32 := 1#32
  let v2979 : BitVec 32 := Scalar.subi v2964 c1_i32_1019
  let v2980 : BitVec 32 := Scalar.select v2978 v2979 v2964
  let v2985 : BitVec 32 := Scalar.select v2984 v2980 v2952
  let c2_i32_1115 : BitVec 32 := 2#32
  let v3279 : BitVec 32 := Scalar.addi v2985 c2_i32_1115
  let c128_i32_1116 : BitVec 32 := 128#32
  let v3280 : BitVec 32 := Scalar.muli v3279 c128_i32_1116
  let v3285 : BitVec 1 := Scalar.cmpi .sge v3280 v3284
  let v2982 : BitVec 32 := Scalar.select v2958 v2959 v2655
  let c1_i32_1119 : BitVec 32 := 1#32
  let v3286 : BitVec 32 := Scalar.addi v2982 c1_i32_1119
  let c192_i32_1129 : BitVec 32 := 192#32
  let v3308 : BitVec 1 := Scalar.cmpi .sge v3286 c192_i32_1129
  let true_1130 : BitVec 1 := 1#1
  let v3310 : BitVec 1 := Scalar.xori v3308 true_1130
  let v3311 : BitVec 1 := Scalar.andi v3285 v3310
  let c0_i32_1123 : BitVec 32 := 0#32
  let v3292 : BitVec 1 := Scalar.cmpi .sgt v3290 c0_i32_1123
  let v3293 : BitVec 32 := Scalar.extui v3292
  let c0_i32_1124 : BitVec 32 := 0#32
  let v3294 : BitVec 1 := Scalar.cmpi .slt v3290 c0_i32_1124
  let v3295 : BitVec 32 := Scalar.extui v3294
  let v3296 : BitVec 32 := Scalar.subi v3293 v3295
  let c128_i32_1122 : BitVec 32 := 128#32
  let c0_i32_1125 : BitVec 32 := 0#32
  let v3297 : BitVec 1 := Scalar.cmpi .sgt c128_i32_1122 c0_i32_1125
  let v3298 : BitVec 32 := Scalar.extui v3297
  let c0_i32_1126 : BitVec 32 := 0#32
  let v3299 : BitVec 1 := Scalar.cmpi .slt c128_i32_1122 c0_i32_1126
  let v3300 : BitVec 32 := Scalar.extui v3299
  let v3301 : BitVec 32 := Scalar.subi v3298 v3300
  let v3302 : BitVec 1 := Scalar.cmpi .ne v3296 v3301
  let v3303 : BitVec 32 := Scalar.remsi v3290 c128_i32_1122
  let c0_i32_1127 : BitVec 32 := 0#32
  let v3304 : BitVec 1 := Scalar.cmpi .ne v3303 c0_i32_1127
  let v3305 : BitVec 1 := Scalar.andi v3302 v3304
  let v3291 : BitVec 32 := Scalar.divsi v3290 c128_i32_1122
  let c1_i32_1128 : BitVec 32 := 1#32
  let v3306 : BitVec 32 := Scalar.subi v3291 c1_i32_1128
  let v3307 : BitVec 32 := Scalar.select v3305 v3306 v3291
  let v3312 : BitVec 32 := Scalar.select v3311 v3307 v3279
  let c2_i32_1224 : BitVec 32 := 2#32
  let v3606 : BitVec 32 := Scalar.addi v3312 c2_i32_1224
  let c128_i32_1225 : BitVec 32 := 128#32
  let v3607 : BitVec 32 := Scalar.muli v3606 c128_i32_1225
  let v3612 : BitVec 1 := Scalar.cmpi .sge v3607 v3611
  let v3309 : BitVec 32 := Scalar.select v3285 v3286 v2982
  let c1_i32_1228 : BitVec 32 := 1#32
  let v3613 : BitVec 32 := Scalar.addi v3309 c1_i32_1228
  let v3636 : BitVec 32 := Scalar.select v3612 v3613 v3309
  let c191_i32_1240 : BitVec 32 := 191#32
  let v3640 : BitVec 32 := Scalar.minsi v3636 c191_i32_1240
  let c8_i32_1249 : BitVec 32 := 8#32
  let v3662 : BitVec 32 := Scalar.muli v3640 c8_i32_1249
  let v3663 : Index := Scalar.indexCast v3662
  let c0_1250 : Index := 0#32
  ![v3663.toNat, 0]
def k0_off87 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (v3611 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let c192_i32_1020 : BitVec 32 := 192#32
  let v2981 : BitVec 1 := Scalar.cmpi .sge v2959 c192_i32_1020
  let true_1021 : BitVec 1 := 1#1
  let v2983 : BitVec 1 := Scalar.xori v2981 true_1021
  let v2984 : BitVec 1 := Scalar.andi v2958 v2983
  let c0_i32_1014 : BitVec 32 := 0#32
  let v2965 : BitVec 1 := Scalar.cmpi .sgt v2963 c0_i32_1014
  let v2966 : BitVec 32 := Scalar.extui v2965
  let c0_i32_1015 : BitVec 32 := 0#32
  let v2967 : BitVec 1 := Scalar.cmpi .slt v2963 c0_i32_1015
  let v2968 : BitVec 32 := Scalar.extui v2967
  let v2969 : BitVec 32 := Scalar.subi v2966 v2968
  let c128_i32_1013 : BitVec 32 := 128#32
  let c0_i32_1016 : BitVec 32 := 0#32
  let v2970 : BitVec 1 := Scalar.cmpi .sgt c128_i32_1013 c0_i32_1016
  let v2971 : BitVec 32 := Scalar.extui v2970
  let c0_i32_1017 : BitVec 32 := 0#32
  let v2972 : BitVec 1 := Scalar.cmpi .slt c128_i32_1013 c0_i32_1017
  let v2973 : BitVec 32 := Scalar.extui v2972
  let v2974 : BitVec 32 := Scalar.subi v2971 v2973
  let v2975 : BitVec 1 := Scalar.cmpi .ne v2969 v2974
  let v2976 : BitVec 32 := Scalar.remsi v2963 c128_i32_1013
  let c0_i32_1018 : BitVec 32 := 0#32
  let v2977 : BitVec 1 := Scalar.cmpi .ne v2976 c0_i32_1018
  let v2978 : BitVec 1 := Scalar.andi v2975 v2977
  let v2964 : BitVec 32 := Scalar.divsi v2963 c128_i32_1013
  let c1_i32_1019 : BitVec 32 := 1#32
  let v2979 : BitVec 32 := Scalar.subi v2964 c1_i32_1019
  let v2980 : BitVec 32 := Scalar.select v2978 v2979 v2964
  let v2985 : BitVec 32 := Scalar.select v2984 v2980 v2952
  let c2_i32_1115 : BitVec 32 := 2#32
  let v3279 : BitVec 32 := Scalar.addi v2985 c2_i32_1115
  let c128_i32_1116 : BitVec 32 := 128#32
  let v3280 : BitVec 32 := Scalar.muli v3279 c128_i32_1116
  let v3285 : BitVec 1 := Scalar.cmpi .sge v3280 v3284
  let v2982 : BitVec 32 := Scalar.select v2958 v2959 v2655
  let c1_i32_1119 : BitVec 32 := 1#32
  let v3286 : BitVec 32 := Scalar.addi v2982 c1_i32_1119
  let c192_i32_1129 : BitVec 32 := 192#32
  let v3308 : BitVec 1 := Scalar.cmpi .sge v3286 c192_i32_1129
  let true_1130 : BitVec 1 := 1#1
  let v3310 : BitVec 1 := Scalar.xori v3308 true_1130
  let v3311 : BitVec 1 := Scalar.andi v3285 v3310
  let c0_i32_1123 : BitVec 32 := 0#32
  let v3292 : BitVec 1 := Scalar.cmpi .sgt v3290 c0_i32_1123
  let v3293 : BitVec 32 := Scalar.extui v3292
  let c0_i32_1124 : BitVec 32 := 0#32
  let v3294 : BitVec 1 := Scalar.cmpi .slt v3290 c0_i32_1124
  let v3295 : BitVec 32 := Scalar.extui v3294
  let v3296 : BitVec 32 := Scalar.subi v3293 v3295
  let c128_i32_1122 : BitVec 32 := 128#32
  let c0_i32_1125 : BitVec 32 := 0#32
  let v3297 : BitVec 1 := Scalar.cmpi .sgt c128_i32_1122 c0_i32_1125
  let v3298 : BitVec 32 := Scalar.extui v3297
  let c0_i32_1126 : BitVec 32 := 0#32
  let v3299 : BitVec 1 := Scalar.cmpi .slt c128_i32_1122 c0_i32_1126
  let v3300 : BitVec 32 := Scalar.extui v3299
  let v3301 : BitVec 32 := Scalar.subi v3298 v3300
  let v3302 : BitVec 1 := Scalar.cmpi .ne v3296 v3301
  let v3303 : BitVec 32 := Scalar.remsi v3290 c128_i32_1122
  let c0_i32_1127 : BitVec 32 := 0#32
  let v3304 : BitVec 1 := Scalar.cmpi .ne v3303 c0_i32_1127
  let v3305 : BitVec 1 := Scalar.andi v3302 v3304
  let v3291 : BitVec 32 := Scalar.divsi v3290 c128_i32_1122
  let c1_i32_1128 : BitVec 32 := 1#32
  let v3306 : BitVec 32 := Scalar.subi v3291 c1_i32_1128
  let v3307 : BitVec 32 := Scalar.select v3305 v3306 v3291
  let v3312 : BitVec 32 := Scalar.select v3311 v3307 v3279
  let c2_i32_1224 : BitVec 32 := 2#32
  let v3606 : BitVec 32 := Scalar.addi v3312 c2_i32_1224
  let c128_i32_1225 : BitVec 32 := 128#32
  let v3607 : BitVec 32 := Scalar.muli v3606 c128_i32_1225
  let v3612 : BitVec 1 := Scalar.cmpi .sge v3607 v3611
  let v3309 : BitVec 32 := Scalar.select v3285 v3286 v2982
  let c1_i32_1228 : BitVec 32 := 1#32
  let v3613 : BitVec 32 := Scalar.addi v3309 c1_i32_1228
  let v3636 : BitVec 32 := Scalar.select v3612 v3613 v3309
  let c191_i32_1240 : BitVec 32 := 191#32
  let v3640 : BitVec 32 := Scalar.minsi v3636 c191_i32_1240
  let c8_i32_1251 : BitVec 32 := 8#32
  let v3665 : BitVec 32 := Scalar.muli v3640 c8_i32_1251
  let c1_i32_1252 : BitVec 32 := 1#32
  let v3666 : BitVec 32 := Scalar.addi v3665 c1_i32_1252
  let v3667 : Index := Scalar.indexCast v3666
  let c0_1253 : Index := 0#32
  ![v3667.toNat, 0]
def k0_off88 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (v3611 : BitVec 32) (v3617 : BitVec 32) (c0_i32_1254 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let c192_i32_1020 : BitVec 32 := 192#32
  let v2981 : BitVec 1 := Scalar.cmpi .sge v2959 c192_i32_1020
  let true_1021 : BitVec 1 := 1#1
  let v2983 : BitVec 1 := Scalar.xori v2981 true_1021
  let v2984 : BitVec 1 := Scalar.andi v2958 v2983
  let c0_i32_1014 : BitVec 32 := 0#32
  let v2965 : BitVec 1 := Scalar.cmpi .sgt v2963 c0_i32_1014
  let v2966 : BitVec 32 := Scalar.extui v2965
  let c0_i32_1015 : BitVec 32 := 0#32
  let v2967 : BitVec 1 := Scalar.cmpi .slt v2963 c0_i32_1015
  let v2968 : BitVec 32 := Scalar.extui v2967
  let v2969 : BitVec 32 := Scalar.subi v2966 v2968
  let c128_i32_1013 : BitVec 32 := 128#32
  let c0_i32_1016 : BitVec 32 := 0#32
  let v2970 : BitVec 1 := Scalar.cmpi .sgt c128_i32_1013 c0_i32_1016
  let v2971 : BitVec 32 := Scalar.extui v2970
  let c0_i32_1017 : BitVec 32 := 0#32
  let v2972 : BitVec 1 := Scalar.cmpi .slt c128_i32_1013 c0_i32_1017
  let v2973 : BitVec 32 := Scalar.extui v2972
  let v2974 : BitVec 32 := Scalar.subi v2971 v2973
  let v2975 : BitVec 1 := Scalar.cmpi .ne v2969 v2974
  let v2976 : BitVec 32 := Scalar.remsi v2963 c128_i32_1013
  let c0_i32_1018 : BitVec 32 := 0#32
  let v2977 : BitVec 1 := Scalar.cmpi .ne v2976 c0_i32_1018
  let v2978 : BitVec 1 := Scalar.andi v2975 v2977
  let v2964 : BitVec 32 := Scalar.divsi v2963 c128_i32_1013
  let c1_i32_1019 : BitVec 32 := 1#32
  let v2979 : BitVec 32 := Scalar.subi v2964 c1_i32_1019
  let v2980 : BitVec 32 := Scalar.select v2978 v2979 v2964
  let v2985 : BitVec 32 := Scalar.select v2984 v2980 v2952
  let c2_i32_1115 : BitVec 32 := 2#32
  let v3279 : BitVec 32 := Scalar.addi v2985 c2_i32_1115
  let c128_i32_1116 : BitVec 32 := 128#32
  let v3280 : BitVec 32 := Scalar.muli v3279 c128_i32_1116
  let v3285 : BitVec 1 := Scalar.cmpi .sge v3280 v3284
  let v2982 : BitVec 32 := Scalar.select v2958 v2959 v2655
  let c1_i32_1119 : BitVec 32 := 1#32
  let v3286 : BitVec 32 := Scalar.addi v2982 c1_i32_1119
  let c192_i32_1129 : BitVec 32 := 192#32
  let v3308 : BitVec 1 := Scalar.cmpi .sge v3286 c192_i32_1129
  let true_1130 : BitVec 1 := 1#1
  let v3310 : BitVec 1 := Scalar.xori v3308 true_1130
  let v3311 : BitVec 1 := Scalar.andi v3285 v3310
  let c0_i32_1123 : BitVec 32 := 0#32
  let v3292 : BitVec 1 := Scalar.cmpi .sgt v3290 c0_i32_1123
  let v3293 : BitVec 32 := Scalar.extui v3292
  let c0_i32_1124 : BitVec 32 := 0#32
  let v3294 : BitVec 1 := Scalar.cmpi .slt v3290 c0_i32_1124
  let v3295 : BitVec 32 := Scalar.extui v3294
  let v3296 : BitVec 32 := Scalar.subi v3293 v3295
  let c128_i32_1122 : BitVec 32 := 128#32
  let c0_i32_1125 : BitVec 32 := 0#32
  let v3297 : BitVec 1 := Scalar.cmpi .sgt c128_i32_1122 c0_i32_1125
  let v3298 : BitVec 32 := Scalar.extui v3297
  let c0_i32_1126 : BitVec 32 := 0#32
  let v3299 : BitVec 1 := Scalar.cmpi .slt c128_i32_1122 c0_i32_1126
  let v3300 : BitVec 32 := Scalar.extui v3299
  let v3301 : BitVec 32 := Scalar.subi v3298 v3300
  let v3302 : BitVec 1 := Scalar.cmpi .ne v3296 v3301
  let v3303 : BitVec 32 := Scalar.remsi v3290 c128_i32_1122
  let c0_i32_1127 : BitVec 32 := 0#32
  let v3304 : BitVec 1 := Scalar.cmpi .ne v3303 c0_i32_1127
  let v3305 : BitVec 1 := Scalar.andi v3302 v3304
  let v3291 : BitVec 32 := Scalar.divsi v3290 c128_i32_1122
  let c1_i32_1128 : BitVec 32 := 1#32
  let v3306 : BitVec 32 := Scalar.subi v3291 c1_i32_1128
  let v3307 : BitVec 32 := Scalar.select v3305 v3306 v3291
  let v3312 : BitVec 32 := Scalar.select v3311 v3307 v3279
  let c2_i32_1224 : BitVec 32 := 2#32
  let v3606 : BitVec 32 := Scalar.addi v3312 c2_i32_1224
  let c128_i32_1225 : BitVec 32 := 128#32
  let v3607 : BitVec 32 := Scalar.muli v3606 c128_i32_1225
  let v3612 : BitVec 1 := Scalar.cmpi .sge v3607 v3611
  let v3309 : BitVec 32 := Scalar.select v3285 v3286 v2982
  let c1_i32_1228 : BitVec 32 := 1#32
  let v3613 : BitVec 32 := Scalar.addi v3309 c1_i32_1228
  let c192_i32_1238 : BitVec 32 := 192#32
  let v3635 : BitVec 1 := Scalar.cmpi .sge v3613 c192_i32_1238
  let true_1239 : BitVec 1 := 1#1
  let v3637 : BitVec 1 := Scalar.xori v3635 true_1239
  let v3638 : BitVec 1 := Scalar.andi v3612 v3637
  let c0_i32_1232 : BitVec 32 := 0#32
  let v3619 : BitVec 1 := Scalar.cmpi .sgt v3617 c0_i32_1232
  let v3620 : BitVec 32 := Scalar.extui v3619
  let c0_i32_1233 : BitVec 32 := 0#32
  let v3621 : BitVec 1 := Scalar.cmpi .slt v3617 c0_i32_1233
  let v3622 : BitVec 32 := Scalar.extui v3621
  let v3623 : BitVec 32 := Scalar.subi v3620 v3622
  let c128_i32_1231 : BitVec 32 := 128#32
  let c0_i32_1234 : BitVec 32 := 0#32
  let v3624 : BitVec 1 := Scalar.cmpi .sgt c128_i32_1231 c0_i32_1234
  let v3625 : BitVec 32 := Scalar.extui v3624
  let c0_i32_1235 : BitVec 32 := 0#32
  let v3626 : BitVec 1 := Scalar.cmpi .slt c128_i32_1231 c0_i32_1235
  let v3627 : BitVec 32 := Scalar.extui v3626
  let v3628 : BitVec 32 := Scalar.subi v3625 v3627
  let v3629 : BitVec 1 := Scalar.cmpi .ne v3623 v3628
  let v3630 : BitVec 32 := Scalar.remsi v3617 c128_i32_1231
  let c0_i32_1236 : BitVec 32 := 0#32
  let v3631 : BitVec 1 := Scalar.cmpi .ne v3630 c0_i32_1236
  let v3632 : BitVec 1 := Scalar.andi v3629 v3631
  let v3618 : BitVec 32 := Scalar.divsi v3617 c128_i32_1231
  let c1_i32_1237 : BitVec 32 := 1#32
  let v3633 : BitVec 32 := Scalar.subi v3618 c1_i32_1237
  let v3634 : BitVec 32 := Scalar.select v3632 v3633 v3618
  let v3639 : BitVec 32 := Scalar.select v3638 v3634 v3606
  let v3669 : BitVec 32 := Scalar.addi v3639 c0_i32_1254
  let c383_i32_1255 : BitVec 32 := 383#32
  let v3670 : BitVec 32 := Scalar.minsi v3669 c383_i32_1255
  let v3671 : Index := Scalar.indexCast v3670
  let c0_1256 : Index := 0#32
  ![v3671.toNat, 0]

def k0_chk16 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (v3611 : BitVec 32) (v3617 : BitVec 32) : Prop :=
  (∀ (r : Fin 2), ∀ a, (k0_off88 arg15 arg16 v1649 v1655 v1976 v1982 v2303 v2309 v2630 v2636 v2957 v2963 v3284 v3290 v3611 v3617 (BitVec.ofNat 32 r.val)) a + S1x128.size a ≤ S384x128.size a)
theorem k0_off88_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (v3611 : BitVec 32) (v3617 : BitVec 32) (k0_hw16 : k0_chk16 arg15 arg16 v1649 v1655 v1976 v1982 v2303 v2309 v2630 v2636 v2957 v2963 v3284 v3290 v3611 v3617), ∀ (r : Fin 2), ∀ a, (k0_off88 arg15 arg16 v1649 v1655 v1976 v1982 v2303 v2309 v2630 v2636 v2957 v2963 v3284 v3290 v3611 v3617 (BitVec.ofNat 32 r.val)) a + S1x128.size a ≤ S384x128.size a := fun arg15 arg16 v1649 v1655 v1976 v1982 v2303 v2309 v2630 v2636 v2957 v2963 v3284 v3290 v3611 v3617 k0_hw16 r => k0_hw16 r

def k0_off89 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (v3611 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let c192_i32_1020 : BitVec 32 := 192#32
  let v2981 : BitVec 1 := Scalar.cmpi .sge v2959 c192_i32_1020
  let true_1021 : BitVec 1 := 1#1
  let v2983 : BitVec 1 := Scalar.xori v2981 true_1021
  let v2984 : BitVec 1 := Scalar.andi v2958 v2983
  let c0_i32_1014 : BitVec 32 := 0#32
  let v2965 : BitVec 1 := Scalar.cmpi .sgt v2963 c0_i32_1014
  let v2966 : BitVec 32 := Scalar.extui v2965
  let c0_i32_1015 : BitVec 32 := 0#32
  let v2967 : BitVec 1 := Scalar.cmpi .slt v2963 c0_i32_1015
  let v2968 : BitVec 32 := Scalar.extui v2967
  let v2969 : BitVec 32 := Scalar.subi v2966 v2968
  let c128_i32_1013 : BitVec 32 := 128#32
  let c0_i32_1016 : BitVec 32 := 0#32
  let v2970 : BitVec 1 := Scalar.cmpi .sgt c128_i32_1013 c0_i32_1016
  let v2971 : BitVec 32 := Scalar.extui v2970
  let c0_i32_1017 : BitVec 32 := 0#32
  let v2972 : BitVec 1 := Scalar.cmpi .slt c128_i32_1013 c0_i32_1017
  let v2973 : BitVec 32 := Scalar.extui v2972
  let v2974 : BitVec 32 := Scalar.subi v2971 v2973
  let v2975 : BitVec 1 := Scalar.cmpi .ne v2969 v2974
  let v2976 : BitVec 32 := Scalar.remsi v2963 c128_i32_1013
  let c0_i32_1018 : BitVec 32 := 0#32
  let v2977 : BitVec 1 := Scalar.cmpi .ne v2976 c0_i32_1018
  let v2978 : BitVec 1 := Scalar.andi v2975 v2977
  let v2964 : BitVec 32 := Scalar.divsi v2963 c128_i32_1013
  let c1_i32_1019 : BitVec 32 := 1#32
  let v2979 : BitVec 32 := Scalar.subi v2964 c1_i32_1019
  let v2980 : BitVec 32 := Scalar.select v2978 v2979 v2964
  let v2985 : BitVec 32 := Scalar.select v2984 v2980 v2952
  let c2_i32_1115 : BitVec 32 := 2#32
  let v3279 : BitVec 32 := Scalar.addi v2985 c2_i32_1115
  let c128_i32_1116 : BitVec 32 := 128#32
  let v3280 : BitVec 32 := Scalar.muli v3279 c128_i32_1116
  let v3285 : BitVec 1 := Scalar.cmpi .sge v3280 v3284
  let v2982 : BitVec 32 := Scalar.select v2958 v2959 v2655
  let c1_i32_1119 : BitVec 32 := 1#32
  let v3286 : BitVec 32 := Scalar.addi v2982 c1_i32_1119
  let c192_i32_1129 : BitVec 32 := 192#32
  let v3308 : BitVec 1 := Scalar.cmpi .sge v3286 c192_i32_1129
  let true_1130 : BitVec 1 := 1#1
  let v3310 : BitVec 1 := Scalar.xori v3308 true_1130
  let v3311 : BitVec 1 := Scalar.andi v3285 v3310
  let c0_i32_1123 : BitVec 32 := 0#32
  let v3292 : BitVec 1 := Scalar.cmpi .sgt v3290 c0_i32_1123
  let v3293 : BitVec 32 := Scalar.extui v3292
  let c0_i32_1124 : BitVec 32 := 0#32
  let v3294 : BitVec 1 := Scalar.cmpi .slt v3290 c0_i32_1124
  let v3295 : BitVec 32 := Scalar.extui v3294
  let v3296 : BitVec 32 := Scalar.subi v3293 v3295
  let c128_i32_1122 : BitVec 32 := 128#32
  let c0_i32_1125 : BitVec 32 := 0#32
  let v3297 : BitVec 1 := Scalar.cmpi .sgt c128_i32_1122 c0_i32_1125
  let v3298 : BitVec 32 := Scalar.extui v3297
  let c0_i32_1126 : BitVec 32 := 0#32
  let v3299 : BitVec 1 := Scalar.cmpi .slt c128_i32_1122 c0_i32_1126
  let v3300 : BitVec 32 := Scalar.extui v3299
  let v3301 : BitVec 32 := Scalar.subi v3298 v3300
  let v3302 : BitVec 1 := Scalar.cmpi .ne v3296 v3301
  let v3303 : BitVec 32 := Scalar.remsi v3290 c128_i32_1122
  let c0_i32_1127 : BitVec 32 := 0#32
  let v3304 : BitVec 1 := Scalar.cmpi .ne v3303 c0_i32_1127
  let v3305 : BitVec 1 := Scalar.andi v3302 v3304
  let v3291 : BitVec 32 := Scalar.divsi v3290 c128_i32_1122
  let c1_i32_1128 : BitVec 32 := 1#32
  let v3306 : BitVec 32 := Scalar.subi v3291 c1_i32_1128
  let v3307 : BitVec 32 := Scalar.select v3305 v3306 v3291
  let v3312 : BitVec 32 := Scalar.select v3311 v3307 v3279
  let c2_i32_1224 : BitVec 32 := 2#32
  let v3606 : BitVec 32 := Scalar.addi v3312 c2_i32_1224
  let c128_i32_1225 : BitVec 32 := 128#32
  let v3607 : BitVec 32 := Scalar.muli v3606 c128_i32_1225
  let v3612 : BitVec 1 := Scalar.cmpi .sge v3607 v3611
  let v3309 : BitVec 32 := Scalar.select v3285 v3286 v2982
  let c1_i32_1228 : BitVec 32 := 1#32
  let v3613 : BitVec 32 := Scalar.addi v3309 c1_i32_1228
  let v3636 : BitVec 32 := Scalar.select v3612 v3613 v3309
  let c191_i32_1240 : BitVec 32 := 191#32
  let v3640 : BitVec 32 := Scalar.minsi v3636 c191_i32_1240
  let c8_i32_1309 : BitVec 32 := 8#32
  let v3867 : BitVec 32 := Scalar.muli v3640 c8_i32_1309
  let v3868 : Index := Scalar.indexCast v3867
  let c0_1310 : Index := 0#32
  ![v3868.toNat, 0]
def k0_off90 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (v3611 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let c192_i32_1020 : BitVec 32 := 192#32
  let v2981 : BitVec 1 := Scalar.cmpi .sge v2959 c192_i32_1020
  let true_1021 : BitVec 1 := 1#1
  let v2983 : BitVec 1 := Scalar.xori v2981 true_1021
  let v2984 : BitVec 1 := Scalar.andi v2958 v2983
  let c0_i32_1014 : BitVec 32 := 0#32
  let v2965 : BitVec 1 := Scalar.cmpi .sgt v2963 c0_i32_1014
  let v2966 : BitVec 32 := Scalar.extui v2965
  let c0_i32_1015 : BitVec 32 := 0#32
  let v2967 : BitVec 1 := Scalar.cmpi .slt v2963 c0_i32_1015
  let v2968 : BitVec 32 := Scalar.extui v2967
  let v2969 : BitVec 32 := Scalar.subi v2966 v2968
  let c128_i32_1013 : BitVec 32 := 128#32
  let c0_i32_1016 : BitVec 32 := 0#32
  let v2970 : BitVec 1 := Scalar.cmpi .sgt c128_i32_1013 c0_i32_1016
  let v2971 : BitVec 32 := Scalar.extui v2970
  let c0_i32_1017 : BitVec 32 := 0#32
  let v2972 : BitVec 1 := Scalar.cmpi .slt c128_i32_1013 c0_i32_1017
  let v2973 : BitVec 32 := Scalar.extui v2972
  let v2974 : BitVec 32 := Scalar.subi v2971 v2973
  let v2975 : BitVec 1 := Scalar.cmpi .ne v2969 v2974
  let v2976 : BitVec 32 := Scalar.remsi v2963 c128_i32_1013
  let c0_i32_1018 : BitVec 32 := 0#32
  let v2977 : BitVec 1 := Scalar.cmpi .ne v2976 c0_i32_1018
  let v2978 : BitVec 1 := Scalar.andi v2975 v2977
  let v2964 : BitVec 32 := Scalar.divsi v2963 c128_i32_1013
  let c1_i32_1019 : BitVec 32 := 1#32
  let v2979 : BitVec 32 := Scalar.subi v2964 c1_i32_1019
  let v2980 : BitVec 32 := Scalar.select v2978 v2979 v2964
  let v2985 : BitVec 32 := Scalar.select v2984 v2980 v2952
  let c2_i32_1115 : BitVec 32 := 2#32
  let v3279 : BitVec 32 := Scalar.addi v2985 c2_i32_1115
  let c128_i32_1116 : BitVec 32 := 128#32
  let v3280 : BitVec 32 := Scalar.muli v3279 c128_i32_1116
  let v3285 : BitVec 1 := Scalar.cmpi .sge v3280 v3284
  let v2982 : BitVec 32 := Scalar.select v2958 v2959 v2655
  let c1_i32_1119 : BitVec 32 := 1#32
  let v3286 : BitVec 32 := Scalar.addi v2982 c1_i32_1119
  let c192_i32_1129 : BitVec 32 := 192#32
  let v3308 : BitVec 1 := Scalar.cmpi .sge v3286 c192_i32_1129
  let true_1130 : BitVec 1 := 1#1
  let v3310 : BitVec 1 := Scalar.xori v3308 true_1130
  let v3311 : BitVec 1 := Scalar.andi v3285 v3310
  let c0_i32_1123 : BitVec 32 := 0#32
  let v3292 : BitVec 1 := Scalar.cmpi .sgt v3290 c0_i32_1123
  let v3293 : BitVec 32 := Scalar.extui v3292
  let c0_i32_1124 : BitVec 32 := 0#32
  let v3294 : BitVec 1 := Scalar.cmpi .slt v3290 c0_i32_1124
  let v3295 : BitVec 32 := Scalar.extui v3294
  let v3296 : BitVec 32 := Scalar.subi v3293 v3295
  let c128_i32_1122 : BitVec 32 := 128#32
  let c0_i32_1125 : BitVec 32 := 0#32
  let v3297 : BitVec 1 := Scalar.cmpi .sgt c128_i32_1122 c0_i32_1125
  let v3298 : BitVec 32 := Scalar.extui v3297
  let c0_i32_1126 : BitVec 32 := 0#32
  let v3299 : BitVec 1 := Scalar.cmpi .slt c128_i32_1122 c0_i32_1126
  let v3300 : BitVec 32 := Scalar.extui v3299
  let v3301 : BitVec 32 := Scalar.subi v3298 v3300
  let v3302 : BitVec 1 := Scalar.cmpi .ne v3296 v3301
  let v3303 : BitVec 32 := Scalar.remsi v3290 c128_i32_1122
  let c0_i32_1127 : BitVec 32 := 0#32
  let v3304 : BitVec 1 := Scalar.cmpi .ne v3303 c0_i32_1127
  let v3305 : BitVec 1 := Scalar.andi v3302 v3304
  let v3291 : BitVec 32 := Scalar.divsi v3290 c128_i32_1122
  let c1_i32_1128 : BitVec 32 := 1#32
  let v3306 : BitVec 32 := Scalar.subi v3291 c1_i32_1128
  let v3307 : BitVec 32 := Scalar.select v3305 v3306 v3291
  let v3312 : BitVec 32 := Scalar.select v3311 v3307 v3279
  let c2_i32_1224 : BitVec 32 := 2#32
  let v3606 : BitVec 32 := Scalar.addi v3312 c2_i32_1224
  let c128_i32_1225 : BitVec 32 := 128#32
  let v3607 : BitVec 32 := Scalar.muli v3606 c128_i32_1225
  let v3612 : BitVec 1 := Scalar.cmpi .sge v3607 v3611
  let v3309 : BitVec 32 := Scalar.select v3285 v3286 v2982
  let c1_i32_1228 : BitVec 32 := 1#32
  let v3613 : BitVec 32 := Scalar.addi v3309 c1_i32_1228
  let v3636 : BitVec 32 := Scalar.select v3612 v3613 v3309
  let c191_i32_1240 : BitVec 32 := 191#32
  let v3640 : BitVec 32 := Scalar.minsi v3636 c191_i32_1240
  let c8_i32_1313 : BitVec 32 := 8#32
  let v3878 : BitVec 32 := Scalar.muli v3640 c8_i32_1313
  let v3879 : Index := Scalar.indexCast v3878
  let c256_1314 : Index := 256#32
  ![v3879.toNat, 256]
def k0_off91 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (v3611 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let c192_i32_1020 : BitVec 32 := 192#32
  let v2981 : BitVec 1 := Scalar.cmpi .sge v2959 c192_i32_1020
  let true_1021 : BitVec 1 := 1#1
  let v2983 : BitVec 1 := Scalar.xori v2981 true_1021
  let v2984 : BitVec 1 := Scalar.andi v2958 v2983
  let c0_i32_1014 : BitVec 32 := 0#32
  let v2965 : BitVec 1 := Scalar.cmpi .sgt v2963 c0_i32_1014
  let v2966 : BitVec 32 := Scalar.extui v2965
  let c0_i32_1015 : BitVec 32 := 0#32
  let v2967 : BitVec 1 := Scalar.cmpi .slt v2963 c0_i32_1015
  let v2968 : BitVec 32 := Scalar.extui v2967
  let v2969 : BitVec 32 := Scalar.subi v2966 v2968
  let c128_i32_1013 : BitVec 32 := 128#32
  let c0_i32_1016 : BitVec 32 := 0#32
  let v2970 : BitVec 1 := Scalar.cmpi .sgt c128_i32_1013 c0_i32_1016
  let v2971 : BitVec 32 := Scalar.extui v2970
  let c0_i32_1017 : BitVec 32 := 0#32
  let v2972 : BitVec 1 := Scalar.cmpi .slt c128_i32_1013 c0_i32_1017
  let v2973 : BitVec 32 := Scalar.extui v2972
  let v2974 : BitVec 32 := Scalar.subi v2971 v2973
  let v2975 : BitVec 1 := Scalar.cmpi .ne v2969 v2974
  let v2976 : BitVec 32 := Scalar.remsi v2963 c128_i32_1013
  let c0_i32_1018 : BitVec 32 := 0#32
  let v2977 : BitVec 1 := Scalar.cmpi .ne v2976 c0_i32_1018
  let v2978 : BitVec 1 := Scalar.andi v2975 v2977
  let v2964 : BitVec 32 := Scalar.divsi v2963 c128_i32_1013
  let c1_i32_1019 : BitVec 32 := 1#32
  let v2979 : BitVec 32 := Scalar.subi v2964 c1_i32_1019
  let v2980 : BitVec 32 := Scalar.select v2978 v2979 v2964
  let v2985 : BitVec 32 := Scalar.select v2984 v2980 v2952
  let c2_i32_1115 : BitVec 32 := 2#32
  let v3279 : BitVec 32 := Scalar.addi v2985 c2_i32_1115
  let c128_i32_1116 : BitVec 32 := 128#32
  let v3280 : BitVec 32 := Scalar.muli v3279 c128_i32_1116
  let v3285 : BitVec 1 := Scalar.cmpi .sge v3280 v3284
  let v2982 : BitVec 32 := Scalar.select v2958 v2959 v2655
  let c1_i32_1119 : BitVec 32 := 1#32
  let v3286 : BitVec 32 := Scalar.addi v2982 c1_i32_1119
  let c192_i32_1129 : BitVec 32 := 192#32
  let v3308 : BitVec 1 := Scalar.cmpi .sge v3286 c192_i32_1129
  let true_1130 : BitVec 1 := 1#1
  let v3310 : BitVec 1 := Scalar.xori v3308 true_1130
  let v3311 : BitVec 1 := Scalar.andi v3285 v3310
  let c0_i32_1123 : BitVec 32 := 0#32
  let v3292 : BitVec 1 := Scalar.cmpi .sgt v3290 c0_i32_1123
  let v3293 : BitVec 32 := Scalar.extui v3292
  let c0_i32_1124 : BitVec 32 := 0#32
  let v3294 : BitVec 1 := Scalar.cmpi .slt v3290 c0_i32_1124
  let v3295 : BitVec 32 := Scalar.extui v3294
  let v3296 : BitVec 32 := Scalar.subi v3293 v3295
  let c128_i32_1122 : BitVec 32 := 128#32
  let c0_i32_1125 : BitVec 32 := 0#32
  let v3297 : BitVec 1 := Scalar.cmpi .sgt c128_i32_1122 c0_i32_1125
  let v3298 : BitVec 32 := Scalar.extui v3297
  let c0_i32_1126 : BitVec 32 := 0#32
  let v3299 : BitVec 1 := Scalar.cmpi .slt c128_i32_1122 c0_i32_1126
  let v3300 : BitVec 32 := Scalar.extui v3299
  let v3301 : BitVec 32 := Scalar.subi v3298 v3300
  let v3302 : BitVec 1 := Scalar.cmpi .ne v3296 v3301
  let v3303 : BitVec 32 := Scalar.remsi v3290 c128_i32_1122
  let c0_i32_1127 : BitVec 32 := 0#32
  let v3304 : BitVec 1 := Scalar.cmpi .ne v3303 c0_i32_1127
  let v3305 : BitVec 1 := Scalar.andi v3302 v3304
  let v3291 : BitVec 32 := Scalar.divsi v3290 c128_i32_1122
  let c1_i32_1128 : BitVec 32 := 1#32
  let v3306 : BitVec 32 := Scalar.subi v3291 c1_i32_1128
  let v3307 : BitVec 32 := Scalar.select v3305 v3306 v3291
  let v3312 : BitVec 32 := Scalar.select v3311 v3307 v3279
  let c2_i32_1224 : BitVec 32 := 2#32
  let v3606 : BitVec 32 := Scalar.addi v3312 c2_i32_1224
  let c128_i32_1225 : BitVec 32 := 128#32
  let v3607 : BitVec 32 := Scalar.muli v3606 c128_i32_1225
  let v3612 : BitVec 1 := Scalar.cmpi .sge v3607 v3611
  let v3309 : BitVec 32 := Scalar.select v3285 v3286 v2982
  let c1_i32_1228 : BitVec 32 := 1#32
  let v3613 : BitVec 32 := Scalar.addi v3309 c1_i32_1228
  let v3636 : BitVec 32 := Scalar.select v3612 v3613 v3309
  let c191_i32_1240 : BitVec 32 := 191#32
  let v3640 : BitVec 32 := Scalar.minsi v3636 c191_i32_1240
  let c8_i32_1317 : BitVec 32 := 8#32
  let v3889 : BitVec 32 := Scalar.muli v3640 c8_i32_1317
  let v3890 : Index := Scalar.indexCast v3889
  let c512_1318 : Index := 512#32
  ![v3890.toNat, 512]
def k0_off92 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (v3611 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let c192_i32_1020 : BitVec 32 := 192#32
  let v2981 : BitVec 1 := Scalar.cmpi .sge v2959 c192_i32_1020
  let true_1021 : BitVec 1 := 1#1
  let v2983 : BitVec 1 := Scalar.xori v2981 true_1021
  let v2984 : BitVec 1 := Scalar.andi v2958 v2983
  let c0_i32_1014 : BitVec 32 := 0#32
  let v2965 : BitVec 1 := Scalar.cmpi .sgt v2963 c0_i32_1014
  let v2966 : BitVec 32 := Scalar.extui v2965
  let c0_i32_1015 : BitVec 32 := 0#32
  let v2967 : BitVec 1 := Scalar.cmpi .slt v2963 c0_i32_1015
  let v2968 : BitVec 32 := Scalar.extui v2967
  let v2969 : BitVec 32 := Scalar.subi v2966 v2968
  let c128_i32_1013 : BitVec 32 := 128#32
  let c0_i32_1016 : BitVec 32 := 0#32
  let v2970 : BitVec 1 := Scalar.cmpi .sgt c128_i32_1013 c0_i32_1016
  let v2971 : BitVec 32 := Scalar.extui v2970
  let c0_i32_1017 : BitVec 32 := 0#32
  let v2972 : BitVec 1 := Scalar.cmpi .slt c128_i32_1013 c0_i32_1017
  let v2973 : BitVec 32 := Scalar.extui v2972
  let v2974 : BitVec 32 := Scalar.subi v2971 v2973
  let v2975 : BitVec 1 := Scalar.cmpi .ne v2969 v2974
  let v2976 : BitVec 32 := Scalar.remsi v2963 c128_i32_1013
  let c0_i32_1018 : BitVec 32 := 0#32
  let v2977 : BitVec 1 := Scalar.cmpi .ne v2976 c0_i32_1018
  let v2978 : BitVec 1 := Scalar.andi v2975 v2977
  let v2964 : BitVec 32 := Scalar.divsi v2963 c128_i32_1013
  let c1_i32_1019 : BitVec 32 := 1#32
  let v2979 : BitVec 32 := Scalar.subi v2964 c1_i32_1019
  let v2980 : BitVec 32 := Scalar.select v2978 v2979 v2964
  let v2985 : BitVec 32 := Scalar.select v2984 v2980 v2952
  let c2_i32_1115 : BitVec 32 := 2#32
  let v3279 : BitVec 32 := Scalar.addi v2985 c2_i32_1115
  let c128_i32_1116 : BitVec 32 := 128#32
  let v3280 : BitVec 32 := Scalar.muli v3279 c128_i32_1116
  let v3285 : BitVec 1 := Scalar.cmpi .sge v3280 v3284
  let v2982 : BitVec 32 := Scalar.select v2958 v2959 v2655
  let c1_i32_1119 : BitVec 32 := 1#32
  let v3286 : BitVec 32 := Scalar.addi v2982 c1_i32_1119
  let c192_i32_1129 : BitVec 32 := 192#32
  let v3308 : BitVec 1 := Scalar.cmpi .sge v3286 c192_i32_1129
  let true_1130 : BitVec 1 := 1#1
  let v3310 : BitVec 1 := Scalar.xori v3308 true_1130
  let v3311 : BitVec 1 := Scalar.andi v3285 v3310
  let c0_i32_1123 : BitVec 32 := 0#32
  let v3292 : BitVec 1 := Scalar.cmpi .sgt v3290 c0_i32_1123
  let v3293 : BitVec 32 := Scalar.extui v3292
  let c0_i32_1124 : BitVec 32 := 0#32
  let v3294 : BitVec 1 := Scalar.cmpi .slt v3290 c0_i32_1124
  let v3295 : BitVec 32 := Scalar.extui v3294
  let v3296 : BitVec 32 := Scalar.subi v3293 v3295
  let c128_i32_1122 : BitVec 32 := 128#32
  let c0_i32_1125 : BitVec 32 := 0#32
  let v3297 : BitVec 1 := Scalar.cmpi .sgt c128_i32_1122 c0_i32_1125
  let v3298 : BitVec 32 := Scalar.extui v3297
  let c0_i32_1126 : BitVec 32 := 0#32
  let v3299 : BitVec 1 := Scalar.cmpi .slt c128_i32_1122 c0_i32_1126
  let v3300 : BitVec 32 := Scalar.extui v3299
  let v3301 : BitVec 32 := Scalar.subi v3298 v3300
  let v3302 : BitVec 1 := Scalar.cmpi .ne v3296 v3301
  let v3303 : BitVec 32 := Scalar.remsi v3290 c128_i32_1122
  let c0_i32_1127 : BitVec 32 := 0#32
  let v3304 : BitVec 1 := Scalar.cmpi .ne v3303 c0_i32_1127
  let v3305 : BitVec 1 := Scalar.andi v3302 v3304
  let v3291 : BitVec 32 := Scalar.divsi v3290 c128_i32_1122
  let c1_i32_1128 : BitVec 32 := 1#32
  let v3306 : BitVec 32 := Scalar.subi v3291 c1_i32_1128
  let v3307 : BitVec 32 := Scalar.select v3305 v3306 v3291
  let v3312 : BitVec 32 := Scalar.select v3311 v3307 v3279
  let c2_i32_1224 : BitVec 32 := 2#32
  let v3606 : BitVec 32 := Scalar.addi v3312 c2_i32_1224
  let c128_i32_1225 : BitVec 32 := 128#32
  let v3607 : BitVec 32 := Scalar.muli v3606 c128_i32_1225
  let v3612 : BitVec 1 := Scalar.cmpi .sge v3607 v3611
  let v3309 : BitVec 32 := Scalar.select v3285 v3286 v2982
  let c1_i32_1228 : BitVec 32 := 1#32
  let v3613 : BitVec 32 := Scalar.addi v3309 c1_i32_1228
  let v3636 : BitVec 32 := Scalar.select v3612 v3613 v3309
  let c191_i32_1240 : BitVec 32 := 191#32
  let v3640 : BitVec 32 := Scalar.minsi v3636 c191_i32_1240
  let c8_i32_1321 : BitVec 32 := 8#32
  let v3900 : BitVec 32 := Scalar.muli v3640 c8_i32_1321
  let v3901 : Index := Scalar.indexCast v3900
  let c768_1322 : Index := 768#32
  ![v3901.toNat, 768]
def k0_off93 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (v3611 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let c192_i32_1020 : BitVec 32 := 192#32
  let v2981 : BitVec 1 := Scalar.cmpi .sge v2959 c192_i32_1020
  let true_1021 : BitVec 1 := 1#1
  let v2983 : BitVec 1 := Scalar.xori v2981 true_1021
  let v2984 : BitVec 1 := Scalar.andi v2958 v2983
  let c0_i32_1014 : BitVec 32 := 0#32
  let v2965 : BitVec 1 := Scalar.cmpi .sgt v2963 c0_i32_1014
  let v2966 : BitVec 32 := Scalar.extui v2965
  let c0_i32_1015 : BitVec 32 := 0#32
  let v2967 : BitVec 1 := Scalar.cmpi .slt v2963 c0_i32_1015
  let v2968 : BitVec 32 := Scalar.extui v2967
  let v2969 : BitVec 32 := Scalar.subi v2966 v2968
  let c128_i32_1013 : BitVec 32 := 128#32
  let c0_i32_1016 : BitVec 32 := 0#32
  let v2970 : BitVec 1 := Scalar.cmpi .sgt c128_i32_1013 c0_i32_1016
  let v2971 : BitVec 32 := Scalar.extui v2970
  let c0_i32_1017 : BitVec 32 := 0#32
  let v2972 : BitVec 1 := Scalar.cmpi .slt c128_i32_1013 c0_i32_1017
  let v2973 : BitVec 32 := Scalar.extui v2972
  let v2974 : BitVec 32 := Scalar.subi v2971 v2973
  let v2975 : BitVec 1 := Scalar.cmpi .ne v2969 v2974
  let v2976 : BitVec 32 := Scalar.remsi v2963 c128_i32_1013
  let c0_i32_1018 : BitVec 32 := 0#32
  let v2977 : BitVec 1 := Scalar.cmpi .ne v2976 c0_i32_1018
  let v2978 : BitVec 1 := Scalar.andi v2975 v2977
  let v2964 : BitVec 32 := Scalar.divsi v2963 c128_i32_1013
  let c1_i32_1019 : BitVec 32 := 1#32
  let v2979 : BitVec 32 := Scalar.subi v2964 c1_i32_1019
  let v2980 : BitVec 32 := Scalar.select v2978 v2979 v2964
  let v2985 : BitVec 32 := Scalar.select v2984 v2980 v2952
  let c2_i32_1115 : BitVec 32 := 2#32
  let v3279 : BitVec 32 := Scalar.addi v2985 c2_i32_1115
  let c128_i32_1116 : BitVec 32 := 128#32
  let v3280 : BitVec 32 := Scalar.muli v3279 c128_i32_1116
  let v3285 : BitVec 1 := Scalar.cmpi .sge v3280 v3284
  let v2982 : BitVec 32 := Scalar.select v2958 v2959 v2655
  let c1_i32_1119 : BitVec 32 := 1#32
  let v3286 : BitVec 32 := Scalar.addi v2982 c1_i32_1119
  let c192_i32_1129 : BitVec 32 := 192#32
  let v3308 : BitVec 1 := Scalar.cmpi .sge v3286 c192_i32_1129
  let true_1130 : BitVec 1 := 1#1
  let v3310 : BitVec 1 := Scalar.xori v3308 true_1130
  let v3311 : BitVec 1 := Scalar.andi v3285 v3310
  let c0_i32_1123 : BitVec 32 := 0#32
  let v3292 : BitVec 1 := Scalar.cmpi .sgt v3290 c0_i32_1123
  let v3293 : BitVec 32 := Scalar.extui v3292
  let c0_i32_1124 : BitVec 32 := 0#32
  let v3294 : BitVec 1 := Scalar.cmpi .slt v3290 c0_i32_1124
  let v3295 : BitVec 32 := Scalar.extui v3294
  let v3296 : BitVec 32 := Scalar.subi v3293 v3295
  let c128_i32_1122 : BitVec 32 := 128#32
  let c0_i32_1125 : BitVec 32 := 0#32
  let v3297 : BitVec 1 := Scalar.cmpi .sgt c128_i32_1122 c0_i32_1125
  let v3298 : BitVec 32 := Scalar.extui v3297
  let c0_i32_1126 : BitVec 32 := 0#32
  let v3299 : BitVec 1 := Scalar.cmpi .slt c128_i32_1122 c0_i32_1126
  let v3300 : BitVec 32 := Scalar.extui v3299
  let v3301 : BitVec 32 := Scalar.subi v3298 v3300
  let v3302 : BitVec 1 := Scalar.cmpi .ne v3296 v3301
  let v3303 : BitVec 32 := Scalar.remsi v3290 c128_i32_1122
  let c0_i32_1127 : BitVec 32 := 0#32
  let v3304 : BitVec 1 := Scalar.cmpi .ne v3303 c0_i32_1127
  let v3305 : BitVec 1 := Scalar.andi v3302 v3304
  let v3291 : BitVec 32 := Scalar.divsi v3290 c128_i32_1122
  let c1_i32_1128 : BitVec 32 := 1#32
  let v3306 : BitVec 32 := Scalar.subi v3291 c1_i32_1128
  let v3307 : BitVec 32 := Scalar.select v3305 v3306 v3291
  let v3312 : BitVec 32 := Scalar.select v3311 v3307 v3279
  let c2_i32_1224 : BitVec 32 := 2#32
  let v3606 : BitVec 32 := Scalar.addi v3312 c2_i32_1224
  let c128_i32_1225 : BitVec 32 := 128#32
  let v3607 : BitVec 32 := Scalar.muli v3606 c128_i32_1225
  let v3612 : BitVec 1 := Scalar.cmpi .sge v3607 v3611
  let v3309 : BitVec 32 := Scalar.select v3285 v3286 v2982
  let c1_i32_1228 : BitVec 32 := 1#32
  let v3613 : BitVec 32 := Scalar.addi v3309 c1_i32_1228
  let v3636 : BitVec 32 := Scalar.select v3612 v3613 v3309
  let c191_i32_1240 : BitVec 32 := 191#32
  let v3640 : BitVec 32 := Scalar.minsi v3636 c191_i32_1240
  let c8_i32_1325 : BitVec 32 := 8#32
  let v3911 : BitVec 32 := Scalar.muli v3640 c8_i32_1325
  let v3912 : Index := Scalar.indexCast v3911
  let c1024_1326 : Index := 1024#32
  ![v3912.toNat, 1024]
def k0_off94 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (v3611 : BitVec 32) : Fin 2 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let c192_i32_1020 : BitVec 32 := 192#32
  let v2981 : BitVec 1 := Scalar.cmpi .sge v2959 c192_i32_1020
  let true_1021 : BitVec 1 := 1#1
  let v2983 : BitVec 1 := Scalar.xori v2981 true_1021
  let v2984 : BitVec 1 := Scalar.andi v2958 v2983
  let c0_i32_1014 : BitVec 32 := 0#32
  let v2965 : BitVec 1 := Scalar.cmpi .sgt v2963 c0_i32_1014
  let v2966 : BitVec 32 := Scalar.extui v2965
  let c0_i32_1015 : BitVec 32 := 0#32
  let v2967 : BitVec 1 := Scalar.cmpi .slt v2963 c0_i32_1015
  let v2968 : BitVec 32 := Scalar.extui v2967
  let v2969 : BitVec 32 := Scalar.subi v2966 v2968
  let c128_i32_1013 : BitVec 32 := 128#32
  let c0_i32_1016 : BitVec 32 := 0#32
  let v2970 : BitVec 1 := Scalar.cmpi .sgt c128_i32_1013 c0_i32_1016
  let v2971 : BitVec 32 := Scalar.extui v2970
  let c0_i32_1017 : BitVec 32 := 0#32
  let v2972 : BitVec 1 := Scalar.cmpi .slt c128_i32_1013 c0_i32_1017
  let v2973 : BitVec 32 := Scalar.extui v2972
  let v2974 : BitVec 32 := Scalar.subi v2971 v2973
  let v2975 : BitVec 1 := Scalar.cmpi .ne v2969 v2974
  let v2976 : BitVec 32 := Scalar.remsi v2963 c128_i32_1013
  let c0_i32_1018 : BitVec 32 := 0#32
  let v2977 : BitVec 1 := Scalar.cmpi .ne v2976 c0_i32_1018
  let v2978 : BitVec 1 := Scalar.andi v2975 v2977
  let v2964 : BitVec 32 := Scalar.divsi v2963 c128_i32_1013
  let c1_i32_1019 : BitVec 32 := 1#32
  let v2979 : BitVec 32 := Scalar.subi v2964 c1_i32_1019
  let v2980 : BitVec 32 := Scalar.select v2978 v2979 v2964
  let v2985 : BitVec 32 := Scalar.select v2984 v2980 v2952
  let c2_i32_1115 : BitVec 32 := 2#32
  let v3279 : BitVec 32 := Scalar.addi v2985 c2_i32_1115
  let c128_i32_1116 : BitVec 32 := 128#32
  let v3280 : BitVec 32 := Scalar.muli v3279 c128_i32_1116
  let v3285 : BitVec 1 := Scalar.cmpi .sge v3280 v3284
  let v2982 : BitVec 32 := Scalar.select v2958 v2959 v2655
  let c1_i32_1119 : BitVec 32 := 1#32
  let v3286 : BitVec 32 := Scalar.addi v2982 c1_i32_1119
  let c192_i32_1129 : BitVec 32 := 192#32
  let v3308 : BitVec 1 := Scalar.cmpi .sge v3286 c192_i32_1129
  let true_1130 : BitVec 1 := 1#1
  let v3310 : BitVec 1 := Scalar.xori v3308 true_1130
  let v3311 : BitVec 1 := Scalar.andi v3285 v3310
  let c0_i32_1123 : BitVec 32 := 0#32
  let v3292 : BitVec 1 := Scalar.cmpi .sgt v3290 c0_i32_1123
  let v3293 : BitVec 32 := Scalar.extui v3292
  let c0_i32_1124 : BitVec 32 := 0#32
  let v3294 : BitVec 1 := Scalar.cmpi .slt v3290 c0_i32_1124
  let v3295 : BitVec 32 := Scalar.extui v3294
  let v3296 : BitVec 32 := Scalar.subi v3293 v3295
  let c128_i32_1122 : BitVec 32 := 128#32
  let c0_i32_1125 : BitVec 32 := 0#32
  let v3297 : BitVec 1 := Scalar.cmpi .sgt c128_i32_1122 c0_i32_1125
  let v3298 : BitVec 32 := Scalar.extui v3297
  let c0_i32_1126 : BitVec 32 := 0#32
  let v3299 : BitVec 1 := Scalar.cmpi .slt c128_i32_1122 c0_i32_1126
  let v3300 : BitVec 32 := Scalar.extui v3299
  let v3301 : BitVec 32 := Scalar.subi v3298 v3300
  let v3302 : BitVec 1 := Scalar.cmpi .ne v3296 v3301
  let v3303 : BitVec 32 := Scalar.remsi v3290 c128_i32_1122
  let c0_i32_1127 : BitVec 32 := 0#32
  let v3304 : BitVec 1 := Scalar.cmpi .ne v3303 c0_i32_1127
  let v3305 : BitVec 1 := Scalar.andi v3302 v3304
  let v3291 : BitVec 32 := Scalar.divsi v3290 c128_i32_1122
  let c1_i32_1128 : BitVec 32 := 1#32
  let v3306 : BitVec 32 := Scalar.subi v3291 c1_i32_1128
  let v3307 : BitVec 32 := Scalar.select v3305 v3306 v3291
  let v3312 : BitVec 32 := Scalar.select v3311 v3307 v3279
  let c2_i32_1224 : BitVec 32 := 2#32
  let v3606 : BitVec 32 := Scalar.addi v3312 c2_i32_1224
  let c128_i32_1225 : BitVec 32 := 128#32
  let v3607 : BitVec 32 := Scalar.muli v3606 c128_i32_1225
  let v3612 : BitVec 1 := Scalar.cmpi .sge v3607 v3611
  let v3309 : BitVec 32 := Scalar.select v3285 v3286 v2982
  let c1_i32_1228 : BitVec 32 := 1#32
  let v3613 : BitVec 32 := Scalar.addi v3309 c1_i32_1228
  let v3636 : BitVec 32 := Scalar.select v3612 v3613 v3309
  let c191_i32_1240 : BitVec 32 := 191#32
  let v3640 : BitVec 32 := Scalar.minsi v3636 c191_i32_1240
  let c8_i32_1329 : BitVec 32 := 8#32
  let v3922 : BitVec 32 := Scalar.muli v3640 c8_i32_1329
  let v3923 : Index := Scalar.indexCast v3922
  let c1280_1330 : Index := 1280#32
  ![v3923.toNat, 1280]
def k0_off95 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (v3611 : BitVec 32) : Fin 1 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let c192_i32_1020 : BitVec 32 := 192#32
  let v2981 : BitVec 1 := Scalar.cmpi .sge v2959 c192_i32_1020
  let true_1021 : BitVec 1 := 1#1
  let v2983 : BitVec 1 := Scalar.xori v2981 true_1021
  let v2984 : BitVec 1 := Scalar.andi v2958 v2983
  let c0_i32_1014 : BitVec 32 := 0#32
  let v2965 : BitVec 1 := Scalar.cmpi .sgt v2963 c0_i32_1014
  let v2966 : BitVec 32 := Scalar.extui v2965
  let c0_i32_1015 : BitVec 32 := 0#32
  let v2967 : BitVec 1 := Scalar.cmpi .slt v2963 c0_i32_1015
  let v2968 : BitVec 32 := Scalar.extui v2967
  let v2969 : BitVec 32 := Scalar.subi v2966 v2968
  let c128_i32_1013 : BitVec 32 := 128#32
  let c0_i32_1016 : BitVec 32 := 0#32
  let v2970 : BitVec 1 := Scalar.cmpi .sgt c128_i32_1013 c0_i32_1016
  let v2971 : BitVec 32 := Scalar.extui v2970
  let c0_i32_1017 : BitVec 32 := 0#32
  let v2972 : BitVec 1 := Scalar.cmpi .slt c128_i32_1013 c0_i32_1017
  let v2973 : BitVec 32 := Scalar.extui v2972
  let v2974 : BitVec 32 := Scalar.subi v2971 v2973
  let v2975 : BitVec 1 := Scalar.cmpi .ne v2969 v2974
  let v2976 : BitVec 32 := Scalar.remsi v2963 c128_i32_1013
  let c0_i32_1018 : BitVec 32 := 0#32
  let v2977 : BitVec 1 := Scalar.cmpi .ne v2976 c0_i32_1018
  let v2978 : BitVec 1 := Scalar.andi v2975 v2977
  let v2964 : BitVec 32 := Scalar.divsi v2963 c128_i32_1013
  let c1_i32_1019 : BitVec 32 := 1#32
  let v2979 : BitVec 32 := Scalar.subi v2964 c1_i32_1019
  let v2980 : BitVec 32 := Scalar.select v2978 v2979 v2964
  let v2985 : BitVec 32 := Scalar.select v2984 v2980 v2952
  let c2_i32_1115 : BitVec 32 := 2#32
  let v3279 : BitVec 32 := Scalar.addi v2985 c2_i32_1115
  let c128_i32_1116 : BitVec 32 := 128#32
  let v3280 : BitVec 32 := Scalar.muli v3279 c128_i32_1116
  let v3285 : BitVec 1 := Scalar.cmpi .sge v3280 v3284
  let v2982 : BitVec 32 := Scalar.select v2958 v2959 v2655
  let c1_i32_1119 : BitVec 32 := 1#32
  let v3286 : BitVec 32 := Scalar.addi v2982 c1_i32_1119
  let c192_i32_1129 : BitVec 32 := 192#32
  let v3308 : BitVec 1 := Scalar.cmpi .sge v3286 c192_i32_1129
  let true_1130 : BitVec 1 := 1#1
  let v3310 : BitVec 1 := Scalar.xori v3308 true_1130
  let v3311 : BitVec 1 := Scalar.andi v3285 v3310
  let c0_i32_1123 : BitVec 32 := 0#32
  let v3292 : BitVec 1 := Scalar.cmpi .sgt v3290 c0_i32_1123
  let v3293 : BitVec 32 := Scalar.extui v3292
  let c0_i32_1124 : BitVec 32 := 0#32
  let v3294 : BitVec 1 := Scalar.cmpi .slt v3290 c0_i32_1124
  let v3295 : BitVec 32 := Scalar.extui v3294
  let v3296 : BitVec 32 := Scalar.subi v3293 v3295
  let c128_i32_1122 : BitVec 32 := 128#32
  let c0_i32_1125 : BitVec 32 := 0#32
  let v3297 : BitVec 1 := Scalar.cmpi .sgt c128_i32_1122 c0_i32_1125
  let v3298 : BitVec 32 := Scalar.extui v3297
  let c0_i32_1126 : BitVec 32 := 0#32
  let v3299 : BitVec 1 := Scalar.cmpi .slt c128_i32_1122 c0_i32_1126
  let v3300 : BitVec 32 := Scalar.extui v3299
  let v3301 : BitVec 32 := Scalar.subi v3298 v3300
  let v3302 : BitVec 1 := Scalar.cmpi .ne v3296 v3301
  let v3303 : BitVec 32 := Scalar.remsi v3290 c128_i32_1122
  let c0_i32_1127 : BitVec 32 := 0#32
  let v3304 : BitVec 1 := Scalar.cmpi .ne v3303 c0_i32_1127
  let v3305 : BitVec 1 := Scalar.andi v3302 v3304
  let v3291 : BitVec 32 := Scalar.divsi v3290 c128_i32_1122
  let c1_i32_1128 : BitVec 32 := 1#32
  let v3306 : BitVec 32 := Scalar.subi v3291 c1_i32_1128
  let v3307 : BitVec 32 := Scalar.select v3305 v3306 v3291
  let v3312 : BitVec 32 := Scalar.select v3311 v3307 v3279
  let c2_i32_1224 : BitVec 32 := 2#32
  let v3606 : BitVec 32 := Scalar.addi v3312 c2_i32_1224
  let c128_i32_1225 : BitVec 32 := 128#32
  let v3607 : BitVec 32 := Scalar.muli v3606 c128_i32_1225
  let v3612 : BitVec 1 := Scalar.cmpi .sge v3607 v3611
  let v3309 : BitVec 32 := Scalar.select v3285 v3286 v2982
  let c1_i32_1228 : BitVec 32 := 1#32
  let v3613 : BitVec 32 := Scalar.addi v3309 c1_i32_1228
  let v3636 : BitVec 32 := Scalar.select v3612 v3613 v3309
  let c191_i32_1240 : BitVec 32 := 191#32
  let v3640 : BitVec 32 := Scalar.minsi v3636 c191_i32_1240
  let c1_i32_1335 : BitVec 32 := 1#32
  let v3935 : BitVec 32 := Scalar.addi v3640 c1_i32_1335
  let c8_i32_1336 : BitVec 32 := 8#32
  let v3936 : BitVec 32 := Scalar.muli v3935 c8_i32_1336
  let v3937 : Index := Scalar.indexCast v3936
  ![v3937.toNat]
def k0_off96 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (v3611 : BitVec 32) : Fin 1 → Nat :=
  let c2_i32_572 : BitVec 32 := 2#32
  let v1644 : BitVec 32 := Scalar.addi arg16 c2_i32_572
  let c128_i32_573 : BitVec 32 := 128#32
  let v1645 : BitVec 32 := Scalar.muli v1644 c128_i32_573
  let v1650 : BitVec 1 := Scalar.cmpi .sge v1645 v1649
  let c1_i32_576 : BitVec 32 := 1#32
  let v1651 : BitVec 32 := Scalar.addi arg15 c1_i32_576
  let c192_i32 : BitVec 32 := 192#32
  let v1673 : BitVec 1 := Scalar.cmpi .sge v1651 c192_i32
  let v_true : BitVec 1 := 1#1
  let v1675 : BitVec 1 := Scalar.xori v1673 v_true
  let v1676 : BitVec 1 := Scalar.andi v1650 v1675
  let c0_i32_580 : BitVec 32 := 0#32
  let v1657 : BitVec 1 := Scalar.cmpi .sgt v1655 c0_i32_580
  let v1658 : BitVec 32 := Scalar.extui v1657
  let c0_i32_581 : BitVec 32 := 0#32
  let v1659 : BitVec 1 := Scalar.cmpi .slt v1655 c0_i32_581
  let v1660 : BitVec 32 := Scalar.extui v1659
  let v1661 : BitVec 32 := Scalar.subi v1658 v1660
  let c128_i32_579 : BitVec 32 := 128#32
  let c0_i32_582 : BitVec 32 := 0#32
  let v1662 : BitVec 1 := Scalar.cmpi .sgt c128_i32_579 c0_i32_582
  let v1663 : BitVec 32 := Scalar.extui v1662
  let c0_i32_583 : BitVec 32 := 0#32
  let v1664 : BitVec 1 := Scalar.cmpi .slt c128_i32_579 c0_i32_583
  let v1665 : BitVec 32 := Scalar.extui v1664
  let v1666 : BitVec 32 := Scalar.subi v1663 v1665
  let v1667 : BitVec 1 := Scalar.cmpi .ne v1661 v1666
  let v1668 : BitVec 32 := Scalar.remsi v1655 c128_i32_579
  let c0_i32_584 : BitVec 32 := 0#32
  let v1669 : BitVec 1 := Scalar.cmpi .ne v1668 c0_i32_584
  let v1670 : BitVec 1 := Scalar.andi v1667 v1669
  let v1656 : BitVec 32 := Scalar.divsi v1655 c128_i32_579
  let c1_i32_585 : BitVec 32 := 1#32
  let v1671 : BitVec 32 := Scalar.subi v1656 c1_i32_585
  let v1672 : BitVec 32 := Scalar.select v1670 v1671 v1656
  let v1677 : BitVec 32 := Scalar.select v1676 v1672 v1644
  let c2_i32_679 : BitVec 32 := 2#32
  let v1971 : BitVec 32 := Scalar.addi v1677 c2_i32_679
  let c128_i32_680 : BitVec 32 := 128#32
  let v1972 : BitVec 32 := Scalar.muli v1971 c128_i32_680
  let v1977 : BitVec 1 := Scalar.cmpi .sge v1972 v1976
  let v1674 : BitVec 32 := Scalar.select v1650 v1651 arg15
  let c1_i32_683 : BitVec 32 := 1#32
  let v1978 : BitVec 32 := Scalar.addi v1674 c1_i32_683
  let c192_i32_693 : BitVec 32 := 192#32
  let v2000 : BitVec 1 := Scalar.cmpi .sge v1978 c192_i32_693
  let true_694 : BitVec 1 := 1#1
  let v2002 : BitVec 1 := Scalar.xori v2000 true_694
  let v2003 : BitVec 1 := Scalar.andi v1977 v2002
  let c0_i32_687 : BitVec 32 := 0#32
  let v1984 : BitVec 1 := Scalar.cmpi .sgt v1982 c0_i32_687
  let v1985 : BitVec 32 := Scalar.extui v1984
  let c0_i32_688 : BitVec 32 := 0#32
  let v1986 : BitVec 1 := Scalar.cmpi .slt v1982 c0_i32_688
  let v1987 : BitVec 32 := Scalar.extui v1986
  let v1988 : BitVec 32 := Scalar.subi v1985 v1987
  let c128_i32_686 : BitVec 32 := 128#32
  let c0_i32_689 : BitVec 32 := 0#32
  let v1989 : BitVec 1 := Scalar.cmpi .sgt c128_i32_686 c0_i32_689
  let v1990 : BitVec 32 := Scalar.extui v1989
  let c0_i32_690 : BitVec 32 := 0#32
  let v1991 : BitVec 1 := Scalar.cmpi .slt c128_i32_686 c0_i32_690
  let v1992 : BitVec 32 := Scalar.extui v1991
  let v1993 : BitVec 32 := Scalar.subi v1990 v1992
  let v1994 : BitVec 1 := Scalar.cmpi .ne v1988 v1993
  let v1995 : BitVec 32 := Scalar.remsi v1982 c128_i32_686
  let c0_i32_691 : BitVec 32 := 0#32
  let v1996 : BitVec 1 := Scalar.cmpi .ne v1995 c0_i32_691
  let v1997 : BitVec 1 := Scalar.andi v1994 v1996
  let v1983 : BitVec 32 := Scalar.divsi v1982 c128_i32_686
  let c1_i32_692 : BitVec 32 := 1#32
  let v1998 : BitVec 32 := Scalar.subi v1983 c1_i32_692
  let v1999 : BitVec 32 := Scalar.select v1997 v1998 v1983
  let v2004 : BitVec 32 := Scalar.select v2003 v1999 v1971
  let c2_i32_788 : BitVec 32 := 2#32
  let v2298 : BitVec 32 := Scalar.addi v2004 c2_i32_788
  let c128_i32_789 : BitVec 32 := 128#32
  let v2299 : BitVec 32 := Scalar.muli v2298 c128_i32_789
  let v2304 : BitVec 1 := Scalar.cmpi .sge v2299 v2303
  let v2001 : BitVec 32 := Scalar.select v1977 v1978 v1674
  let c1_i32_792 : BitVec 32 := 1#32
  let v2305 : BitVec 32 := Scalar.addi v2001 c1_i32_792
  let c192_i32_802 : BitVec 32 := 192#32
  let v2327 : BitVec 1 := Scalar.cmpi .sge v2305 c192_i32_802
  let true_803 : BitVec 1 := 1#1
  let v2329 : BitVec 1 := Scalar.xori v2327 true_803
  let v2330 : BitVec 1 := Scalar.andi v2304 v2329
  let c0_i32_796 : BitVec 32 := 0#32
  let v2311 : BitVec 1 := Scalar.cmpi .sgt v2309 c0_i32_796
  let v2312 : BitVec 32 := Scalar.extui v2311
  let c0_i32_797 : BitVec 32 := 0#32
  let v2313 : BitVec 1 := Scalar.cmpi .slt v2309 c0_i32_797
  let v2314 : BitVec 32 := Scalar.extui v2313
  let v2315 : BitVec 32 := Scalar.subi v2312 v2314
  let c128_i32_795 : BitVec 32 := 128#32
  let c0_i32_798 : BitVec 32 := 0#32
  let v2316 : BitVec 1 := Scalar.cmpi .sgt c128_i32_795 c0_i32_798
  let v2317 : BitVec 32 := Scalar.extui v2316
  let c0_i32_799 : BitVec 32 := 0#32
  let v2318 : BitVec 1 := Scalar.cmpi .slt c128_i32_795 c0_i32_799
  let v2319 : BitVec 32 := Scalar.extui v2318
  let v2320 : BitVec 32 := Scalar.subi v2317 v2319
  let v2321 : BitVec 1 := Scalar.cmpi .ne v2315 v2320
  let v2322 : BitVec 32 := Scalar.remsi v2309 c128_i32_795
  let c0_i32_800 : BitVec 32 := 0#32
  let v2323 : BitVec 1 := Scalar.cmpi .ne v2322 c0_i32_800
  let v2324 : BitVec 1 := Scalar.andi v2321 v2323
  let v2310 : BitVec 32 := Scalar.divsi v2309 c128_i32_795
  let c1_i32_801 : BitVec 32 := 1#32
  let v2325 : BitVec 32 := Scalar.subi v2310 c1_i32_801
  let v2326 : BitVec 32 := Scalar.select v2324 v2325 v2310
  let v2331 : BitVec 32 := Scalar.select v2330 v2326 v2298
  let c2_i32_897 : BitVec 32 := 2#32
  let v2625 : BitVec 32 := Scalar.addi v2331 c2_i32_897
  let c128_i32_898 : BitVec 32 := 128#32
  let v2626 : BitVec 32 := Scalar.muli v2625 c128_i32_898
  let v2631 : BitVec 1 := Scalar.cmpi .sge v2626 v2630
  let v2328 : BitVec 32 := Scalar.select v2304 v2305 v2001
  let c1_i32_901 : BitVec 32 := 1#32
  let v2632 : BitVec 32 := Scalar.addi v2328 c1_i32_901
  let c192_i32_911 : BitVec 32 := 192#32
  let v2654 : BitVec 1 := Scalar.cmpi .sge v2632 c192_i32_911
  let true_912 : BitVec 1 := 1#1
  let v2656 : BitVec 1 := Scalar.xori v2654 true_912
  let v2657 : BitVec 1 := Scalar.andi v2631 v2656
  let c0_i32_905 : BitVec 32 := 0#32
  let v2638 : BitVec 1 := Scalar.cmpi .sgt v2636 c0_i32_905
  let v2639 : BitVec 32 := Scalar.extui v2638
  let c0_i32_906 : BitVec 32 := 0#32
  let v2640 : BitVec 1 := Scalar.cmpi .slt v2636 c0_i32_906
  let v2641 : BitVec 32 := Scalar.extui v2640
  let v2642 : BitVec 32 := Scalar.subi v2639 v2641
  let c128_i32_904 : BitVec 32 := 128#32
  let c0_i32_907 : BitVec 32 := 0#32
  let v2643 : BitVec 1 := Scalar.cmpi .sgt c128_i32_904 c0_i32_907
  let v2644 : BitVec 32 := Scalar.extui v2643
  let c0_i32_908 : BitVec 32 := 0#32
  let v2645 : BitVec 1 := Scalar.cmpi .slt c128_i32_904 c0_i32_908
  let v2646 : BitVec 32 := Scalar.extui v2645
  let v2647 : BitVec 32 := Scalar.subi v2644 v2646
  let v2648 : BitVec 1 := Scalar.cmpi .ne v2642 v2647
  let v2649 : BitVec 32 := Scalar.remsi v2636 c128_i32_904
  let c0_i32_909 : BitVec 32 := 0#32
  let v2650 : BitVec 1 := Scalar.cmpi .ne v2649 c0_i32_909
  let v2651 : BitVec 1 := Scalar.andi v2648 v2650
  let v2637 : BitVec 32 := Scalar.divsi v2636 c128_i32_904
  let c1_i32_910 : BitVec 32 := 1#32
  let v2652 : BitVec 32 := Scalar.subi v2637 c1_i32_910
  let v2653 : BitVec 32 := Scalar.select v2651 v2652 v2637
  let v2658 : BitVec 32 := Scalar.select v2657 v2653 v2625
  let c2_i32_1006 : BitVec 32 := 2#32
  let v2952 : BitVec 32 := Scalar.addi v2658 c2_i32_1006
  let c128_i32_1007 : BitVec 32 := 128#32
  let v2953 : BitVec 32 := Scalar.muli v2952 c128_i32_1007
  let v2958 : BitVec 1 := Scalar.cmpi .sge v2953 v2957
  let v2655 : BitVec 32 := Scalar.select v2631 v2632 v2328
  let c1_i32_1010 : BitVec 32 := 1#32
  let v2959 : BitVec 32 := Scalar.addi v2655 c1_i32_1010
  let c192_i32_1020 : BitVec 32 := 192#32
  let v2981 : BitVec 1 := Scalar.cmpi .sge v2959 c192_i32_1020
  let true_1021 : BitVec 1 := 1#1
  let v2983 : BitVec 1 := Scalar.xori v2981 true_1021
  let v2984 : BitVec 1 := Scalar.andi v2958 v2983
  let c0_i32_1014 : BitVec 32 := 0#32
  let v2965 : BitVec 1 := Scalar.cmpi .sgt v2963 c0_i32_1014
  let v2966 : BitVec 32 := Scalar.extui v2965
  let c0_i32_1015 : BitVec 32 := 0#32
  let v2967 : BitVec 1 := Scalar.cmpi .slt v2963 c0_i32_1015
  let v2968 : BitVec 32 := Scalar.extui v2967
  let v2969 : BitVec 32 := Scalar.subi v2966 v2968
  let c128_i32_1013 : BitVec 32 := 128#32
  let c0_i32_1016 : BitVec 32 := 0#32
  let v2970 : BitVec 1 := Scalar.cmpi .sgt c128_i32_1013 c0_i32_1016
  let v2971 : BitVec 32 := Scalar.extui v2970
  let c0_i32_1017 : BitVec 32 := 0#32
  let v2972 : BitVec 1 := Scalar.cmpi .slt c128_i32_1013 c0_i32_1017
  let v2973 : BitVec 32 := Scalar.extui v2972
  let v2974 : BitVec 32 := Scalar.subi v2971 v2973
  let v2975 : BitVec 1 := Scalar.cmpi .ne v2969 v2974
  let v2976 : BitVec 32 := Scalar.remsi v2963 c128_i32_1013
  let c0_i32_1018 : BitVec 32 := 0#32
  let v2977 : BitVec 1 := Scalar.cmpi .ne v2976 c0_i32_1018
  let v2978 : BitVec 1 := Scalar.andi v2975 v2977
  let v2964 : BitVec 32 := Scalar.divsi v2963 c128_i32_1013
  let c1_i32_1019 : BitVec 32 := 1#32
  let v2979 : BitVec 32 := Scalar.subi v2964 c1_i32_1019
  let v2980 : BitVec 32 := Scalar.select v2978 v2979 v2964
  let v2985 : BitVec 32 := Scalar.select v2984 v2980 v2952
  let c2_i32_1115 : BitVec 32 := 2#32
  let v3279 : BitVec 32 := Scalar.addi v2985 c2_i32_1115
  let c128_i32_1116 : BitVec 32 := 128#32
  let v3280 : BitVec 32 := Scalar.muli v3279 c128_i32_1116
  let v3285 : BitVec 1 := Scalar.cmpi .sge v3280 v3284
  let v2982 : BitVec 32 := Scalar.select v2958 v2959 v2655
  let c1_i32_1119 : BitVec 32 := 1#32
  let v3286 : BitVec 32 := Scalar.addi v2982 c1_i32_1119
  let c192_i32_1129 : BitVec 32 := 192#32
  let v3308 : BitVec 1 := Scalar.cmpi .sge v3286 c192_i32_1129
  let true_1130 : BitVec 1 := 1#1
  let v3310 : BitVec 1 := Scalar.xori v3308 true_1130
  let v3311 : BitVec 1 := Scalar.andi v3285 v3310
  let c0_i32_1123 : BitVec 32 := 0#32
  let v3292 : BitVec 1 := Scalar.cmpi .sgt v3290 c0_i32_1123
  let v3293 : BitVec 32 := Scalar.extui v3292
  let c0_i32_1124 : BitVec 32 := 0#32
  let v3294 : BitVec 1 := Scalar.cmpi .slt v3290 c0_i32_1124
  let v3295 : BitVec 32 := Scalar.extui v3294
  let v3296 : BitVec 32 := Scalar.subi v3293 v3295
  let c128_i32_1122 : BitVec 32 := 128#32
  let c0_i32_1125 : BitVec 32 := 0#32
  let v3297 : BitVec 1 := Scalar.cmpi .sgt c128_i32_1122 c0_i32_1125
  let v3298 : BitVec 32 := Scalar.extui v3297
  let c0_i32_1126 : BitVec 32 := 0#32
  let v3299 : BitVec 1 := Scalar.cmpi .slt c128_i32_1122 c0_i32_1126
  let v3300 : BitVec 32 := Scalar.extui v3299
  let v3301 : BitVec 32 := Scalar.subi v3298 v3300
  let v3302 : BitVec 1 := Scalar.cmpi .ne v3296 v3301
  let v3303 : BitVec 32 := Scalar.remsi v3290 c128_i32_1122
  let c0_i32_1127 : BitVec 32 := 0#32
  let v3304 : BitVec 1 := Scalar.cmpi .ne v3303 c0_i32_1127
  let v3305 : BitVec 1 := Scalar.andi v3302 v3304
  let v3291 : BitVec 32 := Scalar.divsi v3290 c128_i32_1122
  let c1_i32_1128 : BitVec 32 := 1#32
  let v3306 : BitVec 32 := Scalar.subi v3291 c1_i32_1128
  let v3307 : BitVec 32 := Scalar.select v3305 v3306 v3291
  let v3312 : BitVec 32 := Scalar.select v3311 v3307 v3279
  let c2_i32_1224 : BitVec 32 := 2#32
  let v3606 : BitVec 32 := Scalar.addi v3312 c2_i32_1224
  let c128_i32_1225 : BitVec 32 := 128#32
  let v3607 : BitVec 32 := Scalar.muli v3606 c128_i32_1225
  let v3612 : BitVec 1 := Scalar.cmpi .sge v3607 v3611
  let v3309 : BitVec 32 := Scalar.select v3285 v3286 v2982
  let c1_i32_1228 : BitVec 32 := 1#32
  let v3613 : BitVec 32 := Scalar.addi v3309 c1_i32_1228
  let v3636 : BitVec 32 := Scalar.select v3612 v3613 v3309
  let c1_i32_1337 : BitVec 32 := 1#32
  let v3940 : BitVec 32 := Scalar.addi v3636 c1_i32_1337
  let c191_i32_1338 : BitVec 32 := 191#32
  let v3941 : BitVec 32 := Scalar.minsi v3940 c191_i32_1338
  let c8_i32_1339 : BitVec 32 := 8#32
  let v3942 : BitVec 32 := Scalar.muli v3941 c8_i32_1339
  let v3943 : Index := Scalar.indexCast v3942
  ![v3943.toNat]

def k0_chk15 (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (v3611 : BitVec 32) : Prop :=
  (∀ a, (k0_off85 arg15 arg16 v1649 v1655 v1976 v1982 v2303 v2309 v2630 v2636 v2957 v2963 v3284 v3290 v3611) a + S1.size a ≤ S1537.size a) ∧
  (∀ a, (k0_off86 arg15 arg16 v1649 v1655 v1976 v1982 v2303 v2309 v2630 v2636 v2957 v2963 v3284 v3290 v3611) a + S8x128.size a ≤ S1544x128.size a) ∧
  (∀ a, (k0_off87 arg15 arg16 v1649 v1655 v1976 v1982 v2303 v2309 v2630 v2636 v2957 v2963 v3284 v3290 v3611) a + S8x128.size a ≤ S1544x128.size a) ∧
  (∀ a, (k0_off89 arg15 arg16 v1649 v1655 v1976 v1982 v2303 v2309 v2630 v2636 v2957 v2963 v3284 v3290 v3611) a + S8x256.size a ≤ S1536x1536.size a) ∧
  (∀ a, (k0_off90 arg15 arg16 v1649 v1655 v1976 v1982 v2303 v2309 v2630 v2636 v2957 v2963 v3284 v3290 v3611) a + S8x256.size a ≤ S1536x1536.size a) ∧
  (∀ a, (k0_off91 arg15 arg16 v1649 v1655 v1976 v1982 v2303 v2309 v2630 v2636 v2957 v2963 v3284 v3290 v3611) a + S8x256.size a ≤ S1536x1536.size a) ∧
  (∀ a, (k0_off92 arg15 arg16 v1649 v1655 v1976 v1982 v2303 v2309 v2630 v2636 v2957 v2963 v3284 v3290 v3611) a + S8x256.size a ≤ S1536x1536.size a) ∧
  (∀ a, (k0_off93 arg15 arg16 v1649 v1655 v1976 v1982 v2303 v2309 v2630 v2636 v2957 v2963 v3284 v3290 v3611) a + S8x256.size a ≤ S1536x1536.size a) ∧
  (∀ a, (k0_off94 arg15 arg16 v1649 v1655 v1976 v1982 v2303 v2309 v2630 v2636 v2957 v2963 v3284 v3290 v3611) a + S8x256.size a ≤ S1536x1536.size a) ∧
  (∀ a, (k0_off95 arg15 arg16 v1649 v1655 v1976 v1982 v2303 v2309 v2630 v2636 v2957 v2963 v3284 v3290 v3611) a + S1.size a ≤ S1537.size a) ∧
  (∀ a, (k0_off96 arg15 arg16 v1649 v1655 v1976 v1982 v2303 v2309 v2630 v2636 v2957 v2963 v3284 v3290 v3611) a + S1.size a ≤ S1537.size a)
theorem k0_off85_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (v3611 : BitVec 32) (k0_hw15 : k0_chk15 arg15 arg16 v1649 v1655 v1976 v1982 v2303 v2309 v2630 v2636 v2957 v2963 v3284 v3290 v3611), ∀ a, (k0_off85 arg15 arg16 v1649 v1655 v1976 v1982 v2303 v2309 v2630 v2636 v2957 v2963 v3284 v3290 v3611) a + S1.size a ≤ S1537.size a := fun arg15 arg16 v1649 v1655 v1976 v1982 v2303 v2309 v2630 v2636 v2957 v2963 v3284 v3290 v3611 k0_hw15 => k0_hw15.1
theorem k0_off86_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (v3611 : BitVec 32) (k0_hw15 : k0_chk15 arg15 arg16 v1649 v1655 v1976 v1982 v2303 v2309 v2630 v2636 v2957 v2963 v3284 v3290 v3611), ∀ a, (k0_off86 arg15 arg16 v1649 v1655 v1976 v1982 v2303 v2309 v2630 v2636 v2957 v2963 v3284 v3290 v3611) a + S8x128.size a ≤ S1544x128.size a := fun arg15 arg16 v1649 v1655 v1976 v1982 v2303 v2309 v2630 v2636 v2957 v2963 v3284 v3290 v3611 k0_hw15 => k0_hw15.2.1
theorem k0_off87_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (v3611 : BitVec 32) (k0_hw15 : k0_chk15 arg15 arg16 v1649 v1655 v1976 v1982 v2303 v2309 v2630 v2636 v2957 v2963 v3284 v3290 v3611), ∀ a, (k0_off87 arg15 arg16 v1649 v1655 v1976 v1982 v2303 v2309 v2630 v2636 v2957 v2963 v3284 v3290 v3611) a + S8x128.size a ≤ S1544x128.size a := fun arg15 arg16 v1649 v1655 v1976 v1982 v2303 v2309 v2630 v2636 v2957 v2963 v3284 v3290 v3611 k0_hw15 => k0_hw15.2.2.1
theorem k0_off89_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (v3611 : BitVec 32) (k0_hw15 : k0_chk15 arg15 arg16 v1649 v1655 v1976 v1982 v2303 v2309 v2630 v2636 v2957 v2963 v3284 v3290 v3611), ∀ a, (k0_off89 arg15 arg16 v1649 v1655 v1976 v1982 v2303 v2309 v2630 v2636 v2957 v2963 v3284 v3290 v3611) a + S8x256.size a ≤ S1536x1536.size a := fun arg15 arg16 v1649 v1655 v1976 v1982 v2303 v2309 v2630 v2636 v2957 v2963 v3284 v3290 v3611 k0_hw15 => k0_hw15.2.2.2.1
theorem k0_off90_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (v3611 : BitVec 32) (k0_hw15 : k0_chk15 arg15 arg16 v1649 v1655 v1976 v1982 v2303 v2309 v2630 v2636 v2957 v2963 v3284 v3290 v3611), ∀ a, (k0_off90 arg15 arg16 v1649 v1655 v1976 v1982 v2303 v2309 v2630 v2636 v2957 v2963 v3284 v3290 v3611) a + S8x256.size a ≤ S1536x1536.size a := fun arg15 arg16 v1649 v1655 v1976 v1982 v2303 v2309 v2630 v2636 v2957 v2963 v3284 v3290 v3611 k0_hw15 => k0_hw15.2.2.2.2.1
theorem k0_off91_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (v3611 : BitVec 32) (k0_hw15 : k0_chk15 arg15 arg16 v1649 v1655 v1976 v1982 v2303 v2309 v2630 v2636 v2957 v2963 v3284 v3290 v3611), ∀ a, (k0_off91 arg15 arg16 v1649 v1655 v1976 v1982 v2303 v2309 v2630 v2636 v2957 v2963 v3284 v3290 v3611) a + S8x256.size a ≤ S1536x1536.size a := fun arg15 arg16 v1649 v1655 v1976 v1982 v2303 v2309 v2630 v2636 v2957 v2963 v3284 v3290 v3611 k0_hw15 => k0_hw15.2.2.2.2.2.1
theorem k0_off92_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (v3611 : BitVec 32) (k0_hw15 : k0_chk15 arg15 arg16 v1649 v1655 v1976 v1982 v2303 v2309 v2630 v2636 v2957 v2963 v3284 v3290 v3611), ∀ a, (k0_off92 arg15 arg16 v1649 v1655 v1976 v1982 v2303 v2309 v2630 v2636 v2957 v2963 v3284 v3290 v3611) a + S8x256.size a ≤ S1536x1536.size a := fun arg15 arg16 v1649 v1655 v1976 v1982 v2303 v2309 v2630 v2636 v2957 v2963 v3284 v3290 v3611 k0_hw15 => k0_hw15.2.2.2.2.2.2.1
theorem k0_off93_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (v3611 : BitVec 32) (k0_hw15 : k0_chk15 arg15 arg16 v1649 v1655 v1976 v1982 v2303 v2309 v2630 v2636 v2957 v2963 v3284 v3290 v3611), ∀ a, (k0_off93 arg15 arg16 v1649 v1655 v1976 v1982 v2303 v2309 v2630 v2636 v2957 v2963 v3284 v3290 v3611) a + S8x256.size a ≤ S1536x1536.size a := fun arg15 arg16 v1649 v1655 v1976 v1982 v2303 v2309 v2630 v2636 v2957 v2963 v3284 v3290 v3611 k0_hw15 => k0_hw15.2.2.2.2.2.2.2.1
theorem k0_off94_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (v3611 : BitVec 32) (k0_hw15 : k0_chk15 arg15 arg16 v1649 v1655 v1976 v1982 v2303 v2309 v2630 v2636 v2957 v2963 v3284 v3290 v3611), ∀ a, (k0_off94 arg15 arg16 v1649 v1655 v1976 v1982 v2303 v2309 v2630 v2636 v2957 v2963 v3284 v3290 v3611) a + S8x256.size a ≤ S1536x1536.size a := fun arg15 arg16 v1649 v1655 v1976 v1982 v2303 v2309 v2630 v2636 v2957 v2963 v3284 v3290 v3611 k0_hw15 => k0_hw15.2.2.2.2.2.2.2.2.1
theorem k0_off95_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (v3611 : BitVec 32) (k0_hw15 : k0_chk15 arg15 arg16 v1649 v1655 v1976 v1982 v2303 v2309 v2630 v2636 v2957 v2963 v3284 v3290 v3611), ∀ a, (k0_off95 arg15 arg16 v1649 v1655 v1976 v1982 v2303 v2309 v2630 v2636 v2957 v2963 v3284 v3290 v3611) a + S1.size a ≤ S1537.size a := fun arg15 arg16 v1649 v1655 v1976 v1982 v2303 v2309 v2630 v2636 v2957 v2963 v3284 v3290 v3611 k0_hw15 => k0_hw15.2.2.2.2.2.2.2.2.2.1
theorem k0_off96_inb : ∀ (arg15 : BitVec 32) (arg16 : BitVec 32) (v1649 : BitVec 32) (v1655 : BitVec 32) (v1976 : BitVec 32) (v1982 : BitVec 32) (v2303 : BitVec 32) (v2309 : BitVec 32) (v2630 : BitVec 32) (v2636 : BitVec 32) (v2957 : BitVec 32) (v2963 : BitVec 32) (v3284 : BitVec 32) (v3290 : BitVec 32) (v3611 : BitVec 32) (k0_hw15 : k0_chk15 arg15 arg16 v1649 v1655 v1976 v1982 v2303 v2309 v2630 v2636 v2957 v2963 v3284 v3290 v3611), ∀ a, (k0_off96 arg15 arg16 v1649 v1655 v1976 v1982 v2303 v2309 v2630 v2636 v2957 v2963 v3284 v3290 v3611) a + S1.size a ≤ S1537.size a := fun arg15 arg16 v1649 v1655 v1976 v1982 v2303 v2309 v2630 v2636 v2957 v2963 v3284 v3290 v3611 k0_hw15 => k0_hw15.2.2.2.2.2.2.2.2.2.2

abbrev stage0_0 : Fin 1 → Memref sig .tc .smem S1537 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1537 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S384x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x32 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x128 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x320 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x320 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ReferenceIdeal.lean ====
abbrev S1536x32 : Shape := ⟨2, ![1536, 32]⟩
abbrev S1536 : Shape := ⟨1, ![1536]⟩
abbrev S1024x128 : Shape := ⟨2, ![1024, 128]⟩
abbrev S1537 : Shape := ⟨1, ![1537]⟩
abbrev S49152 : Shape := ⟨1, ![49152]⟩
abbrev S1536x320 : Shape := ⟨2, ![1536, 320]⟩
abbrev S_ : Shape := ⟨0, ![]⟩
abbrev S1024x32 : Shape := ⟨2, ![1024, 32]⟩
abbrev S1536x1024 : Shape := ⟨2, ![1536, 1024]⟩
abbrev S1024 : Shape := ⟨1, ![1024]⟩
abbrev S1536x1 : Shape := ⟨2, ![1536, 1]⟩
abbrev S1x1024 : Shape := ⟨2, ![1, 1024]⟩
abbrev S1x49152 : Shape := ⟨2, ![1, 49152]⟩
abbrev S1537x1 : Shape := ⟨2, ![1537, 1]⟩
abbrev S1537x49152 : Shape := ⟨2, ![1537, 49152]⟩
abbrev S49152x1 : Shape := ⟨2, ![49152, 1]⟩
abbrev S49152x1024 : Shape := ⟨2, ![49152, 1024]⟩
abbrev S1024x320 : Shape := ⟨2, ![1024, 320]⟩

abbrev nBuf : Space → Nat
  | .hbm => 99
  | .vmem => 0
  | .smem => 0
  | _ => 0

abbrev bufTy : (tb : Table) → Fin (tcTables nBuf tb) → BufTy
  | .hbm, ⟨0, _⟩ => ⟨S1536x32, .i8⟩
  | .hbm, ⟨1, _⟩ => ⟨S1536, .f32⟩
  | .hbm, ⟨2, _⟩ => ⟨S1536, .f32⟩
  | .hbm, ⟨3, _⟩ => ⟨S1024x128, .i8⟩
  | .hbm, ⟨4, _⟩ => ⟨S1537, .i32⟩
  | .hbm, ⟨5, _⟩ => ⟨S49152, .i32⟩
  | .hbm, ⟨6, _⟩ => ⟨S49152, .f32⟩
  | .hbm, ⟨7, _⟩ => ⟨S1536x320, .bf16⟩
  | .hbm, ⟨8, _⟩ => ⟨S1024x128, .i32⟩
  | .hbm, ⟨9, _⟩ => ⟨S1024x128, .bf16⟩
  | .hbm, ⟨10, _⟩ => ⟨S1536x32, .i32⟩
  | .hbm, ⟨11, _⟩ => ⟨S_, .i32⟩
  | .hbm, ⟨12, _⟩ => ⟨S1536x32, .i32⟩
  | .hbm, ⟨13, _⟩ => ⟨S1536x32, .i32⟩
  | .hbm, ⟨14, _⟩ => ⟨S_, .i32⟩
  | .hbm, ⟨15, _⟩ => ⟨S1536x32, .i32⟩
  | .hbm, ⟨16, _⟩ => ⟨S1536x32, .i32⟩
  | .hbm, ⟨17, _⟩ => ⟨S1536x32, .bf16⟩
  | .hbm, ⟨18, _⟩ => ⟨S1024x32, .bf16⟩
  | .hbm, ⟨19, _⟩ => ⟨S1536x1024, .f32⟩
  | .hbm, ⟨20, _⟩ => ⟨S1536x32, .i32⟩
  | .hbm, ⟨21, _⟩ => ⟨S_, .i32⟩
  | .hbm, ⟨22, _⟩ => ⟨S1536x32, .i32⟩
  | .hbm, ⟨23, _⟩ => ⟨S1536x32, .i32⟩
  | .hbm, ⟨24, _⟩ => ⟨S_, .i32⟩
  | .hbm, ⟨25, _⟩ => ⟨S1536x32, .i32⟩
  | .hbm, ⟨26, _⟩ => ⟨S1536x32, .i32⟩
  | .hbm, ⟨27, _⟩ => ⟨S1536x32, .bf16⟩
  | .hbm, ⟨28, _⟩ => ⟨S1024x32, .bf16⟩
  | .hbm, ⟨29, _⟩ => ⟨S1536x1024, .f32⟩
  | .hbm, ⟨30, _⟩ => ⟨S1536x1024, .f32⟩
  | .hbm, ⟨31, _⟩ => ⟨S1536x32, .i32⟩
  | .hbm, ⟨32, _⟩ => ⟨S_, .i32⟩
  | .hbm, ⟨33, _⟩ => ⟨S1536x32, .i32⟩
  | .hbm, ⟨34, _⟩ => ⟨S1536x32, .i32⟩
  | .hbm, ⟨35, _⟩ => ⟨S_, .i32⟩
  | .hbm, ⟨36, _⟩ => ⟨S1536x32, .i32⟩
  | .hbm, ⟨37, _⟩ => ⟨S1536x32, .i32⟩
  | .hbm, ⟨38, _⟩ => ⟨S1536x32, .bf16⟩
  | .hbm, ⟨39, _⟩ => ⟨S1024x32, .bf16⟩
  | .hbm, ⟨40, _⟩ => ⟨S1536x1024, .f32⟩
  | .hbm, ⟨41, _⟩ => ⟨S1536x1024, .f32⟩
  | .hbm, ⟨42, _⟩ => ⟨S1536x32, .i32⟩
  | .hbm, ⟨43, _⟩ => ⟨S_, .i32⟩
  | .hbm, ⟨44, _⟩ => ⟨S1536x32, .i32⟩
  | .hbm, ⟨45, _⟩ => ⟨S1536x32, .i32⟩
  | .hbm, ⟨46, _⟩ => ⟨S_, .i32⟩
  | .hbm, ⟨47, _⟩ => ⟨S1536x32, .i32⟩
  | .hbm, ⟨48, _⟩ => ⟨S1536x32, .i32⟩
  | .hbm, ⟨49, _⟩ => ⟨S1536x32, .bf16⟩
  | .hbm, ⟨50, _⟩ => ⟨S1024x32, .bf16⟩
  | .hbm, ⟨51, _⟩ => ⟨S1536x1024, .f32⟩
  | .hbm, ⟨52, _⟩ => ⟨S1536x1024, .f32⟩
  | .hbm, ⟨53, _⟩ => ⟨S1024x128, .i32⟩
  | .hbm, ⟨54, _⟩ => ⟨S1024x128, .f32⟩
  | .hbm, ⟨55, _⟩ => ⟨S_, .f32⟩
  | .hbm, ⟨56, _⟩ => ⟨S1024, .f32⟩
  | .hbm, ⟨57, _⟩ => ⟨S1536x1, .f32⟩
  | .hbm, ⟨58, _⟩ => ⟨S1536x1024, .f32⟩
  | .hbm, ⟨59, _⟩ => ⟨S1536x1024, .f32⟩
  | .hbm, ⟨60, _⟩ => ⟨S1536x1, .f32⟩
  | .hbm, ⟨61, _⟩ => ⟨S1x1024, .f32⟩
  | .hbm, ⟨62, _⟩ => ⟨S1536x1024, .f32⟩
  | .hbm, ⟨63, _⟩ => ⟨S1536x1024, .f32⟩
  | .hbm, ⟨64, _⟩ => ⟨S1536x1024, .f32⟩
  | .hbm, ⟨65, _⟩ => ⟨S1536x1024, .f32⟩
  | .hbm, ⟨66, _⟩ => ⟨S_, .f32⟩
  | .hbm, ⟨67, _⟩ => ⟨S1536x1024, .f32⟩
  | .hbm, ⟨68, _⟩ => ⟨S1536x1024, .f32⟩
  | .hbm, ⟨69, _⟩ => ⟨S49152, .i32⟩
  | .hbm, ⟨70, _⟩ => ⟨S1x49152, .i32⟩
  | .hbm, ⟨71, _⟩ => ⟨S1537x1, .i32⟩
  | .hbm, ⟨72, _⟩ => ⟨S1537x49152, .i32⟩
  | .hbm, ⟨73, _⟩ => ⟨S1537x49152, .i32⟩
  | .hbm, ⟨74, _⟩ => ⟨S1537x49152, .i1⟩
  | .hbm, ⟨75, _⟩ => ⟨S1537x49152, .i32⟩
  | .hbm, ⟨76, _⟩ => ⟨S_, .i32⟩
  | .hbm, ⟨77, _⟩ => ⟨S49152, .i32⟩
  | .hbm, ⟨78, _⟩ => ⟨S_, .i32⟩
  | .hbm, ⟨79, _⟩ => ⟨S49152, .i32⟩
  | .hbm, ⟨80, _⟩ => ⟨S49152, .i32⟩
  | .hbm, ⟨81, _⟩ => ⟨S49152x1, .f32⟩
  | .hbm, ⟨82, _⟩ => ⟨S_, .i32⟩
  | .hbm, ⟨83, _⟩ => ⟨S49152, .i32⟩
  | .hbm, ⟨84, _⟩ => ⟨S49152, .i1⟩
  | .hbm, ⟨85, _⟩ => ⟨S_, .i32⟩
  | .hbm, ⟨86, _⟩ => ⟨S49152, .i32⟩
  | .hbm, ⟨87, _⟩ => ⟨S49152, .i32⟩
  | .hbm, ⟨88, _⟩ => ⟨S49152, .i32⟩
  | .hbm, ⟨89, _⟩ => ⟨S49152x1, .i32⟩
  | .hbm, ⟨90, _⟩ => ⟨S49152x1024, .f32⟩
  | .hbm, ⟨91, _⟩ => ⟨S49152x1024, .f32⟩
  | .hbm, ⟨92, _⟩ => ⟨S49152x1024, .f32⟩
  | .hbm, ⟨93, _⟩ => ⟨S_, .f32⟩
  | .hbm, ⟨94, _⟩ => ⟨S1536x1024, .f32⟩
  | .hbm, ⟨95, _⟩ => ⟨S49152x1, .i32⟩
  | .hbm, ⟨96, _⟩ => ⟨S1536x1024, .f32⟩
  | .hbm, ⟨97, _⟩ => ⟨S1536x1024, .bf16⟩
  | .hbm, ⟨98, _⟩ => ⟨S1024x320, .f32⟩
  | _, _ => ⟨S1536x32, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call0_call0_v0 : Ref sig .tc := ⟨.hbm, 70, rfl⟩
abbrev main_call0_call0_v1 : Ref sig .tc := ⟨.hbm, 71, rfl⟩
abbrev main_call0_call0_v2 : Ref sig .tc := ⟨.hbm, 72, rfl⟩
abbrev main_call0_call0_v3 : Ref sig .tc := ⟨.hbm, 73, rfl⟩
abbrev main_call0_call0_v4 : Ref sig .tc := ⟨.hbm, 74, rfl⟩
abbrev main_call0_call0_v5 : Ref sig .tc := ⟨.hbm, 75, rfl⟩
abbrev main_call0_call0_c : Ref sig .tc := ⟨.hbm, 76, rfl⟩
abbrev main_v52 : Ref sig .tc := ⟨.hbm, 77, rfl⟩
abbrev main_c_8 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_9 : Ref sig .tc := ⟨.hbm, 82, rfl⟩
abbrev main_v56 : Ref sig .tc := ⟨.hbm, 83, rfl⟩
abbrev main_v57 : Ref sig .tc := ⟨.hbm, 84, rfl⟩
abbrev main_c_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_11 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]
-- ==== Proof.Visit.lean ====
/-
  One visit of the kernel's loop, written once: the values it computes, the memory operations it
  performs, and the loop's body as eight visits in a row.
-/
module

public import proofs.«01_k».proof.Proof.Gen.KernelIdeal

@[expose] public section

set_option maxRecDepth 16384

noncomputable section

namespace Cert.KernelIdeal.Visit

open Idealize.ShloMosaic Idealize.SL.Sem
open Cert.KernelIdeal Cert.KernelIdeal.Gen

variable {F : FTy → Type} [FloatOps F]

/-! ## The scalars -/

/-- `w // 128`, rounded down, as the kernel spells it. -/
def fdiv (w : BitVec 32) : BitVec 32 :=
  Scalar.select
    (Scalar.andi
      (Scalar.cmpi .ne
        (Scalar.subi (Scalar.extui (Scalar.cmpi .sgt w 0#32)) (Scalar.extui (Scalar.cmpi .slt w 0#32)))
        (Scalar.subi (Scalar.extui (Scalar.cmpi .sgt 128#32 0#32)) (Scalar.extui (Scalar.cmpi .slt 128#32 0#32))))
      (Scalar.cmpi .ne (Scalar.remsi w 128#32) 0#32))
    (Scalar.subi (Scalar.divsi w 128#32) 1#32)
    (Scalar.divsi w 128#32)

/-- Whether the visit is its row block's first: `q` is the word `w` of `ptr` over 128. -/
def first (q w : BitVec 32) : BitVec 1 := Scalar.cmpi .eq q (fdiv w)

/-- The next visit's row block, from this one's and the word `w` that ends it. -/
def nextB (b q w : BitVec 32) : BitVec 32 :=
  Scalar.select (Scalar.cmpi .sge (Scalar.muli (Scalar.addi q 2#32) 128#32) w) (Scalar.addi b 1#32) b

/-- The next visit's edge row, from the word `w` that ends this row block and `w'` that starts the
    next one. -/
def nextQ (b q w w' : BitVec 32) : BitVec 32 :=
  Scalar.select
    (Scalar.andi (Scalar.cmpi .sge (Scalar.muli (Scalar.addi q 2#32) 128#32) w)
      (Scalar.xori (Scalar.cmpi .sge (Scalar.addi b 1#32) 192#32) 1#1))
    (fdiv w') (Scalar.addi q 2#32)

/-! ## The vectors -/

/-- The high part of the edges' columns: each index over 256, rounded down. -/
def hiOf (i : IVec S1x128 32) : IVec S1x128 32 :=
  select
    (andi
      (cmpi .ne
        (subi (extui 32 (cmpi .sgt i (broadcast S1x128 0#32)) natLt_1_32)
          (extui 32 (cmpi .slt i (broadcast S1x128 0#32)) natLt_1_32))
        (broadcast S1x128
          (Scalar.subi (Scalar.extui (Scalar.cmpi .sgt 256#32 0#32)) (Scalar.extui (Scalar.cmpi .slt 256#32 0#32)))))
      (cmpi .ne (remsi i (broadcast S1x128 256#32)) (broadcast S1x128 0#32)))
    (subi (divsi i (broadcast S1x128 256#32)) (broadcast S1x128 1#32))
    (divsi i (broadcast S1x128 256#32))

/-- The one-hot matrix of the low part of the edges' columns. -/
def hot (iota : FVec F S256x128 .bf16) (one zero : F .bf16) (i : IVec S1x128 32) : FVec F S256x128 .bf16 :=
  select
    (cmpf .oeq iota
      (broadcastTo S256x128 (truncf .bf16 (sitofp .f32 (andi i (broadcast S1x128 255#32))) bitsLt_bf16_f32 : FVec F S1x128 .bf16)
        broadcasts_S1x128_S256x128))
    (broadcast S256x128 one) (broadcast S256x128 zero)

/-- The edges' values, each in the row whose range holds the edge, zero in the others. -/
def live (lane : IVec S1x128 32) (qh : BitVec 32) (s0 s1 : Vec F S8x128 .i32) (v : FVec F S1x128 .f32) :
    FVec F S8x128 .f32 :=
  select
    (andi
      (cmpi .sge (broadcastTo S8x128 (addi lane (broadcast S1x128 (Scalar.muli qh 128#32))) broadcasts_S1x128_S8x128) s0)
      (cmpi .slt (broadcastTo S8x128 (addi lane (broadcast S1x128 (Scalar.muli qh 128#32))) broadcasts_S1x128_S8x128) s1))
    (broadcastTo S8x128 (shapeCast S1x128 v shapeCasts_S1x128_S1x128) broadcasts_S1x128_S8x128)
    (broadcast S8x128 (Scalar.ofBits .f32 0x00000000#32))

/-- Of them, those whose column's high part is `k`. -/
def pick (k : BitVec 32) (hi : IVec S1x128 32) (vr : FVec F S8x128 .f32) : FVec F S8x128 .f32 :=
  select
    (broadcastTo S8x128 (shapeCast S1x128 (cmpi .eq hi (broadcast S1x128 k)) shapeCasts_S1x128_S1x128)
      broadcasts_S1x128_S8x128)
    vr (broadcast S8x128 (Scalar.ofBits .f32 0x00000000#32))

/-- The six of them, one under the other. -/
def stack (hi : IVec S1x128 32) (vr : FVec F S8x128 .f32) : FVec F S48x128 .f32 :=
  concatenate S48x128 0
    [⟨S8x128, pick 0#32 hi vr⟩, ⟨S8x128, pick 1#32 hi vr⟩, ⟨S8x128, pick 2#32 hi vr⟩,
     ⟨S8x128, pick 3#32 hi vr⟩, ⟨S8x128, pick 4#32 hi vr⟩, ⟨S8x128, pick 5#32 hi vr⟩]
    concatenates_S8x128_S8x128_S8x128_S8x128_S8x128_S8x128_S48x128_d0

/-- What a 48x256 matrix of values and a 256x256 one-hot matrix multiply to, the values split in
    three. -/
def prod3 (h : FVec F S48x256 .f32) (lt : FVec F S256x256 .bf16) : FVec F S48x256 .f32 :=
  have hi : FVec F S48x256 .bf16 := truncf .bf16 h bitsLt_bf16_f32
  have r : FVec F S48x256 .f32 := subf h (extf .f32 hi bitsLt_bf16_f32)
  have mid : FVec F S48x256 .bf16 := truncf .bf16 r bitsLt_bf16_f32
  have lo : FVec F S48x256 .bf16 := truncf .bf16 (subf r (extf .f32 mid bitsLt_bf16_f32)) bitsLt_bf16_f32
  have m : FVec F S144x256 .f32 :=
    matmul dot_S144x256_S256x256_S144x256_1_1_0_0_n_n none
      (concatenate S144x256 0 [⟨S48x256, hi⟩, ⟨S48x256, mid⟩, ⟨S48x256, lo⟩]
        concatenates_S48x256_S48x256_S48x256_S144x256_d0) lt
      (constant S144x256 .f32 0x00000000#32)
  addf
    (addf (extractStridedSlice S48x256 ![0, 0] m slices_S144x256_o0_0_S48x256)
      (extractStridedSlice S48x256 ![48, 0] m slices_S144x256_o48_0_S48x256))
    (extractStridedSlice S48x256 ![96, 0] m slices_S144x256_o96_0_S48x256)

/-- What a visit adds to its eight rows: six column blocks, one under the other. -/
def res (iota : FVec F S256x128 .bf16) (one zero : F .bf16) (lane : IVec S1x128 32) (q : BitVec 32)
    (s0 s1 : Vec F S8x128 .i32) (i0 : Vec F S1x128 .i32) (v0 : Vec F S1x128 .f32)
    (i1 : Vec F S1x128 .i32) (v1 : Vec F S1x128 .f32) : FVec F S48x256 .f32 :=
  have j0 : IVec S1x128 32 := shapeCast S1x128 i0 shapeCasts_S1x128_S1x128
  have j1 : IVec S1x128 32 := shapeCast S1x128 i1 shapeCasts_S1x128_S1x128
  have h0 : FVec F S48x128 .f32 :=
    stack (hiOf j0) (live lane (Scalar.addi q 0#32) s0 s1 (shapeCast S1x128 v0 shapeCasts_S1x128_S1x128))
  have h1 : FVec F S48x128 .f32 :=
    stack (hiOf j1) (live lane (Scalar.addi q 1#32) s0 s1 (shapeCast S1x128 v1 shapeCasts_S1x128_S1x128))
  prod3
    (concatenate S48x256 1 [⟨S48x128, h0⟩, ⟨S48x128, h1⟩] concatenates_S48x128_S48x128_S48x256_d1)
    (concatenate S256x256 1 [⟨S256x128, hot iota one zero j0⟩, ⟨S256x128, hot iota one zero j1⟩]
      concatenates_S256x128_S256x128_S256x256_d1)

/-- What a column block holds before the visit adds to it: nothing on the row block's first visit. -/
def prev (f : BitVec 1) (old : Vec F S8x256 .f32) : FVec F S8x256 .f32 :=
  Scalar.select f (broadcast S8x256 (Scalar.ofBits .f32 0x00000000#32)) old

/-! ## The memory operations -/

variable (ptr : Memref sig .tc .smem S1537 .i32) (hptr : ptr.IsWhole)
  (st : Memref sig .tc .vmem S1544x128 .i32) (hst : st.IsWhole)
  (idx : Memref sig .tc .vmem S384x128 .i32) (hidx : idx.IsWhole)
  (val : Memref sig .tc .vmem S384x128 .f32) (hval : val.IsWhole)
  (iota : FVec F S256x128 .bf16) (one zero : F .bf16) (lane : IVec S1x128 32)
  (acc : Memref sig .tc .vmem S1536x1536 .f32) (hacc : acc.IsWhole)

/-- The word of `ptr` at an offset. -/
abbrev word (off : Fin 1 → Nat) (h : ∀ a, off a + S1.size a ≤ S1537.size a) :
    Prog (TpuEff nD τ sig (Elt F) (Λ₀ F) .tc) (Elt F .i32) :=
  smemLoad ptr (Rect.unit (s := S1537) off S1.size h) numel1_S1 rfl

/-- One column block's read and write. -/
abbrev block (off : Fin 2 → Nat) (h : ∀ a, off a + S8x256.size a ≤ S1536x1536.size a) (f : BitVec 1)
    (r : FVec F S8x256 .f32) : Prog (TpuEff nD τ sig (Elt F) (Λ₀ F) .tc) PUnit := do
  let old : Vec F S8x256 .f32 ← Prog.lift (.load acc (Rect.unit (s := S1536x1536) off S8x256.size h).toLoadRect (View.loadsAt_vmem h_S8x256))
  let _o : Vec F S8x256 .f32 ← Prog.lift (.load acc (Rect.unit (s := S1536x1536) off S8x256.size h).toLoadRect (View.loadsAt_vmem h_S8x256))
  Prog.lift (.store acc (Rect.unit (s := S1536x1536) off S8x256.size h)
    (shapeCast S8x256 (addf (prev f old) r) shapeCasts_S8x256_S8x256) Finset.univ
    (View.stores_vmem_bits_univ h_S8x256 rfl) (.inl rfl))

/-- A visit's reads of the row starts and the edges, its six column blocks, and the word that ends
    its row block. -/
def core (b q : BitVec 32) (h1 : k0_chk1 b) (h2 : k0_chk2 q) :
    Prog (TpuEff nD τ sig (Elt F) (Λ₀ F) .tc) (Elt F .i32) := do
  let w : Elt F .i32 ← word ptr (k0_off1 b) (k0_off1_inb b h1)
  let s0 : Vec F S8x128 .i32 ← Prog.lift (.load st (Rect.unit (s := S1544x128) (k0_off2 b) S8x128.size (k0_off2_inb b h1)).toLoadRect (View.loadsAt_vmem h_S8x128))
  let s1 : Vec F S8x128 .i32 ← Prog.lift (.load st (Rect.unit (s := S1544x128) (k0_off3 b) S8x128.size (k0_off3_inb b h1)).toLoadRect (View.loadsAt_vmem h_S8x128))
  let i0 : Vec F S1x128 .i32 ← Prog.lift (.load idx (Rect.unit (s := S384x128) (k0_off4 q 0#32) S1x128.size (k0_off4_inb q h2 0)).toLoadRect (View.loadsAt_vmem h_S1x128))
  let v0 : Vec F S1x128 .f32 ← Prog.lift (.load val (Rect.unit (s := S384x128) (k0_off4 q 0#32) S1x128.size (k0_off4_inb q h2 0)).toLoadRect (View.loadsAt_vmem h_S1x128))
  let i1 : Vec F S1x128 .i32 ← Prog.lift (.load idx (Rect.unit (s := S384x128) (k0_off4 q 1#32) S1x128.size (k0_off4_inb q h2 1)).toLoadRect (View.loadsAt_vmem h_S1x128))
  let v1 : Vec F S1x128 .f32 ← Prog.lift (.load val (Rect.unit (s := S384x128) (k0_off4 q 1#32) S1x128.size (k0_off4_inb q h2 1)).toLoadRect (View.loadsAt_vmem h_S1x128))
  block acc (k0_off5 b) (k0_off5_inb b h1) (first q w) (extractStridedSlice S8x256 ![0, 0] (res iota one zero lane q s0 s1 i0 v0 i1 v1) slices_S48x256_o0_0_S8x256)
  block acc (k0_off6 b) (k0_off6_inb b h1) (first q w) (extractStridedSlice S8x256 ![8, 0] (res iota one zero lane q s0 s1 i0 v0 i1 v1) slices_S48x256_o8_0_S8x256)
  block acc (k0_off7 b) (k0_off7_inb b h1) (first q w) (extractStridedSlice S8x256 ![16, 0] (res iota one zero lane q s0 s1 i0 v0 i1 v1) slices_S48x256_o16_0_S8x256)
  block acc (k0_off8 b) (k0_off8_inb b h1) (first q w) (extractStridedSlice S8x256 ![24, 0] (res iota one zero lane q s0 s1 i0 v0 i1 v1) slices_S48x256_o24_0_S8x256)
  block acc (k0_off9 b) (k0_off9_inb b h1) (first q w) (extractStridedSlice S8x256 ![32, 0] (res iota one zero lane q s0 s1 i0 v0 i1 v1) slices_S48x256_o32_0_S8x256)
  block acc (k0_off10 b) (k0_off10_inb b h1) (first q w) (extractStridedSlice S8x256 ![40, 0] (res iota one zero lane q s0 s1 i0 v0 i1 v1) slices_S48x256_o40_0_S8x256)
  word ptr (k0_off11 b) (k0_off11_inb b h1)

/-- `n` visits, and one more: each checks where the next one reads before it ends. -/
def visits : Nat → (b q : BitVec 32) → k0_chk1 b → k0_chk2 q →
    Prog (TpuEff nD τ sig (Elt F) (Λ₀ F) .tc) (BitVec 32 × BitVec 32)
  | 0, b, q, h1, h2 => do
    let w : Elt F .i32 ← core ptr st idx val iota one zero lane acc b q h1 h2
    let w' : Elt F .i32 ← word ptr (k0_off12 b) (k0_off12_inb b h1)
    pure (nextB b q w, nextQ b q w w')
  | n + 1, b, q, h1, h2 => do
    let w : Elt F .i32 ← core ptr st idx val iota one zero lane acc b q h1 h2
    have h1' : k0_chk1 (nextB b q w) := (← Prog.lift (TpuEff.assume (k0_chk1 (nextB b q w)) (k0_chk1.dec (nextB b q w)))).down
    let w' : Elt F .i32 ← word ptr (k0_off12 b) (k0_off12_inb b h1)
    have h2' : k0_chk2 (nextQ b q w w') := (← Prog.lift (TpuEff.assume (k0_chk2 (nextQ b q w w')) (k0_chk2.dec (nextQ b q w w')))).down
    visits n (nextB b q w) (nextQ b q w w') h1' h2'

/-- The loop: eight visits a trip while the row block is below 192. -/
def loop (b q : BitVec 32) : Prog (TpuEff nD τ sig (Elt F) (Λ₀ F) .tc) (BitVec 32 × BitVec 32) := do
  if Scalar.cmpi .slt b 192#32 = 1#1 then do
    have h2 : k0_chk2 q := (← Prog.lift (TpuEff.assume (k0_chk2 q) (k0_chk2.dec q))).down
    have h1 : k0_chk1 b := (← Prog.lift (TpuEff.assume (k0_chk1 b) (k0_chk1.dec b))).down
    let s ← visits ptr st idx val iota one zero lane acc 7 b q h1 h2
    Prog.lift (.call (1 : (Λ₀ F).Label) ⟨ptr, hptr, st, hst, idx, hidx, val, hval, iota, one, zero, lane, acc, hacc, s.1, s.2⟩)
  else pure (b, q)

end Cert.KernelIdeal.Visit
-- ==== Proof.VisitEq.lean ====
/-
  The kernel's loop is the loop of visits.
-/
module

public import proofs.«01_k».proof.Proof.Visit

@[expose] public section

set_option maxRecDepth 16384

noncomputable section

namespace Cert.KernelIdeal.Visit

open Idealize.ShloMosaic Idealize.SL.Sem
open Cert.KernelIdeal Cert.KernelIdeal.Gen

variable {F : FTy → Type} [FloatOps F]

set_option maxHeartbeats 2000000 in
/-- The kernel's loop is the loop of visits. -/
theorem while_eq (ptr : Memref sig .tc .smem S1537 .i32) (hptr : ptr.IsWhole)
    (st : Memref sig .tc .vmem S1544x128 .i32) (hst : st.IsWhole)
    (idx : Memref sig .tc .vmem S384x128 .i32) (hidx : idx.IsWhole)
    (val : Memref sig .tc .vmem S384x128 .f32) (hval : val.IsWhole)
    (iota : FVec F S256x128 .bf16) (one zero : F .bf16) (lane : IVec S1x128 32)
    (acc : Memref sig .tc .vmem S1536x1536 .f32) (hacc : acc.IsWhole) (b q : BitVec 32) :
    cc0_while1 (F := F) ptr hptr st hst idx hidx val hval iota one zero lane acc hacc b q
      = loop ptr hptr st hst idx hidx val hval iota one zero lane acc hacc b q := rfl

end Cert.KernelIdeal.Visit
-- ==== Proof.Loop.lean ====
/-
  The kernel's loop over the row blocks of the sparse matrix, by an invariant: what one visit does to
  the buffers it holds, and the loop's label met by its body for every invariant of the three things a
  visit changes (row block, edge row, accumulator).
-/
module

public import proofs.«01_k».proof.Proof.Visit
public import proofs.«01_k».proof.Proof.VisitEq
public import Idealize.ShloMosaic.Lib.Pipeline.Sound
public import Idealize.ShloMosaic.Lib.Pipeline.Kit
public import Idealize.ShloMosaic.Lib.Tactic

@[expose] public section

set_option maxRecDepth 16384

noncomputable section

namespace Cert.KernelIdeal.Visit

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The kernel's variants: the naturals. -/
abbrev 𝒱₀ : Variants := Variants.nat

/-! ## The buffers a visit reads and writes -/

/-- The contents of the pointer words, the broadcast row starts, the edges' columns, the edges' values,
    the accumulator. -/
abbrev CPtr (F : FTy → Type) := (cc0_stg0_0 : Ref sig .tc).ty.Contents (Elt F)
abbrev CSt (F : FTy → Type) := (cc0_scratch1 : Ref sig .tc).ty.Contents (Elt F)
abbrev CIdx (F : FTy → Type) := (cc0_stg2_0 : Ref sig .tc).ty.Contents (Elt F)
abbrev CVal (F : FTy → Type) := (cc0_stg3_0 : Ref sig .tc).ty.Contents (Elt F)
abbrev CAcc (F : FTy → Type) := (cc0_scratch0 : Ref sig .tc).ty.Contents (Elt F)

/-- The five of them, held whole. -/
def held (c : Dev nD) (fp : CPtr F) (fs : CSt F) (fi : CIdx F) (fv : CVal F) (fa : CAcc F) : sProp 𝕄 :=
  iprop((((c : Thread nD τ).loc cc0_stg0_0) ↦{fullShare} fp) ∗ (((c : Thread nD τ).loc cc0_scratch1) ↦{fullShare} fs)
    ∗ (((c : Thread nD τ).loc cc0_stg2_0) ↦{fullShare} fi) ∗ (((c : Thread nD τ).loc cc0_stg3_0) ↦{fullShare} fv)
    ∗ (((c : Thread nD τ).loc cc0_scratch0) ↦{fullShare} fa))

/-- The pointer word at an offset. -/
def wordAt (fp : CPtr F) (off : Fin 1 → Nat) (h : ∀ a, off a + S1.size a ≤ S1537.size a) : Elt F .i32 :=
  ((Memref.whole cc0_stg0_0).access (Rect.unit (s := S1537) off S1.size h) : View sig .tc _ _ _).read (Elt F) fp
    (Shape.Idx.first (numel1_S1.symm ▸ Nat.one_pos))

/-- The row starts, an edge row's columns, an edge row's values, a column block of the accumulator, at an
    offset. -/
def stAt (fs : CSt F) (off : Fin 2 → Nat) (h : ∀ a, off a + S8x128.size a ≤ S1544x128.size a) : Vec F S8x128 .i32 :=
  (Memref.whole cc0_scratch1).view.readAt (Elt F) (Rect.unit (s := S1544x128) off S8x128.size h).toLoadRect fs
def idxAt (fi : CIdx F) (off : Fin 2 → Nat) (h : ∀ a, off a + S1x128.size a ≤ S384x128.size a) : Vec F S1x128 .i32 :=
  (Memref.whole cc0_stg2_0).view.readAt (Elt F) (Rect.unit (s := S384x128) off S1x128.size h).toLoadRect fi
def valAt (fv : CVal F) (off : Fin 2 → Nat) (h : ∀ a, off a + S1x128.size a ≤ S384x128.size a) : Vec F S1x128 .f32 :=
  (Memref.whole cc0_stg3_0).view.readAt (Elt F) (Rect.unit (s := S384x128) off S1x128.size h).toLoadRect fv
def accAt (fa : CAcc F) (off : Fin 2 → Nat) (h : ∀ a, off a + S8x256.size a ≤ S1536x1536.size a) : Vec F S8x256 .f32 :=
  (Memref.whole cc0_scratch0).view.readAt (Elt F) (Rect.unit (s := S1536x1536) off S8x256.size h).toLoadRect fa

/-- The accumulator after one column block's update. -/
def blockA (fa : CAcc F) (off : Fin 2 → Nat) (h : ∀ a, off a + S8x256.size a ≤ S1536x1536.size a) (f : BitVec 1)
    (r : FVec F S8x256 .f32) : CAcc F :=
  ((Memref.whole cc0_scratch0).access (Rect.unit (s := S1536x1536) off S8x256.size h) : View sig .tc _ _ _).write (Elt F) fa
    (shapeCast S8x256 (addf (prev f (accAt fa off h)) r) shapeCasts_S8x256_S8x256) Finset.univ

/-- What a visit at row block `b` and edge row `q` computes from the buffers. -/
def resAt (iota : FVec F S256x128 .bf16) (one zero : F .bf16) (lane : IVec S1x128 32) (fs : CSt F) (fi : CIdx F) (fv : CVal F)
    (b q : BitVec 32) (h1 : k0_chk1 b) (h2 : k0_chk2 q) : FVec F S48x256 .f32 :=
  res iota one zero lane q (stAt fs (k0_off2 b) (k0_off2_inb b h1)) (stAt fs (k0_off3 b) (k0_off3_inb b h1))
    (idxAt fi (k0_off4 q 0#32) (k0_off4_inb q h2 0)) (valAt fv (k0_off4 q 0#32) (k0_off4_inb q h2 0))
    (idxAt fi (k0_off4 q 1#32) (k0_off4_inb q h2 1)) (valAt fv (k0_off4 q 1#32) (k0_off4_inb q h2 1))

/-- The accumulator after a visit, from what it computes (`r`) and whether it is the row block's first (`f`). -/
def sixA (fa : CAcc F) (b : BitVec 32) (h1 : k0_chk1 b) (f : BitVec 1) (r : FVec F S48x256 .f32) : CAcc F :=
  blockA (blockA (blockA (blockA (blockA (blockA fa
    (k0_off5 b) (k0_off5_inb b h1) f (extractStridedSlice S8x256 ![0, 0] r slices_S48x256_o0_0_S8x256))
    (k0_off6 b) (k0_off6_inb b h1) f (extractStridedSlice S8x256 ![8, 0] r slices_S48x256_o8_0_S8x256))
    (k0_off7 b) (k0_off7_inb b h1) f (extractStridedSlice S8x256 ![16, 0] r slices_S48x256_o16_0_S8x256))
    (k0_off8 b) (k0_off8_inb b h1) f (extractStridedSlice S8x256 ![24, 0] r slices_S48x256_o24_0_S8x256))
    (k0_off9 b) (k0_off9_inb b h1) f (extractStridedSlice S8x256 ![32, 0] r slices_S48x256_o32_0_S8x256))
    (k0_off10 b) (k0_off10_inb b h1) f (extractStridedSlice S8x256 ![40, 0] r slices_S48x256_o40_0_S8x256)

/-- The accumulator after a visit. -/
def visitA (iota : FVec F S256x128 .bf16) (one zero : F .bf16) (lane : IVec S1x128 32) (fp : CPtr F) (fs : CSt F) (fi : CIdx F)
    (fv : CVal F) (fa : CAcc F) (b q : BitVec 32) (h1 : k0_chk1 b) (h2 : k0_chk2 q) : CAcc F :=
  sixA fa b h1 (first q (wordAt fp (k0_off1 b) (k0_off1_inb b h1))) (resAt iota one zero lane fs fi fv b q h1 h2)

/-! ## The memory operations -/

section Ops

variable (c : Dev nD) (bd : Option ℕ) (E : Set ℕ)

theorem wp_word (fp : CPtr F) (off : Fin 1 → Nat) (h : ∀ a, off a + S1.size a ≤ S1537.size a) (K : Elt F .i32 → sProp 𝕄) :
    iprop((((c : Thread nD τ).loc cc0_stg0_0) ↦{fullShare} fp) ∗ ((((c : Thread nD τ).loc cc0_stg0_0) ↦{fullShare} fp) -∗ K (wordAt fp off h)))
      ⊢ wp frame (wpE (defs₀ (F := F)) 𝒱₀ (c : Thread nD τ) bd) E (word (Memref.whole cc0_stg0_0) off h) K := by
  unfold word smemLoad wordAt
  iintro ⟨Hp, Hk⟩
  iapply (wp_load_rect 𝒱₀ (c : Thread nD τ) bd E (m := Memref.whole cc0_stg0_0) (r := Rect.unit (s := S1537) off S1.size h) (Finset.subset_univ _)) $$ Hp; iintro Hp
  rw [wp_ret]; imodintro
  iapply Hk; iexact Hp

theorem wp_block (fa : CAcc F) (off : Fin 2 → Nat) (h : ∀ a, off a + S8x256.size a ≤ S1536x1536.size a) (f : BitVec 1)
    (r : FVec F S8x256 .f32) (K : PUnit → sProp 𝕄) :
    iprop((((c : Thread nD τ).loc cc0_scratch0) ↦{fullShare} fa) ∗ ((((c : Thread nD τ).loc cc0_scratch0) ↦{fullShare} blockA fa off h f r) -∗ K ⟨⟩))
      ⊢ wp frame (wpE (defs₀ (F := F)) 𝒱₀ (c : Thread nD τ) bd) E (block (Memref.whole cc0_scratch0) off h f r) K := by
  unfold block
  simp only [Prog.lift, Prog.bind_op, Prog.bind_ret, Prog.pure_eq_ret]
  iintro ⟨Ha, Hk⟩
  iapply (wp_load 𝒱₀ (c : Thread nD τ) bd E (m := Memref.whole cc0_scratch0) (Finset.subset_univ _)) $$ Ha; iintro Ha
  iapply (wp_load 𝒱₀ (c : Thread nD τ) bd E (m := Memref.whole cc0_scratch0) (Finset.subset_univ _)) $$ Ha; iintro Ha
  iapply (wp_store 𝒱₀ (c : Thread nD τ) bd E (m := Memref.whole cc0_scratch0) (r := Rect.unit (s := S1536x1536) off S8x256.size h) (Mk := Finset.univ) (Finset.subset_univ _)) $$ Ha; iintro Ha
  rw [wp_ret]; imodintro
  iapply Hk; iexact Ha

variable (iota : FVec F S256x128 .bf16) (one zero : F .bf16) (lane : IVec S1x128 32)
  (fp : CPtr F) (fs : CSt F) (fi : CIdx F) (fv : CVal F)

theorem wp_core (fa : CAcc F) (b q : BitVec 32) (h1 : k0_chk1 b) (h2 : k0_chk2 q) (K : Elt F .i32 → sProp 𝕄) :
    iprop(held c fp fs fi fv fa ∗ (held c fp fs fi fv (visitA iota one zero lane fp fs fi fv fa b q h1 h2)
        -∗ K (wordAt fp (k0_off11 b) (k0_off11_inb b h1))))
      ⊢ wp frame (wpE (defs₀ (F := F)) 𝒱₀ (c : Thread nD τ) bd) E
          (core (Memref.whole cc0_stg0_0) (Memref.whole cc0_scratch1) (Memref.whole cc0_stg2_0) (Memref.whole cc0_stg3_0)
            iota one zero lane (Memref.whole cc0_scratch0) b q h1 h2) K := by
  unfold core held
  rw [wp_bind]
  iintro ⟨⟨Hp, Hs, Hi, Hv, Ha⟩, Hk⟩
  iapply (wp_word c bd E fp)
  isplitl [Hp]; · iexact Hp
  iintro Hp
  simp only [Prog.lift, Prog.bind_op, Prog.bind_ret]
  iapply (wp_load 𝒱₀ (c : Thread nD τ) bd E (m := Memref.whole cc0_scratch1) (Finset.subset_univ _)) $$ Hs; iintro Hs
  iapply (wp_load 𝒱₀ (c : Thread nD τ) bd E (m := Memref.whole cc0_scratch1) (Finset.subset_univ _)) $$ Hs; iintro Hs
  iapply (wp_load 𝒱₀ (c : Thread nD τ) bd E (m := Memref.whole cc0_stg2_0) (Finset.subset_univ _)) $$ Hi; iintro Hi
  iapply (wp_load 𝒱₀ (c : Thread nD τ) bd E (m := Memref.whole cc0_stg3_0) (Finset.subset_univ _)) $$ Hv; iintro Hv
  iapply (wp_load 𝒱₀ (c : Thread nD τ) bd E (m := Memref.whole cc0_stg2_0) (Finset.subset_univ _)) $$ Hi; iintro Hi
  iapply (wp_load 𝒱₀ (c : Thread nD τ) bd E (m := Memref.whole cc0_stg3_0) (Finset.subset_univ _)) $$ Hv; iintro Hv
  iterate 6
    rw [wp_bind]
    iapply (wp_block c bd E)
    isplitl [Ha]; · iexact Ha
    iintro Ha
  iapply (wp_word c bd E fp)
  isplitl [Hp]; · iexact Hp
  iintro Hp
  iapply Hk
  isplitl [Hp]; · iexact Hp
  isplitl [Hs]; · iexact Hs
  isplitl [Hi]; · iexact Hi
  isplitl [Hv]; · iexact Hv
  iexact Ha

/-! ## Visits in a row -/

/-- The next row block and edge row after a visit at `b`, `q`. -/
def stepB (b q : BitVec 32) (h1 : k0_chk1 b) : BitVec 32 := nextB b q (wordAt fp (k0_off11 b) (k0_off11_inb b h1))
def stepQ (b q : BitVec 32) (h1 : k0_chk1 b) : BitVec 32 :=
  nextQ b q (wordAt fp (k0_off11 b) (k0_off11_inb b h1)) (wordAt fp (k0_off12 b) (k0_off12_inb b h1))

/-- Facts `J k` kept through `n` visits in a row, `k` of them done: they put the next visit's reads in bounds. -/
structure Keeps (n : ℕ) (J : ℕ → BitVec 32 → BitVec 32 → CAcc F → Prop) : Prop where
  chk : ∀ k b q fa, J k b q fa → k ≤ n → k0_chk1 b ∧ k0_chk2 q
  step : ∀ k b q fa (h1 : k0_chk1 b) (h2 : k0_chk2 q), k < n → J k b q fa →
    J (k + 1) (stepB fp b q h1) (stepQ fp b q h1) (visitA iota one zero lane fp fs fi fv fa b q h1 h2)

theorem wp_visits (J : ℕ → BitVec 32 → BitVec 32 → CAcc F → Prop) (hJ : Keeps iota one zero lane fp fs fi fv 8 J) :
    ∀ (n : ℕ) (b q : BitVec 32) (h1 : k0_chk1 b) (h2 : k0_chk2 q) (fa : CAcc F) (_ : n < 8) (_ : J (7 - n) b q fa)
      (K : BitVec 32 × BitVec 32 → sProp 𝕄),
    iprop(held c fp fs fi fv fa ∗ (∀ b' q' fa', ⌜J 8 b' q' fa'⌝ -∗ held c fp fs fi fv fa' -∗ K (b', q')))
      ⊢ wp frame (wpE (defs₀ (F := F)) 𝒱₀ (c : Thread nD τ) bd) E
          (visits (Memref.whole cc0_stg0_0) (Memref.whole cc0_scratch1) (Memref.whole cc0_stg2_0) (Memref.whole cc0_stg3_0)
            iota one zero lane (Memref.whole cc0_scratch0) n b q h1 h2) K := by
  intro n
  induction n with
  | zero =>
    intro b q h1 h2 fa hn hj K
    unfold visits
    rw [wp_bind]
    iintro ⟨H, Hk⟩
    iapply (wp_core c bd E)
    isplitl [H]; · iexact H
    unfold held
    iintro ⟨Hp, Hs, Hi, Hv, Ha⟩
    rw [wp_bind]
    iapply (wp_word c bd E fp)
    isplitl [Hp]; · iexact Hp
    iintro Hp
    rw [Prog.pure_eq_ret, wp_ret]; imodintro
    iapply Hk
    · ipureintro; exact hJ.step 7 b q fa h1 h2 (by omega) hj
    isplitl [Hp]; · iexact Hp
    isplitl [Hs]; · iexact Hs
    isplitl [Hi]; · iexact Hi
    isplitl [Hv]; · iexact Hv
    iexact Ha
  | succ n ih =>
    intro b q h1 h2 fa hn hj K
    have hj' := hJ.step _ b q fa h1 h2 (by omega) hj
    rw [show 7 - (n + 1) + 1 = 7 - n by omega] at hj'
    obtain ⟨h1', h2'⟩ := hJ.chk _ _ _ _ hj' (by omega)
    unfold visits
    rw [wp_bind]
    iintro ⟨H, Hk⟩
    iapply (wp_core c bd E)
    isplitl [H]; · iexact H
    unfold held
    iintro ⟨Hp, Hs, Hi, Hv, Ha⟩
    simp only [Prog.lift, Prog.bind_op, Prog.bind_ret]
    iapply (wp_assume 𝒱₀ (c : Thread nD τ) bd E h1')
    rw [wp_bind]
    iapply (wp_word c bd E fp)
    isplitl [Hp]; · iexact Hp
    iintro Hp
    iapply (wp_assume 𝒱₀ (c : Thread nD τ) bd E h2')
    iapply (ih _ _ h1' h2' _ (by omega) hj')
    isplitl [Hp Hs Hi Hv Ha]
    · unfold held
      isplitl [Hp]; · iexact Hp
      isplitl [Hs]; · iexact Hs
      isplitl [Hi]; · iexact Hi
      isplitl [Hv]; · iexact Hv
      iexact Ha
    unfold held
    iexact Hk

/-! ## The loop -/

/-- An invariant `I` of the loop's trips, with a measure `μ` that every trip lowers. -/
structure LoopInv (I : BitVec 32 → BitVec 32 → CAcc F → Prop) (μ : BitVec 32 → BitVec 32 → ℕ) : Prop where
  enter : ∀ b q fa, I b q fa → Scalar.cmpi .slt b 192#32 = 1#1 → ∃ J : ℕ → BitVec 32 → BitVec 32 → CAcc F → Prop,
    Keeps iota one zero lane fp fs fi fv 8 J ∧ J 0 b q fa ∧ ∀ b' q' fa', J 8 b' q' fa' → I b' q' fa' ∧ μ b' q' < μ b q

variable (I : BitVec 32 → BitVec 32 → CAcc F → Prop) (μ : BitVec 32 → BitVec 32 → ℕ)

/-- The loop's specification: from the buffers it returns them with some accumulator that meets the
    invariant at a row block past the last. -/
def spec (fa : CAcc F) : sWPT 𝕄 (BitVec 32 × BitVec 32) := do
  sWPT.consume (held c fp fs fi fv fa)
  let r ← sWPT.arbitrary
  let fa' ← sWPT.arbitrary
  sWPT.assume (I r.1 r.2 fa' ∧ ¬ Scalar.cmpi .slt r.1 192#32 = 1#1)
  sWPT.produce (held c fp fs fi fv fa')
  pure r

theorem spec_apply (fa : CAcc F) (K : BitVec 32 × BitVec 32 → sProp 𝕄) :
    spec c fp fs fi fv I fa K
      = iprop(held c fp fs fi fv fa ∗ ∀ r : BitVec 32 × BitVec 32, ∀ fa' : CAcc F,
          ⌜I r.1 r.2 fa' ∧ ¬ Scalar.cmpi .slt r.1 192#32 = 1#1⌝ -∗ (held c fp fs fi fv fa' -∗ K r)) := rfl

theorem spec_le (hI : LoopInv iota one zero lane fp fs fi fv I μ) (v : ℕ) :
    ∀ (b q : BitVec 32) (fa : CAcc F), I b q fa → μ b q ≤ v → ∀ K : BitVec 32 × BitVec 32 → sProp 𝕄,
      spec c fp fs fi fv I fa K
        ⊢ wp frame (wpE (defs₀ (F := F)) 𝒱₀ (c : Thread nD τ) (some v)) E
          (defs₀ (F := F) .tc 1 ⟨Memref.whole cc0_stg0_0, Memref.isWhole_whole _, Memref.whole cc0_scratch1, Memref.isWhole_whole _,
            Memref.whole cc0_stg2_0, Memref.isWhole_whole _, Memref.whole cc0_stg3_0, Memref.isWhole_whole _, iota, one, zero, lane,
            Memref.whole cc0_scratch0, Memref.isWhole_whole _, b, q⟩) K := by
  induction v using Nat.strong_induction_on with
  | _ v ih =>
    intro b q fa hi hv K
    rw [spec_apply]
    show _ ⊢ wp frame (wpE (defs₀ (F := F)) 𝒱₀ (c : Thread nD τ) (some v)) E
      (cc0_while1 (Memref.whole cc0_stg0_0) (Memref.isWhole_whole _) (Memref.whole cc0_scratch1) (Memref.isWhole_whole _)
        (Memref.whole cc0_stg2_0) (Memref.isWhole_whole _) (Memref.whole cc0_stg3_0) (Memref.isWhole_whole _) iota one zero lane
        (Memref.whole cc0_scratch0) (Memref.isWhole_whole _) b q) K
    rw [while_eq]
    unfold loop
    by_cases ht : Scalar.cmpi .slt b 192#32 = 1#1
    · rw [if_pos ht]
      obtain ⟨J, hJ, h0, h8⟩ := hI.enter b q fa hi ht
      obtain ⟨h1, h2⟩ := hJ.chk _ _ _ _ h0 (by omega)
      simp only [Prog.lift, Prog.bind_op, Prog.bind_ret]
      iintro ⟨H, Hk⟩
      iapply (wp_assume 𝒱₀ (c : Thread nD τ) (some v) E h2)
      iapply (wp_assume 𝒱₀ (c : Thread nD τ) (some v) E h1)
      rw [wp_bind]
      iapply (wp_visits c (some v) E iota one zero lane fp fs fi fv J hJ 7 b q h1 h2 fa (by omega) h0)
      isplitl [H]; · iexact H
      iintro %b' %q' %fa' %hj H
      obtain ⟨hi', hlt⟩ := h8 _ _ _ hj
      iapply (wp_call_spec 𝒱₀ (c : Thread nD τ) (some v) E (spec c fp fs fi fv I fa') (μ b' q')
        (fun u hu => by cases hu; exact lt_of_lt_of_le hlt hv) (ih _ (lt_of_lt_of_le hlt hv) b' q' fa' hi' le_rfl))
      rw [spec_apply]
      isplitl [H]; · iexact H
      iintro %r %fa'' %hr H
      rw [wp_ret]; imodintro
      iapply Hk
      · ipureintro; exact hr
      · iexact H
    · rw [if_neg ht]
      iintro ⟨H, Hk⟩
      rw [Prog.pure_eq_ret, wp_ret]; imodintro
      iapply Hk
      · ipureintro; exact ⟨hi, ht⟩
      · iexact H

end Ops

end Cert.KernelIdeal.Visit
-- ==== Proof.Body.lean ====
/-
  The kernel's body, written as its stages: the row starts, the codes, the transposed projection,
  the loop of visits, and six row blocks of results.
-/
module

public import proofs.«01_k».proof.Proof.Visit

@[expose] public section

set_option maxRecDepth 16384

noncomputable section

namespace Cert.KernelIdeal.Visit

open Idealize.ShloMosaic Idealize.SL.Sem
open Cert.KernelIdeal Cert.KernelIdeal.Gen

variable {F : FTy → Type} [FloatOps F]

/-! ## The vectors -/

/-- 128 row starts, each along a row of 128 lanes. -/
def spread (w : Vec F S128 .i32) : IVec S128x128 32 :=
  shapeCast S128x128
    (transpose S128x128 [1, 0]
      (broadcastTo S128x128
        (shapeCast S1x128 (shapeCast S1x128 w shapeCasts_S128_S1x128) shapeCasts_S1x128_S1x128)
        broadcasts_S1x128_S128x128)
      transposes_S128x128_p1_0_S128x128)
    shapeCasts_S128x128_S128x128

/-- The end of the last row, in every lane of eight rows. -/
def lastStart (w : Elt F .i32) : IVec S8x128 32 :=
  shapeCast S8x128 (broadcast S8x128 w) shapeCasts_S8x128_S8x128

/-- The number of the field a lane holds: the lane over 32, rounded down. -/
def fieldNo : IVec S1536x128 32 :=
  have l : IVec S1536x128 32 := iota .tc S1536x128 32 [1] iota_S1536x128_d1_w32
  select
    (andi
      (cmpi .ne
        (subi (extui 32 (cmpi .sgt l (broadcast S1536x128 0#32)) natLt_1_32)
          (extui 32 (cmpi .slt l (broadcast S1536x128 0#32)) natLt_1_32))
        (broadcast S1536x128
          (Scalar.subi (Scalar.extui (Scalar.cmpi .sgt 32#32 0#32)) (Scalar.extui (Scalar.cmpi .slt 32#32 0#32)))))
      (cmpi .ne (remsi l (broadcast S1536x128 32#32)) (broadcast S1536x128 0#32)))
    (subi (divsi l (broadcast S1536x128 32#32)) (broadcast S1536x128 1#32))
    (divsi l (broadcast S1536x128 32#32))

/-- The two-bit codes, the four fields of a byte in four groups of 32 lanes. -/
def codes (z : Vec F S1536x32 .i8) : FVec F S1536x128 .bf16 :=
  have y : IVec S1536x32 32 := extui 32 z natLt_8_32
  have zz : IVec S1536x128 32 :=
    concatenate S1536x128 1 [⟨S1536x32, y⟩, ⟨S1536x32, y⟩, ⟨S1536x32, y⟩, ⟨S1536x32, y⟩]
      concatenates_S1536x32_S1536x32_S1536x32_S1536x32_S1536x128_d1
  have f : FVec F S1536x128 .f32 :=
    sitofp .f32 (andi (shrsi zz (muli fieldNo (broadcast S1536x128 2#32))) (broadcast S1536x128 3#32))
  shapeCast S1536x128 (truncf .bf16 f bitsLt_bf16_f32 : FVec F S1536x128 .bf16) shapeCasts_S1536x128_S1536x128

/-- A row's number modulo 32, as the kernel spells it. -/
def dstMod : IVec S128x128 32 :=
  have d : IVec S128x128 32 := iota .tc S128x128 32 [0] iota_S128x128_d0_w32
  have n : BitVec 32 := Scalar.select (Scalar.cmpi .eq 32#32 0#32) 1#32 32#32
  have r : IVec S128x128 32 := remsi d (broadcast S128x128 n)
  select
    (andi
      (xori (cmpi .slt r (broadcast S128x128 0#32))
        (broadcastTo S128x128 (broadcast S128x128 (Scalar.cmpi .slt n 0#32) : IVec S128x128 1) broadcasts_S128x128_S128x128))
      (cmpi .ne r (broadcast S128x128 0#32)))
    (addi r (broadcast S128x128 n)) r

/-- A row's number over 32, rounded down. -/
def dstDiv : IVec S128x128 32 :=
  have d : IVec S128x128 32 := iota .tc S128x128 32 [0] iota_S128x128_d0_w32
  select
    (andi
      (cmpi .ne
        (subi (extui 32 (cmpi .sgt d (broadcast S128x128 0#32)) natLt_1_32)
          (extui 32 (cmpi .slt d (broadcast S128x128 0#32)) natLt_1_32))
        (broadcast S128x128
          (Scalar.subi (Scalar.extui (Scalar.cmpi .sgt 32#32 0#32)) (Scalar.extui (Scalar.cmpi .slt 32#32 0#32)))))
      (cmpi .ne (remsi d (broadcast S128x128 32#32)) (broadcast S128x128 0#32)))
    (subi (divsi d (broadcast S128x128 32#32)) (broadcast S128x128 1#32))
    (divsi d (broadcast S128x128 32#32))

/-- The matrix that regroups 128 lanes by field: a one where the source lane is the wanted one. -/
def perm : FVec F S128x128 .bf16 :=
  truncf .bf16
    (select
      (cmpi .eq (iota .tc S128x128 32 [1] iota_S128x128_d1_w32)
        (addi (muli dstMod (broadcast S128x128 4#32)) dstDiv))
      (broadcast S128x128 (Scalar.ofBits .f32 0x3F800000#32))
      (broadcast S128x128 (Scalar.ofBits .f32 0x00000000#32)) : FVec F S128x128 .f32)
    bitsLt_bf16_f32

/-- The projection, transposed, its lanes regrouped by field. -/
def rtOf (r : Vec F S1024x128 .i8) : FVec F S128x1024 .bf16 :=
  have x : FVec F S1024x128 .bf16 := truncf .bf16 (sitofp .f32 r : FVec F S1024x128 .f32) bitsLt_bf16_f32
  have m : FVec F S128x1024 .f32 :=
    matmul dot_S128x128_S1024x128_S128x1024_1_1_0_0_n_n none perm x (constant S128x1024 .f32 0x00000000#32)
  shapeCast S128x1024 (truncf .bf16 m bitsLt_bf16_f32 : FVec F S128x1024 .bf16) shapeCasts_S128x1024_S128x1024

/-- The lane numbers 0 to 255 down a column, in every lane. -/
def iotaLo : FVec F S256x128 .bf16 :=
  truncf .bf16 (sitofp .f32 (iota .tc S256x128 32 [0] iota_S256x128_d0_w32) : FVec F S256x128 .f32) bitsLt_bf16_f32

/-- The lane numbers. -/
def laneNo : IVec S1x128 32 := iota .tc S1x128 32 [1] iota_S1x128_d1_w32

/-- One and zero. -/
def oneC : F .bf16 := Scalar.ofBits .bf16 0x3F80#16
def zeroC : F .bf16 := Scalar.ofBits .bf16 0x0000#16

/-- The running sum of the products with the column minima, after one more column block. -/
def mtStep (mt : FVec F S256x128 .f32) (a : Vec F S256x256 .f32) (m : Vec F S256 .f32) : FVec F S256x128 .f32 :=
  have am : FVec F S256x256 .f32 :=
    mulf a (broadcastTo S256x256 (shapeCast S1x256 m shapeCasts_S256_S1x256) broadcasts_S1x256_S256x256)
  addf (addf mt (extractStridedSlice S256x128 ![0, 0] am slices_S256x256_o0_0_S256x128))
    (extractStridedSlice S256x128 ![0, 128] am slices_S256x256_o0_128_S256x128)

/-- The running sum of the products with the scaled codes, after one more column block. -/
def xStep (x : FVec F S256x128 .f32) (a : Vec F S256x256 .f32) (s : Vec F S256 .f32) (c : Vec F S256x128 .bf16) :
    FVec F S256x128 .f32 :=
  have p : FVec F S256x256 .f32 :=
    mulf a (broadcastTo S256x256 (shapeCast S1x256 s shapeCasts_S256_S1x256) broadcasts_S1x256_S256x256)
  have hi : FVec F S256x256 .bf16 := truncf .bf16 p bitsLt_bf16_f32
  have r : FVec F S256x256 .f32 := subf p (extf .f32 hi bitsLt_bf16_f32)
  have mid : FVec F S256x256 .bf16 := truncf .bf16 r bitsLt_bf16_f32
  have lo : FVec F S256x256 .bf16 := truncf .bf16 (subf r (extf .f32 mid bitsLt_bf16_f32)) bitsLt_bf16_f32
  addf
    (addf
      (addf x (matmul dot_S256x256_S256x128_S256x128_1_0_0_1_n_n none hi c (constant S256x128 .f32 0x00000000#32)))
      (matmul dot_S256x256_S256x128_S256x128_1_0_0_1_n_n none mid c (constant S256x128 .f32 0x00000000#32)))
    (matmul dot_S256x256_S256x128_S256x128_1_0_0_1_n_n none lo c (constant S256x128 .f32 0x00000000#32))

/-- Both sums together, in three parts of 128 lanes. -/
def x3Of (x mt : FVec F S256x128 .f32) : FVec F S256x384 .bf16 :=
  have y : FVec F S256x128 .f32 :=
    addf x (broadcastTo S256x128
      (shapeCast S256x1 (multiReduction .add [1] S256 mt 0x00000000#32 reduces_S256x128_S256 (.inl rfl) rfl)
        shapeCasts_S256_S256x1) broadcasts_S256x1_S256x128)
  have hi : FVec F S256x128 .bf16 := truncf .bf16 y bitsLt_bf16_f32
  have r : FVec F S256x128 .f32 := subf y (extf .f32 hi bitsLt_bf16_f32)
  have mid : FVec F S256x128 .bf16 := truncf .bf16 r bitsLt_bf16_f32
  have lo : FVec F S256x128 .bf16 := truncf .bf16 (subf r (extf .f32 mid bitsLt_bf16_f32)) bitsLt_bf16_f32
  concatenate S256x384 1 [⟨S256x128, hi⟩, ⟨S256x128, mid⟩, ⟨S256x128, lo⟩]
    concatenates_S256x128_S256x128_S256x128_S256x384_d1

/-- A row block of the aggregate. -/
def aggOf (x mt : FVec F S256x128 .f32) (rt : Vec F S384x1024 .bf16) : FVec F S256x1024 .bf16 :=
  truncf .bf16
    (mulf (matmul dot_S256x384_S384x1024_S256x1024_1_0_0_1_n_n none (x3Of x mt) rt (constant S256x1024 .f32 0x00000000#32))
      (broadcast S256x1024 (Scalar.ofBits .f32 0x3DB504F3#32)) : FVec F S256x1024 .f32)
    bitsLt_bf16_f32

/-- What a row block adds to the weight gradient. -/
def dwOf (agg : FVec F S256x1024 .bf16) (y : Vec F S256x320 .bf16) : FVec F S1024x320 .f32 :=
  matmul dot_S256x1024_S256x320_S1024x320_0_0_1_1_n_n none agg y (constant S1024x320 .f32 0x00000000#32)

/-- All zeros. -/
def zeros : FVec F S256x128 .f32 := broadcast S256x128 (Scalar.ofBits .f32 0x00000000#32)

/-! ## The offsets -/

theorem row_inb (k : Nat) (hk : k < 12) : ∀ a, (![128 * k] : Fin 1 → Nat) a + S128.size a ≤ S1537.size a := by
  intro a; fin_cases a; show 128 * k + 128 ≤ 1537; omega
theorem st_inb (k : Nat) (hk : k < 12) : ∀ a, (![128 * k, 0] : Fin 2 → Nat) a + S128x128.size a ≤ S1544x128.size a := by
  intro a; fin_cases a
  · show 128 * k + 128 ≤ 1544; omega
  · show 0 + 128 ≤ 128; omega
theorem rt_inb (k : Nat) (hk : k < 3) : ∀ a, (![128 * k, 0] : Fin 2 → Nat) a + S128x1024.size a ≤ S384x1024.size a := by
  intro a; fin_cases a
  · show 128 * k + 128 ≤ 384; omega
  · show 0 + 1024 ≤ 1024; omega
theorem acc_inb (i k : Nat) (hi : i < 6) (hk : k < 6) : ∀ a, (![256 * i, 256 * k] : Fin 2 → Nat) a + S256x256.size a ≤ S1536x1536.size a := by
  intro a; fin_cases a
  · show 256 * i + 256 ≤ 1536; omega
  · show 256 * k + 256 ≤ 1536; omega
theorem vec_inb (k : Nat) (hk : k < 6) : ∀ a, (![256 * k] : Fin 1 → Nat) a + S256.size a ≤ S1536.size a := by
  intro a; fin_cases a; show 256 * k + 256 ≤ 1536; omega
theorem code_inb (k : Nat) (hk : k < 6) : ∀ a, (![256 * k, 0] : Fin 2 → Nat) a + S256x128.size a ≤ S1536x128.size a := by
  intro a; fin_cases a
  · show 256 * k + 256 ≤ 1536; omega
  · show 0 + 128 ≤ 128; omega
theorem agg_inb (k : Nat) (hk : k < 6) : ∀ a, (![256 * k, 0] : Fin 2 → Nat) a + S256x1024.size a ≤ S1536x1024.size a := by
  intro a; fin_cases a
  · show 256 * k + 256 ≤ 1536; omega
  · show 0 + 1024 ≤ 1024; omega
theorem dy_inb (k : Nat) (hk : k < 6) : ∀ a, (![256 * k, 0] : Fin 2 → Nat) a + S256x320.size a ≤ S1536x320.size a := by
  intro a; fin_cases a
  · show 256 * k + 256 ≤ 1536; omega
  · show 0 + 320 ≤ 320; omega

/-! ## The memory operations -/

variable (arg0 : Memref sig .tc .smem S1537 .i32) (harg0 : arg0.IsWhole)
  (arg1 : Memref sig .tc .vmem S1537 .i32) (harg1 : arg1.IsWhole)
  (arg2 : Memref sig .tc .vmem S384x128 .i32) (harg2 : arg2.IsWhole)
  (arg3 : Memref sig .tc .vmem S384x128 .f32) (harg3 : arg3.IsWhole)
  (arg4 : Memref sig .tc .vmem S1536x32 .i8) (harg4 : arg4.IsWhole)
  (arg5 : Memref sig .tc .vmem S1536 .f32) (harg5 : arg5.IsWhole)
  (arg6 : Memref sig .tc .vmem S1536 .f32) (harg6 : arg6.IsWhole)
  (arg7 : Memref sig .tc .vmem S1024x128 .i8) (harg7 : arg7.IsWhole)
  (arg8 : Memref sig .tc .vmem S1536x320 .bf16) (harg8 : arg8.IsWhole)
  (arg9 : Memref sig .tc .vmem S1024x320 .f32) (harg9 : arg9.IsWhole)
  (arg10 : Memref sig .tc .vmem S1536x1024 .bf16) (harg10 : arg10.IsWhole)
  (arg11 : Memref sig .tc .vmem S1536x1536 .f32) (harg11 : arg11.IsWhole)
  (arg12 : Memref sig .tc .vmem S1544x128 .i32) (harg12 : arg12.IsWhole)
  (arg13 : Memref sig .tc .vmem S1536x128 .bf16) (harg13 : arg13.IsWhole)
  (arg14 : Memref sig .tc .vmem S384x1024 .bf16) (harg14 : arg14.IsWhole)

include harg14 in
theorem rt_stores (k : Nat) (hk : k < 3) :
    (arg14.access (Rect.unit (s := S384x1024) ![128 * k, 0] S128x1024.size (rt_inb k hk))).Stores Finset.univ := by
  match k, hk with
  | 0, _ => exact View.stores_vmem h_S128x1024 (harg14.storeExact_slice rfl _ packedbf16_S384x1024_S128x1024_0_0) (fun _ => rfl)
  | 1, _ => exact View.stores_vmem h_S128x1024 (harg14.storeExact_slice rfl _ packedbf16_S384x1024_S128x1024_128_0) (fun _ => rfl)
  | 2, _ => exact View.stores_vmem h_S128x1024 (harg14.storeExact_slice rfl _ packedbf16_S384x1024_S128x1024_256_0) (fun _ => rfl)

include harg10 in
theorem agg_stores (k : Nat) (hk : k < 6) :
    (arg10.access (Rect.unit (s := S1536x1024) ![256 * k, 0] S256x1024.size (agg_inb k hk))).Stores Finset.univ := by
  match k, hk with
  | 0, _ => exact View.stores_vmem h_S256x1024 (harg10.storeExact_slice rfl _ packedbf16_S1536x1024_S256x1024_0_0) (fun _ => rfl)
  | 1, _ => exact View.stores_vmem h_S256x1024 (harg10.storeExact_slice rfl _ packedbf16_S1536x1024_S256x1024_256_0) (fun _ => rfl)
  | 2, _ => exact View.stores_vmem h_S256x1024 (harg10.storeExact_slice rfl _ packedbf16_S1536x1024_S256x1024_512_0) (fun _ => rfl)
  | 3, _ => exact View.stores_vmem h_S256x1024 (harg10.storeExact_slice rfl _ packedbf16_S1536x1024_S256x1024_768_0) (fun _ => rfl)
  | 4, _ => exact View.stores_vmem h_S256x1024 (harg10.storeExact_slice rfl _ packedbf16_S1536x1024_S256x1024_1024_0) (fun _ => rfl)
  | 5, _ => exact View.stores_vmem h_S256x1024 (harg10.storeExact_slice rfl _ packedbf16_S1536x1024_S256x1024_1280_0) (fun _ => rfl)

/-- 128 rows of the starts. -/
def startRows (k : Nat) (hk : k < 12) : Prog (TpuEff nD τ sig (Elt F) (Λ₀ F) .tc) PUnit := do
  let w : Vec F S128 .i32 ← Prog.lift (.load arg1 (Rect.unit (s := S1537) ![128 * k] S128.size (row_inb k hk)).toLoadRect (View.loadsAt_vmem h_S128))
  let _o : Vec F S128x128 .i32 ← Prog.lift (.load arg12 (Rect.unit (s := S1544x128) ![128 * k, 0] S128x128.size (st_inb k hk)).toLoadRect (View.loadsAt_vmem h_S128x128))
  Prog.lift (.store arg12 (Rect.unit (s := S1544x128) ![128 * k, 0] S128x128.size (st_inb k hk)) (spread w) Finset.univ (View.stores_vmem_bits_univ h_S128x128 rfl) (.inl rfl))

/-- The last eight rows of the starts. -/
def startLast : Prog (TpuEff nD τ sig (Elt F) (Λ₀ F) .tc) PUnit := do
  let w : Elt F .i32 ← smemLoad arg0 (Rect.unit (s := S1537) ![1536] S1.size inb_S1537_S1_1536) numel1_S1 rfl
  let _o : Vec F S8x128 .i32 ← Prog.lift (.load arg12 (Rect.unit (s := S1544x128) ![1536, 0] S8x128.size inb_S1544x128_S8x128_1536_0).toLoadRect (View.loadsAt_vmem h_S8x128))
  Prog.lift (.store arg12 (Rect.unit (s := S1544x128) ![1536, 0] S8x128.size inb_S1544x128_S8x128_1536_0) (lastStart (F := F) w) Finset.univ (View.stores_vmem_bits_univ h_S8x128 rfl) (.inl rfl))

/-- The starts. -/
def starts : Prog (TpuEff nD τ sig (Elt F) (Λ₀ F) .tc) PUnit := do
  startRows arg1 arg12 0 (by decide)
  startRows arg1 arg12 1 (by decide)
  startRows arg1 arg12 2 (by decide)
  startRows arg1 arg12 3 (by decide)
  startRows arg1 arg12 4 (by decide)
  startRows arg1 arg12 5 (by decide)
  startRows arg1 arg12 6 (by decide)
  startRows arg1 arg12 7 (by decide)
  startRows arg1 arg12 8 (by decide)
  startRows arg1 arg12 9 (by decide)
  startRows arg1 arg12 10 (by decide)
  startRows arg1 arg12 11 (by decide)
  startLast arg0 arg12

/-- The codes. -/
def codesP : Prog (TpuEff nD τ sig (Elt F) (Λ₀ F) .tc) PUnit := do
  let z : Vec F S1536x32 .i8 ← Prog.lift (.load arg4 (Rect.unit (s := S1536x32) ![0, 0] S1536x32.size inb_S1536x32_S1536x32_0_0).toLoadRect (View.loadsAt_vmem h_S1536x32))
  let _o : Vec F S1536x128 .bf16 ← Prog.lift (.load arg13 (Rect.unit (s := S1536x128) ![0, 0] S1536x128.size inb_S1536x128_S1536x128_0_0).toLoadRect (View.loadsAt_vmem h_S1536x128))
  Prog.lift (.store arg13 (Rect.unit (s := S1536x128) ![0, 0] S1536x128.size inb_S1536x128_S1536x128_0_0) (codes z) Finset.univ (View.stores_vmem h_S1536x128 (harg13.storeExact_slice rfl _ packedbf16_S1536x128_S1536x128_0_0) (fun _ => rfl)) (.inl rfl))

/-- A third of the transposed projection's buffer. -/
def rtRows (rt : FVec F S128x1024 .bf16) (k : Nat) (hk : k < 3) : Prog (TpuEff nD τ sig (Elt F) (Λ₀ F) .tc) PUnit := do
  let _o : Vec F S128x1024 .bf16 ← Prog.lift (.load arg14 (Rect.unit (s := S384x1024) ![128 * k, 0] S128x1024.size (rt_inb k hk)).toLoadRect (View.loadsAt_vmem h_S128x1024))
  Prog.lift (.store arg14 (Rect.unit (s := S384x1024) ![128 * k, 0] S128x1024.size (rt_inb k hk)) rt Finset.univ (rt_stores arg14 harg14 k hk) (.inl rfl))

/-- The transposed projection, three times. -/
def rtP : Prog (TpuEff nD τ sig (Elt F) (Λ₀ F) .tc) PUnit := do
  let r : Vec F S1024x128 .i8 ← Prog.lift (.load arg7 (Rect.unit (s := S1024x128) ![0, 0] S1024x128.size inb_S1024x128_S1024x128_0_0).toLoadRect (View.loadsAt_vmem h_S1024x128))
  rtRows arg14 harg14 (rtOf r) 0 (by decide)
  rtRows arg14 harg14 (rtOf r) 1 (by decide)
  rtRows arg14 harg14 (rtOf r) 2 (by decide)

/-- One column block of a row block: both running sums. -/
def colStep (i k : Nat) (hi : i < 6) (hk : k < 6) (s : FVec F S256x128 .f32 × FVec F S256x128 .f32) :
    Prog (TpuEff nD τ sig (Elt F) (Λ₀ F) .tc) (FVec F S256x128 .f32 × FVec F S256x128 .f32) := do
  let a : Vec F S256x256 .f32 ← Prog.lift (.load arg11 (Rect.unit (s := S1536x1536) ![256 * i, 256 * k] S256x256.size (acc_inb i k hi hk)).toLoadRect (View.loadsAt_vmem h_S256x256))
  let sc : Vec F S256 .f32 ← Prog.lift (.load arg5 (Rect.unit (s := S1536) ![256 * k] S256.size (vec_inb k hk)).toLoadRect (View.loadsAt_vmem h_S256))
  let mn : Vec F S256 .f32 ← Prog.lift (.load arg6 (Rect.unit (s := S1536) ![256 * k] S256.size (vec_inb k hk)).toLoadRect (View.loadsAt_vmem h_S256))
  let c : Vec F S256x128 .bf16 ← Prog.lift (.load arg13 (Rect.unit (s := S1536x128) ![256 * k, 0] S256x128.size (code_inb k hk)).toLoadRect (View.loadsAt_vmem h_S256x128))
  pure (xStep s.1 a sc c, mtStep s.2 a mn)

/-- A row block of the aggregate, stored. -/
def rowAgg (i : Nat) (hi : i < 6) : Prog (TpuEff nD τ sig (Elt F) (Λ₀ F) .tc) (FVec F S256x1024 .bf16) := do
  let s0 ← colStep arg5 arg6 arg11 arg13 i 0 hi (by decide) (zeros, zeros)
  let s1 ← colStep arg5 arg6 arg11 arg13 i 1 hi (by decide) s0
  let s2 ← colStep arg5 arg6 arg11 arg13 i 2 hi (by decide) s1
  let s3 ← colStep arg5 arg6 arg11 arg13 i 3 hi (by decide) s2
  let s4 ← colStep arg5 arg6 arg11 arg13 i 4 hi (by decide) s3
  let s5 ← colStep arg5 arg6 arg11 arg13 i 5 hi (by decide) s4
  let rt : Vec F S384x1024 .bf16 ← Prog.lift (.load arg14 (Rect.unit (s := S384x1024) ![0, 0] S384x1024.size inb_S384x1024_S384x1024_0_0).toLoadRect (View.loadsAt_vmem h_S384x1024))
  let _o : Vec F S256x1024 .bf16 ← Prog.lift (.load arg10 (Rect.unit (s := S1536x1024) ![256 * i, 0] S256x1024.size (agg_inb i hi)).toLoadRect (View.loadsAt_vmem h_S256x1024))
  Prog.lift (.store arg10 (Rect.unit (s := S1536x1024) ![256 * i, 0] S256x1024.size (agg_inb i hi)) (aggOf s5.1 s5.2 rt) Finset.univ (agg_stores arg10 harg10 i hi) (.inl rfl))
  pure (aggOf s5.1 s5.2 rt)

/-- What a row block adds to the weight gradient, from the cotangent's rows. -/
def rowDw (i : Nat) (hi : i < 6) : Prog (TpuEff nD τ sig (Elt F) (Λ₀ F) .tc) (FVec F S1024x320 .f32) := do
  let agg ← rowAgg arg5 arg6 arg10 harg10 arg11 arg13 arg14 i hi
  let y : Vec F S256x320 .bf16 ← Prog.lift (.load arg8 (Rect.unit (s := S1536x320) ![256 * i, 0] S256x320.size (dy_inb i hi)).toLoadRect (View.loadsAt_vmem h_S256x320))
  pure (dwOf agg y)

/-- The first row block. -/
def rowFirst : Prog (TpuEff nD τ sig (Elt F) (Λ₀ F) .tc) PUnit := do
  let d ← rowDw arg5 arg6 arg8 arg10 harg10 arg11 arg13 arg14 0 (by decide)
  let _o : Vec F S1024x320 .f32 ← Prog.lift (.load arg9 (Rect.unit (s := S1024x320) ![0, 0] S1024x320.size inb_S1024x320_S1024x320_0_0).toLoadRect (View.loadsAt_vmem h_S1024x320))
  Prog.lift (.store arg9 (Rect.unit (s := S1024x320) ![0, 0] S1024x320.size inb_S1024x320_S1024x320_0_0) d Finset.univ (View.stores_vmem_bits_univ h_S1024x320 rfl) (.inl rfl))

/-- A later row block. -/
def rowLater (i : Nat) (hi : i < 6) : Prog (TpuEff nD τ sig (Elt F) (Λ₀ F) .tc) PUnit := do
  let d ← rowDw arg5 arg6 arg8 arg10 harg10 arg11 arg13 arg14 i hi
  let o : Vec F S1024x320 .f32 ← Prog.lift (.load arg9 (Rect.unit (s := S1024x320) ![0, 0] S1024x320.size inb_S1024x320_S1024x320_0_0).toLoadRect (View.loadsAt_vmem h_S1024x320))
  let _o : Vec F S1024x320 .f32 ← Prog.lift (.load arg9 (Rect.unit (s := S1024x320) ![0, 0] S1024x320.size inb_S1024x320_S1024x320_0_0).toLoadRect (View.loadsAt_vmem h_S1024x320))
  Prog.lift (.store arg9 (Rect.unit (s := S1024x320) ![0, 0] S1024x320.size inb_S1024x320_S1024x320_0_0) (addf (shapeCast S1024x320 o shapeCasts_S1024x320_S1024x320 : FVec F S1024x320 .f32) d) Finset.univ (View.stores_vmem_bits_univ h_S1024x320 rfl) (.inl rfl))

/-- The body, by stages. -/
def body : Prog (TpuEff nD τ sig (Elt F) (Λ₀ F) .tc) PUnit := do
  starts arg0 arg1 arg12
  codesP arg4 arg13 harg13
  rtP arg7 arg14 harg14
  let w : Elt F .i32 ← smemLoad arg0 (Rect.unit (s := S1537) ![0] S1.size inb_S1537_S1_0) numel1_S1 rfl
  let _s : BitVec 32 × BitVec 32 ← Prog.lift (.call (1 : (Λ₀ F).Label) ⟨arg0, harg0, arg12, harg12, arg2, harg2, arg3, harg3, iotaLo, oneC, zeroC, laneNo, arg11, harg11, 0#32, fdiv w⟩)
  rowFirst arg5 arg6 arg8 arg9 arg10 harg10 arg11 arg13 arg14
  rowLater arg5 arg6 arg8 arg9 arg10 harg10 arg11 arg13 arg14 1 (by decide)
  rowLater arg5 arg6 arg8 arg9 arg10 harg10 arg11 arg13 arg14 2 (by decide)
  rowLater arg5 arg6 arg8 arg9 arg10 harg10 arg11 arg13 arg14 3 (by decide)
  rowLater arg5 arg6 arg8 arg9 arg10 harg10 arg11 arg13 arg14 4 (by decide)
  rowLater arg5 arg6 arg8 arg9 arg10 harg10 arg11 arg13 arg14 5 (by decide)

end Cert.KernelIdeal.Visit
-- ==== Proof.BodyEq.lean ====
/-
  The kernel's body is its stages in a row.
-/
module

public import proofs.«01_k».proof.Proof.Body

@[expose] public section

set_option maxRecDepth 16384

noncomputable section

namespace Cert.KernelIdeal.Visit

open Idealize.ShloMosaic Idealize.SL.Sem
open Cert.KernelIdeal Cert.KernelIdeal.Gen

variable {F : FTy → Type} [FloatOps F]

set_option maxHeartbeats 2000000 in
/-- The kernel's body is its stages in a row. -/
theorem body_eq (arg0 : Memref sig .tc .smem S1537 .i32) (harg0 : arg0.IsWhole)
    (arg1 : Memref sig .tc .vmem S1537 .i32) (harg1 : arg1.IsWhole)
    (arg2 : Memref sig .tc .vmem S384x128 .i32) (harg2 : arg2.IsWhole)
    (arg3 : Memref sig .tc .vmem S384x128 .f32) (harg3 : arg3.IsWhole)
    (arg4 : Memref sig .tc .vmem S1536x32 .i8) (harg4 : arg4.IsWhole)
    (arg5 : Memref sig .tc .vmem S1536 .f32) (harg5 : arg5.IsWhole)
    (arg6 : Memref sig .tc .vmem S1536 .f32) (harg6 : arg6.IsWhole)
    (arg7 : Memref sig .tc .vmem S1024x128 .i8) (harg7 : arg7.IsWhole)
    (arg8 : Memref sig .tc .vmem S1536x320 .bf16) (harg8 : arg8.IsWhole)
    (arg9 : Memref sig .tc .vmem S1024x320 .f32) (harg9 : arg9.IsWhole)
    (arg10 : Memref sig .tc .vmem S1536x1024 .bf16) (harg10 : arg10.IsWhole)
    (arg11 : Memref sig .tc .vmem S1536x1536 .f32) (harg11 : arg11.IsWhole)
    (arg12 : Memref sig .tc .vmem S1544x128 .i32) (harg12 : arg12.IsWhole)
    (arg13 : Memref sig .tc .vmem S1536x128 .bf16) (harg13 : arg13.IsWhole)
    (arg14 : Memref sig .tc .vmem S384x1024 .bf16) (harg14 : arg14.IsWhole) :
    cc0_gcn_wgrad (F := F) arg0 harg0 arg1 harg1 arg2 harg2 arg3 harg3 arg4 harg4 arg5 harg5 arg6 harg6
        arg7 harg7 arg8 harg8 arg9 harg9 arg10 harg10 arg11 harg11 arg12 harg12 arg13 harg13 arg14 harg14
      = body arg0 harg0 arg1 arg2 harg2 arg3 harg3 arg4 arg5 arg6 arg7 arg8 arg9 arg10 harg10
        arg11 harg11 arg12 harg12 arg13 harg13 arg14 harg14 := rfl

end Cert.KernelIdeal.Visit
-- ==== Proof.Stages.lean ====
/-
  The kernel's body over the buffers it holds: what each stage leaves in them, as functions of contents,
  and the body's triple from any invariant of its loop.
-/
module

public import proofs.«01_k».proof.Proof.Loop
public import proofs.«01_k».proof.Proof.Body
public import proofs.«01_k».proof.Proof.BodyEq

@[expose] public section

set_option maxRecDepth 16384

noncomputable section

namespace Cert.KernelIdeal.Visit

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A buffer's contents; a buffer of the core held whole at its contents. -/
abbrev C (b : Ref sig .tc) (F : FTy → Type) := b.ty.Contents (Elt F)
abbrev pt (c : Dev nD) (b : Ref sig .tc) (f : C b F) : sProp 𝕄 := iprop(((c : Thread nD τ).loc b) ↦{fullShare} f)

/-! ## What the stages leave -/

/-- 128 rows of the starts. -/
def startRowA (f1 : C cc0_stg1_0 F) (fs : CSt F) (k : Nat) (hk : k < 12) : CSt F :=
  ((Memref.whole cc0_scratch1).access (Rect.unit (s := S1544x128) ![128 * k, 0] S128x128.size (st_inb k hk)) : View sig .tc _ _ _).write (Elt F) fs
    (spread ((Memref.whole cc0_stg1_0).view.readAt (Elt F) (Rect.unit (s := S1537) ![128 * k] S128.size (row_inb k hk)).toLoadRect f1)) Finset.univ

/-- The last eight rows of the starts. -/
def startLastA (f0 : CPtr F) (fs : CSt F) : CSt F :=
  ((Memref.whole cc0_scratch1).access (Rect.unit (s := S1544x128) ![1536, 0] S8x128.size inb_S1544x128_S8x128_1536_0) : View sig .tc _ _ _).write (Elt F) fs
    (lastStart (F := F) (wordAt f0 ![1536] inb_S1537_S1_1536)) Finset.univ

/-- The starts. -/
def startsA (f0 : CPtr F) (f1 : C cc0_stg1_0 F) (fs : CSt F) : CSt F :=
  startLastA f0
    (startRowA f1 (startRowA f1 (startRowA f1 (startRowA f1 (startRowA f1 (startRowA f1
      (startRowA f1 (startRowA f1 (startRowA f1 (startRowA f1 (startRowA f1 (startRowA f1 fs
        0 (by decide)) 1 (by decide)) 2 (by decide)) 3 (by decide)) 4 (by decide)) 5 (by decide))
        6 (by decide)) 7 (by decide)) 8 (by decide)) 9 (by decide)) 10 (by decide)) 11 (by decide))

/-- The codes. -/
def codesA (fz : C cc0_stg4_0 F) (fc : C cc0_scratch2 F) : C cc0_scratch2 F :=
  ((Memref.whole cc0_scratch2).access (Rect.unit (s := S1536x128) ![0, 0] S1536x128.size inb_S1536x128_S1536x128_0_0) : View sig .tc _ _ _).write (Elt F) fc
    (codes ((Memref.whole cc0_stg4_0).view.readAt (Elt F) (Rect.unit (s := S1536x32) ![0, 0] S1536x32.size inb_S1536x32_S1536x32_0_0).toLoadRect fz)) Finset.univ

/-- A third of the transposed projection's buffer; all of it. -/
def rtRowA (rt : FVec F S128x1024 .bf16) (ft : C cc0_scratch3 F) (k : Nat) (hk : k < 3) : C cc0_scratch3 F :=
  ((Memref.whole cc0_scratch3).access (Rect.unit (s := S384x1024) ![128 * k, 0] S128x1024.size (rt_inb k hk)) : View sig .tc _ _ _).write (Elt F) ft rt Finset.univ

def rtVec (fr : C cc0_stg7_0 F) : FVec F S128x1024 .bf16 :=
  rtOf ((Memref.whole cc0_stg7_0).view.readAt (Elt F) (Rect.unit (s := S1024x128) ![0, 0] S1024x128.size inb_S1024x128_S1024x128_0_0).toLoadRect fr)

def rtA (fr : C cc0_stg7_0 F) (ft : C cc0_scratch3 F) : C cc0_scratch3 F :=
  rtRowA (rtVec fr) (rtRowA (rtVec fr) (rtRowA (rtVec fr) ft 0 (by decide)) 1 (by decide)) 2 (by decide)

/-- One column block of a row block: both running sums. -/
def colA (fsc : C cc0_stg5_0 F) (fmn : C cc0_stg6_0 F) (fa : CAcc F) (fc : C cc0_scratch2 F) (i k : Nat) (hi : i < 6) (hk : k < 6)
    (s : FVec F S256x128 .f32 × FVec F S256x128 .f32) : FVec F S256x128 .f32 × FVec F S256x128 .f32 :=
  (xStep s.1 ((Memref.whole cc0_scratch0).view.readAt (Elt F) (Rect.unit (s := S1536x1536) ![256 * i, 256 * k] S256x256.size (acc_inb i k hi hk)).toLoadRect fa)
      ((Memref.whole cc0_stg5_0).view.readAt (Elt F) (Rect.unit (s := S1536) ![256 * k] S256.size (vec_inb k hk)).toLoadRect fsc)
      ((Memref.whole cc0_scratch2).view.readAt (Elt F) (Rect.unit (s := S1536x128) ![256 * k, 0] S256x128.size (code_inb k hk)).toLoadRect fc),
    mtStep s.2 ((Memref.whole cc0_scratch0).view.readAt (Elt F) (Rect.unit (s := S1536x1536) ![256 * i, 256 * k] S256x256.size (acc_inb i k hi hk)).toLoadRect fa)
      ((Memref.whole cc0_stg6_0).view.readAt (Elt F) (Rect.unit (s := S1536) ![256 * k] S256.size (vec_inb k hk)).toLoadRect fmn))

/-- A row block of the aggregate. -/
def sumsA (fsc : C cc0_stg5_0 F) (fmn : C cc0_stg6_0 F) (fa : CAcc F) (fc : C cc0_scratch2 F) (i : Nat) (hi : i < 6) :
    FVec F S256x128 .f32 × FVec F S256x128 .f32 :=
  colA fsc fmn fa fc i 5 hi (by decide) (colA fsc fmn fa fc i 4 hi (by decide) (colA fsc fmn fa fc i 3 hi (by decide)
    (colA fsc fmn fa fc i 2 hi (by decide) (colA fsc fmn fa fc i 1 hi (by decide) (colA fsc fmn fa fc i 0 hi (by decide) (zeros, zeros))))))

def aggA (fsc : C cc0_stg5_0 F) (fmn : C cc0_stg6_0 F) (fa : CAcc F) (fc : C cc0_scratch2 F) (ft : C cc0_scratch3 F) (i : Nat) (hi : i < 6) :
    FVec F S256x1024 .bf16 :=
  aggOf (sumsA fsc fmn fa fc i hi).1 (sumsA fsc fmn fa fc i hi).2
    ((Memref.whole cc0_scratch3).view.readAt (Elt F) (Rect.unit (s := S384x1024) ![0, 0] S384x1024.size inb_S384x1024_S384x1024_0_0).toLoadRect ft)

/-- The aggregate's buffer after a row block's store. -/
def aggSt (g : FVec F S256x1024 .bf16) (fo : C cc0_stg10_0 F) (i : Nat) (hi : i < 6) : C cc0_stg10_0 F :=
  ((Memref.whole cc0_stg10_0).access (Rect.unit (s := S1536x1024) ![256 * i, 0] S256x1024.size (agg_inb i hi)) : View sig .tc _ _ _).write (Elt F) fo g Finset.univ

/-- What a row block adds to the weight gradient. -/
def dwA (fy : C cc0_stg8_0 F) (g : FVec F S256x1024 .bf16) (i : Nat) (hi : i < 6) : FVec F S1024x320 .f32 :=
  dwOf g ((Memref.whole cc0_stg8_0).view.readAt (Elt F) (Rect.unit (s := S1536x320) ![256 * i, 0] S256x320.size (dy_inb i hi)).toLoadRect fy)

/-- The weight gradient's buffer read, and stored, whole. -/
def dwLd (fw : C cc0_stg9_0 F) : Vec F S1024x320 .f32 :=
  (Memref.whole cc0_stg9_0).view.readAt (Elt F) (Rect.unit (s := S1024x320) ![0, 0] S1024x320.size inb_S1024x320_S1024x320_0_0).toLoadRect fw
def dwSt (d : FVec F S1024x320 .f32) (fw : C cc0_stg9_0 F) : C cc0_stg9_0 F :=
  ((Memref.whole cc0_stg9_0).access (Rect.unit (s := S1024x320) ![0, 0] S1024x320.size inb_S1024x320_S1024x320_0_0) : View sig .tc _ _ _).write (Elt F) fw d Finset.univ
def dwAdd (d : FVec F S1024x320 .f32) (fw : C cc0_stg9_0 F) : C cc0_stg9_0 F :=
  dwSt (addf (shapeCast S1024x320 (dwLd fw) shapeCasts_S1024x320_S1024x320 : FVec F S1024x320 .f32) d) fw

/-! ## The stages' triples -/

section Stages

variable (c : Dev nD) (bd : Option ℕ) (E : Set ℕ)

theorem wp_startRows (f1 : C cc0_stg1_0 F) (fs : CSt F) (k : Nat) (hk : k < 12) (K : PUnit → sProp 𝕄) :
    iprop(pt c cc0_stg1_0 f1 ∗ pt c cc0_scratch1 fs
        ∗ (pt c cc0_stg1_0 f1 -∗ pt c cc0_scratch1 (startRowA f1 fs k hk) -∗ K ⟨⟩))
      ⊢ wp frame (wpE (defs₀ (F := F)) 𝒱₀ (c : Thread nD τ) bd) E (startRows (Memref.whole cc0_stg1_0) (Memref.whole cc0_scratch1) k hk) K := by
  unfold startRows
  simp only [Prog.lift, Prog.bind_op, Prog.bind_ret, Prog.pure_eq_ret]
  iintro ⟨H1, Hs, Hk⟩
  iapply (wp_load 𝒱₀ (c : Thread nD τ) bd E (m := Memref.whole cc0_stg1_0) (Finset.subset_univ _)) $$ H1; iintro H1
  iapply (wp_load 𝒱₀ (c : Thread nD τ) bd E (m := Memref.whole cc0_scratch1) (Finset.subset_univ _)) $$ Hs; iintro Hs
  iapply (wp_store 𝒱₀ (c : Thread nD τ) bd E (m := Memref.whole cc0_scratch1)
    (r := Rect.unit (s := S1544x128) ![128 * k, 0] S128x128.size (st_inb k hk)) (Mk := Finset.univ) (Finset.subset_univ _)) $$ Hs; iintro Hs
  rw [wp_ret]; imodintro
  iapply Hk $$ [H1] [Hs]
  · iexact H1
  · iexact Hs

theorem wp_startLast (f0 : CPtr F) (fs : CSt F) (K : PUnit → sProp 𝕄) :
    iprop(pt c cc0_stg0_0 f0 ∗ pt c cc0_scratch1 fs
        ∗ (pt c cc0_stg0_0 f0 -∗ pt c cc0_scratch1 (startLastA f0 fs) -∗ K ⟨⟩))
      ⊢ wp frame (wpE (defs₀ (F := F)) 𝒱₀ (c : Thread nD τ) bd) E (startLast (Memref.whole cc0_stg0_0) (Memref.whole cc0_scratch1)) K := by
  unfold startLast
  rw [wp_bind]
  iintro ⟨H0, Hs, Hk⟩
  iapply (wp_word c bd E f0 ![1536] inb_S1537_S1_1536)
  isplitl [H0]; · iexact H0
  iintro H0
  simp only [Prog.lift, Prog.bind_op, Prog.bind_ret, Prog.pure_eq_ret]
  iapply (wp_load 𝒱₀ (c : Thread nD τ) bd E (m := Memref.whole cc0_scratch1) (Finset.subset_univ _)) $$ Hs; iintro Hs
  iapply (wp_store 𝒱₀ (c : Thread nD τ) bd E (m := Memref.whole cc0_scratch1)
    (r := Rect.unit (s := S1544x128) ![1536, 0] S8x128.size inb_S1544x128_S8x128_1536_0) (Mk := Finset.univ) (Finset.subset_univ _)) $$ Hs; iintro Hs
  rw [wp_ret]; imodintro
  iapply Hk $$ [H0] [Hs]
  · iexact H0
  · iexact Hs

theorem wp_starts (f0 : CPtr F) (f1 : C cc0_stg1_0 F) (fs : CSt F) (K : PUnit → sProp 𝕄) :
    iprop(pt c cc0_stg0_0 f0 ∗ pt c cc0_stg1_0 f1 ∗ pt c cc0_scratch1 fs
        ∗ (pt c cc0_stg0_0 f0 -∗ pt c cc0_stg1_0 f1 -∗ pt c cc0_scratch1 (startsA f0 f1 fs) -∗ K ⟨⟩))
      ⊢ wp frame (wpE (defs₀ (F := F)) 𝒱₀ (c : Thread nD τ) bd) E
        (starts (Memref.whole cc0_stg0_0) (Memref.whole cc0_stg1_0) (Memref.whole cc0_scratch1)) K := by
  unfold starts
  iintro ⟨H0, H1, Hs, Hk⟩
  iterate 12
    rw [wp_bind]
    iapply (wp_startRows c bd E f1)
    isplitl [H1]; · iexact H1
    isplitl [Hs]; · iexact Hs
    iintro H1 Hs
  iapply (wp_startLast c bd E f0)
  isplitl [H0]; · iexact H0
  isplitl [Hs]; · iexact Hs
  iintro H0 Hs
  iapply Hk $$ [H0] [H1] [Hs]
  · iexact H0
  · iexact H1
  · iexact Hs

theorem wp_codesP (fz : C cc0_stg4_0 F) (fc : C cc0_scratch2 F) (K : PUnit → sProp 𝕄) :
    iprop(pt c cc0_stg4_0 fz ∗ pt c cc0_scratch2 fc
        ∗ (pt c cc0_stg4_0 fz -∗ pt c cc0_scratch2 (codesA fz fc) -∗ K ⟨⟩))
      ⊢ wp frame (wpE (defs₀ (F := F)) 𝒱₀ (c : Thread nD τ) bd) E
        (codesP (Memref.whole cc0_stg4_0) (Memref.whole cc0_scratch2) (Memref.isWhole_whole _)) K := by
  unfold codesP
  simp only [Prog.lift, Prog.bind_op, Prog.bind_ret, Prog.pure_eq_ret]
  iintro ⟨H1, Hs, Hk⟩
  iapply (wp_load 𝒱₀ (c : Thread nD τ) bd E (m := Memref.whole cc0_stg4_0) (Finset.subset_univ _)) $$ H1; iintro H1
  iapply (wp_load 𝒱₀ (c : Thread nD τ) bd E (m := Memref.whole cc0_scratch2) (Finset.subset_univ _)) $$ Hs; iintro Hs
  iapply (wp_store 𝒱₀ (c : Thread nD τ) bd E (m := Memref.whole cc0_scratch2)
    (r := Rect.unit (s := S1536x128) ![0, 0] S1536x128.size inb_S1536x128_S1536x128_0_0) (Mk := Finset.univ) (Finset.subset_univ _)) $$ Hs; iintro Hs
  rw [wp_ret]; imodintro
  iapply Hk $$ [H1] [Hs]
  · iexact H1
  · iexact Hs

theorem wp_rtRows (rt : FVec F S128x1024 .bf16) (ft : C cc0_scratch3 F) (k : Nat) (hk : k < 3) (K : PUnit → sProp 𝕄) :
    iprop(pt c cc0_scratch3 ft ∗ (pt c cc0_scratch3 (rtRowA rt ft k hk) -∗ K ⟨⟩))
      ⊢ wp frame (wpE (defs₀ (F := F)) 𝒱₀ (c : Thread nD τ) bd) E
        (rtRows (Memref.whole cc0_scratch3) (Memref.isWhole_whole _) rt k hk) K := by
  unfold rtRows
  simp only [Prog.lift, Prog.bind_op, Prog.bind_ret, Prog.pure_eq_ret]
  iintro ⟨Hs, Hk⟩
  iapply (wp_load 𝒱₀ (c : Thread nD τ) bd E (m := Memref.whole cc0_scratch3) (Finset.subset_univ _)) $$ Hs; iintro Hs
  iapply (wp_store 𝒱₀ (c : Thread nD τ) bd E (m := Memref.whole cc0_scratch3)
    (r := Rect.unit (s := S384x1024) ![128 * k, 0] S128x1024.size (rt_inb k hk)) (Mk := Finset.univ) (Finset.subset_univ _)) $$ Hs; iintro Hs
  rw [wp_ret]; imodintro
  iapply Hk $$ [Hs]
  · iexact Hs

theorem wp_rtP (fr : C cc0_stg7_0 F) (ft : C cc0_scratch3 F) (K : PUnit → sProp 𝕄) :
    iprop(pt c cc0_stg7_0 fr ∗ pt c cc0_scratch3 ft
        ∗ (pt c cc0_stg7_0 fr -∗ pt c cc0_scratch3 (rtA fr ft) -∗ K ⟨⟩))
      ⊢ wp frame (wpE (defs₀ (F := F)) 𝒱₀ (c : Thread nD τ) bd) E
        (rtP (Memref.whole cc0_stg7_0) (Memref.whole cc0_scratch3) (Memref.isWhole_whole _)) K := by
  unfold rtP
  simp only [Prog.lift, Prog.bind_op, Prog.bind_ret]
  iintro ⟨H1, Hs, Hk⟩
  iapply (wp_load 𝒱₀ (c : Thread nD τ) bd E (m := Memref.whole cc0_stg7_0) (Finset.subset_univ _)) $$ H1; iintro H1
  iterate 2
    rw [wp_bind]
    iapply (wp_rtRows c bd E)
    isplitl [Hs]; · iexact Hs
    iintro Hs
  iapply (wp_rtRows c bd E)
  isplitl [Hs]; · iexact Hs
  iintro Hs
  iapply Hk $$ [H1] [Hs]
  · iexact H1
  · iexact Hs

variable (fsc : C cc0_stg5_0 F) (fmn : C cc0_stg6_0 F) (fy : C cc0_stg8_0 F) (fa : CAcc F) (fc : C cc0_scratch2 F) (ft : C cc0_scratch3 F)

/-- The buffers a row block's computation reads. -/
def rowHeld : sProp 𝕄 :=
  iprop(pt c cc0_stg5_0 fsc ∗ pt c cc0_stg6_0 fmn ∗ pt c cc0_stg8_0 fy ∗ pt c cc0_scratch0 fa ∗ pt c cc0_scratch2 fc ∗ pt c cc0_scratch3 ft)

theorem wp_colStep (i k : Nat) (hi : i < 6) (hk : k < 6) (s : FVec F S256x128 .f32 × FVec F S256x128 .f32)
    (K : FVec F S256x128 .f32 × FVec F S256x128 .f32 → sProp 𝕄) :
    iprop(rowHeld c fsc fmn fy fa fc ft ∗ (rowHeld c fsc fmn fy fa fc ft -∗ K (colA fsc fmn fa fc i k hi hk s)))
      ⊢ wp frame (wpE (defs₀ (F := F)) 𝒱₀ (c : Thread nD τ) bd) E
        (colStep (Memref.whole cc0_stg5_0) (Memref.whole cc0_stg6_0) (Memref.whole cc0_scratch0) (Memref.whole cc0_scratch2) i k hi hk s) K := by
  unfold colStep rowHeld colA
  simp only [Prog.lift, Prog.bind_op, Prog.bind_ret, Prog.pure_eq_ret]
  iintro ⟨⟨H5, H6, H8, Ha, Hc, Ht⟩, Hk⟩
  iapply (wp_load 𝒱₀ (c : Thread nD τ) bd E (m := Memref.whole cc0_scratch0) (Finset.subset_univ _)) $$ Ha; iintro Ha
  iapply (wp_load 𝒱₀ (c : Thread nD τ) bd E (m := Memref.whole cc0_stg5_0) (Finset.subset_univ _)) $$ H5; iintro H5
  iapply (wp_load 𝒱₀ (c : Thread nD τ) bd E (m := Memref.whole cc0_stg6_0) (Finset.subset_univ _)) $$ H6; iintro H6
  iapply (wp_load 𝒱₀ (c : Thread nD τ) bd E (m := Memref.whole cc0_scratch2) (Finset.subset_univ _)) $$ Hc; iintro Hc
  rw [wp_ret]; imodintro
  iapply Hk
  isplitl [H5]; · iexact H5
  isplitl [H6]; · iexact H6
  isplitl [H8]; · iexact H8
  isplitl [Ha]; · iexact Ha
  isplitl [Hc]; · iexact Hc
  iexact Ht

theorem wp_rowAgg (fo : C cc0_stg10_0 F) (i : Nat) (hi : i < 6) (K : FVec F S256x1024 .bf16 → sProp 𝕄) :
    iprop(rowHeld c fsc fmn fy fa fc ft ∗ pt c cc0_stg10_0 fo
        ∗ (rowHeld c fsc fmn fy fa fc ft -∗ pt c cc0_stg10_0 (aggSt (aggA fsc fmn fa fc ft i hi) fo i hi) -∗ K (aggA fsc fmn fa fc ft i hi)))
      ⊢ wp frame (wpE (defs₀ (F := F)) 𝒱₀ (c : Thread nD τ) bd) E
        (rowAgg (Memref.whole cc0_stg5_0) (Memref.whole cc0_stg6_0) (Memref.whole cc0_stg10_0) (Memref.isWhole_whole _)
          (Memref.whole cc0_scratch0) (Memref.whole cc0_scratch2) (Memref.whole cc0_scratch3) i hi) K := by
  unfold rowAgg aggA sumsA
  iintro ⟨H, Ho, Hk⟩
  iterate 6
    rw [wp_bind]
    iapply (wp_colStep c bd E fsc fmn fy fa fc ft)
    isplitl [H]; · iexact H
    iintro H
  simp only [Prog.lift, Prog.bind_op, Prog.bind_ret, Prog.pure_eq_ret]
  unfold rowHeld
  icases H with ⟨H5, H6, H8, Ha, Hc, Ht⟩
  iapply (wp_load 𝒱₀ (c : Thread nD τ) bd E (m := Memref.whole cc0_scratch3) (Finset.subset_univ _)) $$ Ht; iintro Ht
  iapply (wp_load 𝒱₀ (c : Thread nD τ) bd E (m := Memref.whole cc0_stg10_0) (Finset.subset_univ _)) $$ Ho; iintro Ho
  iapply (wp_store 𝒱₀ (c : Thread nD τ) bd E (m := Memref.whole cc0_stg10_0)
    (r := Rect.unit (s := S1536x1024) ![256 * i, 0] S256x1024.size (agg_inb i hi)) (Mk := Finset.univ) (Finset.subset_univ _)) $$ Ho; iintro Ho
  rw [wp_ret]; imodintro
  iapply Hk $$ [H5 H6 H8 Ha Hc Ht] [Ho]
  · isplitl [H5]; · iexact H5
    isplitl [H6]; · iexact H6
    isplitl [H8]; · iexact H8
    isplitl [Ha]; · iexact Ha
    isplitl [Hc]; · iexact Hc
    iexact Ht
  · iexact Ho

theorem wp_rowDw (fo : C cc0_stg10_0 F) (i : Nat) (hi : i < 6) (K : FVec F S1024x320 .f32 → sProp 𝕄) :
    iprop(rowHeld c fsc fmn fy fa fc ft ∗ pt c cc0_stg10_0 fo
        ∗ (rowHeld c fsc fmn fy fa fc ft -∗ pt c cc0_stg10_0 (aggSt (aggA fsc fmn fa fc ft i hi) fo i hi)
          -∗ K (dwA fy (aggA fsc fmn fa fc ft i hi) i hi)))
      ⊢ wp frame (wpE (defs₀ (F := F)) 𝒱₀ (c : Thread nD τ) bd) E
        (rowDw (Memref.whole cc0_stg5_0) (Memref.whole cc0_stg6_0) (Memref.whole cc0_stg8_0) (Memref.whole cc0_stg10_0) (Memref.isWhole_whole _)
          (Memref.whole cc0_scratch0) (Memref.whole cc0_scratch2) (Memref.whole cc0_scratch3) i hi) K := by
  unfold rowDw dwA
  rw [wp_bind]
  iintro ⟨H, Ho, Hk⟩
  iapply (wp_rowAgg c bd E fsc fmn fy fa fc ft fo)
  isplitl [H]; · iexact H
  isplitl [Ho]; · iexact Ho
  iintro H Ho
  simp only [Prog.lift, Prog.bind_op, Prog.bind_ret, Prog.pure_eq_ret]
  unfold rowHeld
  icases H with ⟨H5, H6, H8, Ha, Hc, Ht⟩
  iapply (wp_load 𝒱₀ (c : Thread nD τ) bd E (m := Memref.whole cc0_stg8_0) (Finset.subset_univ _)) $$ H8; iintro H8
  rw [wp_ret]; imodintro
  iapply Hk $$ [H5 H6 H8 Ha Hc Ht] [Ho]
  · isplitl [H5]; · iexact H5
    isplitl [H6]; · iexact H6
    isplitl [H8]; · iexact H8
    isplitl [Ha]; · iexact Ha
    isplitl [Hc]; · iexact Hc
    iexact Ht
  · iexact Ho

theorem wp_rowFirst (fo : C cc0_stg10_0 F) (fw : C cc0_stg9_0 F) (K : PUnit → sProp 𝕄) :
    iprop(rowHeld c fsc fmn fy fa fc ft ∗ pt c cc0_stg10_0 fo ∗ pt c cc0_stg9_0 fw
        ∗ (rowHeld c fsc fmn fy fa fc ft -∗ pt c cc0_stg10_0 (aggSt (aggA fsc fmn fa fc ft 0 (by decide)) fo 0 (by decide))
          -∗ pt c cc0_stg9_0 (dwSt (dwA fy (aggA fsc fmn fa fc ft 0 (by decide)) 0 (by decide)) fw) -∗ K ⟨⟩))
      ⊢ wp frame (wpE (defs₀ (F := F)) 𝒱₀ (c : Thread nD τ) bd) E
        (rowFirst (Memref.whole cc0_stg5_0) (Memref.whole cc0_stg6_0) (Memref.whole cc0_stg8_0) (Memref.whole cc0_stg9_0)
          (Memref.whole cc0_stg10_0) (Memref.isWhole_whole _) (Memref.whole cc0_scratch0) (Memref.whole cc0_scratch2) (Memref.whole cc0_scratch3)) K := by
  unfold rowFirst
  rw [wp_bind]
  iintro ⟨H, Ho, Hw, Hk⟩
  iapply (wp_rowDw c bd E fsc fmn fy fa fc ft fo)
  isplitl [H]; · iexact H
  isplitl [Ho]; · iexact Ho
  iintro H Ho
  simp only [Prog.lift, Prog.bind_op, Prog.bind_ret, Prog.pure_eq_ret]
  iapply (wp_load 𝒱₀ (c : Thread nD τ) bd E (m := Memref.whole cc0_stg9_0) (Finset.subset_univ _)) $$ Hw; iintro Hw
  iapply (wp_store 𝒱₀ (c : Thread nD τ) bd E (m := Memref.whole cc0_stg9_0)
    (r := Rect.unit (s := S1024x320) ![0, 0] S1024x320.size inb_S1024x320_S1024x320_0_0) (Mk := Finset.univ) (Finset.subset_univ _)) $$ Hw; iintro Hw
  rw [wp_ret]; imodintro
  iapply Hk $$ [H] [Ho] [Hw]
  · iexact H
  · iexact Ho
  · iexact Hw

theorem wp_rowLater (fo : C cc0_stg10_0 F) (fw : C cc0_stg9_0 F) (i : Nat) (hi : i < 6) (K : PUnit → sProp 𝕄) :
    iprop(rowHeld c fsc fmn fy fa fc ft ∗ pt c cc0_stg10_0 fo ∗ pt c cc0_stg9_0 fw
        ∗ (rowHeld c fsc fmn fy fa fc ft -∗ pt c cc0_stg10_0 (aggSt (aggA fsc fmn fa fc ft i hi) fo i hi)
          -∗ pt c cc0_stg9_0 (dwAdd (dwA fy (aggA fsc fmn fa fc ft i hi) i hi) fw) -∗ K ⟨⟩))
      ⊢ wp frame (wpE (defs₀ (F := F)) 𝒱₀ (c : Thread nD τ) bd) E
        (rowLater (Memref.whole cc0_stg5_0) (Memref.whole cc0_stg6_0) (Memref.whole cc0_stg8_0) (Memref.whole cc0_stg9_0)
          (Memref.whole cc0_stg10_0) (Memref.isWhole_whole _) (Memref.whole cc0_scratch0) (Memref.whole cc0_scratch2) (Memref.whole cc0_scratch3) i hi) K := by
  unfold rowLater
  rw [wp_bind]
  iintro ⟨H, Ho, Hw, Hk⟩
  iapply (wp_rowDw c bd E fsc fmn fy fa fc ft fo)
  isplitl [H]; · iexact H
  isplitl [Ho]; · iexact Ho
  iintro H Ho
  simp only [Prog.lift, Prog.bind_op, Prog.bind_ret, Prog.pure_eq_ret]
  iapply (wp_load 𝒱₀ (c : Thread nD τ) bd E (m := Memref.whole cc0_stg9_0) (Finset.subset_univ _)) $$ Hw; iintro Hw
  iapply (wp_load 𝒱₀ (c : Thread nD τ) bd E (m := Memref.whole cc0_stg9_0) (Finset.subset_univ _)) $$ Hw; iintro Hw
  iapply (wp_store 𝒱₀ (c : Thread nD τ) bd E (m := Memref.whole cc0_stg9_0)
    (r := Rect.unit (s := S1024x320) ![0, 0] S1024x320.size inb_S1024x320_S1024x320_0_0) (Mk := Finset.univ) (Finset.subset_univ _)) $$ Hw; iintro Hw
  rw [wp_ret]; imodintro
  iapply Hk $$ [H] [Ho] [Hw]
  · iexact H
  · iexact Ho
  · iexact Hw

end Stages

/-! ## The body -/

section Whole

variable (fsc : C cc0_stg5_0 F) (fmn : C cc0_stg6_0 F) (fy : C cc0_stg8_0 F) (fa : CAcc F) (fc : C cc0_scratch2 F) (ft : C cc0_scratch3 F)

/-- The aggregate's buffer at the end; the weight gradient's. -/
def aggOut (fo : C cc0_stg10_0 F) : C cc0_stg10_0 F :=
  aggSt (aggA fsc fmn fa fc ft 5 (by decide)) (aggSt (aggA fsc fmn fa fc ft 4 (by decide)) (aggSt (aggA fsc fmn fa fc ft 3 (by decide))
    (aggSt (aggA fsc fmn fa fc ft 2 (by decide)) (aggSt (aggA fsc fmn fa fc ft 1 (by decide)) (aggSt (aggA fsc fmn fa fc ft 0 (by decide)) fo
      0 (by decide)) 1 (by decide)) 2 (by decide)) 3 (by decide)) 4 (by decide)) 5 (by decide)

def dwOut (fw : C cc0_stg9_0 F) : C cc0_stg9_0 F :=
  dwAdd (dwA fy (aggA fsc fmn fa fc ft 5 (by decide)) 5 (by decide)) (dwAdd (dwA fy (aggA fsc fmn fa fc ft 4 (by decide)) 4 (by decide))
    (dwAdd (dwA fy (aggA fsc fmn fa fc ft 3 (by decide)) 3 (by decide)) (dwAdd (dwA fy (aggA fsc fmn fa fc ft 2 (by decide)) 2 (by decide))
      (dwAdd (dwA fy (aggA fsc fmn fa fc ft 1 (by decide)) 1 (by decide)) (dwSt (dwA fy (aggA fsc fmn fa fc ft 0 (by decide)) 0 (by decide)) fw)))))

variable (c : Dev nD) (f0 : CPtr F) (f1 : C cc0_stg1_0 F) (fi : CIdx F) (fv : CVal F) (fz : C cc0_stg4_0 F) (fr : C cc0_stg7_0 F)
  (fw : C cc0_stg9_0 F) (fo : C cc0_stg10_0 F) (fs : CSt F)

/-- The eleven staging buffers and the four scratch buffers, held whole. -/
def allHeld : sProp 𝕄 :=
  iprop(pt c cc0_stg0_0 f0 ∗ pt c cc0_stg1_0 f1 ∗ pt c cc0_stg2_0 fi ∗ pt c cc0_stg3_0 fv ∗ pt c cc0_stg4_0 fz ∗ pt c cc0_stg5_0 fsc
    ∗ pt c cc0_stg6_0 fmn ∗ pt c cc0_stg7_0 fr ∗ pt c cc0_stg8_0 fy ∗ pt c cc0_stg9_0 fw ∗ pt c cc0_stg10_0 fo
    ∗ pt c cc0_scratch0 fa ∗ pt c cc0_scratch1 fs ∗ pt c cc0_scratch2 fc ∗ pt c cc0_scratch3 ft)

/-- The edge row the loop starts at. -/
def q0 : BitVec 32 := fdiv (wordAt f0 ![0] inb_S1537_S1_0)

variable (I : BitVec 32 → BitVec 32 → CAcc F → Prop) (μ : BitVec 32 → BitVec 32 → ℕ)

theorem wp_body (hI : LoopInv (iotaLo (F := F)) oneC zeroC laneNo f0 (startsA f0 f1 fs) fi fv I μ) (h0 : I 0#32 (q0 f0) fa)
    (K : PUnit → sProp 𝕄) :
    iprop(allHeld fsc fmn fy fa fc ft c f0 f1 fi fv fz fr fw fo fs
        ∗ (∀ b : BitVec 32, ∀ q : BitVec 32, ∀ fa' : CAcc F, ⌜I b q fa' ∧ ¬ Scalar.cmpi .slt b 192#32 = 1#1⌝
          -∗ allHeld fsc fmn fy fa' (codesA fz fc) (rtA fr ft) c f0 f1 fi fv fz fr
              (dwOut fsc fmn fy fa' (codesA fz fc) (rtA fr ft) fw) (aggOut fsc fmn fa' (codesA fz fc) (rtA fr ft) fo) (startsA f0 f1 fs)
          -∗ K ⟨⟩))
      ⊢ wp frame (wpE (defs₀ (F := F)) 𝒱₀ (c : Thread nD τ) none) Set.univ
        (cc0_gcn_wgrad (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_stg6_0) (Memref.isWhole_whole _) (Memref.whole cc0_stg7_0) (Memref.isWhole_whole _)
          (Memref.whole cc0_stg8_0) (Memref.isWhole_whole _) (Memref.whole cc0_stg9_0) (Memref.isWhole_whole _)
          (Memref.whole cc0_stg10_0) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _)) K := by
  rw [body_eq]
  unfold body allHeld
  iintro ⟨⟨H0, H1, H2, H3, H4, H5, H6, H7, H8, H9, H10, Ha, Hs, Hc, Ht⟩, Hk⟩
  rw [wp_bind]
  iapply (wp_starts c none Set.univ f0 f1)
  isplitl [H0]; · iexact H0
  isplitl [H1]; · iexact H1
  isplitl [Hs]; · iexact Hs
  iintro H0 H1 Hs
  rw [wp_bind]
  iapply (wp_codesP c none Set.univ fz)
  isplitl [H4]; · iexact H4
  isplitl [Hc]; · iexact Hc
  iintro H4 Hc
  rw [wp_bind]
  iapply (wp_rtP c none Set.univ fr)
  isplitl [H7]; · iexact H7
  isplitl [Ht]; · iexact Ht
  iintro H7 Ht
  rw [wp_bind]
  iapply (wp_word c none Set.univ f0 ![0] inb_S1537_S1_0)
  isplitl [H0]; · iexact H0
  iintro H0
  simp only [Prog.lift, Prog.bind_op, Prog.bind_ret]
  iapply (wp_call_spec 𝒱₀ (c : Thread nD τ) none Set.univ (spec c f0 (startsA f0 f1 fs) fi fv I fa) (μ 0#32 (q0 f0))
    (fun u hu => nomatch hu) (spec_le c Set.univ _ _ _ _ f0 _ fi fv I μ hI _ 0#32 (q0 f0) fa h0 le_rfl))
  rw [spec_apply]
  isplitl [H0 Hs H2 H3 Ha]
  · unfold held
    isplitl [H0]; · iexact H0
    isplitl [Hs]; · iexact Hs
    isplitl [H2]; · iexact H2
    isplitl [H3]; · iexact H3
    iexact Ha
  iintro %r %fa' %hr H
  unfold held
  icases H with ⟨H0, Hs, H2, H3, Ha⟩
  rw [wp_bind]
  iapply (wp_rowFirst c none Set.univ fsc fmn fy fa' (codesA fz fc) (rtA fr ft) fo fw)
  isplitl [H5 H6 H8 Ha Hc Ht]
  · unfold rowHeld
    isplitl [H5]; · iexact H5
    isplitl [H6]; · iexact H6
    isplitl [H8]; · iexact H8
    isplitl [Ha]; · iexact Ha
    isplitl [Hc]; · iexact Hc
    iexact Ht
  isplitl [H10]; · iexact H10
  isplitl [H9]; · iexact H9
  iintro H H10 H9
  iterate 4
    rw [wp_bind]
    iapply (wp_rowLater c none Set.univ fsc fmn fy fa' (codesA fz fc) (rtA fr ft))
    isplitl [H]; · iexact H
    isplitl [H10]; · iexact H10
    isplitl [H9]; · iexact H9
    iintro H H10 H9
  iapply (wp_rowLater c none Set.univ fsc fmn fy fa' (codesA fz fc) (rtA fr ft))
  isplitl [H]; · iexact H
  isplitl [H10]; · iexact H10
  isplitl [H9]; · iexact H9
  iintro H H10 H9
  unfold rowHeld
  icases H with ⟨H5, H6, H8, Ha, Hc, Ht⟩
  iapply Hk
  · ipureintro; exact hr
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Ha]; · iexact Ha
  isplitl [Hs]; · iexact Hs
  isplitl [Hc]; · iexact Hc
  iexact Ht

end Whole

end Cert.KernelIdeal.Visit
-- ==== Proof.Run.lean ====
/-
  The kernel's run from any invariant of its loop: the region fetches the nine inputs whole, the body runs once,
  and the two outputs are written back whole.
-/
module

public import proofs.«01_k».proof.Proof.Stages
public import proofs.«01_k».proof.Proof.Gen.KernelIdeal.Launch
public import proofs.«01_k».proof.Proof.Gen.KernelIdeal.Points
public import Idealize.ShloMosaic.Lib.Pipeline.Frame

@[expose] public section

set_option maxRecDepth 16384

noncomputable section

namespace Cert.KernelIdeal.Visit

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when the region starts: the two reshaped edge arrays are in place. -/
def V (c : Dev nD) (b : Ref sig .tc) : Buf (Elt F) ((c.tc : Thread nD τ).loc b) :=
  StableHlo.after (hostOps0 (F := F)) (fun b => m (c, b)) b

/-- The one grid point. -/
abbrev pt0 : Fin (cfg0 (F := F)).N := t0_0

/-- The inputs as fetched. -/
def ptrW (c : Dev nD) : CPtr F := (win0_0.blk (pt0 (F := F))).view.read (Elt F) (V m c main_arg4)
def ptrV (c : Dev nD) : C cc0_stg1_0 F := (win0_1.blk (pt0 (F := F))).view.read (Elt F) (V m c main_arg4)
def idxW (c : Dev nD) : CIdx F := (win0_2.blk (pt0 (F := F))).view.read (Elt F) (V m c main_v0)
def valW (c : Dev nD) : CVal F := (win0_3.blk (pt0 (F := F))).view.read (Elt F) (V m c main_v1)
def zW (c : Dev nD) : C cc0_stg4_0 F := (win0_4.blk (pt0 (F := F))).view.read (Elt F) (V m c main_arg0)
def scW (c : Dev nD) : C cc0_stg5_0 F := (win0_5.blk (pt0 (F := F))).view.read (Elt F) (V m c main_arg2)
def mnW (c : Dev nD) : C cc0_stg6_0 F := (win0_6.blk (pt0 (F := F))).view.read (Elt F) (V m c main_arg1)
def rW (c : Dev nD) : C cc0_stg7_0 F := (win0_7.blk (pt0 (F := F))).view.read (Elt F) (V m c main_arg3)
def yW (c : Dev nD) : C cc0_stg8_0 F := (win0_8.blk (pt0 (F := F))).view.read (Elt F) (V m c main_arg7)

/-- An invariant of the loop for the contents the run finds, on every core. -/
structure Plan where
  I : Dev nD → BitVec 32 → BitVec 32 → CAcc F → Prop
  μ : BitVec 32 → BitVec 32 → ℕ
  inv : ∀ c fs, LoopInv (iotaLo (F := F)) oneC zeroC laneNo (ptrW m c) (startsA (ptrW m c) (ptrV m c) fs) (idxW m c) (valW m c) (I c) μ
  start : ∀ c fa, I c 0#32 (q0 (ptrW m c)) fa

variable {m}

/-- What the plan says of the accumulator when the loop is done. -/
def Plan.Done (pl : Plan m) (c : Dev nD) (fa : CAcc F) : Prop := ∃ b q, pl.I c b q fa ∧ ¬ Scalar.cmpi .slt b 192#32 = 1#1

/-- The weight gradient and the aggregate the body may leave. -/
def Plan.Dw (pl : Plan m) (c : Dev nD) (X : C cc0_stg9_0 F) : Prop :=
  ∃ fa fc ft fw, pl.Done c fa ∧ X = dwOut (scW m c) (mnW m c) (yW m c) fa (codesA (zW m c) fc) (rtA (rW m c) ft) fw
def Plan.Agg (pl : Plan m) (c : Dev nD) (X : C cc0_stg10_0 F) : Prop :=
  ∃ fa fc ft fo, pl.Done c fa ∧ X = aggOut (scW m c) (mnW m c) fa (codesA (zW m c) fc) (rtA (rW m c) ft) fo

/-- The proof's data: the inputs are kept, the outputs are as the plan says. -/
def rdat (pl : Plan m) (c : Dev nD) : Pipeline.RDat τ (Elt F) Unit ℕ (UR sig nD τ) ℕ (cfg0 (F := F)) c where
  A := fun w => V m c (Pipeline.arrRef spec0 w)
  after := fun w _ Y X => match w with
    | ⟨9, _⟩ => pl.Dw c X
    | ⟨10, _⟩ => pl.Agg c X
    | _ => X = Y
  Φ := fun _ => Pipeline.ΦA spec0 c
  q := fun w => Pipeline.shareOf spec0 w
  owed := fun _ => 0

theorem owns_whole_eq (c : Dev nD) (b : Ref sig .tc) (X : b.ty.Contents (Elt F)) :
    (owns (c : Thread nD τ) (Memref.whole b) fullShare X : sProp 𝕄) = iprop(∃ f, ⌜f = X⌝ ∗ ((c : Thread nD τ).loc b) ↦{fullShare} f) := by
  unfold owns; simp only [Memref.view_whole, View.read_whole, View.set_whole]

theorem finds_0 (pl : Plan m) (c : Dev nD) (Y) (h : (rdat pl c).Finds (0 : Fin 11) (pt0 (F := F)) Y) : Y = ptrW m c := by
  obtain ⟨d, rfl⟩ := ((rdat pl c).finds_of_fetch (fetch0_0 _) Y).1 h; rfl
theorem finds_1 (pl : Plan m) (c : Dev nD) (Y) (h : (rdat pl c).Finds (1 : Fin 11) (pt0 (F := F)) Y) : Y = ptrV m c := by
  obtain ⟨d, rfl⟩ := ((rdat pl c).finds_of_fetch (fetch0_1 _) Y).1 h; rfl
theorem finds_2 (pl : Plan m) (c : Dev nD) (Y) (h : (rdat pl c).Finds (2 : Fin 11) (pt0 (F := F)) Y) : Y = idxW m c := by
  obtain ⟨d, rfl⟩ := ((rdat pl c).finds_of_fetch (fetch0_2 _) Y).1 h; rfl
theorem finds_3 (pl : Plan m) (c : Dev nD) (Y) (h : (rdat pl c).Finds (3 : Fin 11) (pt0 (F := F)) Y) : Y = valW m c := by
  obtain ⟨d, rfl⟩ := ((rdat pl c).finds_of_fetch (fetch0_3 _) Y).1 h; rfl
theorem finds_4 (pl : Plan m) (c : Dev nD) (Y) (h : (rdat pl c).Finds (4 : Fin 11) (pt0 (F := F)) Y) : Y = zW m c := by
  obtain ⟨d, rfl⟩ := ((rdat pl c).finds_of_fetch (fetch0_4 _) Y).1 h; rfl
theorem finds_5 (pl : Plan m) (c : Dev nD) (Y) (h : (rdat pl c).Finds (5 : Fin 11) (pt0 (F := F)) Y) : Y = scW m c := by
  obtain ⟨d, rfl⟩ := ((rdat pl c).finds_of_fetch (fetch0_5 _) Y).1 h; rfl
theorem finds_6 (pl : Plan m) (c : Dev nD) (Y) (h : (rdat pl c).Finds (6 : Fin 11) (pt0 (F := F)) Y) : Y = mnW m c := by
  obtain ⟨d, rfl⟩ := ((rdat pl c).finds_of_fetch (fetch0_6 _) Y).1 h; rfl
theorem finds_7 (pl : Plan m) (c : Dev nD) (Y) (h : (rdat pl c).Finds (7 : Fin 11) (pt0 (F := F)) Y) : Y = rW m c := by
  obtain ⟨d, rfl⟩ := ((rdat pl c).finds_of_fetch (fetch0_7 _) Y).1 h; rfl
theorem finds_8 (pl : Plan m) (c : Dev nD) (Y) (h : (rdat pl c).Finds (8 : Fin 11) (pt0 (F := F)) Y) : Y = yW m c := by
  obtain ⟨d, rfl⟩ := ((rdat pl c).finds_of_fetch (fetch0_8 _) Y).1 h; rfl

theorem after_in (pl : Plan m) (c : Dev nD) (w : Fin 11) (hw : w.val < 9) (t) (Y) : (rdat pl c).after w t Y Y := by
  fin_cases w <;> first | rfl | exact absurd hw (by decide)

theorem body_ok (pl : Plan m) (c : Dev nD) : (rdat pl c).BodyObligation (defs₀ (F := F)) 𝒱₀ () Set.univ := fun t Y hY => by
  obtain rfl : t = pt0 (F := F) := fin_N0 t
  have e0 := finds_0 pl c _ (hY 0)
  have e1 := finds_1 pl c _ (hY 1)
  have e2 := finds_2 pl c _ (hY 2)
  have e3 := finds_3 pl c _ (hY 3)
  have e4 := finds_4 pl c _ (hY 4)
  have e5 := finds_5 pl c _ (hY 5)
  have e6 := finds_6 pl c _ (hY 6)
  have e7 := finds_7 pl c _ (hY 7)
  have e8 := finds_8 pl c _ (hY 8)
  rw [show (rdat pl c).Φ (pt0 (F := F)).castSucc = Pipeline.ΦA spec0 c from rfl, show (rdat pl c).Φ (pt0 (F := F)).succ = Pipeline.ΦA spec0 c from rfl,
    show (rdat pl c).owesAt () (pt0 (F := F)).succ = (rdat pl c).owesAt () (pt0 (F := F)).castSucc from rfl]
  rw [bigSep_W0, bigSep_W0]
  unfold Pipeline.ΦA
  rw [scopedRest0_eq]
  sl_whnfR [defs₀, Defs.onTc]
  simp only [show stage0_0 0 = Memref.whole cc0_stg0_0 from rfl, show stage0_1 0 = Memref.whole cc0_stg1_0 from rfl,
    show stage0_2 0 = Memref.whole cc0_stg2_0 from rfl, show stage0_3 0 = Memref.whole cc0_stg3_0 from rfl,
    show stage0_4 0 = Memref.whole cc0_stg4_0 from rfl, show stage0_5 0 = Memref.whole cc0_stg5_0 from rfl,
    show stage0_6 0 = Memref.whole cc0_stg6_0 from rfl, show stage0_7 0 = Memref.whole cc0_stg7_0 from rfl,
    show stage0_8 0 = Memref.whole cc0_stg8_0 from rfl, show stage0_9 0 = Memref.whole cc0_stg9_0 from rfl,
    show stage0_10 0 = Memref.whole cc0_stg10_0 from rfl]
  simp only [owns_whole_eq]
  iintro ⟨⟨⟨⟨%fa, Ha⟩, ⟨%fs, Hs⟩, ⟨%fc, Hc⟩, ⟨%ft, Ht⟩⟩, Hp⟩, Howes, ⟨%g0, %h0, H0⟩, ⟨%g1, %h1, H1⟩, ⟨%g2, %h2, H2⟩, ⟨%g3, %h3, H3⟩, ⟨%g4, %h4, H4⟩, ⟨%g5, %h5, H5⟩, ⟨%g6, %h6, H6⟩, ⟨%g7, %h7, H7⟩, ⟨%g8, %h8, H8⟩, ⟨%g9, %h9, H9⟩, ⟨%g10, %h10, H10⟩⟩
  subst h9 h10
  rw [e0] at h0; rw [e1] at h1; rw [e2] at h2; rw [e3] at h3; rw [e4] at h4; rw [e5] at h5; rw [e6] at h6; rw [e7] at h7; rw [e8] at h8
  subst h0 h1 h2 h3 h4 h5 h6 h7 h8
  rw [e0, e1, e2, e3, e4, e5, e6, e7, e8]
  iapply (wp_body (scW m c) (mnW m c) (yW m c) fa fc ft c (ptrW m c) (ptrV m c) (idxW m c) (valW m c) (zW m c) (rW m c) (Y 9) (Y 10) fs
    (pl.I c) pl.μ (pl.inv c fs) (pl.start c fa))
  isplitl [H0 H1 H2 H3 H4 H5 H6 H7 H8 H9 H10 Ha Hs Hc Ht]
  · unfold allHeld
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Ha]; · iexact Ha
    isplitl [Hs]; · iexact Hs
    isplitl [Hc]; · iexact Hc
    iexact Ht
  iintro %b %q %fa' %hd H
  unfold allHeld
  icases H with ⟨H0, H1, H2, H3, H4, H5, H6, H7, H8, H9, H10, Ha, Hs, Hc, Ht⟩
  isplitl [Ha Hs Hc Ht Hp]
  · isplitr [Hp]; swap; · iexact Hp
    isplitl [Ha]; · iexists _; iexact Ha
    isplitl [Hs]; · iexists _; iexact Hs
    isplitl [Hc]; · iexists _; iexact Hc
    iexists _; iexact Ht
  isplitl [Howes]; · iexact Howes
  isplitl [H0]; · iexists _; isplitr; swap; · (iexists _; isplitr; swap; · iexact H0
                                               ipureintro; rfl)
                  ipureintro; exact after_in pl c 0 (by decide) _ _
  isplitl [H1]; · iexists _; isplitr; swap; · (iexists _; isplitr; swap; · iexact H1
                                               ipureintro; rfl)
                  ipureintro; exact after_in pl c 1 (by decide) _ _
  isplitl [H2]; · iexists _; isplitr; swap; · (iexists _; isplitr; swap; · iexact H2
                                               ipureintro; rfl)
                  ipureintro; exact after_in pl c 2 (by decide) _ _
  isplitl [H3]; · iexists _; isplitr; swap; · (iexists _; isplitr; swap; · iexact H3
                                               ipureintro; rfl)
                  ipureintro; exact after_in pl c 3 (by decide) _ _
  isplitl [H4]; · iexists _; isplitr; swap; · (iexists _; isplitr; swap; · iexact H4
                                               ipureintro; rfl)
                  ipureintro; exact after_in pl c 4 (by decide) _ _
  isplitl [H5]; · iexists _; isplitr; swap; · (iexists _; isplitr; swap; · iexact H5
                                               ipureintro; rfl)
                  ipureintro; exact after_in pl c 5 (by decide) _ _
  isplitl [H6]; · iexists _; isplitr; swap; · (iexists _; isplitr; swap; · iexact H6
                                               ipureintro; rfl)
                  ipureintro; exact after_in pl c 6 (by decide) _ _
  isplitl [H7]; · iexists _; isplitr; swap; · (iexists _; isplitr; swap; · iexact H7
                                               ipureintro; rfl)
                  ipureintro; exact after_in pl c 7 (by decide) _ _
  isplitl [H8]; · iexists _; isplitr; swap; · (iexists _; isplitr; swap; · iexact H8
                                               ipureintro; rfl)
                  ipureintro; exact after_in pl c 8 (by decide) _ _
  isplitl [H9]; · iexists _; isplitr; swap; · (iexists _; isplitr; swap; · iexact H9
                                               ipureintro; rfl)
                  ipureintro; exact ⟨fa', fc, ft, Y 9, ⟨b, q, hd⟩, rfl⟩
  iexists _; isplitr; swap; · (iexists _; isplitr; swap; · iexact H10
                               ipureintro; rfl)
  ipureintro; exact ⟨fa', fc, ft, Y 10, ⟨b, q, hd⟩, rfl⟩

/-- The run: it terminates from every memory with zero counters, the arrays end as the data say, and every counter ends at zero. -/
theorem run (pl : Plan m) : θ_run defs (onTc (τ := τ) (main (F := F))) (s₀ m ρ)
    (fun r => Pipeline.RDat.FramePost (cfg0 (F := F)) (rdat pl) (V m) r ∧ r.2.sem = fun _ => 0) :=
  Pipeline.RDat.θ_run_frame_track_shared cfgs (0 : Fin 1) launch₀0 defs₀ 𝒱₀ (rdat pl) m ρ main (body_ok pl)
    (fun _ _ _ => rfl) (fun _ _ => rfl) (V m)
    (Pipeline.hmain_prefix cfgs (0 : Fin 1) defs₀ 𝒱₀ m main hostOps0 hostOps0_sub ⟨rfl, rfl⟩ main_chain)
    (fun _ _ => rfl) (fun _ => BI.Entails.refl _) (fun _ => BI.Entails.refl _) _ (fun _ h => h)

end Cert.KernelIdeal.Visit

end
-- ==== Proof.Scalars.lean ====
/-
  The loop's two words as natural numbers: from row starts within the edges, the row block and the
  edge row a visit is at keep the visit's reads in bounds and come to the last row block.
-/
module

public import proofs.«01_k».proof.Proof.Run
public import Idealize.ShloMosaic.Lib.Routing.Words
public import Idealize.ShloMosaic.Lib.WordCmp

@[expose] public section

set_option maxRecDepth 16384

noncomputable section

namespace Cert.KernelIdeal.Visit

open Cert.KernelIdeal Cert.KernelIdeal.Gen
open Idealize.ShloMosaic
open Idealize.ShloMosaic.WordCmp

variable {F : FTy → Type} [FloatOps F]

/-! ## The words -/

theorem fdiv_ofNat (n : ℕ) (hn : n < 2 ^ 31) : fdiv (BitVec.ofNat 32 n) = BitVec.ofNat 32 (n / 128) := by
  unfold fdiv
  have hd : Scalar.divsi (BitVec.ofNat 32 n) 128#32 = BitVec.ofNat 32 (n / 128) := Routing.divsi_word .scalar hn (by decide) (by decide)
  have hr : Scalar.remsi (BitVec.ofNat 32 n) 128#32 = BitVec.ofNat 32 (n % 128) := Routing.remsi_word .scalar hn (by decide) (by decide)
  rw [hd, hr]
  rcases Nat.eq_zero_or_pos n with rfl | h0
  · decide
  · have h1 : Scalar.cmpi .sgt (BitVec.ofNat 32 n) 0#32 = 1#1 := (cmpi_sgt_ofNat_eq_one_iff (w := 32) hn (by decide)).2 h0
    have h2 : Scalar.cmpi .slt (BitVec.ofNat 32 n) 0#32 = 0#1 := (cmpi_slt_ofNat_eq_zero_iff (w := 32) hn (by decide)).2 (by omega)
    rw [h1, h2]
    rw [show Scalar.cmpi .ne (Scalar.subi (Scalar.extui 1#1 : BitVec 32) (Scalar.extui 0#1))
      (Scalar.subi (Scalar.extui (Scalar.cmpi .sgt 128#32 0#32)) (Scalar.extui (Scalar.cmpi .slt 128#32 0#32))) = 0#1 by decide]
    rw [show ∀ x : BitVec 1, Scalar.andi 0#1 x = 0#1 by decide]
    rfl

theorem first_ofNat (Q n : ℕ) (hQ : Q < 2 ^ 31) (hn : n < 2 ^ 31) :
    first (BitVec.ofNat 32 Q) (BitVec.ofNat 32 n) = BitVec.ofBool (decide (Q = n / 128)) := by
  unfold first
  rw [fdiv_ofNat n hn]
  exact cmpi_eq_ofNat (w := 32) (by omega) (by omega)

theorem add_ofNat (a b : ℕ) : Scalar.addi (BitVec.ofNat 32 a) (BitVec.ofNat 32 b) = BitVec.ofNat 32 (a + b) := by
  show BitVec.ofNat 32 a + BitVec.ofNat 32 b = _
  rw [BitVec.ofNat_add]
theorem mul_ofNat (a b : ℕ) : Scalar.muli (BitVec.ofNat 32 a) (BitVec.ofNat 32 b) = BitVec.ofNat 32 (a * b) := by
  show BitVec.ofNat 32 a * BitVec.ofNat 32 b = _
  rw [BitVec.ofNat_mul]

theorem nextB_ofNat (B Q n : ℕ) (hQ : Q < 1000000) (hn : n < 2 ^ 31) :
    nextB (BitVec.ofNat 32 B) (BitVec.ofNat 32 Q) (BitVec.ofNat 32 n) = BitVec.ofNat 32 (if n ≤ 128 * (Q + 2) then B + 1 else B) := by
  unfold nextB
  rw [add_ofNat Q 2, mul_ofNat (Q + 2) 128, add_ofNat B 1]
  rw [show Scalar.cmpi .sge (BitVec.ofNat 32 ((Q + 2) * 128)) (BitVec.ofNat 32 n) = BitVec.ofBool (decide (n ≤ (Q + 2) * 128)) from
    cmpi_sge_ofNat (w := 32) (by omega) hn, select_ofBool]
  rw [Nat.mul_comm (Q + 2) 128]
  by_cases h : n ≤ 128 * (Q + 2) <;> simp [h]

theorem nextQ_ofNat (B Q n n' : ℕ) (hB : B < 1000000) (hQ : Q < 1000000) (hn : n < 2 ^ 31) (hn' : n' < 2 ^ 31) :
    nextQ (BitVec.ofNat 32 B) (BitVec.ofNat 32 Q) (BitVec.ofNat 32 n) (BitVec.ofNat 32 n')
      = BitVec.ofNat 32 (if n ≤ 128 * (Q + 2) ∧ B + 1 < 192 then n' / 128 else Q + 2) := by
  unfold nextQ
  rw [add_ofNat Q 2, mul_ofNat (Q + 2) 128, add_ofNat B 1, fdiv_ofNat n' hn']
  rw [show Scalar.cmpi .sge (BitVec.ofNat 32 ((Q + 2) * 128)) (BitVec.ofNat 32 n) = BitVec.ofBool (decide (n ≤ (Q + 2) * 128)) from
    cmpi_sge_ofNat (w := 32) (by omega) hn,
    show Scalar.cmpi .sge (BitVec.ofNat 32 (B + 1)) 192#32 = BitVec.ofBool (decide (192 ≤ B + 1)) from
    cmpi_sge_ofNat (w := 32) (by omega) (by decide)]
  rw [Nat.mul_comm (Q + 2) 128]
  by_cases h : n ≤ 128 * (Q + 2) <;> by_cases h' : B + 1 < 192
  · rw [if_pos ⟨h, h'⟩, decide_eq_true h, decide_eq_false (by omega)]; rfl
  · rw [if_neg (by omega), decide_eq_true h, decide_eq_true (by omega)]; rfl
  · rw [if_neg (by omega), decide_eq_false h, decide_eq_false (by omega)]; rfl
  · rw [if_neg (by omega), decide_eq_false h, decide_eq_true (by omega)]; rfl

/-! ## The offsets -/

theorem off1_ofNat (B : ℕ) (hB : B < 256) : k0_off1 (BitVec.ofNat 32 B) = ![8 * min B 191] :=
  (by decide +kernel : ∀ B : Fin 256, k0_off1 (BitVec.ofNat 32 B.val) = ![8 * min B.val 191]) ⟨B, hB⟩
theorem off2_ofNat (B : ℕ) (hB : B < 256) : k0_off2 (BitVec.ofNat 32 B) = ![8 * min B 191, 0] :=
  (by decide +kernel : ∀ B : Fin 256, k0_off2 (BitVec.ofNat 32 B.val) = ![8 * min B.val 191, 0]) ⟨B, hB⟩
theorem off3_ofNat (B : ℕ) (hB : B < 256) : k0_off3 (BitVec.ofNat 32 B) = ![8 * min B 191 + 1, 0] :=
  (by decide +kernel : ∀ B : Fin 256, k0_off3 (BitVec.ofNat 32 B.val) = ![8 * min B.val 191 + 1, 0]) ⟨B, hB⟩
theorem off5_ofNat (B : ℕ) (hB : B < 256) : k0_off5 (BitVec.ofNat 32 B) = ![8 * min B 191, 0] :=
  (by decide +kernel : ∀ B : Fin 256, k0_off5 (BitVec.ofNat 32 B.val) = ![8 * min B.val 191, 0]) ⟨B, hB⟩
theorem off6_ofNat (B : ℕ) (hB : B < 256) : k0_off6 (BitVec.ofNat 32 B) = ![8 * min B 191, 256] :=
  (by decide +kernel : ∀ B : Fin 256, k0_off6 (BitVec.ofNat 32 B.val) = ![8 * min B.val 191, 256]) ⟨B, hB⟩
theorem off7_ofNat (B : ℕ) (hB : B < 256) : k0_off7 (BitVec.ofNat 32 B) = ![8 * min B 191, 512] :=
  (by decide +kernel : ∀ B : Fin 256, k0_off7 (BitVec.ofNat 32 B.val) = ![8 * min B.val 191, 512]) ⟨B, hB⟩
theorem off8_ofNat (B : ℕ) (hB : B < 256) : k0_off8 (BitVec.ofNat 32 B) = ![8 * min B 191, 768] :=
  (by decide +kernel : ∀ B : Fin 256, k0_off8 (BitVec.ofNat 32 B.val) = ![8 * min B.val 191, 768]) ⟨B, hB⟩
theorem off9_ofNat (B : ℕ) (hB : B < 256) : k0_off9 (BitVec.ofNat 32 B) = ![8 * min B 191, 1024] :=
  (by decide +kernel : ∀ B : Fin 256, k0_off9 (BitVec.ofNat 32 B.val) = ![8 * min B.val 191, 1024]) ⟨B, hB⟩
theorem off10_ofNat (B : ℕ) (hB : B < 256) : k0_off10 (BitVec.ofNat 32 B) = ![8 * min B 191, 1280] :=
  (by decide +kernel : ∀ B : Fin 256, k0_off10 (BitVec.ofNat 32 B.val) = ![8 * min B.val 191, 1280]) ⟨B, hB⟩
theorem off11_ofNat (B : ℕ) (hB : B < 256) : k0_off11 (BitVec.ofNat 32 B) = ![8 * (min B 191 + 1)] :=
  (by decide +kernel : ∀ B : Fin 256, k0_off11 (BitVec.ofNat 32 B.val) = ![8 * (min B.val 191 + 1)]) ⟨B, hB⟩
theorem off12_ofNat (B : ℕ) (hB : B < 256) : k0_off12 (BitVec.ofNat 32 B) = ![8 * min (B + 1) 191] :=
  (by decide +kernel : ∀ B : Fin 256, k0_off12 (BitVec.ofNat 32 B.val) = ![8 * min (B.val + 1) 191]) ⟨B, hB⟩
theorem off4_ofNat (Q : ℕ) (hQ : Q < 512) (r : Fin 2) : k0_off4 (BitVec.ofNat 32 Q) (BitVec.ofNat 32 r.val) = ![min (Q + r.val) 383, 0] :=
  (by decide +kernel : ∀ (Q : Fin 512) (r : Fin 2), k0_off4 (BitVec.ofNat 32 Q.val) (BitVec.ofNat 32 r.val) = ![min (Q.val + r.val) 383, 0]) ⟨Q, hQ⟩ r

theorem chk1_ofNat (B : ℕ) (hB : B < 256) : k0_chk1 (BitVec.ofNat 32 B) := by
  unfold k0_chk1
  rw [off1_ofNat B hB, off2_ofNat B hB, off3_ofNat B hB, off5_ofNat B hB, off6_ofNat B hB, off7_ofNat B hB, off8_ofNat B hB, off9_ofNat B hB,
    off10_ofNat B hB, off11_ofNat B hB, off12_ofNat B hB]
  have h : min B 191 ≤ 191 := Nat.min_le_right _ _
  have h' : min (B + 1) 191 ≤ 191 := Nat.min_le_right _ _
  refine ⟨?_, ?_, ?_, ?_, ?_, ?_, ?_, ?_, ?_, ?_, ?_⟩ <;> intro a
  all_goals first
    | (obtain rfl : a = 0 := Subsingleton.elim (α := Fin 1) a 0
       simp only [Matrix.cons_val_zero, Matrix.cons_val_fin_one, Shape.size, S1, S1537, Fin.isValue]; omega)
    | (revert a; rw [show (∀ a, _) ↔ _ from Fin.forall_fin_two]
       constructor <;> simp [Shape.size] <;> omega)

theorem chk2_ofNat (Q : ℕ) (hQ : Q < 512) : k0_chk2 (BitVec.ofNat 32 Q) := by
  unfold k0_chk2
  intro r
  rw [off4_ofNat Q hQ r]
  have h : min (Q + r.val) 383 ≤ 383 := Nat.min_le_right _ _
  intro a; revert a; rw [show (∀ a, _) ↔ _ from Fin.forall_fin_two]
  constructor <;> simp [Shape.size] <;> omega

/-! ## The walk -/

/-- The next row block and edge row, from row starts `p`. -/
def nB (p : ℕ → ℕ) (B Q : ℕ) : ℕ := if p (8 * (min B 191 + 1)) ≤ 128 * (Q + 2) then B + 1 else B
def nQ (p : ℕ → ℕ) (B Q : ℕ) : ℕ := if p (8 * (min B 191 + 1)) ≤ 128 * (Q + 2) ∧ B + 1 < 192 then p (8 * min (B + 1) 191) / 128 else Q + 2

/-- Row starts within the edges. -/
structure Within (p : ℕ → ℕ) : Prop where
  le : ∀ i, i ≤ 1536 → p i ≤ 49152

/-- A row block not yet done, at an edge row it may be at. -/
def At (p : ℕ → ℕ) (B Q : ℕ) : Prop :=
  B < 192 ∧ p (8 * B) / 128 ≤ Q ∧ (Q = p (8 * B) / 128 ∨ 128 * Q < p (8 * B + 8))

/-- `k` visits into a trip: at a row block not yet done, or past the last by the visits since. -/
def Ok (p : ℕ → ℕ) (k B Q : ℕ) : Prop := At p B Q ∨ (192 ≤ B ∧ B ≤ 192 + k ∧ Q ≤ 386 + 2 * k)

theorem At.le {p : ℕ → ℕ} (hp : Within p) {B Q : ℕ} (h : At p B Q) : Q ≤ 384 := by
  obtain ⟨h1, h2, h3 | h3⟩ := h
  · have := hp.le (8 * B) (by omega); omega
  · have := hp.le (8 * B + 8) (by omega); omega

theorem Ok.lt {p : ℕ → ℕ} (hp : Within p) {k B Q : ℕ} (h : Ok p k B Q) (hk : k ≤ 8) : B ≤ 200 ∧ Q ≤ 402 := by
  rcases h with h | h
  · have := h.le hp; have := h.1; omega
  · omega

theorem Ok.next {p : ℕ → ℕ} (hp : Within p) {k B Q : ℕ} (h : Ok p k B Q) : Ok p (k + 1) (nB p B Q) (nQ p B Q) := by
  unfold nB nQ
  rcases h with h | ⟨h1, h2, h3⟩
  · have hq := h.le hp
    have hB := h.1
    rw [show min B 191 = B by omega]
    by_cases hc : p (8 * (B + 1)) ≤ 128 * (Q + 2)
    · by_cases hl : B + 1 < 192
      · rw [if_pos hc, if_pos ⟨hc, hl⟩, show min (B + 1) 191 = B + 1 by omega]
        exact .inl ⟨hl, le_rfl, .inl rfl⟩
      · rw [if_pos hc, if_neg (by omega)]
        exact .inr ⟨by omega, by omega, by omega⟩
    · rw [if_neg hc, if_neg (by omega)]
      refine .inl ⟨hB, ?_, .inr ?_⟩
      · have := h.2.1; omega
      · rw [show 8 * B + 8 = 8 * (B + 1) by omega]; omega
  · right
    rw [if_neg (show ¬ (_ ∧ B + 1 < 192) by omega)]
    split <;> omega

/-- How far the walk is from its end. -/
def far (B Q : ℕ) : ℕ := if B < 192 then (192 - B) * 400 + (390 - Q) else 0

theorem At.far_lt {p : ℕ → ℕ} (hp : Within p) {B Q : ℕ} (h : At p B Q) : far (nB p B Q) (nQ p B Q) < far B Q := by
  have hq := h.le hp
  have hB := h.1
  unfold far nB nQ
  rw [if_pos hB, show min B 191 = B by omega]
  by_cases hc : p (8 * (B + 1)) ≤ 128 * (Q + 2)
  · rw [if_pos hc]
    split
    · rw [show 192 - B = (192 - (B + 1)) + 1 by omega, Nat.add_mul]; omega
    · omega
  · rw [if_neg hc, if_neg (show ¬ (p (8 * (B + 1)) ≤ 128 * (Q + 2) ∧ B + 1 < 192) from fun h => hc h.1), if_pos hB]; omega

/-! ## The loop's invariant -/

variable (iota : FVec F S256x128 .bf16) (one zero : F .bf16) (lane : IVec S1x128 32)
variable (fp : CPtr F) (fs : CSt F) (fi : CIdx F) (fv : CVal F)

/-- The pointer words are the row starts. -/
def PtrIs (p : ℕ → ℕ) : Prop :=
  ∀ (i : ℕ) (hi : i ≤ 1536) (off : Fin 1 → ℕ) (h : ∀ a, off a + S1.size a ≤ S1537.size a), off = ![i] → wordAt fp off h = BitVec.ofNat 32 (p i)

/-- At a row block and an edge row with a fact `P` of the accumulator. -/
def Inv (p : ℕ → ℕ) (P : ℕ → ℕ → CAcc F → Prop) (b q : BitVec 32) (fa : CAcc F) : Prop :=
  ∃ B Q, b = BitVec.ofNat 32 B ∧ q = BitVec.ofNat 32 Q ∧ Ok p 8 B Q ∧ P B Q fa

/-- The measure. -/
def meas (b q : BitVec 32) : ℕ := far b.toNat q.toNat

theorem meas_ofNat (B Q : ℕ) (hB : B < 512) (hQ : Q < 512) : meas (BitVec.ofNat 32 B) (BitVec.ofNat 32 Q) = far B Q := by
  unfold meas
  rw [toNat_ofNat_of_lt (by omega), toNat_ofNat_of_lt (by omega)]

variable {fp}

theorem step_ofNat {p : ℕ → ℕ} (hp : Within p) (hw : PtrIs fp p) {B Q : ℕ} (hB : B ≤ 200) (hQ : Q ≤ 402) (h1 : k0_chk1 (BitVec.ofNat 32 B)) :
    stepB fp (BitVec.ofNat 32 B) (BitVec.ofNat 32 Q) h1 = BitVec.ofNat 32 (nB p B Q)
      ∧ stepQ fp (BitVec.ofNat 32 B) (BitVec.ofNat 32 Q) h1 = BitVec.ofNat 32 (nQ p B Q) := by
  unfold stepB stepQ
  have e1 := hw (8 * (min B 191 + 1)) (by omega) _ (k0_off11_inb _ h1) (off11_ofNat B (by omega))
  have e2 := hw (8 * min (B + 1) 191) (by omega) _ (k0_off12_inb _ h1) (off12_ofNat B (by omega))
  have l1 := hp.le (8 * (min B 191 + 1)) (by omega)
  have l2 := hp.le (8 * min (B + 1) 191) (by omega)
  refine ⟨?_, ?_⟩
  · rw [show nextB (BitVec.ofNat 32 B) (BitVec.ofNat 32 Q) (wordAt fp (k0_off11 (BitVec.ofNat 32 B)) (k0_off11_inb _ h1))
        = nextB (BitVec.ofNat 32 B) (BitVec.ofNat 32 Q) (BitVec.ofNat 32 (p (8 * (min B 191 + 1)))) from congrArg _ e1]
    exact nextB_ofNat B Q _ (by omega) (by omega)
  · rw [show nextQ (BitVec.ofNat 32 B) (BitVec.ofNat 32 Q) (wordAt fp (k0_off11 (BitVec.ofNat 32 B)) (k0_off11_inb _ h1))
          (wordAt fp (k0_off12 (BitVec.ofNat 32 B)) (k0_off12_inb _ h1))
        = nextQ (BitVec.ofNat 32 B) (BitVec.ofNat 32 Q) (BitVec.ofNat 32 (p (8 * (min B 191 + 1)))) (BitVec.ofNat 32 (p (8 * min (B + 1) 191)))
        from congrArg₂ _ e1 e2]
    exact nextQ_ofNat B Q _ _ (by omega) (by omega) (by omega) (by omega)

theorem loopInv {p : ℕ → ℕ} (hp : Within p) (hw : PtrIs fp p) (P : ℕ → ℕ → CAcc F → Prop)
    (hP : ∀ B Q fa (h1 : k0_chk1 (BitVec.ofNat 32 B)) (h2 : k0_chk2 (BitVec.ofNat 32 Q)), B ≤ 200 → Q ≤ 402 → Ok p 8 B Q → P B Q fa →
      P (nB p B Q) (nQ p B Q) (visitA iota one zero lane fp fs fi fv fa (BitVec.ofNat 32 B) (BitVec.ofNat 32 Q) h1 h2)) :
    LoopInv iota one zero lane fp fs fi fv (Inv p P) meas := by
  constructor
  rintro b q fa ⟨B₀, Q₀, rfl, rfl, hok, hpf⟩ hlt
  have hb₀ := hok.lt hp le_rfl
  have hB₀ : B₀ < 192 := (cmpi_slt_ofNat_eq_one_iff (w := 32) (by omega) (by decide)).1 hlt
  have hat : At p B₀ Q₀ := hok.resolve_right (by omega)
  refine ⟨fun k b q fa => ∃ B Q, b = BitVec.ofNat 32 B ∧ q = BitVec.ofNat 32 Q ∧ Ok p k B Q ∧ P B Q fa
    ∧ (k = 0 → B < 192 ∧ far B Q = far B₀ Q₀) ∧ (0 < k → far B Q < far B₀ Q₀), ⟨?_, ?_⟩, ?_, ?_⟩
  · rintro k b q fa ⟨B, Q, rfl, rfl, h, -⟩ hk
    have := h.lt hp hk
    exact ⟨chk1_ofNat B (by omega), chk2_ofNat Q (by omega)⟩
  · rintro k b q fa h1 h2 hk ⟨B, Q, rfl, rfl, h, hpf, hz, hs⟩
    have hb := h.lt hp (by omega)
    obtain ⟨e1, e2⟩ := step_ofNat hp hw hb.1 hb.2 h1
    have hok8 : Ok p 8 B Q := by
      rcases h with h | h
      · exact .inl h
      · exact .inr (by omega)
    refine ⟨_, _, e1, e2, h.next hp, hP B Q fa h1 h2 hb.1 hb.2 hok8 hpf, fun h0 => absurd h0 (by omega), fun _ => ?_⟩
    rcases h with h | h
    · have h3 := h.far_lt hp
      rcases Nat.eq_zero_or_pos k with h0 | h0
      · have := (hz h0).2; omega
      · have := hs h0; omega
    · have h0 : 0 < k := Nat.pos_of_ne_zero fun h0 => by have := (hz h0).1; omega
      have := hs h0
      have : far (nB p B Q) (nQ p B Q) = 0 := by
        unfold far nB; rw [if_neg]; split <;> omega
      omega
  · exact ⟨B₀, Q₀, rfl, rfl, .inl hat, hpf, fun _ => ⟨hB₀, rfl⟩, fun h => absurd h (by decide)⟩
  · rintro b' q' fa' ⟨B, Q, rfl, rfl, h, hpf', -, hs⟩
    have hb := h.lt hp le_rfl
    refine ⟨⟨B, Q, rfl, rfl, h, hpf'⟩, ?_⟩
    rw [meas_ofNat B Q (by omega) (by omega), meas_ofNat B₀ Q₀ (by omega) (by omega)]
    exact hs (by decide)

theorem start {p : ℕ → ℕ} (hp : Within p) (hw : PtrIs fp p) (P : ℕ → ℕ → CAcc F → Prop) (fa : CAcc F)
    (h0 : P 0 (p 0 / 128) fa) : Inv p P 0#32 (q0 fp) fa := by
  have l := hp.le 0 (by omega)
  refine ⟨0, p 0 / 128, rfl, ?_, .inl ⟨by decide, le_rfl, .inl rfl⟩, h0⟩
  unfold q0
  rw [show fdiv (wordAt fp ![0] inb_S1537_S1_0) = fdiv (BitVec.ofNat 32 (p 0)) from congrArg _ (hw 0 (by omega) _ _ rfl)]
  exact fdiv_ofNat _ (by omega)

end Cert.KernelIdeal.Visit

end
-- ==== Proof.Frame.lean ====
/-
  From row starts in order and within the edges, the kernel runs, its arguments end unchanged, and every counter
  ends at zero.
-/
module

public import proofs.«01_k».proof.Proof.Scalars
public import proofs.«01_k».proof.Pre_starts_in_bounds
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Visit

open Cert.KernelIdeal Cert.KernelIdeal.Gen
open Idealize.ShloMosaic Idealize.ShloMosaic.TcCoe Idealize.SL.Sem
open Idealize.ShloMosaic.WordCmp

variable {F : FTy → Type} [FloatOps F]
variable (m : (ℓ : Loc nD τ sig) → Buf (Elt F) ℓ) (ρ : Dev nD → PrngReg)

/-! ## The row starts -/

/-- A word of the row starts, and the row starts as numbers. -/
def ptrIx (i : ℕ) (hi : i < 1537) : S1537.Idx := ix1 (n0 := 1537) ⟨i, hi⟩
def rowStart (c : Dev nD) (i : ℕ) : ℕ :=
  if hi : i < 1537 then (show BitVec 32 from m ((c.tc : Thread nD τ).loc main_arg4) (ptrIx i hi)).toNat else 0

theorem V_ptr (c : Dev nD) : V m c main_arg4 = m ((c.tc : Thread nD τ).loc main_arg4) := by
  unfold V; after_results

theorem ptrW_eq (c : Dev nD) : ptrW m c = V m c main_arg4 := by
  unfold ptrW
  generalize V m c main_arg4 = X
  funext y; show X _ = X _; congr 1; funext a; apply Fin.ext; blk_simp
  rw [show win0_0.index pt0 a = 0 from rfl]; omega

theorem ptrIs (c : Dev nD) : PtrIs (ptrW m c) (rowStart m c) := by
  intro i hi off h he
  subst he
  have e : wordAt (ptrW m c) ![i] h = m ((c.tc : Thread nD τ).loc main_arg4) (ptrIx i (by omega)) := by
    rw [← V_ptr (m := m) (c := c)]
    rw [ptrW_eq]
    show V m c main_arg4 _ = V m c main_arg4 _
    congr 1
    funext a
    obtain rfl : a = 0 := Subsingleton.elim (α := Fin 1) a 0
    apply Fin.ext
    rfl
  rw [e]
  unfold rowStart
  rw [dif_pos (show i < 1537 by omega)]
  exact (BitVec.eq_of_toNat_eq (by simp)).symm

theorem start_le {x : BitVec 32} (h1 : IntOp.cmpi .sge x 0#32 = 1#1) (h2 : IntOp.cmpi .sle x 49152#32 = 1#1) : x.toNat ≤ 49152 := by
  have g1 : (0#32).sle x = true := by
    have : BitVec.ofBool ((0#32).sle x) = 1#1 := h1
    simpa [ofBool_eq_one_iff] using this
  have g2 : x.sle 49152#32 = true := by
    have : BitVec.ofBool (x.sle 49152#32) = 1#1 := h2
    simpa [ofBool_eq_one_iff] using this
  rw [BitVec.sle_iff_toInt_le] at g1 g2
  rw [show (0#32).toInt = 0 by decide] at g1
  rw [show (49152#32).toInt = 49152 by decide] at g2
  rw [BitVec.toInt_eq_toNat_cond] at g1 g2
  split at g1 <;> split at g2 <;> omega

/-- The bounds of the row starts, as the precondition states them. -/
structure Bounded (c : Dev nD) : Prop where
  ge : ∀ i : S1537.Idx, IntOp.cmpi .sge (show BitVec 32 from m ((c.tc : Thread nD τ).loc main_arg4) i) 0#32 = 1#1
  le : ∀ i : S1537.Idx, IntOp.cmpi .sle (show BitVec 32 from m ((c.tc : Thread nD τ).loc main_arg4) i) 49152#32 = 1#1

variable {m} in
theorem Bounded.within {c : Dev nD} (h : Bounded m c) : Within (rowStart m c) where
  le i hi := by
    unfold rowStart
    rw [dif_pos (show i < 1537 by omega)]
    exact start_le (h.ge _) (h.le _)

theorem bounded_of_pre [Cert.Pre_starts_in_bounds.Facts] (c : Dev nD) (a0 : IVec S1536x32 8) (a1 a2 : FVec F S1536 .f32) (a3 : IVec S1024x128 8)
    (a5 : IVec S49152 32) (a6 : FVec F S49152 .f32) (a7 : FVec F S1536x320 .bf16)
    (h0 : (Cert.Pre_starts_in_bounds.fn (F := F) a0 a1 a2 a3 (m ((c.tc : Thread nD τ).loc main_arg4)) a5 a6 a7).1 = fun _ => 1#1)
    (h1 : (Cert.Pre_starts_in_bounds.fn (F := F) a0 a1 a2 a3 (m ((c.tc : Thread nD τ).loc main_arg4)) a5 a6 a7).2 = fun _ => 1#1) :
    Bounded m c where
  ge i := congrFun h0 i
  le i := congrFun h1 i

/-! ## The frame -/

variable {m}

/-- The plan with a fact of the accumulator kept by the visits. -/
def planOf (p : Dev nD → ℕ → ℕ) (hp : ∀ c, Within (p c)) (hw : ∀ c, PtrIs (ptrW m c) (p c)) (P : Dev nD → ℕ → ℕ → CAcc F → Prop)
    (hP : ∀ c fs B Q fa (h1 : k0_chk1 (BitVec.ofNat 32 B)) (h2 : k0_chk2 (BitVec.ofNat 32 Q)), B ≤ 200 → Q ≤ 402 → Ok (p c) 8 B Q → P c B Q fa →
      P c (nB (p c) B Q) (nQ (p c) B Q) (visitA iotaLo oneC zeroC laneNo (ptrW m c) (startsA (ptrW m c) (ptrV m c) fs) (idxW m c) (valW m c) fa
        (BitVec.ofNat 32 B) (BitVec.ofNat 32 Q) h1 h2))
    (h0 : ∀ c fa, P c 0 (p c 0 / 128) fa) : Plan m where
  I c := Inv (p c) (P c)
  μ := meas
  inv c fs := loopInv _ _ _ _ _ _ _ (hp c) (hw c) (P c) (hP c fs)
  start c fa := start (hp c) (hw c) (P c) fa (h0 c fa)

/-- The plan that says nothing of the accumulator. -/
def plain (h : ∀ c, Bounded m c) : Plan m :=
  planOf (rowStart m) (fun c => (h c).within) (ptrIs m) (fun _ _ _ _ => True) (fun _ _ _ _ _ _ _ _ _ _ _ => trivial) (fun _ _ => trivial)

theorem rest5 : main_arg5 ∈ Pipeline.restRefs sig spec0 := by decide
theorem rest6 : main_arg6 ∈ Pipeline.restRefs sig spec0 := by decide

/-- What a run leaves of the arguments. -/
theorem args_kept (pl : Plan m) (r : PUnit × MemSt nD τ sig (Elt F))
    (h : Pipeline.RDat.FramePost (cfg0 (F := F)) (rdat pl) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) := by
  have a := fun w hw => Pipeline.RDat.FramePost.arr_in h c w hw
  have e0 : V m c main_arg0 = m ((c.tc : Thread nD τ).loc main_arg0) := by unfold V; after_results
  have e1 : V m c main_arg1 = m ((c.tc : Thread nD τ).loc main_arg1) := by unfold V; after_results
  have e2 : V m c main_arg2 = m ((c.tc : Thread nD τ).loc main_arg2) := by unfold V; after_results
  have e3 : V m c main_arg3 = m ((c.tc : Thread nD τ).loc main_arg3) := by unfold V; after_results
  have e5 : V m c main_arg5 = m ((c.tc : Thread nD τ).loc main_arg5) := by unfold V; after_results
  have e6 : V m c main_arg6 = m ((c.tc : Thread nD τ).loc main_arg6) := by unfold V; after_results
  have e7 : V m c main_arg7 = m ((c.tc : Thread nD τ).loc main_arg7) := by unfold V; after_results
  exact ⟨(a (4 : Fin 11) rfl).trans e0, (a (6 : Fin 11) rfl).trans e1, (a (5 : Fin 11) rfl).trans e2, (a (7 : Fin 11) rfl).trans e3,
    (a (0 : Fin 11) rfl).trans (V_ptr m c), ((h c).2 main_arg5 rest5).trans e5, ((h c).2 main_arg6 rest6).trans e6,
    (a (8 : Fin 11) rfl).trans e7⟩

/-- The frame. -/
theorem frame (ρ : Dev nD → PrngReg) (h : ∀ c, Bounded m c) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r hr => ⟨fun c => args_kept (plain h) r hr.1 c, hr.2⟩) (run ρ (plain h))

end Cert.KernelIdeal.Visit

end
-- ==== Proof.K.Visit.lean ====
/-
  One visit of the kernel's loop, written once: the values it computes, the memory operations it
  performs, and the loop's body as eight visits in a row.
-/
module

public import proofs.«01_k».proof.Proof.Gen.Kernel

@[expose] public section

set_option maxRecDepth 16384

noncomputable section

namespace Cert.Kernel.Visit

open Idealize.ShloMosaic Idealize.SL.Sem
open Cert.Kernel Cert.Kernel.Gen

variable {F : FTy → Type} [FloatOps F]

/-! ## The scalars -/

/-- `w // 128`, rounded down, as the kernel spells it. -/
def fdiv (w : BitVec 32) : BitVec 32 :=
  Scalar.select
    (Scalar.andi
      (Scalar.cmpi .ne
        (Scalar.subi (Scalar.extui (Scalar.cmpi .sgt w 0#32)) (Scalar.extui (Scalar.cmpi .slt w 0#32)))
        (Scalar.subi (Scalar.extui (Scalar.cmpi .sgt 128#32 0#32)) (Scalar.extui (Scalar.cmpi .slt 128#32 0#32))))
      (Scalar.cmpi .ne (Scalar.remsi w 128#32) 0#32))
    (Scalar.subi (Scalar.divsi w 128#32) 1#32)
    (Scalar.divsi w 128#32)

/-- Whether the visit is its row block's first: `q` is the word `w` of `ptr` over 128. -/
def first (q w : BitVec 32) : BitVec 1 := Scalar.cmpi .eq q (fdiv w)

/-- The next visit's row block, from this one's and the word `w` that ends it. -/
def nextB (b q w : BitVec 32) : BitVec 32 :=
  Scalar.select (Scalar.cmpi .sge (Scalar.muli (Scalar.addi q 2#32) 128#32) w) (Scalar.addi b 1#32) b

/-- The next visit's edge row, from the word `w` that ends this row block and `w'` that starts the
    next one. -/
def nextQ (b q w w' : BitVec 32) : BitVec 32 :=
  Scalar.select
    (Scalar.andi (Scalar.cmpi .sge (Scalar.muli (Scalar.addi q 2#32) 128#32) w)
      (Scalar.xori (Scalar.cmpi .sge (Scalar.addi b 1#32) 192#32) 1#1))
    (fdiv w') (Scalar.addi q 2#32)

/-! ## The vectors -/

/-- The high part of the edges' columns: each index over 256, rounded down. -/
def hiOf (i : IVec S1x128 32) : IVec S1x128 32 :=
  select
    (andi
      (cmpi .ne
        (subi (extui 32 (cmpi .sgt i (broadcast S1x128 0#32)) natLt_1_32)
          (extui 32 (cmpi .slt i (broadcast S1x128 0#32)) natLt_1_32))
        (broadcast S1x128
          (Scalar.subi (Scalar.extui (Scalar.cmpi .sgt 256#32 0#32)) (Scalar.extui (Scalar.cmpi .slt 256#32 0#32)))))
      (cmpi .ne (remsi i (broadcast S1x128 256#32)) (broadcast S1x128 0#32)))
    (subi (divsi i (broadcast S1x128 256#32)) (broadcast S1x128 1#32))
    (divsi i (broadcast S1x128 256#32))

/-- The one-hot matrix of the low part of the edges' columns. -/
def hot (iota : FVec F S256x128 .bf16) (one zero : F .bf16) (i : IVec S1x128 32) : FVec F S256x128 .bf16 :=
  select
    (cmpf .oeq iota
      (broadcastTo S256x128 (truncf .bf16 (sitofp .f32 (andi i (broadcast S1x128 255#32))) bitsLt_bf16_f32 : FVec F S1x128 .bf16)
        broadcasts_S1x128_S256x128))
    (broadcast S256x128 one) (broadcast S256x128 zero)

/-- The edges' values, each in the row whose range holds the edge, zero in the others. -/
def live (lane : IVec S1x128 32) (qh : BitVec 32) (s0 s1 : Vec F S8x128 .i32) (v : FVec F S1x128 .f32) :
    FVec F S8x128 .f32 :=
  select
    (andi
      (cmpi .sge (broadcastTo S8x128 (addi lane (broadcast S1x128 (Scalar.muli qh 128#32))) broadcasts_S1x128_S8x128) s0)
      (cmpi .slt (broadcastTo S8x128 (addi lane (broadcast S1x128 (Scalar.muli qh 128#32))) broadcasts_S1x128_S8x128) s1))
    (broadcastTo S8x128 (shapeCast S1x128 v shapeCasts_S1x128_S1x128) broadcasts_S1x128_S8x128)
    (broadcast S8x128 (Scalar.ofBits .f32 0x00000000#32))

/-- Of them, those whose column's high part is `k`. -/
def pick (k : BitVec 32) (hi : IVec S1x128 32) (vr : FVec F S8x128 .f32) : FVec F S8x128 .f32 :=
  select
    (broadcastTo S8x128 (shapeCast S1x128 (cmpi .eq hi (broadcast S1x128 k)) shapeCasts_S1x128_S1x128)
      broadcasts_S1x128_S8x128)
    vr (broadcast S8x128 (Scalar.ofBits .f32 0x00000000#32))

/-- The six of them, one under the other. -/
def stack (hi : IVec S1x128 32) (vr : FVec F S8x128 .f32) : FVec F S48x128 .f32 :=
  concatenate S48x128 0
    [⟨S8x128, pick 0#32 hi vr⟩, ⟨S8x128, pick 1#32 hi vr⟩, ⟨S8x128, pick 2#32 hi vr⟩,
     ⟨S8x128, pick 3#32 hi vr⟩, ⟨S8x128, pick 4#32 hi vr⟩, ⟨S8x128, pick 5#32 hi vr⟩]
    concatenates_S8x128_S8x128_S8x128_S8x128_S8x128_S8x128_S48x128_d0

/-- What a 48x256 matrix of values and a 256x256 one-hot matrix multiply to, the values split in
    three. -/
def prod3 (h : FVec F S48x256 .f32) (lt : FVec F S256x256 .bf16) : FVec F S48x256 .f32 :=
  have hi : FVec F S48x256 .bf16 := truncf .bf16 h bitsLt_bf16_f32
  have r : FVec F S48x256 .f32 := subf h (extf .f32 hi bitsLt_bf16_f32)
  have mid : FVec F S48x256 .bf16 := truncf .bf16 r bitsLt_bf16_f32
  have lo : FVec F S48x256 .bf16 := truncf .bf16 (subf r (extf .f32 mid bitsLt_bf16_f32)) bitsLt_bf16_f32
  have m : FVec F S144x256 .f32 :=
    matmul dot_S144x256_S256x256_S144x256_1_1_0_0_n_n none
      (concatenate S144x256 0 [⟨S48x256, hi⟩, ⟨S48x256, mid⟩, ⟨S48x256, lo⟩]
        concatenates_S48x256_S48x256_S48x256_S144x256_d0) lt
      (constant S144x256 .f32 0x00000000#32)
  addf
    (addf (extractStridedSlice S48x256 ![0, 0] m slices_S144x256_o0_0_S48x256)
      (extractStridedSlice S48x256 ![48, 0] m slices_S144x256_o48_0_S48x256))
    (extractStridedSlice S48x256 ![96, 0] m slices_S144x256_o96_0_S48x256)

/-- What a visit adds to its eight rows: six column blocks, one under the other. -/
def res (iota : FVec F S256x128 .bf16) (one zero : F .bf16) (lane : IVec S1x128 32) (q : BitVec 32)
    (s0 s1 : Vec F S8x128 .i32) (i0 : Vec F S1x128 .i32) (v0 : Vec F S1x128 .f32)
    (i1 : Vec F S1x128 .i32) (v1 : Vec F S1x128 .f32) : FVec F S48x256 .f32 :=
  have j0 : IVec S1x128 32 := shapeCast S1x128 i0 shapeCasts_S1x128_S1x128
  have j1 : IVec S1x128 32 := shapeCast S1x128 i1 shapeCasts_S1x128_S1x128
  have h0 : FVec F S48x128 .f32 :=
    stack (hiOf j0) (live lane (Scalar.addi q 0#32) s0 s1 (shapeCast S1x128 v0 shapeCasts_S1x128_S1x128))
  have h1 : FVec F S48x128 .f32 :=
    stack (hiOf j1) (live lane (Scalar.addi q 1#32) s0 s1 (shapeCast S1x128 v1 shapeCasts_S1x128_S1x128))
  prod3
    (concatenate S48x256 1 [⟨S48x128, h0⟩, ⟨S48x128, h1⟩] concatenates_S48x128_S48x128_S48x256_d1)
    (concatenate S256x256 1 [⟨S256x128, hot iota one zero j0⟩, ⟨S256x128, hot iota one zero j1⟩]
      concatenates_S256x128_S256x128_S256x256_d1)

/-- What a column block holds before the visit adds to it: nothing on the row block's first visit. -/
def prev (f : BitVec 1) (old : Vec F S8x256 .f32) : FVec F S8x256 .f32 :=
  Scalar.select f (broadcast S8x256 (Scalar.ofBits .f32 0x00000000#32)) old

/-! ## The memory operations -/

variable (ptr : Memref sig .tc .smem S1537 .i32) (hptr : ptr.IsWhole)
  (st : Memref sig .tc .vmem S1544x128 .i32) (hst : st.IsWhole)
  (idx : Memref sig .tc .vmem S384x128 .i32) (hidx : idx.IsWhole)
  (val : Memref sig .tc .vmem S384x128 .f32) (hval : val.IsWhole)
  (iota : FVec F S256x128 .bf16) (one zero : F .bf16) (lane : IVec S1x128 32)
  (acc : Memref sig .tc .vmem S1536x1536 .f32) (hacc : acc.IsWhole)

/-- The word of `ptr` at an offset. -/
abbrev word (off : Fin 1 → Nat) (h : ∀ a, off a + S1.size a ≤ S1537.size a) :
    Prog (TpuEff nD τ sig (Elt F) (Λ₀ F) .tc) (Elt F .i32) :=
  smemLoad ptr (Rect.unit (s := S1537) off S1.size h) numel1_S1 rfl

/-- One column block's read and write. -/
abbrev block (off : Fin 2 → Nat) (h : ∀ a, off a + S8x256.size a ≤ S1536x1536.size a) (f : BitVec 1)
    (r : FVec F S8x256 .f32) : Prog (TpuEff nD τ sig (Elt F) (Λ₀ F) .tc) PUnit := do
  let old : Vec F S8x256 .f32 ← Prog.lift (.load acc (Rect.unit (s := S1536x1536) off S8x256.size h).toLoadRect (View.loadsAt_vmem h_S8x256))
  let _o : Vec F S8x256 .f32 ← Prog.lift (.load acc (Rect.unit (s := S1536x1536) off S8x256.size h).toLoadRect (View.loadsAt_vmem h_S8x256))
  Prog.lift (.store acc (Rect.unit (s := S1536x1536) off S8x256.size h)
    (shapeCast S8x256 (addf (prev f old) r) shapeCasts_S8x256_S8x256) Finset.univ
    (View.stores_vmem_bits_univ h_S8x256 rfl) (.inl rfl))

/-- A visit's reads of the row starts and the edges, its six column blocks, and the word that ends
    its row block. -/
def core (b q : BitVec 32) (h1 : k0_chk1 b) (h2 : k0_chk2 q) :
    Prog (TpuEff nD τ sig (Elt F) (Λ₀ F) .tc) (Elt F .i32) := do
  let w : Elt F .i32 ← word ptr (k0_off1 b) (k0_off1_inb b h1)
  let s0 : Vec F S8x128 .i32 ← Prog.lift (.load st (Rect.unit (s := S1544x128) (k0_off2 b) S8x128.size (k0_off2_inb b h1)).toLoadRect (View.loadsAt_vmem h_S8x128))
  let s1 : Vec F S8x128 .i32 ← Prog.lift (.load st (Rect.unit (s := S1544x128) (k0_off3 b) S8x128.size (k0_off3_inb b h1)).toLoadRect (View.loadsAt_vmem h_S8x128))
  let i0 : Vec F S1x128 .i32 ← Prog.lift (.load idx (Rect.unit (s := S384x128) (k0_off4 q 0#32) S1x128.size (k0_off4_inb q h2 0)).toLoadRect (View.loadsAt_vmem h_S1x128))
  let v0 : Vec F S1x128 .f32 ← Prog.lift (.load val (Rect.unit (s := S384x128) (k0_off4 q 0#32) S1x128.size (k0_off4_inb q h2 0)).toLoadRect (View.loadsAt_vmem h_S1x128))
  let i1 : Vec F S1x128 .i32 ← Prog.lift (.load idx (Rect.unit (s := S384x128) (k0_off4 q 1#32) S1x128.size (k0_off4_inb q h2 1)).toLoadRect (View.loadsAt_vmem h_S1x128))
  let v1 : Vec F S1x128 .f32 ← Prog.lift (.load val (Rect.unit (s := S384x128) (k0_off4 q 1#32) S1x128.size (k0_off4_inb q h2 1)).toLoadRect (View.loadsAt_vmem h_S1x128))
  block acc (k0_off5 b) (k0_off5_inb b h1) (first q w) (extractStridedSlice S8x256 ![0, 0] (res iota one zero lane q s0 s1 i0 v0 i1 v1) slices_S48x256_o0_0_S8x256)
  block acc (k0_off6 b) (k0_off6_inb b h1) (first q w) (extractStridedSlice S8x256 ![8, 0] (res iota one zero lane q s0 s1 i0 v0 i1 v1) slices_S48x256_o8_0_S8x256)
  block acc (k0_off7 b) (k0_off7_inb b h1) (first q w) (extractStridedSlice S8x256 ![16, 0] (res iota one zero lane q s0 s1 i0 v0 i1 v1) slices_S48x256_o16_0_S8x256)
  block acc (k0_off8 b) (k0_off8_inb b h1) (first q w) (extractStridedSlice S8x256 ![24, 0] (res iota one zero lane q s0 s1 i0 v0 i1 v1) slices_S48x256_o24_0_S8x256)
  block acc (k0_off9 b) (k0_off9_inb b h1) (first q w) (extractStridedSlice S8x256 ![32, 0] (res iota one zero lane q s0 s1 i0 v0 i1 v1) slices_S48x256_o32_0_S8x256)
  block acc (k0_off10 b) (k0_off10_inb b h1) (first q w) (extractStridedSlice S8x256 ![40, 0] (res iota one zero lane q s0 s1 i0 v0 i1 v1) slices_S48x256_o40_0_S8x256)
  word ptr (k0_off11 b) (k0_off11_inb b h1)

/-- `n` visits, and one more: each checks where the next one reads before it ends. -/
def visits : Nat → (b q : BitVec 32) → k0_chk1 b → k0_chk2 q →
    Prog (TpuEff nD τ sig (Elt F) (Λ₀ F) .tc) (BitVec 32 × BitVec 32)
  | 0, b, q, h1, h2 => do
    let w : Elt F .i32 ← core ptr st idx val iota one zero lane acc b q h1 h2
    let w' : Elt F .i32 ← word ptr (k0_off12 b) (k0_off12_inb b h1)
    pure (nextB b q w, nextQ b q w w')
  | n + 1, b, q, h1, h2 => do
    let w : Elt F .i32 ← core ptr st idx val iota one zero lane acc b q h1 h2
    have h1' : k0_chk1 (nextB b q w) := (← Prog.lift (TpuEff.assume (k0_chk1 (nextB b q w)) (k0_chk1.dec (nextB b q w)))).down
    let w' : Elt F .i32 ← word ptr (k0_off12 b) (k0_off12_inb b h1)
    have h2' : k0_chk2 (nextQ b q w w') := (← Prog.lift (TpuEff.assume (k0_chk2 (nextQ b q w w')) (k0_chk2.dec (nextQ b q w w')))).down
    visits n (nextB b q w) (nextQ b q w w') h1' h2'

/-- The loop: eight visits a trip while the row block is below 192. -/
def loop (b q : BitVec 32) : Prog (TpuEff nD τ sig (Elt F) (Λ₀ F) .tc) (BitVec 32 × BitVec 32) := do
  if Scalar.cmpi .slt b 192#32 = 1#1 then do
    have h2 : k0_chk2 q := (← Prog.lift (TpuEff.assume (k0_chk2 q) (k0_chk2.dec q))).down
    have h1 : k0_chk1 b := (← Prog.lift (TpuEff.assume (k0_chk1 b) (k0_chk1.dec b))).down
    let s ← visits ptr st idx val iota one zero lane acc 7 b q h1 h2
    Prog.lift (.call (1 : (Λ₀ F).Label) ⟨ptr, hptr, st, hst, idx, hidx, val, hval, iota, one, zero, lane, acc, hacc, s.1, s.2⟩)
  else pure (b, q)

end Cert.Kernel.Visit
-- ==== Proof.K.VisitEq.lean ====
/-
  The kernel's loop is the loop of visits.
-/
module

public import proofs.«01_k».proof.Proof.K.Visit

@[expose] public section

set_option maxRecDepth 16384

noncomputable section

namespace Cert.Kernel.Visit

open Idealize.ShloMosaic Idealize.SL.Sem
open Cert.Kernel Cert.Kernel.Gen

variable {F : FTy → Type} [FloatOps F]

set_option maxHeartbeats 2000000 in
/-- The kernel's loop is the loop of visits. -/
theorem while_eq (ptr : Memref sig .tc .smem S1537 .i32) (hptr : ptr.IsWhole)
    (st : Memref sig .tc .vmem S1544x128 .i32) (hst : st.IsWhole)
    (idx : Memref sig .tc .vmem S384x128 .i32) (hidx : idx.IsWhole)
    (val : Memref sig .tc .vmem S384x128 .f32) (hval : val.IsWhole)
    (iota : FVec F S256x128 .bf16) (one zero : F .bf16) (lane : IVec S1x128 32)
    (acc : Memref sig .tc .vmem S1536x1536 .f32) (hacc : acc.IsWhole) (b q : BitVec 32) :
    cc0_while1 (F := F) ptr hptr st hst idx hidx val hval iota one zero lane acc hacc b q
      = loop ptr hptr st hst idx hidx val hval iota one zero lane acc hacc b q := rfl

end Cert.Kernel.Visit
-- ==== Proof.K.Loop.lean ====
/-
  The kernel's loop over the row blocks of the sparse matrix, by an invariant: what one visit does to
  the buffers it holds, and the loop's label met by its body for every invariant of the three things a
  visit changes (row block, edge row, accumulator).
-/
module

public import proofs.«01_k».proof.Proof.K.Visit
public import proofs.«01_k».proof.Proof.K.VisitEq
public import Idealize.ShloMosaic.Lib.Pipeline.Sound
public import Idealize.ShloMosaic.Lib.Pipeline.Kit
public import Idealize.ShloMosaic.Lib.Tactic

@[expose] public section

set_option maxRecDepth 16384

noncomputable section

namespace Cert.Kernel.Visit

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The kernel's variants: the naturals. -/
abbrev 𝒱₀ : Variants := Variants.nat

/-! ## The buffers a visit reads and writes -/

/-- The contents of the pointer words, the broadcast row starts, the edges' columns, the edges' values,
    the accumulator. -/
abbrev CPtr (F : FTy → Type) := (cc0_stg0_0 : Ref sig .tc).ty.Contents (Elt F)
abbrev CSt (F : FTy → Type) := (cc0_scratch1 : Ref sig .tc).ty.Contents (Elt F)
abbrev CIdx (F : FTy → Type) := (cc0_stg2_0 : Ref sig .tc).ty.Contents (Elt F)
abbrev CVal (F : FTy → Type) := (cc0_stg3_0 : Ref sig .tc).ty.Contents (Elt F)
abbrev CAcc (F : FTy → Type) := (cc0_scratch0 : Ref sig .tc).ty.Contents (Elt F)

/-- The five of them, held whole. -/
def held (c : Dev nD) (fp : CPtr F) (fs : CSt F) (fi : CIdx F) (fv : CVal F) (fa : CAcc F) : sProp 𝕄 :=
  iprop((((c : Thread nD τ).loc cc0_stg0_0) ↦{fullShare} fp) ∗ (((c : Thread nD τ).loc cc0_scratch1) ↦{fullShare} fs)
    ∗ (((c : Thread nD τ).loc cc0_stg2_0) ↦{fullShare} fi) ∗ (((c : Thread nD τ).loc cc0_stg3_0) ↦{fullShare} fv)
    ∗ (((c : Thread nD τ).loc cc0_scratch0) ↦{fullShare} fa))

/-- The pointer word at an offset. -/
def wordAt (fp : CPtr F) (off : Fin 1 → Nat) (h : ∀ a, off a + S1.size a ≤ S1537.size a) : Elt F .i32 :=
  ((Memref.whole cc0_stg0_0).access (Rect.unit (s := S1537) off S1.size h) : View sig .tc _ _ _).read (Elt F) fp
    (Shape.Idx.first (numel1_S1.symm ▸ Nat.one_pos))

/-- The row starts, an edge row's columns, an edge row's values, a column block of the accumulator, at an
    offset. -/
def stAt (fs : CSt F) (off : Fin 2 → Nat) (h : ∀ a, off a + S8x128.size a ≤ S1544x128.size a) : Vec F S8x128 .i32 :=
  (Memref.whole cc0_scratch1).view.readAt (Elt F) (Rect.unit (s := S1544x128) off S8x128.size h).toLoadRect fs
def idxAt (fi : CIdx F) (off : Fin 2 → Nat) (h : ∀ a, off a + S1x128.size a ≤ S384x128.size a) : Vec F S1x128 .i32 :=
  (Memref.whole cc0_stg2_0).view.readAt (Elt F) (Rect.unit (s := S384x128) off S1x128.size h).toLoadRect fi
def valAt (fv : CVal F) (off : Fin 2 → Nat) (h : ∀ a, off a + S1x128.size a ≤ S384x128.size a) : Vec F S1x128 .f32 :=
  (Memref.whole cc0_stg3_0).view.readAt (Elt F) (Rect.unit (s := S384x128) off S1x128.size h).toLoadRect fv
def accAt (fa : CAcc F) (off : Fin 2 → Nat) (h : ∀ a, off a + S8x256.size a ≤ S1536x1536.size a) : Vec F S8x256 .f32 :=
  (Memref.whole cc0_scratch0).view.readAt (Elt F) (Rect.unit (s := S1536x1536) off S8x256.size h).toLoadRect fa

/-- The accumulator after one column block's update. -/
def blockA (fa : CAcc F) (off : Fin 2 → Nat) (h : ∀ a, off a + S8x256.size a ≤ S1536x1536.size a) (f : BitVec 1)
    (r : FVec F S8x256 .f32) : CAcc F :=
  ((Memref.whole cc0_scratch0).access (Rect.unit (s := S1536x1536) off S8x256.size h) : View sig .tc _ _ _).write (Elt F) fa
    (shapeCast S8x256 (addf (prev f (accAt fa off h)) r) shapeCasts_S8x256_S8x256) Finset.univ

/-- What a visit at row block `b` and edge row `q` computes from the buffers. -/
def resAt (iota : FVec F S256x128 .bf16) (one zero : F .bf16) (lane : IVec S1x128 32) (fs : CSt F) (fi : CIdx F) (fv : CVal F)
    (b q : BitVec 32) (h1 : k0_chk1 b) (h2 : k0_chk2 q) : FVec F S48x256 .f32 :=
  res iota one zero lane q (stAt fs (k0_off2 b) (k0_off2_inb b h1)) (stAt fs (k0_off3 b) (k0_off3_inb b h1))
    (idxAt fi (k0_off4 q 0#32) (k0_off4_inb q h2 0)) (valAt fv (k0_off4 q 0#32) (k0_off4_inb q h2 0))
    (idxAt fi (k0_off4 q 1#32) (k0_off4_inb q h2 1)) (valAt fv (k0_off4 q 1#32) (k0_off4_inb q h2 1))

/-- The accumulator after a visit, from what it computes (`r`) and whether it is the row block's first (`f`). -/
def sixA (fa : CAcc F) (b : BitVec 32) (h1 : k0_chk1 b) (f : BitVec 1) (r : FVec F S48x256 .f32) : CAcc F :=
  blockA (blockA (blockA (blockA (blockA (blockA fa
    (k0_off5 b) (k0_off5_inb b h1) f (extractStridedSlice S8x256 ![0, 0] r slices_S48x256_o0_0_S8x256))
    (k0_off6 b) (k0_off6_inb b h1) f (extractStridedSlice S8x256 ![8, 0] r slices_S48x256_o8_0_S8x256))
    (k0_off7 b) (k0_off7_inb b h1) f (extractStridedSlice S8x256 ![16, 0] r slices_S48x256_o16_0_S8x256))
    (k0_off8 b) (k0_off8_inb b h1) f (extractStridedSlice S8x256 ![24, 0] r slices_S48x256_o24_0_S8x256))
    (k0_off9 b) (k0_off9_inb b h1) f (extractStridedSlice S8x256 ![32, 0] r slices_S48x256_o32_0_S8x256))
    (k0_off10 b) (k0_off10_inb b h1) f (extractStridedSlice S8x256 ![40, 0] r slices_S48x256_o40_0_S8x256)

/-- The accumulator after a visit. -/
def visitA (iota : FVec F S256x128 .bf16) (one zero : F .bf16) (lane : IVec S1x128 32) (fp : CPtr F) (fs : CSt F) (fi : CIdx F)
    (fv : CVal F) (fa : CAcc F) (b q : BitVec 32) (h1 : k0_chk1 b) (h2 : k0_chk2 q) : CAcc F :=
  sixA fa b h1 (first q (wordAt fp (k0_off1 b) (k0_off1_inb b h1))) (resAt iota one zero lane fs fi fv b q h1 h2)

/-! ## The memory operations -/

section Ops

variable (c : Dev nD) (bd : Option ℕ) (E : Set ℕ)

theorem wp_word (fp : CPtr F) (off : Fin 1 → Nat) (h : ∀ a, off a + S1.size a ≤ S1537.size a) (K : Elt F .i32 → sProp 𝕄) :
    iprop((((c : Thread nD τ).loc cc0_stg0_0) ↦{fullShare} fp) ∗ ((((c : Thread nD τ).loc cc0_stg0_0) ↦{fullShare} fp) -∗ K (wordAt fp off h)))
      ⊢ wp frame (wpE (defs₀ (F := F)) 𝒱₀ (c : Thread nD τ) bd) E (word (Memref.whole cc0_stg0_0) off h) K := by
  unfold word smemLoad wordAt
  iintro ⟨Hp, Hk⟩
  iapply (wp_load_rect 𝒱₀ (c : Thread nD τ) bd E (m := Memref.whole cc0_stg0_0) (r := Rect.unit (s := S1537) off S1.size h) (Finset.subset_univ _)) $$ Hp; iintro Hp
  rw [wp_ret]; imodintro
  iapply Hk; iexact Hp

theorem wp_block (fa : CAcc F) (off : Fin 2 → Nat) (h : ∀ a, off a + S8x256.size a ≤ S1536x1536.size a) (f : BitVec 1)
    (r : FVec F S8x256 .f32) (K : PUnit → sProp 𝕄) :
    iprop((((c : Thread nD τ).loc cc0_scratch0) ↦{fullShare} fa) ∗ ((((c : Thread nD τ).loc cc0_scratch0) ↦{fullShare} blockA fa off h f r) -∗ K ⟨⟩))
      ⊢ wp frame (wpE (defs₀ (F := F)) 𝒱₀ (c : Thread nD τ) bd) E (block (Memref.whole cc0_scratch0) off h f r) K := by
  unfold block
  simp only [Prog.lift, Prog.bind_op, Prog.bind_ret, Prog.pure_eq_ret]
  iintro ⟨Ha, Hk⟩
  iapply (wp_load 𝒱₀ (c : Thread nD τ) bd E (m := Memref.whole cc0_scratch0) (Finset.subset_univ _)) $$ Ha; iintro Ha
  iapply (wp_load 𝒱₀ (c : Thread nD τ) bd E (m := Memref.whole cc0_scratch0) (Finset.subset_univ _)) $$ Ha; iintro Ha
  iapply (wp_store 𝒱₀ (c : Thread nD τ) bd E (m := Memref.whole cc0_scratch0) (r := Rect.unit (s := S1536x1536) off S8x256.size h) (Mk := Finset.univ) (Finset.subset_univ _)) $$ Ha; iintro Ha
  rw [wp_ret]; imodintro
  iapply Hk; iexact Ha

variable (iota : FVec F S256x128 .bf16) (one zero : F .bf16) (lane : IVec S1x128 32)
  (fp : CPtr F) (fs : CSt F) (fi : CIdx F) (fv : CVal F)

theorem wp_core (fa : CAcc F) (b q : BitVec 32) (h1 : k0_chk1 b) (h2 : k0_chk2 q) (K : Elt F .i32 → sProp 𝕄) :
    iprop(held c fp fs fi fv fa ∗ (held c fp fs fi fv (visitA iota one zero lane fp fs fi fv fa b q h1 h2)
        -∗ K (wordAt fp (k0_off11 b) (k0_off11_inb b h1))))
      ⊢ wp frame (wpE (defs₀ (F := F)) 𝒱₀ (c : Thread nD τ) bd) E
          (core (Memref.whole cc0_stg0_0) (Memref.whole cc0_scratch1) (Memref.whole cc0_stg2_0) (Memref.whole cc0_stg3_0)
            iota one zero lane (Memref.whole cc0_scratch0) b q h1 h2) K := by
  unfold core held
  rw [wp_bind]
  iintro ⟨⟨Hp, Hs, Hi, Hv, Ha⟩, Hk⟩
  iapply (wp_word c bd E fp)
  isplitl [Hp]; · iexact Hp
  iintro Hp
  simp only [Prog.lift, Prog.bind_op, Prog.bind_ret]
  iapply (wp_load 𝒱₀ (c : Thread nD τ) bd E (m := Memref.whole cc0_scratch1) (Finset.subset_univ _)) $$ Hs; iintro Hs
  iapply (wp_load 𝒱₀ (c : Thread nD τ) bd E (m := Memref.whole cc0_scratch1) (Finset.subset_univ _)) $$ Hs; iintro Hs
  iapply (wp_load 𝒱₀ (c : Thread nD τ) bd E (m := Memref.whole cc0_stg2_0) (Finset.subset_univ _)) $$ Hi; iintro Hi
  iapply (wp_load 𝒱₀ (c : Thread nD τ) bd E (m := Memref.whole cc0_stg3_0) (Finset.subset_univ _)) $$ Hv; iintro Hv
  iapply (wp_load 𝒱₀ (c : Thread nD τ) bd E (m := Memref.whole cc0_stg2_0) (Finset.subset_univ _)) $$ Hi; iintro Hi
  iapply (wp_load 𝒱₀ (c : Thread nD τ) bd E (m := Memref.whole cc0_stg3_0) (Finset.subset_univ _)) $$ Hv; iintro Hv
  iterate 6
    rw [wp_bind]
    iapply (wp_block c bd E)
    isplitl [Ha]; · iexact Ha
    iintro Ha
  iapply (wp_word c bd E fp)
  isplitl [Hp]; · iexact Hp
  iintro Hp
  iapply Hk
  isplitl [Hp]; · iexact Hp
  isplitl [Hs]; · iexact Hs
  isplitl [Hi]; · iexact Hi
  isplitl [Hv]; · iexact Hv
  iexact Ha

/-! ## Visits in a row -/

/-- The next row block and edge row after a visit at `b`, `q`. -/
def stepB (b q : BitVec 32) (h1 : k0_chk1 b) : BitVec 32 := nextB b q (wordAt fp (k0_off11 b) (k0_off11_inb b h1))
def stepQ (b q : BitVec 32) (h1 : k0_chk1 b) : BitVec 32 :=
  nextQ b q (wordAt fp (k0_off11 b) (k0_off11_inb b h1)) (wordAt fp (k0_off12 b) (k0_off12_inb b h1))

/-- Facts `J k` kept through `n` visits in a row, `k` of them done: they put the next visit's reads in bounds. -/
structure Keeps (n : ℕ) (J : ℕ → BitVec 32 → BitVec 32 → CAcc F → Prop) : Prop where
  chk : ∀ k b q fa, J k b q fa → k ≤ n → k0_chk1 b ∧ k0_chk2 q
  step : ∀ k b q fa (h1 : k0_chk1 b) (h2 : k0_chk2 q), k < n → J k b q fa →
    J (k + 1) (stepB fp b q h1) (stepQ fp b q h1) (visitA iota one zero lane fp fs fi fv fa b q h1 h2)

theorem wp_visits (J : ℕ → BitVec 32 → BitVec 32 → CAcc F → Prop) (hJ : Keeps iota one zero lane fp fs fi fv 8 J) :
    ∀ (n : ℕ) (b q : BitVec 32) (h1 : k0_chk1 b) (h2 : k0_chk2 q) (fa : CAcc F) (_ : n < 8) (_ : J (7 - n) b q fa)
      (K : BitVec 32 × BitVec 32 → sProp 𝕄),
    iprop(held c fp fs fi fv fa ∗ (∀ b' q' fa', ⌜J 8 b' q' fa'⌝ -∗ held c fp fs fi fv fa' -∗ K (b', q')))
      ⊢ wp frame (wpE (defs₀ (F := F)) 𝒱₀ (c : Thread nD τ) bd) E
          (visits (Memref.whole cc0_stg0_0) (Memref.whole cc0_scratch1) (Memref.whole cc0_stg2_0) (Memref.whole cc0_stg3_0)
            iota one zero lane (Memref.whole cc0_scratch0) n b q h1 h2) K := by
  intro n
  induction n with
  | zero =>
    intro b q h1 h2 fa hn hj K
    unfold visits
    rw [wp_bind]
    iintro ⟨H, Hk⟩
    iapply (wp_core c bd E)
    isplitl [H]; · iexact H
    unfold held
    iintro ⟨Hp, Hs, Hi, Hv, Ha⟩
    rw [wp_bind]
    iapply (wp_word c bd E fp)
    isplitl [Hp]; · iexact Hp
    iintro Hp
    rw [Prog.pure_eq_ret, wp_ret]; imodintro
    iapply Hk
    · ipureintro; exact hJ.step 7 b q fa h1 h2 (by omega) hj
    isplitl [Hp]; · iexact Hp
    isplitl [Hs]; · iexact Hs
    isplitl [Hi]; · iexact Hi
    isplitl [Hv]; · iexact Hv
    iexact Ha
  | succ n ih =>
    intro b q h1 h2 fa hn hj K
    have hj' := hJ.step _ b q fa h1 h2 (by omega) hj
    rw [show 7 - (n + 1) + 1 = 7 - n by omega] at hj'
    obtain ⟨h1', h2'⟩ := hJ.chk _ _ _ _ hj' (by omega)
    unfold visits
    rw [wp_bind]
    iintro ⟨H, Hk⟩
    iapply (wp_core c bd E)
    isplitl [H]; · iexact H
    unfold held
    iintro ⟨Hp, Hs, Hi, Hv, Ha⟩
    simp only [Prog.lift, Prog.bind_op, Prog.bind_ret]
    iapply (wp_assume 𝒱₀ (c : Thread nD τ) bd E h1')
    rw [wp_bind]
    iapply (wp_word c bd E fp)
    isplitl [Hp]; · iexact Hp
    iintro Hp
    iapply (wp_assume 𝒱₀ (c : Thread nD τ) bd E h2')
    iapply (ih _ _ h1' h2' _ (by omega) hj')
    isplitl [Hp Hs Hi Hv Ha]
    · unfold held
      isplitl [Hp]; · iexact Hp
      isplitl [Hs]; · iexact Hs
      isplitl [Hi]; · iexact Hi
      isplitl [Hv]; · iexact Hv
      iexact Ha
    unfold held
    iexact Hk

/-! ## The loop -/

/-- An invariant `I` of the loop's trips, with a measure `μ` that every trip lowers. -/
structure LoopInv (I : BitVec 32 → BitVec 32 → CAcc F → Prop) (μ : BitVec 32 → BitVec 32 → ℕ) : Prop where
  enter : ∀ b q fa, I b q fa → Scalar.cmpi .slt b 192#32 = 1#1 → ∃ J : ℕ → BitVec 32 → BitVec 32 → CAcc F → Prop,
    Keeps iota one zero lane fp fs fi fv 8 J ∧ J 0 b q fa ∧ ∀ b' q' fa', J 8 b' q' fa' → I b' q' fa' ∧ μ b' q' < μ b q

variable (I : BitVec 32 → BitVec 32 → CAcc F → Prop) (μ : BitVec 32 → BitVec 32 → ℕ)

/-- The loop's specification: from the buffers it returns them with some accumulator that meets the
    invariant at a row block past the last. -/
def spec (fa : CAcc F) : sWPT 𝕄 (BitVec 32 × BitVec 32) := do
  sWPT.consume (held c fp fs fi fv fa)
  let r ← sWPT.arbitrary
  let fa' ← sWPT.arbitrary
  sWPT.assume (I r.1 r.2 fa' ∧ ¬ Scalar.cmpi .slt r.1 192#32 = 1#1)
  sWPT.produce (held c fp fs fi fv fa')
  pure r

theorem spec_apply (fa : CAcc F) (K : BitVec 32 × BitVec 32 → sProp 𝕄) :
    spec c fp fs fi fv I fa K
      = iprop(held c fp fs fi fv fa ∗ ∀ r : BitVec 32 × BitVec 32, ∀ fa' : CAcc F,
          ⌜I r.1 r.2 fa' ∧ ¬ Scalar.cmpi .slt r.1 192#32 = 1#1⌝ -∗ (held c fp fs fi fv fa' -∗ K r)) := rfl

theorem spec_le (hI : LoopInv iota one zero lane fp fs fi fv I μ) (v : ℕ) :
    ∀ (b q : BitVec 32) (fa : CAcc F), I b q fa → μ b q ≤ v → ∀ K : BitVec 32 × BitVec 32 → sProp 𝕄,
      spec c fp fs fi fv I fa K
        ⊢ wp frame (wpE (defs₀ (F := F)) 𝒱₀ (c : Thread nD τ) (some v)) E
          (defs₀ (F := F) .tc 1 ⟨Memref.whole cc0_stg0_0, Memref.isWhole_whole _, Memref.whole cc0_scratch1, Memref.isWhole_whole _,
            Memref.whole cc0_stg2_0, Memref.isWhole_whole _, Memref.whole cc0_stg3_0, Memref.isWhole_whole _, iota, one, zero, lane,
            Memref.whole cc0_scratch0, Memref.isWhole_whole _, b, q⟩) K := by
  induction v using Nat.strong_induction_on with
  | _ v ih =>
    intro b q fa hi hv K
    rw [spec_apply]
    show _ ⊢ wp frame (wpE (defs₀ (F := F)) 𝒱₀ (c : Thread nD τ) (some v)) E
      (cc0_while1 (Memref.whole cc0_stg0_0) (Memref.isWhole_whole _) (Memref.whole cc0_scratch1) (Memref.isWhole_whole _)
        (Memref.whole cc0_stg2_0) (Memref.isWhole_whole _) (Memref.whole cc0_stg3_0) (Memref.isWhole_whole _) iota one zero lane
        (Memref.whole cc0_scratch0) (Memref.isWhole_whole _) b q) K
    rw [while_eq]
    unfold loop
    by_cases ht : Scalar.cmpi .slt b 192#32 = 1#1
    · rw [if_pos ht]
      obtain ⟨J, hJ, h0, h8⟩ := hI.enter b q fa hi ht
      obtain ⟨h1, h2⟩ := hJ.chk _ _ _ _ h0 (by omega)
      simp only [Prog.lift, Prog.bind_op, Prog.bind_ret]
      iintro ⟨H, Hk⟩
      iapply (wp_assume 𝒱₀ (c : Thread nD τ) (some v) E h2)
      iapply (wp_assume 𝒱₀ (c : Thread nD τ) (some v) E h1)
      rw [wp_bind]
      iapply (wp_visits c (some v) E iota one zero lane fp fs fi fv J hJ 7 b q h1 h2 fa (by omega) h0)
      isplitl [H]; · iexact H
      iintro %b' %q' %fa' %hj H
      obtain ⟨hi', hlt⟩ := h8 _ _ _ hj
      iapply (wp_call_spec 𝒱₀ (c : Thread nD τ) (some v) E (spec c fp fs fi fv I fa') (μ b' q')
        (fun u hu => by cases hu; exact lt_of_lt_of_le hlt hv) (ih _ (lt_of_lt_of_le hlt hv) b' q' fa' hi' le_rfl))
      rw [spec_apply]
      isplitl [H]; · iexact H
      iintro %r %fa'' %hr H
      rw [wp_ret]; imodintro
      iapply Hk
      · ipureintro; exact hr
      · iexact H
    · rw [if_neg ht]
      iintro ⟨H, Hk⟩
      rw [Prog.pure_eq_ret, wp_ret]; imodintro
      iapply Hk
      · ipureintro; exact ⟨hi, ht⟩
      · iexact H

end Ops

end Cert.Kernel.Visit
-- ==== Proof.K.Body.lean ====
/-
  The kernel's body, written as its stages: the row starts, the codes, the transposed projection,
  the loop of visits, and six row blocks of results.
-/
module

public import proofs.«01_k».proof.Proof.K.Visit

@[expose] public section

set_option maxRecDepth 16384

noncomputable section

namespace Cert.Kernel.Visit

open Idealize.ShloMosaic Idealize.SL.Sem
open Cert.Kernel Cert.Kernel.Gen

variable {F : FTy → Type} [FloatOps F]

/-! ## The vectors -/

/-- 128 row starts, each along a row of 128 lanes. -/
def spread (w : Vec F S128 .i32) : IVec S128x128 32 :=
  shapeCast S128x128
    (transpose S128x128 [1, 0]
      (broadcastTo S128x128
        (shapeCast S1x128 (shapeCast S1x128 w shapeCasts_S128_S1x128) shapeCasts_S1x128_S1x128)
        broadcasts_S1x128_S128x128)
      transposes_S128x128_p1_0_S128x128)
    shapeCasts_S128x128_S128x128

/-- The end of the last row, in every lane of eight rows. -/
def lastStart (w : Elt F .i32) : IVec S8x128 32 :=
  shapeCast S8x128 (broadcast S8x128 w) shapeCasts_S8x128_S8x128

/-- The number of the field a lane holds: the lane over 32, rounded down. -/
def fieldNo : IVec S1536x128 32 :=
  have l : IVec S1536x128 32 := iota .tc S1536x128 32 [1] iota_S1536x128_d1_w32
  select
    (andi
      (cmpi .ne
        (subi (extui 32 (cmpi .sgt l (broadcast S1536x128 0#32)) natLt_1_32)
          (extui 32 (cmpi .slt l (broadcast S1536x128 0#32)) natLt_1_32))
        (broadcast S1536x128
          (Scalar.subi (Scalar.extui (Scalar.cmpi .sgt 32#32 0#32)) (Scalar.extui (Scalar.cmpi .slt 32#32 0#32)))))
      (cmpi .ne (remsi l (broadcast S1536x128 32#32)) (broadcast S1536x128 0#32)))
    (subi (divsi l (broadcast S1536x128 32#32)) (broadcast S1536x128 1#32))
    (divsi l (broadcast S1536x128 32#32))

/-- The two-bit codes, the four fields of a byte in four groups of 32 lanes. -/
def codes (z : Vec F S1536x32 .i8) : FVec F S1536x128 .bf16 :=
  have y : IVec S1536x32 32 := extui 32 z natLt_8_32
  have zz : IVec S1536x128 32 :=
    concatenate S1536x128 1 [⟨S1536x32, y⟩, ⟨S1536x32, y⟩, ⟨S1536x32, y⟩, ⟨S1536x32, y⟩]
      concatenates_S1536x32_S1536x32_S1536x32_S1536x32_S1536x128_d1
  have f : FVec F S1536x128 .f32 :=
    sitofp .f32 (andi (shrsi zz (muli fieldNo (broadcast S1536x128 2#32))) (broadcast S1536x128 3#32))
  shapeCast S1536x128 (truncf .bf16 f bitsLt_bf16_f32 : FVec F S1536x128 .bf16) shapeCasts_S1536x128_S1536x128

/-- A row's number modulo 32, as the kernel spells it. -/
def dstMod : IVec S128x128 32 :=
  have d : IVec S128x128 32 := iota .tc S128x128 32 [0] iota_S128x128_d0_w32
  have n : BitVec 32 := Scalar.select (Scalar.cmpi .eq 32#32 0#32) 1#32 32#32
  have r : IVec S128x128 32 := remsi d (broadcast S128x128 n)
  select
    (andi
      (xori (cmpi .slt r (broadcast S128x128 0#32))
        (broadcastTo S128x128 (broadcast S128x128 (Scalar.cmpi .slt n 0#32) : IVec S128x128 1) broadcasts_S128x128_S128x128))
      (cmpi .ne r (broadcast S128x128 0#32)))
    (addi r (broadcast S128x128 n)) r

/-- A row's number over 32, rounded down. -/
def dstDiv : IVec S128x128 32 :=
  have d : IVec S128x128 32 := iota .tc S128x128 32 [0] iota_S128x128_d0_w32
  select
    (andi
      (cmpi .ne
        (subi (extui 32 (cmpi .sgt d (broadcast S128x128 0#32)) natLt_1_32)
          (extui 32 (cmpi .slt d (broadcast S128x128 0#32)) natLt_1_32))
        (broadcast S128x128
          (Scalar.subi (Scalar.extui (Scalar.cmpi .sgt 32#32 0#32)) (Scalar.extui (Scalar.cmpi .slt 32#32 0#32)))))
      (cmpi .ne (remsi d (broadcast S128x128 32#32)) (broadcast S128x128 0#32)))
    (subi (divsi d (broadcast S128x128 32#32)) (broadcast S128x128 1#32))
    (divsi d (broadcast S128x128 32#32))

/-- The matrix that regroups 128 lanes by field: a one where the source lane is the wanted one. -/
def perm : FVec F S128x128 .bf16 :=
  truncf .bf16
    (select
      (cmpi .eq (iota .tc S128x128 32 [1] iota_S128x128_d1_w32)
        (addi (muli dstMod (broadcast S128x128 4#32)) dstDiv))
      (broadcast S128x128 (Scalar.ofBits .f32 0x3F800000#32))
      (broadcast S128x128 (Scalar.ofBits .f32 0x00000000#32)) : FVec F S128x128 .f32)
    bitsLt_bf16_f32

/-- The projection, transposed, its lanes regrouped by field. -/
def rtOf (r : Vec F S1024x128 .i8) : FVec F S128x1024 .bf16 :=
  have x : FVec F S1024x128 .bf16 := truncf .bf16 (sitofp .f32 r : FVec F S1024x128 .f32) bitsLt_bf16_f32
  have m : FVec F S128x1024 .f32 :=
    matmul dot_S128x128_S1024x128_S128x1024_1_1_0_0_n_n none perm x (constant S128x1024 .f32 0x00000000#32)
  shapeCast S128x1024 (truncf .bf16 m bitsLt_bf16_f32 : FVec F S128x1024 .bf16) shapeCasts_S128x1024_S128x1024

/-- The lane numbers 0 to 255 down a column, in every lane. -/
def iotaLo : FVec F S256x128 .bf16 :=
  truncf .bf16 (sitofp .f32 (iota .tc S256x128 32 [0] iota_S256x128_d0_w32) : FVec F S256x128 .f32) bitsLt_bf16_f32

/-- The lane numbers. -/
def laneNo : IVec S1x128 32 := iota .tc S1x128 32 [1] iota_S1x128_d1_w32

/-- One and zero. -/
def oneC : F .bf16 := Scalar.ofBits .bf16 0x3F80#16
def zeroC : F .bf16 := Scalar.ofBits .bf16 0x0000#16

/-- The running sum of the products with the column minima, after one more column block. -/
def mtStep (mt : FVec F S256x128 .f32) (a : Vec F S256x256 .f32) (m : Vec F S256 .f32) : FVec F S256x128 .f32 :=
  have am : FVec F S256x256 .f32 :=
    mulf a (broadcastTo S256x256 (shapeCast S1x256 m shapeCasts_S256_S1x256) broadcasts_S1x256_S256x256)
  addf (addf mt (extractStridedSlice S256x128 ![0, 0] am slices_S256x256_o0_0_S256x128))
    (extractStridedSlice S256x128 ![0, 128] am slices_S256x256_o0_128_S256x128)

/-- The running sum of the products with the scaled codes, after one more column block. -/
def xStep (x : FVec F S256x128 .f32) (a : Vec F S256x256 .f32) (s : Vec F S256 .f32) (c : Vec F S256x128 .bf16) :
    FVec F S256x128 .f32 :=
  have p : FVec F S256x256 .f32 :=
    mulf a (broadcastTo S256x256 (shapeCast S1x256 s shapeCasts_S256_S1x256) broadcasts_S1x256_S256x256)
  have hi : FVec F S256x256 .bf16 := truncf .bf16 p bitsLt_bf16_f32
  have r : FVec F S256x256 .f32 := subf p (extf .f32 hi bitsLt_bf16_f32)
  have mid : FVec F S256x256 .bf16 := truncf .bf16 r bitsLt_bf16_f32
  have lo : FVec F S256x256 .bf16 := truncf .bf16 (subf r (extf .f32 mid bitsLt_bf16_f32)) bitsLt_bf16_f32
  addf
    (addf
      (addf x (matmul dot_S256x256_S256x128_S256x128_1_0_0_1_n_n none hi c (constant S256x128 .f32 0x00000000#32)))
      (matmul dot_S256x256_S256x128_S256x128_1_0_0_1_n_n none mid c (constant S256x128 .f32 0x00000000#32)))
    (matmul dot_S256x256_S256x128_S256x128_1_0_0_1_n_n none lo c (constant S256x128 .f32 0x00000000#32))

/-- Both sums together, in three parts of 128 lanes. -/
def x3Of (x mt : FVec F S256x128 .f32) : FVec F S256x384 .bf16 :=
  have y : FVec F S256x128 .f32 :=
    addf x (broadcastTo S256x128
      (shapeCast S256x1 (multiReduction .add [1] S256 mt 0x00000000#32 reduces_S256x128_S256 (.inl rfl) rfl)
        shapeCasts_S256_S256x1) broadcasts_S256x1_S256x128)
  have hi : FVec F S256x128 .bf16 := truncf .bf16 y bitsLt_bf16_f32
  have r : FVec F S256x128 .f32 := subf y (extf .f32 hi bitsLt_bf16_f32)
  have mid : FVec F S256x128 .bf16 := truncf .bf16 r bitsLt_bf16_f32
  have lo : FVec F S256x128 .bf16 := truncf .bf16 (subf r (extf .f32 mid bitsLt_bf16_f32)) bitsLt_bf16_f32
  concatenate S256x384 1 [⟨S256x128, hi⟩, ⟨S256x128, mid⟩, ⟨S256x128, lo⟩]
    concatenates_S256x128_S256x128_S256x128_S256x384_d1

/-- A row block of the aggregate. -/
def aggOf (x mt : FVec F S256x128 .f32) (rt : Vec F S384x1024 .bf16) : FVec F S256x1024 .bf16 :=
  truncf .bf16
    (mulf (matmul dot_S256x384_S384x1024_S256x1024_1_0_0_1_n_n none (x3Of x mt) rt (constant S256x1024 .f32 0x00000000#32))
      (broadcast S256x1024 (Scalar.ofBits .f32 0x3DB504F3#32)) : FVec F S256x1024 .f32)
    bitsLt_bf16_f32

/-- What a row block adds to the weight gradient. -/
def dwOf (agg : FVec F S256x1024 .bf16) (y : Vec F S256x320 .bf16) : FVec F S1024x320 .f32 :=
  matmul dot_S256x1024_S256x320_S1024x320_0_0_1_1_n_n none agg y (constant S1024x320 .f32 0x00000000#32)

/-- All zeros. -/
def zeros : FVec F S256x128 .f32 := broadcast S256x128 (Scalar.ofBits .f32 0x00000000#32)

/-! ## The offsets -/

theorem row_inb (k : Nat) (hk : k < 12) : ∀ a, (![128 * k] : Fin 1 → Nat) a + S128.size a ≤ S1537.size a := by
  intro a; fin_cases a; show 128 * k + 128 ≤ 1537; omega
theorem st_inb (k : Nat) (hk : k < 12) : ∀ a, (![128 * k, 0] : Fin 2 → Nat) a + S128x128.size a ≤ S1544x128.size a := by
  intro a; fin_cases a
  · show 128 * k + 128 ≤ 1544; omega
  · show 0 + 128 ≤ 128; omega
theorem rt_inb (k : Nat) (hk : k < 3) : ∀ a, (![128 * k, 0] : Fin 2 → Nat) a + S128x1024.size a ≤ S384x1024.size a := by
  intro a; fin_cases a
  · show 128 * k + 128 ≤ 384; omega
  · show 0 + 1024 ≤ 1024; omega
theorem acc_inb (i k : Nat) (hi : i < 6) (hk : k < 6) : ∀ a, (![256 * i, 256 * k] : Fin 2 → Nat) a + S256x256.size a ≤ S1536x1536.size a := by
  intro a; fin_cases a
  · show 256 * i + 256 ≤ 1536; omega
  · show 256 * k + 256 ≤ 1536; omega
theorem vec_inb (k : Nat) (hk : k < 6) : ∀ a, (![256 * k] : Fin 1 → Nat) a + S256.size a ≤ S1536.size a := by
  intro a; fin_cases a; show 256 * k + 256 ≤ 1536; omega
theorem code_inb (k : Nat) (hk : k < 6) : ∀ a, (![256 * k, 0] : Fin 2 → Nat) a + S256x128.size a ≤ S1536x128.size a := by
  intro a; fin_cases a
  · show 256 * k + 256 ≤ 1536; omega
  · show 0 + 128 ≤ 128; omega
theorem agg_inb (k : Nat) (hk : k < 6) : ∀ a, (![256 * k, 0] : Fin 2 → Nat) a + S256x1024.size a ≤ S1536x1024.size a := by
  intro a; fin_cases a
  · show 256 * k + 256 ≤ 1536; omega
  · show 0 + 1024 ≤ 1024; omega
theorem dy_inb (k : Nat) (hk : k < 6) : ∀ a, (![256 * k, 0] : Fin 2 → Nat) a + S256x320.size a ≤ S1536x320.size a := by
  intro a; fin_cases a
  · show 256 * k + 256 ≤ 1536; omega
  · show 0 + 320 ≤ 320; omega

/-! ## The memory operations -/

variable (arg0 : Memref sig .tc .smem S1537 .i32) (harg0 : arg0.IsWhole)
  (arg1 : Memref sig .tc .vmem S1537 .i32) (harg1 : arg1.IsWhole)
  (arg2 : Memref sig .tc .vmem S384x128 .i32) (harg2 : arg2.IsWhole)
  (arg3 : Memref sig .tc .vmem S384x128 .f32) (harg3 : arg3.IsWhole)
  (arg4 : Memref sig .tc .vmem S1536x32 .i8) (harg4 : arg4.IsWhole)
  (arg5 : Memref sig .tc .vmem S1536 .f32) (harg5 : arg5.IsWhole)
  (arg6 : Memref sig .tc .vmem S1536 .f32) (harg6 : arg6.IsWhole)
  (arg7 : Memref sig .tc .vmem S1024x128 .i8) (harg7 : arg7.IsWhole)
  (arg8 : Memref sig .tc .vmem S1536x320 .bf16) (harg8 : arg8.IsWhole)
  (arg9 : Memref sig .tc .vmem S1024x320 .f32) (harg9 : arg9.IsWhole)
  (arg10 : Memref sig .tc .vmem S1536x1024 .bf16) (harg10 : arg10.IsWhole)
  (arg11 : Memref sig .tc .vmem S1536x1536 .f32) (harg11 : arg11.IsWhole)
  (arg12 : Memref sig .tc .vmem S1544x128 .i32) (harg12 : arg12.IsWhole)
  (arg13 : Memref sig .tc .vmem S1536x128 .bf16) (harg13 : arg13.IsWhole)
  (arg14 : Memref sig .tc .vmem S384x1024 .bf16) (harg14 : arg14.IsWhole)

include harg14 in
theorem rt_stores (k : Nat) (hk : k < 3) :
    (arg14.access (Rect.unit (s := S384x1024) ![128 * k, 0] S128x1024.size (rt_inb k hk))).Stores Finset.univ := by
  match k, hk with
  | 0, _ => exact View.stores_vmem h_S128x1024 (harg14.storeExact_slice rfl _ packedbf16_S384x1024_S128x1024_0_0) (fun _ => rfl)
  | 1, _ => exact View.stores_vmem h_S128x1024 (harg14.storeExact_slice rfl _ packedbf16_S384x1024_S128x1024_128_0) (fun _ => rfl)
  | 2, _ => exact View.stores_vmem h_S128x1024 (harg14.storeExact_slice rfl _ packedbf16_S384x1024_S128x1024_256_0) (fun _ => rfl)

include harg10 in
theorem agg_stores (k : Nat) (hk : k < 6) :
    (arg10.access (Rect.unit (s := S1536x1024) ![256 * k, 0] S256x1024.size (agg_inb k hk))).Stores Finset.univ := by
  match k, hk with
  | 0, _ => exact View.stores_vmem h_S256x1024 (harg10.storeExact_slice rfl _ packedbf16_S1536x1024_S256x1024_0_0) (fun _ => rfl)
  | 1, _ => exact View.stores_vmem h_S256x1024 (harg10.storeExact_slice rfl _ packedbf16_S1536x1024_S256x1024_256_0) (fun _ => rfl)
  | 2, _ => exact View.stores_vmem h_S256x1024 (harg10.storeExact_slice rfl _ packedbf16_S1536x1024_S256x1024_512_0) (fun _ => rfl)
  | 3, _ => exact View.stores_vmem h_S256x1024 (harg10.storeExact_slice rfl _ packedbf16_S1536x1024_S256x1024_768_0) (fun _ => rfl)
  | 4, _ => exact View.stores_vmem h_S256x1024 (harg10.storeExact_slice rfl _ packedbf16_S1536x1024_S256x1024_1024_0) (fun _ => rfl)
  | 5, _ => exact View.stores_vmem h_S256x1024 (harg10.storeExact_slice rfl _ packedbf16_S1536x1024_S256x1024_1280_0) (fun _ => rfl)

/-- 128 rows of the starts. -/
def startRows (k : Nat) (hk : k < 12) : Prog (TpuEff nD τ sig (Elt F) (Λ₀ F) .tc) PUnit := do
  let w : Vec F S128 .i32 ← Prog.lift (.load arg1 (Rect.unit (s := S1537) ![128 * k] S128.size (row_inb k hk)).toLoadRect (View.loadsAt_vmem h_S128))
  let _o : Vec F S128x128 .i32 ← Prog.lift (.load arg12 (Rect.unit (s := S1544x128) ![128 * k, 0] S128x128.size (st_inb k hk)).toLoadRect (View.loadsAt_vmem h_S128x128))
  Prog.lift (.store arg12 (Rect.unit (s := S1544x128) ![128 * k, 0] S128x128.size (st_inb k hk)) (spread w) Finset.univ (View.stores_vmem_bits_univ h_S128x128 rfl) (.inl rfl))

/-- The last eight rows of the starts. -/
def startLast : Prog (TpuEff nD τ sig (Elt F) (Λ₀ F) .tc) PUnit := do
  let w : Elt F .i32 ← smemLoad arg0 (Rect.unit (s := S1537) ![1536] S1.size inb_S1537_S1_1536) numel1_S1 rfl
  let _o : Vec F S8x128 .i32 ← Prog.lift (.load arg12 (Rect.unit (s := S1544x128) ![1536, 0] S8x128.size inb_S1544x128_S8x128_1536_0).toLoadRect (View.loadsAt_vmem h_S8x128))
  Prog.lift (.store arg12 (Rect.unit (s := S1544x128) ![1536, 0] S8x128.size inb_S1544x128_S8x128_1536_0) (lastStart (F := F) w) Finset.univ (View.stores_vmem_bits_univ h_S8x128 rfl) (.inl rfl))

/-- The starts. -/
def starts : Prog (TpuEff nD τ sig (Elt F) (Λ₀ F) .tc) PUnit := do
  startRows arg1 arg12 0 (by decide)
  startRows arg1 arg12 1 (by decide)
  startRows arg1 arg12 2 (by decide)
  startRows arg1 arg12 3 (by decide)
  startRows arg1 arg12 4 (by decide)
  startRows arg1 arg12 5 (by decide)
  startRows arg1 arg12 6 (by decide)
  startRows arg1 arg12 7 (by decide)
  startRows arg1 arg12 8 (by decide)
  startRows arg1 arg12 9 (by decide)
  startRows arg1 arg12 10 (by decide)
  startRows arg1 arg12 11 (by decide)
  startLast arg0 arg12

/-- The codes. -/
def codesP : Prog (TpuEff nD τ sig (Elt F) (Λ₀ F) .tc) PUnit := do
  let z : Vec F S1536x32 .i8 ← Prog.lift (.load arg4 (Rect.unit (s := S1536x32) ![0, 0] S1536x32.size inb_S1536x32_S1536x32_0_0).toLoadRect (View.loadsAt_vmem h_S1536x32))
  let _o : Vec F S1536x128 .bf16 ← Prog.lift (.load arg13 (Rect.unit (s := S1536x128) ![0, 0] S1536x128.size inb_S1536x128_S1536x128_0_0).toLoadRect (View.loadsAt_vmem h_S1536x128))
  Prog.lift (.store arg13 (Rect.unit (s := S1536x128) ![0, 0] S1536x128.size inb_S1536x128_S1536x128_0_0) (codes z) Finset.univ (View.stores_vmem h_S1536x128 (harg13.storeExact_slice rfl _ packedbf16_S1536x128_S1536x128_0_0) (fun _ => rfl)) (.inl rfl))

/-- A third of the transposed projection's buffer. -/
def rtRows (rt : FVec F S128x1024 .bf16) (k : Nat) (hk : k < 3) : Prog (TpuEff nD τ sig (Elt F) (Λ₀ F) .tc) PUnit := do
  let _o : Vec F S128x1024 .bf16 ← Prog.lift (.load arg14 (Rect.unit (s := S384x1024) ![128 * k, 0] S128x1024.size (rt_inb k hk)).toLoadRect (View.loadsAt_vmem h_S128x1024))
  Prog.lift (.store arg14 (Rect.unit (s := S384x1024) ![128 * k, 0] S128x1024.size (rt_inb k hk)) rt Finset.univ (rt_stores arg14 harg14 k hk) (.inl rfl))

/-- The transposed projection, three times. -/
def rtP : Prog (TpuEff nD τ sig (Elt F) (Λ₀ F) .tc) PUnit := do
  let r : Vec F S1024x128 .i8 ← Prog.lift (.load arg7 (Rect.unit (s := S1024x128) ![0, 0] S1024x128.size inb_S1024x128_S1024x128_0_0).toLoadRect (View.loadsAt_vmem h_S1024x128))
  rtRows arg14 harg14 (rtOf r) 0 (by decide)
  rtRows arg14 harg14 (rtOf r) 1 (by decide)
  rtRows arg14 harg14 (rtOf r) 2 (by decide)

/-- One column block of a row block: both running sums. -/
def colStep (i k : Nat) (hi : i < 6) (hk : k < 6) (s : FVec F S256x128 .f32 × FVec F S256x128 .f32) :
    Prog (TpuEff nD τ sig (Elt F) (Λ₀ F) .tc) (FVec F S256x128 .f32 × FVec F S256x128 .f32) := do
  let a : Vec F S256x256 .f32 ← Prog.lift (.load arg11 (Rect.unit (s := S1536x1536) ![256 * i, 256 * k] S256x256.size (acc_inb i k hi hk)).toLoadRect (View.loadsAt_vmem h_S256x256))
  let sc : Vec F S256 .f32 ← Prog.lift (.load arg5 (Rect.unit (s := S1536) ![256 * k] S256.size (vec_inb k hk)).toLoadRect (View.loadsAt_vmem h_S256))
  let mn : Vec F S256 .f32 ← Prog.lift (.load arg6 (Rect.unit (s := S1536) ![256 * k] S256.size (vec_inb k hk)).toLoadRect (View.loadsAt_vmem h_S256))
  let c : Vec F S256x128 .bf16 ← Prog.lift (.load arg13 (Rect.unit (s := S1536x128) ![256 * k, 0] S256x128.size (code_inb k hk)).toLoadRect (View.loadsAt_vmem h_S256x128))
  pure (xStep s.1 a sc c, mtStep s.2 a mn)

/-- A row block of the aggregate, stored. -/
def rowAgg (i : Nat) (hi : i < 6) : Prog (TpuEff nD τ sig (Elt F) (Λ₀ F) .tc) (FVec F S256x1024 .bf16) := do
  let s0 ← colStep arg5 arg6 arg11 arg13 i 0 hi (by decide) (zeros, zeros)
  let s1 ← colStep arg5 arg6 arg11 arg13 i 1 hi (by decide) s0
  let s2 ← colStep arg5 arg6 arg11 arg13 i 2 hi (by decide) s1
  let s3 ← colStep arg5 arg6 arg11 arg13 i 3 hi (by decide) s2
  let s4 ← colStep arg5 arg6 arg11 arg13 i 4 hi (by decide) s3
  let s5 ← colStep arg5 arg6 arg11 arg13 i 5 hi (by decide) s4
  let rt : Vec F S384x1024 .bf16 ← Prog.lift (.load arg14 (Rect.unit (s := S384x1024) ![0, 0] S384x1024.size inb_S384x1024_S384x1024_0_0).toLoadRect (View.loadsAt_vmem h_S384x1024))
  let _o : Vec F S256x1024 .bf16 ← Prog.lift (.load arg10 (Rect.unit (s := S1536x1024) ![256 * i, 0] S256x1024.size (agg_inb i hi)).toLoadRect (View.loadsAt_vmem h_S256x1024))
  Prog.lift (.store arg10 (Rect.unit (s := S1536x1024) ![256 * i, 0] S256x1024.size (agg_inb i hi)) (aggOf s5.1 s5.2 rt) Finset.univ (agg_stores arg10 harg10 i hi) (.inl rfl))
  pure (aggOf s5.1 s5.2 rt)

/-- What a row block adds to the weight gradient, from the cotangent's rows. -/
def rowDw (i : Nat) (hi : i < 6) : Prog (TpuEff nD τ sig (Elt F) (Λ₀ F) .tc) (FVec F S1024x320 .f32) := do
  let agg ← rowAgg arg5 arg6 arg10 harg10 arg11 arg13 arg14 i hi
  let y : Vec F S256x320 .bf16 ← Prog.lift (.load arg8 (Rect.unit (s := S1536x320) ![256 * i, 0] S256x320.size (dy_inb i hi)).toLoadRect (View.loadsAt_vmem h_S256x320))
  pure (dwOf agg y)

/-- The first row block. -/
def rowFirst : Prog (TpuEff nD τ sig (Elt F) (Λ₀ F) .tc) PUnit := do
  let d ← rowDw arg5 arg6 arg8 arg10 harg10 arg11 arg13 arg14 0 (by decide)
  let _o : Vec F S1024x320 .f32 ← Prog.lift (.load arg9 (Rect.unit (s := S1024x320) ![0, 0] S1024x320.size inb_S1024x320_S1024x320_0_0).toLoadRect (View.loadsAt_vmem h_S1024x320))
  Prog.lift (.store arg9 (Rect.unit (s := S1024x320) ![0, 0] S1024x320.size inb_S1024x320_S1024x320_0_0) d Finset.univ (View.stores_vmem_bits_univ h_S1024x320 rfl) (.inl rfl))

/-- A later row block. -/
def rowLater (i : Nat) (hi : i < 6) : Prog (TpuEff nD τ sig (Elt F) (Λ₀ F) .tc) PUnit := do
  let d ← rowDw arg5 arg6 arg8 arg10 harg10 arg11 arg13 arg14 i hi
  let o : Vec F S1024x320 .f32 ← Prog.lift (.load arg9 (Rect.unit (s := S1024x320) ![0, 0] S1024x320.size inb_S1024x320_S1024x320_0_0).toLoadRect (View.loadsAt_vmem h_S1024x320))
  let _o : Vec F S1024x320 .f32 ← Prog.lift (.load arg9 (Rect.unit (s := S1024x320) ![0, 0] S1024x320.size inb_S1024x320_S1024x320_0_0).toLoadRect (View.loadsAt_vmem h_S1024x320))
  Prog.lift (.store arg9 (Rect.unit (s := S1024x320) ![0, 0] S1024x320.size inb_S1024x320_S1024x320_0_0) (addf (shapeCast S1024x320 o shapeCasts_S1024x320_S1024x320 : FVec F S1024x320 .f32) d) Finset.univ (View.stores_vmem_bits_univ h_S1024x320 rfl) (.inl rfl))

/-- The body, by stages. -/
def body : Prog (TpuEff nD τ sig (Elt F) (Λ₀ F) .tc) PUnit := do
  starts arg0 arg1 arg12
  codesP arg4 arg13 harg13
  rtP arg7 arg14 harg14
  let w : Elt F .i32 ← smemLoad arg0 (Rect.unit (s := S1537) ![0] S1.size inb_S1537_S1_0) numel1_S1 rfl
  let _s : BitVec 32 × BitVec 32 ← Prog.lift (.call (1 : (Λ₀ F).Label) ⟨arg0, harg0, arg12, harg12, arg2, harg2, arg3, harg3, iotaLo, oneC, zeroC, laneNo, arg11, harg11, 0#32, fdiv w⟩)
  rowFirst arg5 arg6 arg8 arg9 arg10 harg10 arg11 arg13 arg14
  rowLater arg5 arg6 arg8 arg9 arg10 harg10 arg11 arg13 arg14 1 (by decide)
  rowLater arg5 arg6 arg8 arg9 arg10 harg10 arg11 arg13 arg14 2 (by decide)
  rowLater arg5 arg6 arg8 arg9 arg10 harg10 arg11 arg13 arg14 3 (by decide)
  rowLater arg5 arg6 arg8 arg9 arg10 harg10 arg11 arg13 arg14 4 (by decide)
  rowLater arg5 arg6 arg8 arg9 arg10 harg10 arg11 arg13 arg14 5 (by decide)

end Cert.Kernel.Visit
-- ==== Proof.K.BodyEq.lean ====
/-
  The kernel's body is its stages in a row.
-/
module

public import proofs.«01_k».proof.Proof.K.Body

@[expose] public section

set_option maxRecDepth 16384

noncomputable section

namespace Cert.Kernel.Visit

open Idealize.ShloMosaic Idealize.SL.Sem
open Cert.Kernel Cert.Kernel.Gen

variable {F : FTy → Type} [FloatOps F]

set_option maxHeartbeats 2000000 in
/-- The kernel's body is its stages in a row. -/
theorem body_eq (arg0 : Memref sig .tc .smem S1537 .i32) (harg0 : arg0.IsWhole)
    (arg1 : Memref sig .tc .vmem S1537 .i32) (harg1 : arg1.IsWhole)
    (arg2 : Memref sig .tc .vmem S384x128 .i32) (harg2 : arg2.IsWhole)
    (arg3 : Memref sig .tc .vmem S384x128 .f32) (harg3 : arg3.IsWhole)
    (arg4 : Memref sig .tc .vmem S1536x32 .i8) (harg4 : arg4.IsWhole)
    (arg5 : Memref sig .tc .vmem S1536 .f32) (harg5 : arg5.IsWhole)
    (arg6 : Memref sig .tc .vmem S1536 .f32) (harg6 : arg6.IsWhole)
    (arg7 : Memref sig .tc .vmem S1024x128 .i8) (harg7 : arg7.IsWhole)
    (arg8 : Memref sig .tc .vmem S1536x320 .bf16) (harg8 : arg8.IsWhole)
    (arg9 : Memref sig .tc .vmem S1024x320 .f32) (harg9 : arg9.IsWhole)
    (arg10 : Memref sig .tc .vmem S1536x1024 .bf16) (harg10 : arg10.IsWhole)
    (arg11 : Memref sig .tc .vmem S1536x1536 .f32) (harg11 : arg11.IsWhole)
    (arg12 : Memref sig .tc .vmem S1544x128 .i32) (harg12 : arg12.IsWhole)
    (arg13 : Memref sig .tc .vmem S1536x128 .bf16) (harg13 : arg13.IsWhole)
    (arg14 : Memref sig .tc .vmem S384x1024 .bf16) (harg14 : arg14.IsWhole) :
    cc0_gcn_wgrad (F := F) arg0 harg0 arg1 harg1 arg2 harg2 arg3 harg3 arg4 harg4 arg5 harg5 arg6 harg6
        arg7 harg7 arg8 harg8 arg9 harg9 arg10 harg10 arg11 harg11 arg12 harg12 arg13 harg13 arg14 harg14
      = body arg0 harg0 arg1 arg2 harg2 arg3 harg3 arg4 arg5 arg6 arg7 arg8 arg9 arg10 harg10
        arg11 harg11 arg12 harg12 arg13 harg13 arg14 harg14 := rfl

end Cert.Kernel.Visit
-- ==== Proof.K.Stages.lean ====
/-
  The kernel's body over the buffers it holds: what each stage leaves in them, as functions of contents,
  and the body's triple from any invariant of its loop.
-/
module

public import proofs.«01_k».proof.Proof.K.Loop
public import proofs.«01_k».proof.Proof.K.Body
public import proofs.«01_k».proof.Proof.K.BodyEq

@[expose] public section

set_option maxRecDepth 16384

noncomputable section

namespace Cert.Kernel.Visit

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A buffer's contents; a buffer of the core held whole at its contents. -/
abbrev C (b : Ref sig .tc) (F : FTy → Type) := b.ty.Contents (Elt F)
abbrev pt (c : Dev nD) (b : Ref sig .tc) (f : C b F) : sProp 𝕄 := iprop(((c : Thread nD τ).loc b) ↦{fullShare} f)

/-! ## What the stages leave -/

/-- 128 rows of the starts. -/
def startRowA (f1 : C cc0_stg1_0 F) (fs : CSt F) (k : Nat) (hk : k < 12) : CSt F :=
  ((Memref.whole cc0_scratch1).access (Rect.unit (s := S1544x128) ![128 * k, 0] S128x128.size (st_inb k hk)) : View sig .tc _ _ _).write (Elt F) fs
    (spread ((Memref.whole cc0_stg1_0).view.readAt (Elt F) (Rect.unit (s := S1537) ![128 * k] S128.size (row_inb k hk)).toLoadRect f1)) Finset.univ

/-- The last eight rows of the starts. -/
def startLastA (f0 : CPtr F) (fs : CSt F) : CSt F :=
  ((Memref.whole cc0_scratch1).access (Rect.unit (s := S1544x128) ![1536, 0] S8x128.size inb_S1544x128_S8x128_1536_0) : View sig .tc _ _ _).write (Elt F) fs
    (lastStart (F := F) (wordAt f0 ![1536] inb_S1537_S1_1536)) Finset.univ

/-- The starts. -/
def startsA (f0 : CPtr F) (f1 : C cc0_stg1_0 F) (fs : CSt F) : CSt F :=
  startLastA f0
    (startRowA f1 (startRowA f1 (startRowA f1 (startRowA f1 (startRowA f1 (startRowA f1
      (startRowA f1 (startRowA f1 (startRowA f1 (startRowA f1 (startRowA f1 (startRowA f1 fs
        0 (by decide)) 1 (by decide)) 2 (by decide)) 3 (by decide)) 4 (by decide)) 5 (by decide))
        6 (by decide)) 7 (by decide)) 8 (by decide)) 9 (by decide)) 10 (by decide)) 11 (by decide))

/-- The codes. -/
def codesA (fz : C cc0_stg4_0 F) (fc : C cc0_scratch2 F) : C cc0_scratch2 F :=
  ((Memref.whole cc0_scratch2).access (Rect.unit (s := S1536x128) ![0, 0] S1536x128.size inb_S1536x128_S1536x128_0_0) : View sig .tc _ _ _).write (Elt F) fc
    (codes ((Memref.whole cc0_stg4_0).view.readAt (Elt F) (Rect.unit (s := S1536x32) ![0, 0] S1536x32.size inb_S1536x32_S1536x32_0_0).toLoadRect fz)) Finset.univ

/-- A third of the transposed projection's buffer; all of it. -/
def rtRowA (rt : FVec F S128x1024 .bf16) (ft : C cc0_scratch3 F) (k : Nat) (hk : k < 3) : C cc0_scratch3 F :=
  ((Memref.whole cc0_scratch3).access (Rect.unit (s := S384x1024) ![128 * k, 0] S128x1024.size (rt_inb k hk)) : View sig .tc _ _ _).write (Elt F) ft rt Finset.univ

def rtVec (fr : C cc0_stg7_0 F) : FVec F S128x1024 .bf16 :=
  rtOf ((Memref.whole cc0_stg7_0).view.readAt (Elt F) (Rect.unit (s := S1024x128) ![0, 0] S1024x128.size inb_S1024x128_S1024x128_0_0).toLoadRect fr)

def rtA (fr : C cc0_stg7_0 F) (ft : C cc0_scratch3 F) : C cc0_scratch3 F :=
  rtRowA (rtVec fr) (rtRowA (rtVec fr) (rtRowA (rtVec fr) ft 0 (by decide)) 1 (by decide)) 2 (by decide)

/-- One column block of a row block: both running sums. -/
def colA (fsc : C cc0_stg5_0 F) (fmn : C cc0_stg6_0 F) (fa : CAcc F) (fc : C cc0_scratch2 F) (i k : Nat) (hi : i < 6) (hk : k < 6)
    (s : FVec F S256x128 .f32 × FVec F S256x128 .f32) : FVec F S256x128 .f32 × FVec F S256x128 .f32 :=
  (xStep s.1 ((Memref.whole cc0_scratch0).view.readAt (Elt F) (Rect.unit (s := S1536x1536) ![256 * i, 256 * k] S256x256.size (acc_inb i k hi hk)).toLoadRect fa)
      ((Memref.whole cc0_stg5_0).view.readAt (Elt F) (Rect.unit (s := S1536) ![256 * k] S256.size (vec_inb k hk)).toLoadRect fsc)
      ((Memref.whole cc0_scratch2).view.readAt (Elt F) (Rect.unit (s := S1536x128) ![256 * k, 0] S256x128.size (code_inb k hk)).toLoadRect fc),
    mtStep s.2 ((Memref.whole cc0_scratch0).view.readAt (Elt F) (Rect.unit (s := S1536x1536) ![256 * i, 256 * k] S256x256.size (acc_inb i k hi hk)).toLoadRect fa)
      ((Memref.whole cc0_stg6_0).view.readAt (Elt F) (Rect.unit (s := S1536) ![256 * k] S256.size (vec_inb k hk)).toLoadRect fmn))

/-- A row block of the aggregate. -/
def sumsA (fsc : C cc0_stg5_0 F) (fmn : C cc0_stg6_0 F) (fa : CAcc F) (fc : C cc0_scratch2 F) (i : Nat) (hi : i < 6) :
    FVec F S256x128 .f32 × FVec F S256x128 .f32 :=
  colA fsc fmn fa fc i 5 hi (by decide) (colA fsc fmn fa fc i 4 hi (by decide) (colA fsc fmn fa fc i 3 hi (by decide)
    (colA fsc fmn fa fc i 2 hi (by decide) (colA fsc fmn fa fc i 1 hi (by decide) (colA fsc fmn fa fc i 0 hi (by decide) (zeros, zeros))))))

def aggA (fsc : C cc0_stg5_0 F) (fmn : C cc0_stg6_0 F) (fa : CAcc F) (fc : C cc0_scratch2 F) (ft : C cc0_scratch3 F) (i : Nat) (hi : i < 6) :
    FVec F S256x1024 .bf16 :=
  aggOf (sumsA fsc fmn fa fc i hi).1 (sumsA fsc fmn fa fc i hi).2
    ((Memref.whole cc0_scratch3).view.readAt (Elt F) (Rect.unit (s := S384x1024) ![0, 0] S384x1024.size inb_S384x1024_S384x1024_0_0).toLoadRect ft)

/-- The aggregate's buffer after a row block's store. -/
def aggSt (g : FVec F S256x1024 .bf16) (fo : C cc0_stg10_0 F) (i : Nat) (hi : i < 6) : C cc0_stg10_0 F :=
  ((Memref.whole cc0_stg10_0).access (Rect.unit (s := S1536x1024) ![256 * i, 0] S256x1024.size (agg_inb i hi)) : View sig .tc _ _ _).write (Elt F) fo g Finset.univ

/-- What a row block adds to the weight gradient. -/
def dwA (fy : C cc0_stg8_0 F) (g : FVec F S256x1024 .bf16) (i : Nat) (hi : i < 6) : FVec F S1024x320 .f32 :=
  dwOf g ((Memref.whole cc0_stg8_0).view.readAt (Elt F) (Rect.unit (s := S1536x320) ![256 * i, 0] S256x320.size (dy_inb i hi)).toLoadRect fy)

/-- The weight gradient's buffer read, and stored, whole. -/
def dwLd (fw : C cc0_stg9_0 F) : Vec F S1024x320 .f32 :=
  (Memref.whole cc0_stg9_0).view.readAt (Elt F) (Rect.unit (s := S1024x320) ![0, 0] S1024x320.size inb_S1024x320_S1024x320_0_0).toLoadRect fw
def dwSt (d : FVec F S1024x320 .f32) (fw : C cc0_stg9_0 F) : C cc0_stg9_0 F :=
  ((Memref.whole cc0_stg9_0).access (Rect.unit (s := S1024x320) ![0, 0] S1024x320.size inb_S1024x320_S1024x320_0_0) : View sig .tc _ _ _).write (Elt F) fw d Finset.univ
def dwAdd (d : FVec F S1024x320 .f32) (fw : C cc0_stg9_0 F) : C cc0_stg9_0 F :=
  dwSt (addf (shapeCast S1024x320 (dwLd fw) shapeCasts_S1024x320_S1024x320 : FVec F S1024x320 .f32) d) fw

/-! ## The stages' triples -/

section Stages

variable (c : Dev nD) (bd : Option ℕ) (E : Set ℕ)

theorem wp_startRows (f1 : C cc0_stg1_0 F) (fs : CSt F) (k : Nat) (hk : k < 12) (K : PUnit → sProp 𝕄) :
    iprop(pt c cc0_stg1_0 f1 ∗ pt c cc0_scratch1 fs
        ∗ (pt c cc0_stg1_0 f1 -∗ pt c cc0_scratch1 (startRowA f1 fs k hk) -∗ K ⟨⟩))
      ⊢ wp frame (wpE (defs₀ (F := F)) 𝒱₀ (c : Thread nD τ) bd) E (startRows (Memref.whole cc0_stg1_0) (Memref.whole cc0_scratch1) k hk) K := by
  unfold startRows
  simp only [Prog.lift, Prog.bind_op, Prog.bind_ret, Prog.pure_eq_ret]
  iintro ⟨H1, Hs, Hk⟩
  iapply (wp_load 𝒱₀ (c : Thread nD τ) bd E (m := Memref.whole cc0_stg1_0) (Finset.subset_univ _)) $$ H1; iintro H1
  iapply (wp_load 𝒱₀ (c : Thread nD τ) bd E (m := Memref.whole cc0_scratch1) (Finset.subset_univ _)) $$ Hs; iintro Hs
  iapply (wp_store 𝒱₀ (c : Thread nD τ) bd E (m := Memref.whole cc0_scratch1)
    (r := Rect.unit (s := S1544x128) ![128 * k, 0] S128x128.size (st_inb k hk)) (Mk := Finset.univ) (Finset.subset_univ _)) $$ Hs; iintro Hs
  rw [wp_ret]; imodintro
  iapply Hk $$ [H1] [Hs]
  · iexact H1
  · iexact Hs

theorem wp_startLast (f0 : CPtr F) (fs : CSt F) (K : PUnit → sProp 𝕄) :
    iprop(pt c cc0_stg0_0 f0 ∗ pt c cc0_scratch1 fs
        ∗ (pt c cc0_stg0_0 f0 -∗ pt c cc0_scratch1 (startLastA f0 fs) -∗ K ⟨⟩))
      ⊢ wp frame (wpE (defs₀ (F := F)) 𝒱₀ (c : Thread nD τ) bd) E (startLast (Memref.whole cc0_stg0_0) (Memref.whole cc0_scratch1)) K := by
  unfold startLast
  rw [wp_bind]
  iintro ⟨H0, Hs, Hk⟩
  iapply (wp_word c bd E f0 ![1536] inb_S1537_S1_1536)
  isplitl [H0]; · iexact H0
  iintro H0
  simp only [Prog.lift, Prog.bind_op, Prog.bind_ret, Prog.pure_eq_ret]
  iapply (wp_load 𝒱₀ (c : Thread nD τ) bd E (m := Memref.whole cc0_scratch1) (Finset.subset_univ _)) $$ Hs; iintro Hs
  iapply (wp_store 𝒱₀ (c : Thread nD τ) bd E (m := Memref.whole cc0_scratch1)
    (r := Rect.unit (s := S1544x128) ![1536, 0] S8x128.size inb_S1544x128_S8x128_1536_0) (Mk := Finset.univ) (Finset.subset_univ _)) $$ Hs; iintro Hs
  rw [wp_ret]; imodintro
  iapply Hk $$ [H0] [Hs]
  · iexact H0
  · iexact Hs

theorem wp_starts (f0 : CPtr F) (f1 : C cc0_stg1_0 F) (fs : CSt F) (K : PUnit → sProp 𝕄) :
    iprop(pt c cc0_stg0_0 f0 ∗ pt c cc0_stg1_0 f1 ∗ pt c cc0_scratch1 fs
        ∗ (pt c cc0_stg0_0 f0 -∗ pt c cc0_stg1_0 f1 -∗ pt c cc0_scratch1 (startsA f0 f1 fs) -∗ K ⟨⟩))
      ⊢ wp frame (wpE (defs₀ (F := F)) 𝒱₀ (c : Thread nD τ) bd) E
        (starts (Memref.whole cc0_stg0_0) (Memref.whole cc0_stg1_0) (Memref.whole cc0_scratch1)) K := by
  unfold starts
  iintro ⟨H0, H1, Hs, Hk⟩
  iterate 12
    rw [wp_bind]
    iapply (wp_startRows c bd E f1)
    isplitl [H1]; · iexact H1
    isplitl [Hs]; · iexact Hs
    iintro H1 Hs
  iapply (wp_startLast c bd E f0)
  isplitl [H0]; · iexact H0
  isplitl [Hs]; · iexact Hs
  iintro H0 Hs
  iapply Hk $$ [H0] [H1] [Hs]
  · iexact H0
  · iexact H1
  · iexact Hs

theorem wp_codesP (fz : C cc0_stg4_0 F) (fc : C cc0_scratch2 F) (K : PUnit → sProp 𝕄) :
    iprop(pt c cc0_stg4_0 fz ∗ pt c cc0_scratch2 fc
        ∗ (pt c cc0_stg4_0 fz -∗ pt c cc0_scratch2 (codesA fz fc) -∗ K ⟨⟩))
      ⊢ wp frame (wpE (defs₀ (F := F)) 𝒱₀ (c : Thread nD τ) bd) E
        (codesP (Memref.whole cc0_stg4_0) (Memref.whole cc0_scratch2) (Memref.isWhole_whole _)) K := by
  unfold codesP
  simp only [Prog.lift, Prog.bind_op, Prog.bind_ret, Prog.pure_eq_ret]
  iintro ⟨H1, Hs, Hk⟩
  iapply (wp_load 𝒱₀ (c : Thread nD τ) bd E (m := Memref.whole cc0_stg4_0) (Finset.subset_univ _)) $$ H1; iintro H1
  iapply (wp_load 𝒱₀ (c : Thread nD τ) bd E (m := Memref.whole cc0_scratch2) (Finset.subset_univ _)) $$ Hs; iintro Hs
  iapply (wp_store 𝒱₀ (c : Thread nD τ) bd E (m := Memref.whole cc0_scratch2)
    (r := Rect.unit (s := S1536x128) ![0, 0] S1536x128.size inb_S1536x128_S1536x128_0_0) (Mk := Finset.univ) (Finset.subset_univ _)) $$ Hs; iintro Hs
  rw [wp_ret]; imodintro
  iapply Hk $$ [H1] [Hs]
  · iexact H1
  · iexact Hs

theorem wp_rtRows (rt : FVec F S128x1024 .bf16) (ft : C cc0_scratch3 F) (k : Nat) (hk : k < 3) (K : PUnit → sProp 𝕄) :
    iprop(pt c cc0_scratch3 ft ∗ (pt c cc0_scratch3 (rtRowA rt ft k hk) -∗ K ⟨⟩))
      ⊢ wp frame (wpE (defs₀ (F := F)) 𝒱₀ (c : Thread nD τ) bd) E
        (rtRows (Memref.whole cc0_scratch3) (Memref.isWhole_whole _) rt k hk) K := by
  unfold rtRows
  simp only [Prog.lift, Prog.bind_op, Prog.bind_ret, Prog.pure_eq_ret]
  iintro ⟨Hs, Hk⟩
  iapply (wp_load 𝒱₀ (c : Thread nD τ) bd E (m := Memref.whole cc0_scratch3) (Finset.subset_univ _)) $$ Hs; iintro Hs
  iapply (wp_store 𝒱₀ (c : Thread nD τ) bd E (m := Memref.whole cc0_scratch3)
    (r := Rect.unit (s := S384x1024) ![128 * k, 0] S128x1024.size (rt_inb k hk)) (Mk := Finset.univ) (Finset.subset_univ _)) $$ Hs; iintro Hs
  rw [wp_ret]; imodintro
  iapply Hk $$ [Hs]
  · iexact Hs

theorem wp_rtP (fr : C cc0_stg7_0 F) (ft : C cc0_scratch3 F) (K : PUnit → sProp 𝕄) :
    iprop(pt c cc0_stg7_0 fr ∗ pt c cc0_scratch3 ft
        ∗ (pt c cc0_stg7_0 fr -∗ pt c cc0_scratch3 (rtA fr ft) -∗ K ⟨⟩))
      ⊢ wp frame (wpE (defs₀ (F := F)) 𝒱₀ (c : Thread nD τ) bd) E
        (rtP (Memref.whole cc0_stg7_0) (Memref.whole cc0_scratch3) (Memref.isWhole_whole _)) K := by
  unfold rtP
  simp only [Prog.lift, Prog.bind_op, Prog.bind_ret]
  iintro ⟨H1, Hs, Hk⟩
  iapply (wp_load 𝒱₀ (c : Thread nD τ) bd E (m := Memref.whole cc0_stg7_0) (Finset.subset_univ _)) $$ H1; iintro H1
  iterate 2
    rw [wp_bind]
    iapply (wp_rtRows c bd E)
    isplitl [Hs]; · iexact Hs
    iintro Hs
  iapply (wp_rtRows c bd E)
  isplitl [Hs]; · iexact Hs
  iintro Hs
  iapply Hk $$ [H1] [Hs]
  · iexact H1
  · iexact Hs

variable (fsc : C cc0_stg5_0 F) (fmn : C cc0_stg6_0 F) (fy : C cc0_stg8_0 F) (fa : CAcc F) (fc : C cc0_scratch2 F) (ft : C cc0_scratch3 F)

/-- The buffers a row block's computation reads. -/
def rowHeld : sProp 𝕄 :=
  iprop(pt c cc0_stg5_0 fsc ∗ pt c cc0_stg6_0 fmn ∗ pt c cc0_stg8_0 fy ∗ pt c cc0_scratch0 fa ∗ pt c cc0_scratch2 fc ∗ pt c cc0_scratch3 ft)

theorem wp_colStep (i k : Nat) (hi : i < 6) (hk : k < 6) (s : FVec F S256x128 .f32 × FVec F S256x128 .f32)
    (K : FVec F S256x128 .f32 × FVec F S256x128 .f32 → sProp 𝕄) :
    iprop(rowHeld c fsc fmn fy fa fc ft ∗ (rowHeld c fsc fmn fy fa fc ft -∗ K (colA fsc fmn fa fc i k hi hk s)))
      ⊢ wp frame (wpE (defs₀ (F := F)) 𝒱₀ (c : Thread nD τ) bd) E
        (colStep (Memref.whole cc0_stg5_0) (Memref.whole cc0_stg6_0) (Memref.whole cc0_scratch0) (Memref.whole cc0_scratch2) i k hi hk s) K := by
  unfold colStep rowHeld colA
  simp only [Prog.lift, Prog.bind_op, Prog.bind_ret, Prog.pure_eq_ret]
  iintro ⟨⟨H5, H6, H8, Ha, Hc, Ht⟩, Hk⟩
  iapply (wp_load 𝒱₀ (c : Thread nD τ) bd E (m := Memref.whole cc0_scratch0) (Finset.subset_univ _)) $$ Ha; iintro Ha
  iapply (wp_load 𝒱₀ (c : Thread nD τ) bd E (m := Memref.whole cc0_stg5_0) (Finset.subset_univ _)) $$ H5; iintro H5
  iapply (wp_load 𝒱₀ (c : Thread nD τ) bd E (m := Memref.whole cc0_stg6_0) (Finset.subset_univ _)) $$ H6; iintro H6
  iapply (wp_load 𝒱₀ (c : Thread nD τ) bd E (m := Memref.whole cc0_scratch2) (Finset.subset_univ _)) $$ Hc; iintro Hc
  rw [wp_ret]; imodintro
  iapply Hk
  isplitl [H5]; · iexact H5
  isplitl [H6]; · iexact H6
  isplitl [H8]; · iexact H8
  isplitl [Ha]; · iexact Ha
  isplitl [Hc]; · iexact Hc
  iexact Ht

theorem wp_rowAgg (fo : C cc0_stg10_0 F) (i : Nat) (hi : i < 6) (K : FVec F S256x1024 .bf16 → sProp 𝕄) :
    iprop(rowHeld c fsc fmn fy fa fc ft ∗ pt c cc0_stg10_0 fo
        ∗ (rowHeld c fsc fmn fy fa fc ft -∗ pt c cc0_stg10_0 (aggSt (aggA fsc fmn fa fc ft i hi) fo i hi) -∗ K (aggA fsc fmn fa fc ft i hi)))
      ⊢ wp frame (wpE (defs₀ (F := F)) 𝒱₀ (c : Thread nD τ) bd) E
        (rowAgg (Memref.whole cc0_stg5_0) (Memref.whole cc0_stg6_0) (Memref.whole cc0_stg10_0) (Memref.isWhole_whole _)
          (Memref.whole cc0_scratch0) (Memref.whole cc0_scratch2) (Memref.whole cc0_scratch3) i hi) K := by
  unfold rowAgg aggA sumsA
  iintro ⟨H, Ho, Hk⟩
  iterate 6
    rw [wp_bind]
    iapply (wp_colStep c bd E fsc fmn fy fa fc ft)
    isplitl [H]; · iexact H
    iintro H
  simp only [Prog.lift, Prog.bind_op, Prog.bind_ret, Prog.pure_eq_ret]
  unfold rowHeld
  icases H with ⟨H5, H6, H8, Ha, Hc, Ht⟩
  iapply (wp_load 𝒱₀ (c : Thread nD τ) bd E (m := Memref.whole cc0_scratch3) (Finset.subset_univ _)) $$ Ht; iintro Ht
  iapply (wp_load 𝒱₀ (c : Thread nD τ) bd E (m := Memref.whole cc0_stg10_0) (Finset.subset_univ _)) $$ Ho; iintro Ho
  iapply (wp_store 𝒱₀ (c : Thread nD τ) bd E (m := Memref.whole cc0_stg10_0)
    (r := Rect.unit (s := S1536x1024) ![256 * i, 0] S256x1024.size (agg_inb i hi)) (Mk := Finset.univ) (Finset.subset_univ _)) $$ Ho; iintro Ho
  rw [wp_ret]; imodintro
  iapply Hk $$ [H5 H6 H8 Ha Hc Ht] [Ho]
  · isplitl [H5]; · iexact H5
    isplitl [H6]; · iexact H6
    isplitl [H8]; · iexact H8
    isplitl [Ha]; · iexact Ha
    isplitl [Hc]; · iexact Hc
    iexact Ht
  · iexact Ho

theorem wp_rowDw (fo : C cc0_stg10_0 F) (i : Nat) (hi : i < 6) (K : FVec F S1024x320 .f32 → sProp 𝕄) :
    iprop(rowHeld c fsc fmn fy fa fc ft ∗ pt c cc0_stg10_0 fo
        ∗ (rowHeld c fsc fmn fy fa fc ft -∗ pt c cc0_stg10_0 (aggSt (aggA fsc fmn fa fc ft i hi) fo i hi)
          -∗ K (dwA fy (aggA fsc fmn fa fc ft i hi) i hi)))
      ⊢ wp frame (wpE (defs₀ (F := F)) 𝒱₀ (c : Thread nD τ) bd) E
        (rowDw (Memref.whole cc0_stg5_0) (Memref.whole cc0_stg6_0) (Memref.whole cc0_stg8_0) (Memref.whole cc0_stg10_0) (Memref.isWhole_whole _)
          (Memref.whole cc0_scratch0) (Memref.whole cc0_scratch2) (Memref.whole cc0_scratch3) i hi) K := by
  unfold rowDw dwA
  rw [wp_bind]
  iintro ⟨H, Ho, Hk⟩
  iapply (wp_rowAgg c bd E fsc fmn fy fa fc ft fo)
  isplitl [H]; · iexact H
  isplitl [Ho]; · iexact Ho
  iintro H Ho
  simp only [Prog.lift, Prog.bind_op, Prog.bind_ret, Prog.pure_eq_ret]
  unfold rowHeld
  icases H with ⟨H5, H6, H8, Ha, Hc, Ht⟩
  iapply (wp_load 𝒱₀ (c : Thread nD τ) bd E (m := Memref.whole cc0_stg8_0) (Finset.subset_univ _)) $$ H8; iintro H8
  rw [wp_ret]; imodintro
  iapply Hk $$ [H5 H6 H8 Ha Hc Ht] [Ho]
  · isplitl [H5]; · iexact H5
    isplitl [H6]; · iexact H6
    isplitl [H8]; · iexact H8
    isplitl [Ha]; · iexact Ha
    isplitl [Hc]; · iexact Hc
    iexact Ht
  · iexact Ho

theorem wp_rowFirst (fo : C cc0_stg10_0 F) (fw : C cc0_stg9_0 F) (K : PUnit → sProp 𝕄) :
    iprop(rowHeld c fsc fmn fy fa fc ft ∗ pt c cc0_stg10_0 fo ∗ pt c cc0_stg9_0 fw
        ∗ (rowHeld c fsc fmn fy fa fc ft -∗ pt c cc0_stg10_0 (aggSt (aggA fsc fmn fa fc ft 0 (by decide)) fo 0 (by decide))
          -∗ pt c cc0_stg9_0 (dwSt (dwA fy (aggA fsc fmn fa fc ft 0 (by decide)) 0 (by decide)) fw) -∗ K ⟨⟩))
      ⊢ wp frame (wpE (defs₀ (F := F)) 𝒱₀ (c : Thread nD τ) bd) E
        (rowFirst (Memref.whole cc0_stg5_0) (Memref.whole cc0_stg6_0) (Memref.whole cc0_stg8_0) (Memref.whole cc0_stg9_0)
          (Memref.whole cc0_stg10_0) (Memref.isWhole_whole _) (Memref.whole cc0_scratch0) (Memref.whole cc0_scratch2) (Memref.whole cc0_scratch3)) K := by
  unfold rowFirst
  rw [wp_bind]
  iintro ⟨H, Ho, Hw, Hk⟩
  iapply (wp_rowDw c bd E fsc fmn fy fa fc ft fo)
  isplitl [H]; · iexact H
  isplitl [Ho]; · iexact Ho
  iintro H Ho
  simp only [Prog.lift, Prog.bind_op, Prog.bind_ret, Prog.pure_eq_ret]
  iapply (wp_load 𝒱₀ (c : Thread nD τ) bd E (m := Memref.whole cc0_stg9_0) (Finset.subset_univ _)) $$ Hw; iintro Hw
  iapply (wp_store 𝒱₀ (c : Thread nD τ) bd E (m := Memref.whole cc0_stg9_0)
    (r := Rect.unit (s := S1024x320) ![0, 0] S1024x320.size inb_S1024x320_S1024x320_0_0) (Mk := Finset.univ) (Finset.subset_univ _)) $$ Hw; iintro Hw
  rw [wp_ret]; imodintro
  iapply Hk $$ [H] [Ho] [Hw]
  · iexact H
  · iexact Ho
  · iexact Hw

theorem wp_rowLater (fo : C cc0_stg10_0 F) (fw : C cc0_stg9_0 F) (i : Nat) (hi : i < 6) (K : PUnit → sProp 𝕄) :
    iprop(rowHeld c fsc fmn fy fa fc ft ∗ pt c cc0_stg10_0 fo ∗ pt c cc0_stg9_0 fw
        ∗ (rowHeld c fsc fmn fy fa fc ft -∗ pt c cc0_stg10_0 (aggSt (aggA fsc fmn fa fc ft i hi) fo i hi)
          -∗ pt c cc0_stg9_0 (dwAdd (dwA fy (aggA fsc fmn fa fc ft i hi) i hi) fw) -∗ K ⟨⟩))
      ⊢ wp frame (wpE (defs₀ (F := F)) 𝒱₀ (c : Thread nD τ) bd) E
        (rowLater (Memref.whole cc0_stg5_0) (Memref.whole cc0_stg6_0) (Memref.whole cc0_stg8_0) (Memref.whole cc0_stg9_0)
          (Memref.whole cc0_stg10_0) (Memref.isWhole_whole _) (Memref.whole cc0_scratch0) (Memref.whole cc0_scratch2) (Memref.whole cc0_scratch3) i hi) K := by
  unfold rowLater
  rw [wp_bind]
  iintro ⟨H, Ho, Hw, Hk⟩
  iapply (wp_rowDw c bd E fsc fmn fy fa fc ft fo)
  isplitl [H]; · iexact H
  isplitl [Ho]; · iexact Ho
  iintro H Ho
  simp only [Prog.lift, Prog.bind_op, Prog.bind_ret, Prog.pure_eq_ret]
  iapply (wp_load 𝒱₀ (c : Thread nD τ) bd E (m := Memref.whole cc0_stg9_0) (Finset.subset_univ _)) $$ Hw; iintro Hw
  iapply (wp_load 𝒱₀ (c : Thread nD τ) bd E (m := Memref.whole cc0_stg9_0) (Finset.subset_univ _)) $$ Hw; iintro Hw
  iapply (wp_store 𝒱₀ (c : Thread nD τ) bd E (m := Memref.whole cc0_stg9_0)
    (r := Rect.unit (s := S1024x320) ![0, 0] S1024x320.size inb_S1024x320_S1024x320_0_0) (Mk := Finset.univ) (Finset.subset_univ _)) $$ Hw; iintro Hw
  rw [wp_ret]; imodintro
  iapply Hk $$ [H] [Ho] [Hw]
  · iexact H
  · iexact Ho
  · iexact Hw

end Stages

/-! ## The body -/

section Whole

variable (fsc : C cc0_stg5_0 F) (fmn : C cc0_stg6_0 F) (fy : C cc0_stg8_0 F) (fa : CAcc F) (fc : C cc0_scratch2 F) (ft : C cc0_scratch3 F)

/-- The aggregate's buffer at the end; the weight gradient's. -/
def aggOut (fo : C cc0_stg10_0 F) : C cc0_stg10_0 F :=
  aggSt (aggA fsc fmn fa fc ft 5 (by decide)) (aggSt (aggA fsc fmn fa fc ft 4 (by decide)) (aggSt (aggA fsc fmn fa fc ft 3 (by decide))
    (aggSt (aggA fsc fmn fa fc ft 2 (by decide)) (aggSt (aggA fsc fmn fa fc ft 1 (by decide)) (aggSt (aggA fsc fmn fa fc ft 0 (by decide)) fo
      0 (by decide)) 1 (by decide)) 2 (by decide)) 3 (by decide)) 4 (by decide)) 5 (by decide)

def dwOut (fw : C cc0_stg9_0 F) : C cc0_stg9_0 F :=
  dwAdd (dwA fy (aggA fsc fmn fa fc ft 5 (by decide)) 5 (by decide)) (dwAdd (dwA fy (aggA fsc fmn fa fc ft 4 (by decide)) 4 (by decide))
    (dwAdd (dwA fy (aggA fsc fmn fa fc ft 3 (by decide)) 3 (by decide)) (dwAdd (dwA fy (aggA fsc fmn fa fc ft 2 (by decide)) 2 (by decide))
      (dwAdd (dwA fy (aggA fsc fmn fa fc ft 1 (by decide)) 1 (by decide)) (dwSt (dwA fy (aggA fsc fmn fa fc ft 0 (by decide)) 0 (by decide)) fw)))))

variable (c : Dev nD) (f0 : CPtr F) (f1 : C cc0_stg1_0 F) (fi : CIdx F) (fv : CVal F) (fz : C cc0_stg4_0 F) (fr : C cc0_stg7_0 F)
  (fw : C cc0_stg9_0 F) (fo : C cc0_stg10_0 F) (fs : CSt F)

/-- The eleven staging buffers and the four scratch buffers, held whole. -/
def allHeld : sProp 𝕄 :=
  iprop(pt c cc0_stg0_0 f0 ∗ pt c cc0_stg1_0 f1 ∗ pt c cc0_stg2_0 fi ∗ pt c cc0_stg3_0 fv ∗ pt c cc0_stg4_0 fz ∗ pt c cc0_stg5_0 fsc
    ∗ pt c cc0_stg6_0 fmn ∗ pt c cc0_stg7_0 fr ∗ pt c cc0_stg8_0 fy ∗ pt c cc0_stg9_0 fw ∗ pt c cc0_stg10_0 fo
    ∗ pt c cc0_scratch0 fa ∗ pt c cc0_scratch1 fs ∗ pt c cc0_scratch2 fc ∗ pt c cc0_scratch3 ft)

/-- The edge row the loop starts at. -/
def q0 : BitVec 32 := fdiv (wordAt f0 ![0] inb_S1537_S1_0)

variable (I : BitVec 32 → BitVec 32 → CAcc F → Prop) (μ : BitVec 32 → BitVec 32 → ℕ)

theorem wp_body (hI : LoopInv (iotaLo (F := F)) oneC zeroC laneNo f0 (startsA f0 f1 fs) fi fv I μ) (h0 : I 0#32 (q0 f0) fa)
    (K : PUnit → sProp 𝕄) :
    iprop(allHeld fsc fmn fy fa fc ft c f0 f1 fi fv fz fr fw fo fs
        ∗ (∀ b : BitVec 32, ∀ q : BitVec 32, ∀ fa' : CAcc F, ⌜I b q fa' ∧ ¬ Scalar.cmpi .slt b 192#32 = 1#1⌝
          -∗ allHeld fsc fmn fy fa' (codesA fz fc) (rtA fr ft) c f0 f1 fi fv fz fr
              (dwOut fsc fmn fy fa' (codesA fz fc) (rtA fr ft) fw) (aggOut fsc fmn fa' (codesA fz fc) (rtA fr ft) fo) (startsA f0 f1 fs)
          -∗ K ⟨⟩))
      ⊢ wp frame (wpE (defs₀ (F := F)) 𝒱₀ (c : Thread nD τ) none) Set.univ
        (cc0_gcn_wgrad (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_stg6_0) (Memref.isWhole_whole _) (Memref.whole cc0_stg7_0) (Memref.isWhole_whole _)
          (Memref.whole cc0_stg8_0) (Memref.isWhole_whole _) (Memref.whole cc0_stg9_0) (Memref.isWhole_whole _)
          (Memref.whole cc0_stg10_0) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _)) K := by
  rw [body_eq]
  unfold body allHeld
  iintro ⟨⟨H0, H1, H2, H3, H4, H5, H6, H7, H8, H9, H10, Ha, Hs, Hc, Ht⟩, Hk⟩
  rw [wp_bind]
  iapply (wp_starts c none Set.univ f0 f1)
  isplitl [H0]; · iexact H0
  isplitl [H1]; · iexact H1
  isplitl [Hs]; · iexact Hs
  iintro H0 H1 Hs
  rw [wp_bind]
  iapply (wp_codesP c none Set.univ fz)
  isplitl [H4]; · iexact H4
  isplitl [Hc]; · iexact Hc
  iintro H4 Hc
  rw [wp_bind]
  iapply (wp_rtP c none Set.univ fr)
  isplitl [H7]; · iexact H7
  isplitl [Ht]; · iexact Ht
  iintro H7 Ht
  rw [wp_bind]
  iapply (wp_word c none Set.univ f0 ![0] inb_S1537_S1_0)
  isplitl [H0]; · iexact H0
  iintro H0
  simp only [Prog.lift, Prog.bind_op, Prog.bind_ret]
  iapply (wp_call_spec 𝒱₀ (c : Thread nD τ) none Set.univ (spec c f0 (startsA f0 f1 fs) fi fv I fa) (μ 0#32 (q0 f0))
    (fun u hu => nomatch hu) (spec_le c Set.univ _ _ _ _ f0 _ fi fv I μ hI _ 0#32 (q0 f0) fa h0 le_rfl))
  rw [spec_apply]
  isplitl [H0 Hs H2 H3 Ha]
  · unfold held
    isplitl [H0]; · iexact H0
    isplitl [Hs]; · iexact Hs
    isplitl [H2]; · iexact H2
    isplitl [H3]; · iexact H3
    iexact Ha
  iintro %r %fa' %hr H
  unfold held
  icases H with ⟨H0, Hs, H2, H3, Ha⟩
  rw [wp_bind]
  iapply (wp_rowFirst c none Set.univ fsc fmn fy fa' (codesA fz fc) (rtA fr ft) fo fw)
  isplitl [H5 H6 H8 Ha Hc Ht]
  · unfold rowHeld
    isplitl [H5]; · iexact H5
    isplitl [H6]; · iexact H6
    isplitl [H8]; · iexact H8
    isplitl [Ha]; · iexact Ha
    isplitl [Hc]; · iexact Hc
    iexact Ht
  isplitl [H10]; · iexact H10
  isplitl [H9]; · iexact H9
  iintro H H10 H9
  iterate 4
    rw [wp_bind]
    iapply (wp_rowLater c none Set.univ fsc fmn fy fa' (codesA fz fc) (rtA fr ft))
    isplitl [H]; · iexact H
    isplitl [H10]; · iexact H10
    isplitl [H9]; · iexact H9
    iintro H H10 H9
  iapply (wp_rowLater c none Set.univ fsc fmn fy fa' (codesA fz fc) (rtA fr ft))
  isplitl [H]; · iexact H
  isplitl [H10]; · iexact H10
  isplitl [H9]; · iexact H9
  iintro H H10 H9
  unfold rowHeld
  icases H with ⟨H5, H6, H8, Ha, Hc, Ht⟩
  iapply Hk
  · ipureintro; exact hr
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Ha]; · iexact Ha
  isplitl [Hs]; · iexact Hs
  isplitl [Hc]; · iexact Hc
  iexact Ht

end Whole

end Cert.Kernel.Visit
-- ==== Proof.K.Run.lean ====
/-
  The kernel's run from any invariant of its loop: the region fetches the nine inputs whole, the body runs once,
  and the two outputs are written back whole.
-/
module

public import proofs.«01_k».proof.Proof.K.Stages
public import proofs.«01_k».proof.Proof.Gen.Kernel.Launch
public import proofs.«01_k».proof.Proof.Gen.Kernel.Points
public import Idealize.ShloMosaic.Lib.Pipeline.Frame

@[expose] public section

set_option maxRecDepth 16384

noncomputable section

namespace Cert.Kernel.Visit

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when the region starts: the two reshaped edge arrays are in place. -/
def V (c : Dev nD) (b : Ref sig .tc) : Buf (Elt F) ((c.tc : Thread nD τ).loc b) :=
  StableHlo.after (hostOps0 (F := F)) (fun b => m (c, b)) b

/-- The one grid point. -/
abbrev pt0 : Fin (cfg0 (F := F)).N := t0_0

/-- The inputs as fetched. -/
def ptrW (c : Dev nD) : CPtr F := (win0_0.blk (pt0 (F := F))).view.read (Elt F) (V m c main_arg4)
def ptrV (c : Dev nD) : C cc0_stg1_0 F := (win0_1.blk (pt0 (F := F))).view.read (Elt F) (V m c main_arg4)
def idxW (c : Dev nD) : CIdx F := (win0_2.blk (pt0 (F := F))).view.read (Elt F) (V m c main_v0)
def valW (c : Dev nD) : CVal F := (win0_3.blk (pt0 (F := F))).view.read (Elt F) (V m c main_v1)
def zW (c : Dev nD) : C cc0_stg4_0 F := (win0_4.blk (pt0 (F := F))).view.read (Elt F) (V m c main_arg0)
def scW (c : Dev nD) : C cc0_stg5_0 F := (win0_5.blk (pt0 (F := F))).view.read (Elt F) (V m c main_arg2)
def mnW (c : Dev nD) : C cc0_stg6_0 F := (win0_6.blk (pt0 (F := F))).view.read (Elt F) (V m c main_arg1)
def rW (c : Dev nD) : C cc0_stg7_0 F := (win0_7.blk (pt0 (F := F))).view.read (Elt F) (V m c main_arg3)
def yW (c : Dev nD) : C cc0_stg8_0 F := (win0_8.blk (pt0 (F := F))).view.read (Elt F) (V m c main_arg7)

/-- An invariant of the loop for the contents the run finds, on every core. -/
structure Plan where
  I : Dev nD → BitVec 32 → BitVec 32 → CAcc F → Prop
  μ : BitVec 32 → BitVec 32 → ℕ
  inv : ∀ c fs, LoopInv (iotaLo (F := F)) oneC zeroC laneNo (ptrW m c) (startsA (ptrW m c) (ptrV m c) fs) (idxW m c) (valW m c) (I c) μ
  start : ∀ c fa, I c 0#32 (q0 (ptrW m c)) fa

variable {m}

/-- What the plan says of the accumulator when the loop is done. -/
def Plan.Done (pl : Plan m) (c : Dev nD) (fa : CAcc F) : Prop := ∃ b q, pl.I c b q fa ∧ ¬ Scalar.cmpi .slt b 192#32 = 1#1

/-- The weight gradient and the aggregate the body may leave. -/
def Plan.Dw (pl : Plan m) (c : Dev nD) (X : C cc0_stg9_0 F) : Prop :=
  ∃ fa fc ft fw, pl.Done c fa ∧ X = dwOut (scW m c) (mnW m c) (yW m c) fa (codesA (zW m c) fc) (rtA (rW m c) ft) fw
def Plan.Agg (pl : Plan m) (c : Dev nD) (X : C cc0_stg10_0 F) : Prop :=
  ∃ fa fc ft fo, pl.Done c fa ∧ X = aggOut (scW m c) (mnW m c) fa (codesA (zW m c) fc) (rtA (rW m c) ft) fo

/-- The proof's data: the inputs are kept, the outputs are as the plan says. -/
def rdat (pl : Plan m) (c : Dev nD) : Pipeline.RDat τ (Elt F) Unit ℕ (UR sig nD τ) ℕ (cfg0 (F := F)) c where
  A := fun w => V m c (Pipeline.arrRef spec0 w)
  after := fun w _ Y X => match w with
    | ⟨9, _⟩ => pl.Dw c X
    | ⟨10, _⟩ => pl.Agg c X
    | _ => X = Y
  Φ := fun _ => Pipeline.ΦA spec0 c
  q := fun w => Pipeline.shareOf spec0 w
  owed := fun _ => 0

theorem owns_whole_eq (c : Dev nD) (b : Ref sig .tc) (X : b.ty.Contents (Elt F)) :
    (owns (c : Thread nD τ) (Memref.whole b) fullShare X : sProp 𝕄) = iprop(∃ f, ⌜f = X⌝ ∗ ((c : Thread nD τ).loc b) ↦{fullShare} f) := by
  unfold owns; simp only [Memref.view_whole, View.read_whole, View.set_whole]

theorem finds_0 (pl : Plan m) (c : Dev nD) (Y) (h : (rdat pl c).Finds (0 : Fin 11) (pt0 (F := F)) Y) : Y = ptrW m c := by
  obtain ⟨d, rfl⟩ := ((rdat pl c).finds_of_fetch (fetch0_0 _) Y).1 h; rfl
theorem finds_1 (pl : Plan m) (c : Dev nD) (Y) (h : (rdat pl c).Finds (1 : Fin 11) (pt0 (F := F)) Y) : Y = ptrV m c := by
  obtain ⟨d, rfl⟩ := ((rdat pl c).finds_of_fetch (fetch0_1 _) Y).1 h; rfl
theorem finds_2 (pl : Plan m) (c : Dev nD) (Y) (h : (rdat pl c).Finds (2 : Fin 11) (pt0 (F := F)) Y) : Y = idxW m c := by
  obtain ⟨d, rfl⟩ := ((rdat pl c).finds_of_fetch (fetch0_2 _) Y).1 h; rfl
theorem finds_3 (pl : Plan m) (c : Dev nD) (Y) (h : (rdat pl c).Finds (3 : Fin 11) (pt0 (F := F)) Y) : Y = valW m c := by
  obtain ⟨d, rfl⟩ := ((rdat pl c).finds_of_fetch (fetch0_3 _) Y).1 h; rfl
theorem finds_4 (pl : Plan m) (c : Dev nD) (Y) (h : (rdat pl c).Finds (4 : Fin 11) (pt0 (F := F)) Y) : Y = zW m c := by
  obtain ⟨d, rfl⟩ := ((rdat pl c).finds_of_fetch (fetch0_4 _) Y).1 h; rfl
theorem finds_5 (pl : Plan m) (c : Dev nD) (Y) (h : (rdat pl c).Finds (5 : Fin 11) (pt0 (F := F)) Y) : Y = scW m c := by
  obtain ⟨d, rfl⟩ := ((rdat pl c).finds_of_fetch (fetch0_5 _) Y).1 h; rfl
theorem finds_6 (pl : Plan m) (c : Dev nD) (Y) (h : (rdat pl c).Finds (6 : Fin 11) (pt0 (F := F)) Y) : Y = mnW m c := by
  obtain ⟨d, rfl⟩ := ((rdat pl c).finds_of_fetch (fetch0_6 _) Y).1 h; rfl
theorem finds_7 (pl : Plan m) (c : Dev nD) (Y) (h : (rdat pl c).Finds (7 : Fin 11) (pt0 (F := F)) Y) : Y = rW m c := by
  obtain ⟨d, rfl⟩ := ((rdat pl c).finds_of_fetch (fetch0_7 _) Y).1 h; rfl
theorem finds_8 (pl : Plan m) (c : Dev nD) (Y) (h : (rdat pl c).Finds (8 : Fin 11) (pt0 (F := F)) Y) : Y = yW m c := by
  obtain ⟨d, rfl⟩ := ((rdat pl c).finds_of_fetch (fetch0_8 _) Y).1 h; rfl

theorem after_in (pl : Plan m) (c : Dev nD) (w : Fin 11) (hw : w.val < 9) (t) (Y) : (rdat pl c).after w t Y Y := by
  fin_cases w <;> first | rfl | exact absurd hw (by decide)

theorem body_ok (pl : Plan m) (c : Dev nD) : (rdat pl c).BodyObligation (defs₀ (F := F)) 𝒱₀ () Set.univ := fun t Y hY => by
  obtain rfl : t = pt0 (F := F) := fin_N0 t
  have e0 := finds_0 pl c _ (hY 0)
  have e1 := finds_1 pl c _ (hY 1)
  have e2 := finds_2 pl c _ (hY 2)
  have e3 := finds_3 pl c _ (hY 3)
  have e4 := finds_4 pl c _ (hY 4)
  have e5 := finds_5 pl c _ (hY 5)
  have e6 := finds_6 pl c _ (hY 6)
  have e7 := finds_7 pl c _ (hY 7)
  have e8 := finds_8 pl c _ (hY 8)
  rw [show (rdat pl c).Φ (pt0 (F := F)).castSucc = Pipeline.ΦA spec0 c from rfl, show (rdat pl c).Φ (pt0 (F := F)).succ = Pipeline.ΦA spec0 c from rfl,
    show (rdat pl c).owesAt () (pt0 (F := F)).succ = (rdat pl c).owesAt () (pt0 (F := F)).castSucc from rfl]
  rw [bigSep_W0, bigSep_W0]
  unfold Pipeline.ΦA
  rw [scopedRest0_eq]
  sl_whnfR [defs₀, Defs.onTc]
  simp only [show stage0_0 0 = Memref.whole cc0_stg0_0 from rfl, show stage0_1 0 = Memref.whole cc0_stg1_0 from rfl,
    show stage0_2 0 = Memref.whole cc0_stg2_0 from rfl, show stage0_3 0 = Memref.whole cc0_stg3_0 from rfl,
    show stage0_4 0 = Memref.whole cc0_stg4_0 from rfl, show stage0_5 0 = Memref.whole cc0_stg5_0 from rfl,
    show stage0_6 0 = Memref.whole cc0_stg6_0 from rfl, show stage0_7 0 = Memref.whole cc0_stg7_0 from rfl,
    show stage0_8 0 = Memref.whole cc0_stg8_0 from rfl, show stage0_9 0 = Memref.whole cc0_stg9_0 from rfl,
    show stage0_10 0 = Memref.whole cc0_stg10_0 from rfl]
  simp only [owns_whole_eq]
  iintro ⟨⟨⟨⟨%fa, Ha⟩, ⟨%fs, Hs⟩, ⟨%fc, Hc⟩, ⟨%ft, Ht⟩⟩, Hp⟩, Howes, ⟨%g0, %h0, H0⟩, ⟨%g1, %h1, H1⟩, ⟨%g2, %h2, H2⟩, ⟨%g3, %h3, H3⟩, ⟨%g4, %h4, H4⟩, ⟨%g5, %h5, H5⟩, ⟨%g6, %h6, H6⟩, ⟨%g7, %h7, H7⟩, ⟨%g8, %h8, H8⟩, ⟨%g9, %h9, H9⟩, ⟨%g10, %h10, H10⟩⟩
  subst h9 h10
  rw [e0] at h0; rw [e1] at h1; rw [e2] at h2; rw [e3] at h3; rw [e4] at h4; rw [e5] at h5; rw [e6] at h6; rw [e7] at h7; rw [e8] at h8
  subst h0 h1 h2 h3 h4 h5 h6 h7 h8
  rw [e0, e1, e2, e3, e4, e5, e6, e7, e8]
  iapply (wp_body (scW m c) (mnW m c) (yW m c) fa fc ft c (ptrW m c) (ptrV m c) (idxW m c) (valW m c) (zW m c) (rW m c) (Y 9) (Y 10) fs
    (pl.I c) pl.μ (pl.inv c fs) (pl.start c fa))
  isplitl [H0 H1 H2 H3 H4 H5 H6 H7 H8 H9 H10 Ha Hs Hc Ht]
  · unfold allHeld
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Ha]; · iexact Ha
    isplitl [Hs]; · iexact Hs
    isplitl [Hc]; · iexact Hc
    iexact Ht
  iintro %b %q %fa' %hd H
  unfold allHeld
  icases H with ⟨H0, H1, H2, H3, H4, H5, H6, H7, H8, H9, H10, Ha, Hs, Hc, Ht⟩
  isplitl [Ha Hs Hc Ht Hp]
  · isplitr [Hp]; swap; · iexact Hp
    isplitl [Ha]; · iexists _; iexact Ha
    isplitl [Hs]; · iexists _; iexact Hs
    isplitl [Hc]; · iexists _; iexact Hc
    iexists _; iexact Ht
  isplitl [Howes]; · iexact Howes
  isplitl [H0]; · iexists _; isplitr; swap; · (iexists _; isplitr; swap; · iexact H0
                                               ipureintro; rfl)
                  ipureintro; exact after_in pl c 0 (by decide) _ _
  isplitl [H1]; · iexists _; isplitr; swap; · (iexists _; isplitr; swap; · iexact H1
                                               ipureintro; rfl)
                  ipureintro; exact after_in pl c 1 (by decide) _ _
  isplitl [H2]; · iexists _; isplitr; swap; · (iexists _; isplitr; swap; · iexact H2
                                               ipureintro; rfl)
                  ipureintro; exact after_in pl c 2 (by decide) _ _
  isplitl [H3]; · iexists _; isplitr; swap; · (iexists _; isplitr; swap; · iexact H3
                                               ipureintro; rfl)
                  ipureintro; exact after_in pl c 3 (by decide) _ _
  isplitl [H4]; · iexists _; isplitr; swap; · (iexists _; isplitr; swap; · iexact H4
                                               ipureintro; rfl)
                  ipureintro; exact after_in pl c 4 (by decide) _ _
  isplitl [H5]; · iexists _; isplitr; swap; · (iexists _; isplitr; swap; · iexact H5
                                               ipureintro; rfl)
                  ipureintro; exact after_in pl c 5 (by decide) _ _
  isplitl [H6]; · iexists _; isplitr; swap; · (iexists _; isplitr; swap; · iexact H6
                                               ipureintro; rfl)
                  ipureintro; exact after_in pl c 6 (by decide) _ _
  isplitl [H7]; · iexists _; isplitr; swap; · (iexists _; isplitr; swap; · iexact H7
                                               ipureintro; rfl)
                  ipureintro; exact after_in pl c 7 (by decide) _ _
  isplitl [H8]; · iexists _; isplitr; swap; · (iexists _; isplitr; swap; · iexact H8
                                               ipureintro; rfl)
                  ipureintro; exact after_in pl c 8 (by decide) _ _
  isplitl [H9]; · iexists _; isplitr; swap; · (iexists _; isplitr; swap; · iexact H9
                                               ipureintro; rfl)
                  ipureintro; exact ⟨fa', fc, ft, Y 9, ⟨b, q, hd⟩, rfl⟩
  iexists _; isplitr; swap; · (iexists _; isplitr; swap; · iexact H10
                               ipureintro; rfl)
  ipureintro; exact ⟨fa', fc, ft, Y 10, ⟨b, q, hd⟩, rfl⟩

/-- The run: it terminates from every memory with zero counters, the arrays end as the data say, and every counter ends at zero. -/
theorem run (pl : Plan m) : θ_run defs (onTc (τ := τ) (main (F := F))) (s₀ m ρ)
    (fun r => Pipeline.RDat.FramePost (cfg0 (F := F)) (rdat pl) (V m) r ∧ r.2.sem = fun _ => 0) :=
  Pipeline.RDat.θ_run_frame_track_shared cfgs (0 : Fin 1) launch₀0 defs₀ 𝒱₀ (rdat pl) m ρ main (body_ok pl)
    (fun _ _ _ => rfl) (fun _ _ => rfl) (V m)
    (Pipeline.hmain_prefix cfgs (0 : Fin 1) defs₀ 𝒱₀ m main hostOps0 hostOps0_sub ⟨rfl, rfl⟩ main_chain)
    (fun _ _ => rfl) (fun _ => BI.Entails.refl _) (fun _ => BI.Entails.refl _) _ (fun _ h => h)

end Cert.Kernel.Visit

end
-- ==== Proof.K.Scalars.lean ====
/-
  The loop's two words as natural numbers: from row starts within the edges, the row block and the
  edge row a visit is at keep the visit's reads in bounds and come to the last row block.
-/
module

public import proofs.«01_k».proof.Proof.K.Run
public import Idealize.ShloMosaic.Lib.Routing.Words
public import Idealize.ShloMosaic.Lib.WordCmp

@[expose] public section

set_option maxRecDepth 16384

noncomputable section

namespace Cert.Kernel.Visit

open Cert.Kernel Cert.Kernel.Gen
open Idealize.ShloMosaic
open Idealize.ShloMosaic.WordCmp

variable {F : FTy → Type} [FloatOps F]

/-! ## The words -/

theorem fdiv_ofNat (n : ℕ) (hn : n < 2 ^ 31) : fdiv (BitVec.ofNat 32 n) = BitVec.ofNat 32 (n / 128) := by
  unfold fdiv
  have hd : Scalar.divsi (BitVec.ofNat 32 n) 128#32 = BitVec.ofNat 32 (n / 128) := Routing.divsi_word .scalar hn (by decide) (by decide)
  have hr : Scalar.remsi (BitVec.ofNat 32 n) 128#32 = BitVec.ofNat 32 (n % 128) := Routing.remsi_word .scalar hn (by decide) (by decide)
  rw [hd, hr]
  rcases Nat.eq_zero_or_pos n with rfl | h0
  · decide
  · have h1 : Scalar.cmpi .sgt (BitVec.ofNat 32 n) 0#32 = 1#1 := (cmpi_sgt_ofNat_eq_one_iff (w := 32) hn (by decide)).2 h0
    have h2 : Scalar.cmpi .slt (BitVec.ofNat 32 n) 0#32 = 0#1 := (cmpi_slt_ofNat_eq_zero_iff (w := 32) hn (by decide)).2 (by omega)
    rw [h1, h2]
    rw [show Scalar.cmpi .ne (Scalar.subi (Scalar.extui 1#1 : BitVec 32) (Scalar.extui 0#1))
      (Scalar.subi (Scalar.extui (Scalar.cmpi .sgt 128#32 0#32)) (Scalar.extui (Scalar.cmpi .slt 128#32 0#32))) = 0#1 by decide]
    rw [show ∀ x : BitVec 1, Scalar.andi 0#1 x = 0#1 by decide]
    rfl

theorem first_ofNat (Q n : ℕ) (hQ : Q < 2 ^ 31) (hn : n < 2 ^ 31) :
    first (BitVec.ofNat 32 Q) (BitVec.ofNat 32 n) = BitVec.ofBool (decide (Q = n / 128)) := by
  unfold first
  rw [fdiv_ofNat n hn]
  exact cmpi_eq_ofNat (w := 32) (by omega) (by omega)

theorem add_ofNat (a b : ℕ) : Scalar.addi (BitVec.ofNat 32 a) (BitVec.ofNat 32 b) = BitVec.ofNat 32 (a + b) := by
  show BitVec.ofNat 32 a + BitVec.ofNat 32 b = _
  rw [BitVec.ofNat_add]
theorem mul_ofNat (a b : ℕ) : Scalar.muli (BitVec.ofNat 32 a) (BitVec.ofNat 32 b) = BitVec.ofNat 32 (a * b) := by
  show BitVec.ofNat 32 a * BitVec.ofNat 32 b = _
  rw [BitVec.ofNat_mul]

theorem nextB_ofNat (B Q n : ℕ) (hQ : Q < 1000000) (hn : n < 2 ^ 31) :
    nextB (BitVec.ofNat 32 B) (BitVec.ofNat 32 Q) (BitVec.ofNat 32 n) = BitVec.ofNat 32 (if n ≤ 128 * (Q + 2) then B + 1 else B) := by
  unfold nextB
  rw [add_ofNat Q 2, mul_ofNat (Q + 2) 128, add_ofNat B 1]
  rw [show Scalar.cmpi .sge (BitVec.ofNat 32 ((Q + 2) * 128)) (BitVec.ofNat 32 n) = BitVec.ofBool (decide (n ≤ (Q + 2) * 128)) from
    cmpi_sge_ofNat (w := 32) (by omega) hn, select_ofBool]
  rw [Nat.mul_comm (Q + 2) 128]
  by_cases h : n ≤ 128 * (Q + 2) <;> simp [h]

theorem nextQ_ofNat (B Q n n' : ℕ) (hB : B < 1000000) (hQ : Q < 1000000) (hn : n < 2 ^ 31) (hn' : n' < 2 ^ 31) :
    nextQ (BitVec.ofNat 32 B) (BitVec.ofNat 32 Q) (BitVec.ofNat 32 n) (BitVec.ofNat 32 n')
      = BitVec.ofNat 32 (if n ≤ 128 * (Q + 2) ∧ B + 1 < 192 then n' / 128 else Q + 2) := by
  unfold nextQ
  rw [add_ofNat Q 2, mul_ofNat (Q + 2) 128, add_ofNat B 1, fdiv_ofNat n' hn']
  rw [show Scalar.cmpi .sge (BitVec.ofNat 32 ((Q + 2) * 128)) (BitVec.ofNat 32 n) = BitVec.ofBool (decide (n ≤ (Q + 2) * 128)) from
    cmpi_sge_ofNat (w := 32) (by omega) hn,
    show Scalar.cmpi .sge (BitVec.ofNat 32 (B + 1)) 192#32 = BitVec.ofBool (decide (192 ≤ B + 1)) from
    cmpi_sge_ofNat (w := 32) (by omega) (by decide)]
  rw [Nat.mul_comm (Q + 2) 128]
  by_cases h : n ≤ 128 * (Q + 2) <;> by_cases h' : B + 1 < 192
  · rw [if_pos ⟨h, h'⟩, decide_eq_true h, decide_eq_false (by omega)]; rfl
  · rw [if_neg (by omega), decide_eq_true h, decide_eq_true (by omega)]; rfl
  · rw [if_neg (by omega), decide_eq_false h, decide_eq_false (by omega)]; rfl
  · rw [if_neg (by omega), decide_eq_false h, decide_eq_true (by omega)]; rfl

/-! ## The offsets -/

theorem off1_ofNat (B : ℕ) (hB : B < 256) : k0_off1 (BitVec.ofNat 32 B) = ![8 * min B 191] :=
  (by decide +kernel : ∀ B : Fin 256, k0_off1 (BitVec.ofNat 32 B.val) = ![8 * min B.val 191]) ⟨B, hB⟩
theorem off2_ofNat (B : ℕ) (hB : B < 256) : k0_off2 (BitVec.ofNat 32 B) = ![8 * min B 191, 0] :=
  (by decide +kernel : ∀ B : Fin 256, k0_off2 (BitVec.ofNat 32 B.val) = ![8 * min B.val 191, 0]) ⟨B, hB⟩
theorem off3_ofNat (B : ℕ) (hB : B < 256) : k0_off3 (BitVec.ofNat 32 B) = ![8 * min B 191 + 1, 0] :=
  (by decide +kernel : ∀ B : Fin 256, k0_off3 (BitVec.ofNat 32 B.val) = ![8 * min B.val 191 + 1, 0]) ⟨B, hB⟩
theorem off5_ofNat (B : ℕ) (hB : B < 256) : k0_off5 (BitVec.ofNat 32 B) = ![8 * min B 191, 0] :=
  (by decide +kernel : ∀ B : Fin 256, k0_off5 (BitVec.ofNat 32 B.val) = ![8 * min B.val 191, 0]) ⟨B, hB⟩
theorem off6_ofNat (B : ℕ) (hB : B < 256) : k0_off6 (BitVec.ofNat 32 B) = ![8 * min B 191, 256] :=
  (by decide +kernel : ∀ B : Fin 256, k0_off6 (BitVec.ofNat 32 B.val) = ![8 * min B.val 191, 256]) ⟨B, hB⟩
theorem off7_ofNat (B : ℕ) (hB : B < 256) : k0_off7 (BitVec.ofNat 32 B) = ![8 * min B 191, 512] :=
  (by decide +kernel : ∀ B : Fin 256, k0_off7 (BitVec.ofNat 32 B.val) = ![8 * min B.val 191, 512]) ⟨B, hB⟩
theorem off8_ofNat (B : ℕ) (hB : B < 256) : k0_off8 (BitVec.ofNat 32 B) = ![8 * min B 191, 768] :=
  (by decide +kernel : ∀ B : Fin 256, k0_off8 (BitVec.ofNat 32 B.val) = ![8 * min B.val 191, 768]) ⟨B, hB⟩
theorem off9_ofNat (B : ℕ) (hB : B < 256) : k0_off9 (BitVec.ofNat 32 B) = ![8 * min B 191, 1024] :=
  (by decide +kernel : ∀ B : Fin 256, k0_off9 (BitVec.ofNat 32 B.val) = ![8 * min B.val 191, 1024]) ⟨B, hB⟩
theorem off10_ofNat (B : ℕ) (hB : B < 256) : k0_off10 (BitVec.ofNat 32 B) = ![8 * min B 191, 1280] :=
  (by decide +kernel : ∀ B : Fin 256, k0_off10 (BitVec.ofNat 32 B.val) = ![8 * min B.val 191, 1280]) ⟨B, hB⟩
theorem off11_ofNat (B : ℕ) (hB : B < 256) : k0_off11 (BitVec.ofNat 32 B) = ![8 * (min B 191 + 1)] :=
  (by decide +kernel : ∀ B : Fin 256, k0_off11 (BitVec.ofNat 32 B.val) = ![8 * (min B.val 191 + 1)]) ⟨B, hB⟩
theorem off12_ofNat (B : ℕ) (hB : B < 256) : k0_off12 (BitVec.ofNat 32 B) = ![8 * min (B + 1) 191] :=
  (by decide +kernel : ∀ B : Fin 256, k0_off12 (BitVec.ofNat 32 B.val) = ![8 * min (B.val + 1) 191]) ⟨B, hB⟩
theorem off4_ofNat (Q : ℕ) (hQ : Q < 512) (r : Fin 2) : k0_off4 (BitVec.ofNat 32 Q) (BitVec.ofNat 32 r.val) = ![min (Q + r.val) 383, 0] :=
  (by decide +kernel : ∀ (Q : Fin 512) (r : Fin 2), k0_off4 (BitVec.ofNat 32 Q.val) (BitVec.ofNat 32 r.val) = ![min (Q.val + r.val) 383, 0]) ⟨Q, hQ⟩ r

theorem chk1_ofNat (B : ℕ) (hB : B < 256) : k0_chk1 (BitVec.ofNat 32 B) := by
  unfold k0_chk1
  rw [off1_ofNat B hB, off2_ofNat B hB, off3_ofNat B hB, off5_ofNat B hB, off6_ofNat B hB, off7_ofNat B hB, off8_ofNat B hB, off9_ofNat B hB,
    off10_ofNat B hB, off11_ofNat B hB, off12_ofNat B hB]
  have h : min B 191 ≤ 191 := Nat.min_le_right _ _
  have h' : min (B + 1) 191 ≤ 191 := Nat.min_le_right _ _
  refine ⟨?_, ?_, ?_, ?_, ?_, ?_, ?_, ?_, ?_, ?_, ?_⟩ <;> intro a
  all_goals first
    | (obtain rfl : a = 0 := Subsingleton.elim (α := Fin 1) a 0
       simp only [Matrix.cons_val_zero, Matrix.cons_val_fin_one, Shape.size, S1, S1537, Fin.isValue]; omega)
    | (revert a; rw [show (∀ a, _) ↔ _ from Fin.forall_fin_two]
       constructor <;> simp [Shape.size] <;> omega)

theorem chk2_ofNat (Q : ℕ) (hQ : Q < 512) : k0_chk2 (BitVec.ofNat 32 Q) := by
  unfold k0_chk2
  intro r
  rw [off4_ofNat Q hQ r]
  have h : min (Q + r.val) 383 ≤ 383 := Nat.min_le_right _ _
  intro a; revert a; rw [show (∀ a, _) ↔ _ from Fin.forall_fin_two]
  constructor <;> simp [Shape.size] <;> omega

/-! ## The walk -/

/-- The next row block and edge row, from row starts `p`. -/
def nB (p : ℕ → ℕ) (B Q : ℕ) : ℕ := if p (8 * (min B 191 + 1)) ≤ 128 * (Q + 2) then B + 1 else B
def nQ (p : ℕ → ℕ) (B Q : ℕ) : ℕ := if p (8 * (min B 191 + 1)) ≤ 128 * (Q + 2) ∧ B + 1 < 192 then p (8 * min (B + 1) 191) / 128 else Q + 2

/-- Row starts within the edges. -/
structure Within (p : ℕ → ℕ) : Prop where
  le : ∀ i, i ≤ 1536 → p i ≤ 49152

/-- A row block not yet done, at an edge row it may be at. -/
def At (p : ℕ → ℕ) (B Q : ℕ) : Prop :=
  B < 192 ∧ p (8 * B) / 128 ≤ Q ∧ (Q = p (8 * B) / 128 ∨ 128 * Q < p (8 * B + 8))

/-- `k` visits into a trip: at a row block not yet done, or past the last by the visits since. -/
def Ok (p : ℕ → ℕ) (k B Q : ℕ) : Prop := At p B Q ∨ (192 ≤ B ∧ B ≤ 192 + k ∧ Q ≤ 386 + 2 * k)

theorem At.le {p : ℕ → ℕ} (hp : Within p) {B Q : ℕ} (h : At p B Q) : Q ≤ 384 := by
  obtain ⟨h1, h2, h3 | h3⟩ := h
  · have := hp.le (8 * B) (by omega); omega
  · have := hp.le (8 * B + 8) (by omega); omega

theorem Ok.lt {p : ℕ → ℕ} (hp : Within p) {k B Q : ℕ} (h : Ok p k B Q) (hk : k ≤ 8) : B ≤ 200 ∧ Q ≤ 402 := by
  rcases h with h | h
  · have := h.le hp; have := h.1; omega
  · omega

theorem Ok.next {p : ℕ → ℕ} (hp : Within p) {k B Q : ℕ} (h : Ok p k B Q) : Ok p (k + 1) (nB p B Q) (nQ p B Q) := by
  unfold nB nQ
  rcases h with h | ⟨h1, h2, h3⟩
  · have hq := h.le hp
    have hB := h.1
    rw [show min B 191 = B by omega]
    by_cases hc : p (8 * (B + 1)) ≤ 128 * (Q + 2)
    · by_cases hl : B + 1 < 192
      · rw [if_pos hc, if_pos ⟨hc, hl⟩, show min (B + 1) 191 = B + 1 by omega]
        exact .inl ⟨hl, le_rfl, .inl rfl⟩
      · rw [if_pos hc, if_neg (by omega)]
        exact .inr ⟨by omega, by omega, by omega⟩
    · rw [if_neg hc, if_neg (by omega)]
      refine .inl ⟨hB, ?_, .inr ?_⟩
      · have := h.2.1; omega
      · rw [show 8 * B + 8 = 8 * (B + 1) by omega]; omega
  · right
    rw [if_neg (show ¬ (_ ∧ B + 1 < 192) by omega)]
    split <;> omega

/-- How far the walk is from its end. -/
def far (B Q : ℕ) : ℕ := if B < 192 then (192 - B) * 400 + (390 - Q) else 0

theorem At.far_lt {p : ℕ → ℕ} (hp : Within p) {B Q : ℕ} (h : At p B Q) : far (nB p B Q) (nQ p B Q) < far B Q := by
  have hq := h.le hp
  have hB := h.1
  unfold far nB nQ
  rw [if_pos hB, show min B 191 = B by omega]
  by_cases hc : p (8 * (B + 1)) ≤ 128 * (Q + 2)
  · rw [if_pos hc]
    split
    · rw [show 192 - B = (192 - (B + 1)) + 1 by omega, Nat.add_mul]; omega
    · omega
  · rw [if_neg hc, if_neg (show ¬ (p (8 * (B + 1)) ≤ 128 * (Q + 2) ∧ B + 1 < 192) from fun h => hc h.1), if_pos hB]; omega

/-! ## The loop's invariant -/

variable (iota : FVec F S256x128 .bf16) (one zero : F .bf16) (lane : IVec S1x128 32)
variable (fp : CPtr F) (fs : CSt F) (fi : CIdx F) (fv : CVal F)

/-- The pointer words are the row starts. -/
def PtrIs (p : ℕ → ℕ) : Prop :=
  ∀ (i : ℕ) (hi : i ≤ 1536) (off : Fin 1 → ℕ) (h : ∀ a, off a + S1.size a ≤ S1537.size a), off = ![i] → wordAt fp off h = BitVec.ofNat 32 (p i)

/-- At a row block and an edge row with a fact `P` of the accumulator. -/
def Inv (p : ℕ → ℕ) (P : ℕ → ℕ → CAcc F → Prop) (b q : BitVec 32) (fa : CAcc F) : Prop :=
  ∃ B Q, b = BitVec.ofNat 32 B ∧ q = BitVec.ofNat 32 Q ∧ Ok p 8 B Q ∧ P B Q fa

/-- The measure. -/
def meas (b q : BitVec 32) : ℕ := far b.toNat q.toNat

theorem meas_ofNat (B Q : ℕ) (hB : B < 512) (hQ : Q < 512) : meas (BitVec.ofNat 32 B) (BitVec.ofNat 32 Q) = far B Q := by
  unfold meas
  rw [toNat_ofNat_of_lt (by omega), toNat_ofNat_of_lt (by omega)]

variable {fp}

theorem step_ofNat {p : ℕ → ℕ} (hp : Within p) (hw : PtrIs fp p) {B Q : ℕ} (hB : B ≤ 200) (hQ : Q ≤ 402) (h1 : k0_chk1 (BitVec.ofNat 32 B)) :
    stepB fp (BitVec.ofNat 32 B) (BitVec.ofNat 32 Q) h1 = BitVec.ofNat 32 (nB p B Q)
      ∧ stepQ fp (BitVec.ofNat 32 B) (BitVec.ofNat 32 Q) h1 = BitVec.ofNat 32 (nQ p B Q) := by
  unfold stepB stepQ
  have e1 := hw (8 * (min B 191 + 1)) (by omega) _ (k0_off11_inb _ h1) (off11_ofNat B (by omega))
  have e2 := hw (8 * min (B + 1) 191) (by omega) _ (k0_off12_inb _ h1) (off12_ofNat B (by omega))
  have l1 := hp.le (8 * (min B 191 + 1)) (by omega)
  have l2 := hp.le (8 * min (B + 1) 191) (by omega)
  refine ⟨?_, ?_⟩
  · rw [show nextB (BitVec.ofNat 32 B) (BitVec.ofNat 32 Q) (wordAt fp (k0_off11 (BitVec.ofNat 32 B)) (k0_off11_inb _ h1))
        = nextB (BitVec.ofNat 32 B) (BitVec.ofNat 32 Q) (BitVec.ofNat 32 (p (8 * (min B 191 + 1)))) from congrArg _ e1]
    exact nextB_ofNat B Q _ (by omega) (by omega)
  · rw [show nextQ (BitVec.ofNat 32 B) (BitVec.ofNat 32 Q) (wordAt fp (k0_off11 (BitVec.ofNat 32 B)) (k0_off11_inb _ h1))
          (wordAt fp (k0_off12 (BitVec.ofNat 32 B)) (k0_off12_inb _ h1))
        = nextQ (BitVec.ofNat 32 B) (BitVec.ofNat 32 Q) (BitVec.ofNat 32 (p (8 * (min B 191 + 1)))) (BitVec.ofNat 32 (p (8 * min (B + 1) 191)))
        from congrArg₂ _ e1 e2]
    exact nextQ_ofNat B Q _ _ (by omega) (by omega) (by omega) (by omega)

theorem loopInv {p : ℕ → ℕ} (hp : Within p) (hw : PtrIs fp p) (P : ℕ → ℕ → CAcc F → Prop)
    (hP : ∀ B Q fa (h1 : k0_chk1 (BitVec.ofNat 32 B)) (h2 : k0_chk2 (BitVec.ofNat 32 Q)), B ≤ 200 → Q ≤ 402 → Ok p 8 B Q → P B Q fa →
      P (nB p B Q) (nQ p B Q) (visitA iota one zero lane fp fs fi fv fa (BitVec.ofNat 32 B) (BitVec.ofNat 32 Q) h1 h2)) :
    LoopInv iota one zero lane fp fs fi fv (Inv p P) meas := by
  constructor
  rintro b q fa ⟨B₀, Q₀, rfl, rfl, hok, hpf⟩ hlt
  have hb₀ := hok.lt hp le_rfl
  have hB₀ : B₀ < 192 := (cmpi_slt_ofNat_eq_one_iff (w := 32) (by omega) (by decide)).1 hlt
  have hat : At p B₀ Q₀ := hok.resolve_right (by omega)
  refine ⟨fun k b q fa => ∃ B Q, b = BitVec.ofNat 32 B ∧ q = BitVec.ofNat 32 Q ∧ Ok p k B Q ∧ P B Q fa
    ∧ (k = 0 → B < 192 ∧ far B Q = far B₀ Q₀) ∧ (0 < k → far B Q < far B₀ Q₀), ⟨?_, ?_⟩, ?_, ?_⟩
  · rintro k b q fa ⟨B, Q, rfl, rfl, h, -⟩ hk
    have := h.lt hp hk
    exact ⟨chk1_ofNat B (by omega), chk2_ofNat Q (by omega)⟩
  · rintro k b q fa h1 h2 hk ⟨B, Q, rfl, rfl, h, hpf, hz, hs⟩
    have hb := h.lt hp (by omega)
    obtain ⟨e1, e2⟩ := step_ofNat hp hw hb.1 hb.2 h1
    have hok8 : Ok p 8 B Q := by
      rcases h with h | h
      · exact .inl h
      · exact .inr (by omega)
    refine ⟨_, _, e1, e2, h.next hp, hP B Q fa h1 h2 hb.1 hb.2 hok8 hpf, fun h0 => absurd h0 (by omega), fun _ => ?_⟩
    rcases h with h | h
    · have h3 := h.far_lt hp
      rcases Nat.eq_zero_or_pos k with h0 | h0
      · have := (hz h0).2; omega
      · have := hs h0; omega
    · have h0 : 0 < k := Nat.pos_of_ne_zero fun h0 => by have := (hz h0).1; omega
      have := hs h0
      have : far (nB p B Q) (nQ p B Q) = 0 := by
        unfold far nB; rw [if_neg]; split <;> omega
      omega
  · exact ⟨B₀, Q₀, rfl, rfl, .inl hat, hpf, fun _ => ⟨hB₀, rfl⟩, fun h => absurd h (by decide)⟩
  · rintro b' q' fa' ⟨B, Q, rfl, rfl, h, hpf', -, hs⟩
    have hb := h.lt hp le_rfl
    refine ⟨⟨B, Q, rfl, rfl, h, hpf'⟩, ?_⟩
    rw [meas_ofNat B Q (by omega) (by omega), meas_ofNat B₀ Q₀ (by omega) (by omega)]
    exact hs (by decide)

theorem start {p : ℕ → ℕ} (hp : Within p) (hw : PtrIs fp p) (P : ℕ → ℕ → CAcc F → Prop) (fa : CAcc F)
    (h0 : P 0 (p 0 / 128) fa) : Inv p P 0#32 (q0 fp) fa := by
  have l := hp.le 0 (by omega)
  refine ⟨0, p 0 / 128, rfl, ?_, .inl ⟨by decide, le_rfl, .inl rfl⟩, h0⟩
  unfold q0
  rw [show fdiv (wordAt fp ![0] inb_S1537_S1_0) = fdiv (BitVec.ofNat 32 (p 0)) from congrArg _ (hw 0 (by omega) _ _ rfl)]
  exact fdiv_ofNat _ (by omega)

end Cert.Kernel.Visit

end
-- ==== Proof.K.Frame.lean ====
/-
  From row starts in order and within the edges, the kernel runs, its arguments end unchanged, and every counter
  ends at zero.
-/
module

public import proofs.«01_k».proof.Proof.K.Scalars
public import proofs.«01_k».proof.Pre_starts_in_bounds
public import Idealize.ShloMosaic.Lib.Claim
public import Idealize.ShloMosaic.Lib.Pointwise
public import Idealize.ShloMosaic.Lib.Pipeline.ValueKit

@[expose] public section

set_option maxRecDepth 16384

noncomputable section

namespace Cert.Kernel.Visit

open Cert.Kernel Cert.Kernel.Gen
open Idealize.ShloMosaic Idealize.ShloMosaic.TcCoe Idealize.SL.Sem
open Idealize.ShloMosaic.WordCmp

variable {F : FTy → Type} [FloatOps F]
variable (m : (ℓ : Loc nD τ sig) → Buf (Elt F) ℓ) (ρ : Dev nD → PrngReg)

/-! ## The row starts -/

/-- A word of the row starts, and the row starts as numbers. -/
def ptrIx (i : ℕ) (hi : i < 1537) : S1537.Idx := ix1 (n0 := 1537) ⟨i, hi⟩
def rowStart (c : Dev nD) (i : ℕ) : ℕ :=
  if hi : i < 1537 then (show BitVec 32 from m ((c.tc : Thread nD τ).loc main_arg4) (ptrIx i hi)).toNat else 0

theorem V_ptr (c : Dev nD) : V m c main_arg4 = m ((c.tc : Thread nD τ).loc main_arg4) := by
  unfold V; after_results

theorem ptrW_eq (c : Dev nD) : ptrW m c = V m c main_arg4 := by
  unfold ptrW
  generalize V m c main_arg4 = X
  funext y; show X _ = X _; congr 1; funext a; apply Fin.ext; blk_simp
  rw [show win0_0.index pt0 a = 0 from rfl]; omega

theorem ptrIs (c : Dev nD) : PtrIs (ptrW m c) (rowStart m c) := by
  intro i hi off h he
  subst he
  have e : wordAt (ptrW m c) ![i] h = m ((c.tc : Thread nD τ).loc main_arg4) (ptrIx i (by omega)) := by
    rw [← V_ptr (m := m) (c := c)]
    rw [ptrW_eq]
    show V m c main_arg4 _ = V m c main_arg4 _
    congr 1
    funext a
    obtain rfl : a = 0 := Subsingleton.elim (α := Fin 1) a 0
    apply Fin.ext
    rfl
  rw [e]
  unfold rowStart
  rw [dif_pos (show i < 1537 by omega)]
  exact (BitVec.eq_of_toNat_eq (by simp)).symm

theorem start_le {x : BitVec 32} (h1 : IntOp.cmpi .sge x 0#32 = 1#1) (h2 : IntOp.cmpi .sle x 49152#32 = 1#1) : x.toNat ≤ 49152 := by
  have g1 : (0#32).sle x = true := by
    have : BitVec.ofBool ((0#32).sle x) = 1#1 := h1
    simpa [ofBool_eq_one_iff] using this
  have g2 : x.sle 49152#32 = true := by
    have : BitVec.ofBool (x.sle 49152#32) = 1#1 := h2
    simpa [ofBool_eq_one_iff] using this
  rw [BitVec.sle_iff_toInt_le] at g1 g2
  rw [show (0#32).toInt = 0 by decide] at g1
  rw [show (49152#32).toInt = 49152 by decide] at g2
  rw [BitVec.toInt_eq_toNat_cond] at g1 g2
  split at g1 <;> split at g2 <;> omega

/-- The bounds of the row starts, as the precondition states them. -/
structure Bounded (c : Dev nD) : Prop where
  ge : ∀ i : S1537.Idx, IntOp.cmpi .sge (show BitVec 32 from m ((c.tc : Thread nD τ).loc main_arg4) i) 0#32 = 1#1
  le : ∀ i : S1537.Idx, IntOp.cmpi .sle (show BitVec 32 from m ((c.tc : Thread nD τ).loc main_arg4) i) 49152#32 = 1#1

variable {m} in
theorem Bounded.within {c : Dev nD} (h : Bounded m c) : Within (rowStart m c) where
  le i hi := by
    unfold rowStart
    rw [dif_pos (show i < 1537 by omega)]
    exact start_le (h.ge _) (h.le _)

theorem bounded_of_pre [Cert.Pre_starts_in_bounds.Facts] (c : Dev nD) (a0 : IVec S1536x32 8) (a1 a2 : FVec F S1536 .f32) (a3 : IVec S1024x128 8)
    (a5 : IVec S49152 32) (a6 : FVec F S49152 .f32) (a7 : FVec F S1536x320 .bf16)
    (h0 : (Cert.Pre_starts_in_bounds.fn (F := F) a0 a1 a2 a3 (m ((c.tc : Thread nD τ).loc main_arg4)) a5 a6 a7).1 = fun _ => 1#1)
    (h1 : (Cert.Pre_starts_in_bounds.fn (F := F) a0 a1 a2 a3 (m ((c.tc : Thread nD τ).loc main_arg4)) a5 a6 a7).2 = fun _ => 1#1) :
    Bounded m c where
  ge i := congrFun h0 i
  le i := congrFun h1 i

/-! ## The frame -/

variable {m}

/-- The plan with a fact of the accumulator kept by the visits. -/
def planOf (p : Dev nD → ℕ → ℕ) (hp : ∀ c, Within (p c)) (hw : ∀ c, PtrIs (ptrW m c) (p c)) (P : Dev nD → ℕ → ℕ → CAcc F → Prop)
    (hP : ∀ c fs B Q fa (h1 : k0_chk1 (BitVec.ofNat 32 B)) (h2 : k0_chk2 (BitVec.ofNat 32 Q)), B ≤ 200 → Q ≤ 402 → Ok (p c) 8 B Q → P c B Q fa →
      P c (nB (p c) B Q) (nQ (p c) B Q) (visitA iotaLo oneC zeroC laneNo (ptrW m c) (startsA (ptrW m c) (ptrV m c) fs) (idxW m c) (valW m c) fa
        (BitVec.ofNat 32 B) (BitVec.ofNat 32 Q) h1 h2))
    (h0 : ∀ c fa, P c 0 (p c 0 / 128) fa) : Plan m where
  I c := Inv (p c) (P c)
  μ := meas
  inv c fs := loopInv _ _ _ _ _ _ _ (hp c) (hw c) (P c) (hP c fs)
  start c fa := start (hp c) (hw c) (P c) fa (h0 c fa)

/-- The plan that says nothing of the accumulator. -/
def plain (h : ∀ c, Bounded m c) : Plan m :=
  planOf (rowStart m) (fun c => (h c).within) (ptrIs m) (fun _ _ _ _ => True) (fun _ _ _ _ _ _ _ _ _ _ _ => trivial) (fun _ _ => trivial)

theorem rest5 : main_arg5 ∈ Pipeline.restRefs sig spec0 := by decide
theorem rest6 : main_arg6 ∈ Pipeline.restRefs sig spec0 := by decide

/-- What a run leaves of the arguments. -/
theorem args_kept (pl : Plan m) (r : PUnit × MemSt nD τ sig (Elt F))
    (h : Pipeline.RDat.FramePost (cfg0 (F := F)) (rdat pl) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) := by
  have a := fun w hw => Pipeline.RDat.FramePost.arr_in h c w hw
  have e0 : V m c main_arg0 = m ((c.tc : Thread nD τ).loc main_arg0) := by unfold V; after_results
  have e1 : V m c main_arg1 = m ((c.tc : Thread nD τ).loc main_arg1) := by unfold V; after_results
  have e2 : V m c main_arg2 = m ((c.tc : Thread nD τ).loc main_arg2) := by unfold V; after_results
  have e3 : V m c main_arg3 = m ((c.tc : Thread nD τ).loc main_arg3) := by unfold V; after_results
  have e5 : V m c main_arg5 = m ((c.tc : Thread nD τ).loc main_arg5) := by unfold V; after_results
  have e6 : V m c main_arg6 = m ((c.tc : Thread nD τ).loc main_arg6) := by unfold V; after_results
  have e7 : V m c main_arg7 = m ((c.tc : Thread nD τ).loc main_arg7) := by unfold V; after_results
  exact ⟨(a (4 : Fin 11) rfl).trans e0, (a (6 : Fin 11) rfl).trans e1, (a (5 : Fin 11) rfl).trans e2, (a (7 : Fin 11) rfl).trans e3,
    (a (0 : Fin 11) rfl).trans (V_ptr m c), ((h c).2 main_arg5 rest5).trans e5, ((h c).2 main_arg6 rest6).trans e6,
    (a (8 : Fin 11) rfl).trans e7⟩

/-- The frame. -/
theorem frame (ρ : Dev nD → PrngReg) (h : ∀ c, Bounded m c) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r hr => ⟨fun c => args_kept (plain h) r hr.1 c, hr.2⟩) (run ρ (plain h))

end Cert.Kernel.Visit

end
-- ==== Proof.Val.Put.lean ====
/-
  A matrix after a block of it is written, at an element; and a block read, at an element.
-/
module

public import proofs.«01_k».proof.Proof.Loop
public import Idealize.ShloMosaic.Lib.Pointwise

@[expose] public section

set_option maxRecDepth 16384

noncomputable section

namespace Cert.KernelIdeal.Visit

open Cert.KernelIdeal Cert.KernelIdeal.Gen
open Idealize.ShloMosaic Idealize.SL.Sem

section
variable {κ : Kind} {sp : Space} {e : EltTy} {Val : EltTy → Type} {n0 n1 : ℕ}
variable (v : View sig κ sp (⟨2, ![n0, n1]⟩ : Shape) e) (f : v.ty.Contents Val)

theorem unit_emb2 (o0 o1 a0 a1 : ℕ) (h : ∀ a : Fin 2, ![o0, o1] a + ![a0, a1] a ≤ (⟨2, ![n0, n1]⟩ : Shape).size a)
    (x : Fin a0) (y : Fin a1) (h0 : o0 + x < n0) (h1 : o1 + y < n1) :
    (Rect.unit (s := (⟨2, ![n0, n1]⟩ : Shape)) ![o0, o1] ![a0, a1] h).emb (ix2 x y) = ix2 ⟨o0 + x, h0⟩ ⟨o1 + y, h1⟩ := by
  funext a
  apply Fin.ext
  fin_cases a
  · show o0 + 1 * x.val = o0 + x.val; omega
  · show o1 + 1 * y.val = o1 + y.val; omega

theorem put2 (o0 o1 a0 a1 : ℕ) (h : ∀ a : Fin 2, ![o0, o1] a + ![a0, a1] a ≤ (⟨2, ![n0, n1]⟩ : Shape).size a)
    (w : (⟨2, ![a0, a1]⟩ : Shape).Idx → Val e) (i : Fin n0) (k : Fin n1) :
    v.read Val ((v.slice (Rect.unit (s := (⟨2, ![n0, n1]⟩ : Shape)) ![o0, o1] ![a0, a1] h)).write Val f w Finset.univ) (ix2 i k)
      = if hc : (o0 ≤ i.val ∧ i.val < o0 + a0) ∧ (o1 ≤ k.val ∧ k.val < o1 + a1)
        then w (ix2 ⟨i.val - o0, by omega⟩ ⟨k.val - o1, by omega⟩) else v.read Val f (ix2 i k) := by
  split
  · rename_i hc
    have e : ix2 i k = (Rect.unit (s := (⟨2, ![n0, n1]⟩ : Shape)) ![o0, o1] ![a0, a1] h).emb
        (ix2 (⟨i.val - o0, by omega⟩ : Fin a0) (⟨k.val - o1, by omega⟩ : Fin a1)) := by
      rw [unit_emb2 o0 o1 a0 a1 h _ _ (by simp only; omega) (by simp only; omega)]
      congr 1 <;> (apply Fin.ext; simp only; omega)
    rw [e]
    exact View.read_slice_write_emb (v := v) (Rect.unit (s := (⟨2, ![n0, n1]⟩ : Shape)) ![o0, o1] ![a0, a1] h) f w (Finset.mem_univ _)
  · rename_i hc
    refine View.read_slice_write_of_not_mem (v := v) (Rect.unit (s := (⟨2, ![n0, n1]⟩ : Shape)) ![o0, o1] ![a0, a1] h) f w Finset.univ ?_
    intro hm
    obtain ⟨x, -, hx⟩ := Finset.mem_map.mp hm
    apply hc
    have q0 : o0 + 1 * (x 0).val = i.val := congrArg (fun z : (⟨2, ![n0, n1]⟩ : Shape).Idx => (z 0).val) hx
    have q1 : o1 + 1 * (x 1).val = k.val := congrArg (fun z : (⟨2, ![n0, n1]⟩ : Shape).Idx => (z 1).val) hx
    have l0 : (x 0).val < a0 := (x 0).isLt
    have l1 : (x 1).val < a1 := (x 1).isLt
    omega

theorem get2 (o0 o1 a0 a1 : ℕ) (h : ∀ a : Fin 2, ![o0, o1] a + ![a0, a1] a ≤ (⟨2, ![n0, n1]⟩ : Shape).size a)
    (x : Fin a0) (y : Fin a1) (h0 : o0 + x < n0) (h1 : o1 + y < n1) :
    v.readAt Val (Rect.unit (s := (⟨2, ![n0, n1]⟩ : Shape)) ![o0, o1] ![a0, a1] h).toLoadRect f (ix2 x y)
      = v.read Val f (ix2 ⟨o0 + x, h0⟩ ⟨o1 + y, h1⟩) := by
  rw [← unit_emb2 o0 o1 a0 a1 h x y h0 h1]
  rfl
end

/-! ## The accumulator -/

variable {F : FTy → Type} [FloatOps F]

theorem blockA_apply (fa : CAcc F) (off : Fin 2 → ℕ) (h : ∀ a, off a + S8x256.size a ≤ S1536x1536.size a) (f : BitVec 1)
    (r : FVec F S8x256 .f32) (o0 o1 : ℕ) (he : off = ![o0, o1]) (i k : Fin 1536) :
    blockA fa off h f r (ix2 i k) = if hc : (o0 ≤ i.val ∧ i.val < o0 + 8) ∧ (o1 ≤ k.val ∧ k.val < o1 + 256)
      then (FloatOps.addf (Scalar.select f (Scalar.ofBits .f32 0x00000000#32) (fa (ix2 i k))) (r (ix2 ⟨i.val - o0, by omega⟩ ⟨k.val - o1, by omega⟩)) : F .f32)
      else fa (ix2 i k) := by
  subst he
  unfold blockA
  refine (put2 (Memref.whole cc0_scratch0).view fa o0 o1 8 256 h _ i k).trans ?_
  split
  · rename_i hc
    have e : accAt fa ![o0, o1] h (ix2 ⟨i.val - o0, by omega⟩ ⟨k.val - o1, by omega⟩) = fa (ix2 i k) := by
      refine (get2 (Memref.whole cc0_scratch0).view fa o0 o1 8 256 h _ _ (by simp only; omega) (by simp only; omega)).trans ?_
      show fa _ = fa _
      refine congrArg fa ?_
      show ix2 _ _ = ix2 _ _
      congr 1 <;> (apply Fin.ext; simp only; omega)
    rw [← e]
    pointwise [prev]
  · rfl

end Cert.KernelIdeal.Visit

end
-- ==== Proof.Val.Pure.lean ====
/-
  The values of one visit over the extended reals, at an index.
-/
module

public import proofs.«01_k».proof.Proof.Body
public import proofs.«01_k».proof.Proof.Visit
public import Idealize.ShloMosaic.Lib.Pointwise
public import Idealize.ShloMosaic.Lib.WordCmp

@[expose] public section

set_option maxRecDepth 16384

noncomputable section

namespace Cert.KernelIdeal.Visit

open Cert.KernelIdeal Cert.KernelIdeal.Gen
open Idealize.ShloMosaic Idealize.SL.Sem
open Idealize.ShloMosaic.WordCmp

/-- The extended real a word's number is. -/
theorem sitofp_nat (φ : FTy) (n : ℕ) (hn : n < 2 ^ 31) : (FloatOps.sitofp φ (BitVec.ofNat 32 n) : Ideal φ) = ((n : ℝ) : EReal) := by
  show ((((BitVec.ofNat 32 n).toInt : ℤ) : ℝ) : EReal) = _
  rw [BitVec.toInt_eq_toNat_cond, BitVec.toNat_ofNat, Nat.mod_eq_of_lt (by omega), if_pos (by omega)]
  simp

theorem select_cmpi_eq {α : Type} (a b : BitVec 32) (x y : α) : Scalar.select (IntOp.cmpi .eq a b) x y = if a = b then x else y := by
  rw [cmpi_eq_eq]
  by_cases h : a = b <;> simp [h, Scalar.select]

theorem select_decide {α : Type} (p : Prop) [Decidable p] (x y : α) : Scalar.select (BitVec.ofBool (decide p)) x y = if p then x else y := by
  by_cases h : p <;> simp [h, Scalar.select]

theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

theorem and255 (k : ℕ) : IntOp.andi (BitVec.ofNat 32 k) 255#32 = BitVec.ofNat 32 (k % 256) := by
  apply BitVec.eq_of_toNat_eq
  show (BitVec.ofNat 32 k &&& 255#32).toNat = _
  rw [BitVec.toNat_and, BitVec.toNat_ofNat, BitVec.toNat_ofNat, BitVec.toNat_ofNat]
  rw [show (255 % 2 ^ 32 : ℕ) = 2 ^ 8 - 1 from rfl, Nat.and_two_pow_sub_one_eq_mod]
  omega

set_option maxRecDepth 100000 in
theorem fdiv256 : ∀ k : Fin 1536, Scalar.select
      (IntOp.andi
        (IntOp.cmpi CmpIPredicate.ne
          (IntOp.subi (BitVec.setWidth 32 (IntOp.cmpi CmpIPredicate.sgt (BitVec.ofNat 32 k.val) 0#32))
            (BitVec.setWidth 32 (IntOp.cmpi CmpIPredicate.slt (BitVec.ofNat 32 k.val) 0#32)))
          (Scalar.subi (Scalar.extui (Scalar.cmpi CmpIPredicate.sgt 256#32 0#32))
            (Scalar.extui (Scalar.cmpi CmpIPredicate.slt 256#32 0#32))))
        (IntOp.cmpi CmpIPredicate.ne (IntOp.remsi ArithUnit.vector (BitVec.ofNat 32 k.val) 256#32) 0#32))
      (IntOp.subi (IntOp.divsi ArithUnit.vector (BitVec.ofNat 32 k.val) 256#32) 1#32)
      (IntOp.divsi ArithUnit.vector (BitVec.ofNat 32 k.val) 256#32) =
    BitVec.ofNat 32 (k.val / 256) := by decide +kernel

theorem hiOf_apply (i : IVec S1x128 32) (e : Fin 128) (k : ℕ) (hk : k < 1536) (h : i (ix2 (n0 := 1) 0 e) = BitVec.ofNat 32 k) :
    hiOf i (ix2 (n0 := 1) 0 e) = BitVec.ofNat 32 (k / 256) := by
  pointwise [hiOf]
  rw [h]
  exact fdiv256 ⟨k, hk⟩

theorem hot_apply (i : IVec S1x128 32) (l : Fin 256) (e : Fin 128) (k : ℕ) (hk : k < 1536) (h : i (ix2 (n0 := 1) 0 e) = BitVec.ofNat 32 k) :
    hot (F := Ideal) iotaLo oneC zeroC i (ix2 l e) = if (l : ℕ) = k % 256 then (1 : EReal) else 0 := by
  pointwise [hot, iotaLo, oneC, zeroC]
  rw [h, and255, sitofp_nat .f32 _ (by omega), sitofp_nat .f32 _ (by omega)]
  refine if_congr ?_ rfl rfl
  rw [EReal.coe_eq_coe_iff, Nat.cast_inj]

theorem live_apply (n a b : ℕ) (hn : n < 2 ^ 20) (s0 s1 : Vec Ideal S8x128 .i32) (v : FVec Ideal S1x128 .f32) (r : Fin 8) (e : Fin 128)
    (h0 : s0 (ix2 r e) = BitVec.ofNat 32 a) (h1 : s1 (ix2 r e) = BitVec.ofNat 32 b) (ha : a ≤ 49152) (hb : b ≤ 49152) :
    live (F := Ideal) laneNo (BitVec.ofNat 32 n) s0 s1 v (ix2 r e)
      = if a ≤ 128 * n + e.val ∧ 128 * n + e.val < b then v (ix2 (n0 := 1) 0 e) else (0 : EReal) := by
  pointwise [live, laneNo]
  rw [h0, h1]
  have he : IntOp.addi (BitVec.ofNat 32 e.val) (Scalar.muli (BitVec.ofNat 32 n) 128#32) = BitVec.ofNat 32 (128 * n + e.val) := by
    show BitVec.ofNat 32 e.val + BitVec.ofNat 32 n * BitVec.ofNat 32 128 = _
    rw [← BitVec.ofNat_mul, ← BitVec.ofNat_add]
    congr 1; omega
  rw [he, cmpi_sge_ofNat (w := 32) (by omega) (by omega), cmpi_slt_ofNat (w := 32) (by omega) (by omega), andi_ofBool, ← Bool.decide_and, select_decide]

theorem stack_apply (hi : IVec S1x128 32) (vr : FVec Ideal S8x128 .f32) (x : Fin 48) (e : Fin 128) :
    stack (F := Ideal) hi vr (ix2 x e)
      = if hi (ix2 (n0 := 1) 0 e) = BitVec.ofNat 32 (x.val / 8) then vr (ix2 ⟨x.val % 8, Nat.mod_lt _ (by decide)⟩ e) else (0 : EReal) := by
  pointwise [stack, pick]
  obtain ⟨x, hx⟩ := x
  simp only [select_cmpi_eq]
  have hq : x / 8 < 6 := by omega
  rcases hk : x / 8 with _ | _ | _ | _ | _ | _ | k <;> first | (exfalso; omega) | skip
  all_goals (
    repeat first | rw [dif_pos (by omega)] | rw [dif_neg (by omega)]
    refine if_congr Iff.rfl ?_ rfl
    refine congrArg vr ?_
    congr 1
    apply Fin.ext
    simp only
    omega)

theorem prod3_apply (h : FVec Ideal S48x256 .f32) (lt : FVec Ideal S256x256 .bf16) (hf : ∀ x y, ∃ r : ℝ, h (ix2 x y) = (r : EReal))
    (x : Fin 48) (l : Fin 256) :
    prod3 (F := Ideal) h lt (ix2 x l) = ∑ y : Fin 256, (show EReal from h (ix2 x y)) * lt (ix2 l y) := by
  have hs : ∀ x y, (show EReal from h (ix2 x y)) - h (ix2 x y) = 0 := by
    intro x y
    obtain ⟨r, hr⟩ := hf x y
    rw [hr]
    show (r : EReal) - (r : EReal) = 0
    rw [← EReal.coe_sub, sub_self]; rfl
  pointwise [prod3]
  simp only [hs, zero_mul, Finset.sum_const_zero, add_zero]
  refine (congrArg₂ (· + ·) rfl (Finset.sum_eq_zero fun y _ => ?_)).trans (add_zero _)
  rw [dif_neg (by omega)]
  split <;> simp

end Cert.KernelIdeal.Visit
end
-- ==== Proof.Val.Res.lean ====
/-
  What a visit adds to its rows, over the extended reals: the sums of the values of the edges that it reads.
-/
module

public import proofs.«01_k».proof.Proof.Val.Pure

@[expose] public section

set_option maxRecDepth 16384

noncomputable section

namespace Cert.KernelIdeal.Visit

open Cert.KernelIdeal Cert.KernelIdeal.Gen
open Idealize.ShloMosaic Idealize.SL.Sem
open Idealize.ShloMosaic.WordCmp

/-- What edge `n` adds at row `i` and column `k`: its value, where it is in the row's range and has the column. -/
def term (p kap : ℕ → ℕ) (v : ℕ → ℝ) (i k n : ℕ) : ℝ := if (p i ≤ n ∧ n < p (i + 1)) ∧ kap n = k then v n else 0

variable (p kap : ℕ → ℕ) (v : ℕ → ℝ)

/-- The half of a visit that reads edge row `N`, at most the last. -/
structure Half (b N : ℕ) (s0 s1 : Vec Ideal S8x128 .i32) (j : IVec S1x128 32) (w : FVec Ideal S1x128 .f32) : Prop where
  lt : N < 2 ^ 20
  s0 : ∀ (r : Fin 8) (e : Fin 128), s0 (ix2 r e) = BitVec.ofNat 32 (p (8 * b + r))
  s1 : ∀ (r : Fin 8) (e : Fin 128), s1 (ix2 r e) = BitVec.ofNat 32 (p (8 * b + r + 1))
  j : ∀ e : Fin 128, j (ix2 (n0 := 1) 0 e) = BitVec.ofNat 32 (kap (128 * min N 383 + e))
  w : ∀ e : Fin 128, w (ix2 (n0 := 1) 0 e) = ((v (128 * min N 383 + e) : ℝ) : EReal)

variable {p kap v}

section
variable (hp : ∀ i, i ≤ 1536 → p i ≤ 49152) (hk : ∀ n, n < 49152 → kap n < 1536)
variable {b N : ℕ} (hb : b < 192) {s0 s1 : Vec Ideal S8x128 .i32} {j : IVec S1x128 32} {w : FVec Ideal S1x128 .f32}
  (H : Half p kap v b N s0 s1 j w)

include hp hk hb H in
theorem half_stack (x : Fin 48) (e : Fin 128) :
    stack (F := Ideal) (hiOf j) (live (F := Ideal) laneNo (BitVec.ofNat 32 N) s0 s1 w) (ix2 x e)
      = ((if kap (128 * min N 383 + e) / 256 = x.val / 8 ∧ (p (8 * b + x.val % 8) ≤ 128 * N + e ∧ 128 * N + e < p (8 * b + x.val % 8 + 1))
          then v (128 * min N 383 + e) else 0 : ℝ) : EReal) := by
  have hr : x.val % 8 < 8 := Nat.mod_lt _ (by decide)
  have hx : x.val < 48 := x.isLt
  have hK := hk (128 * min N 383 + e) (by omega)
  rw [stack_apply, hiOf_apply j e _ hK (H.j e),
    live_apply N _ _ H.lt s0 s1 w ⟨x.val % 8, hr⟩ e (H.s0 _ e) (H.s1 _ e) (hp _ (by simp only; omega)) (hp _ (by simp only; omega)), H.w e]
  have hE := ofNat_inj (a := kap (128 * min N 383 + e) / 256) (b := x.val / 8) (by omega) (by omega)
  by_cases h1 : kap (128 * min N 383 + e) / 256 = x.val / 8
  · rw [if_pos (hE.2 h1)]
    by_cases h2 : p (8 * b + x.val % 8) ≤ 128 * N + e ∧ 128 * N + e < p (8 * b + x.val % 8 + 1)
    · rw [if_pos h2, if_pos ⟨h1, h2⟩]
    · rw [if_neg h2, if_neg (fun h => h2 h.2)]; rfl
  · rw [if_neg (fun h => h1 (hE.1 h)), if_neg (fun h => h1 h.1)]; rfl

include hp hk hb H in
theorem half_term (x : Fin 48) (l : Fin 256) (e : Fin 128) :
    (show EReal from stack (F := Ideal) (hiOf j) (live (F := Ideal) laneNo (BitVec.ofNat 32 N) s0 s1 w) (ix2 x e))
        * hot (F := Ideal) iotaLo oneC zeroC j (ix2 l e)
      = ((term p kap v (8 * b + x.val % 8) (256 * (x.val / 8) + l) (128 * N + e) : ℝ) : EReal) := by
  have hr : x.val % 8 < 8 := Nat.mod_lt _ (by decide)
  have hx : x.val < 48 := x.isLt
  have hK := hk (128 * min N 383 + e) (by omega)
  rw [half_stack hp hk hb H, hot_apply j l e _ hK (H.j e)]
  unfold term
  by_cases h2 : p (8 * b + x.val % 8) ≤ 128 * N + e ∧ 128 * N + e < p (8 * b + x.val % 8 + 1)
  · have := hp (8 * b + x.val % 8 + 1) (by omega)
    have hN : min N 383 = N := by omega
    rw [hN] at hK ⊢
    by_cases h1 : kap (128 * N + e) / 256 = x.val / 8
    · by_cases h3 : l.val = kap (128 * N + e) % 256
      · have h4 : kap (128 * N + e) = 256 * (x.val / 8) + l := by omega
        rw [if_pos (And.intro h1 h2), if_pos h3, if_pos (And.intro h2 h4)]
        exact mul_one _
      · have h4 : ¬ kap (128 * N + e) = 256 * (x.val / 8) + l := by omega
        simp only [h4, h3, and_false, if_false]
        exact mul_zero _
    · have h4 : ¬ kap (128 * N + e) = 256 * (x.val / 8) + l := by omega
      simp only [h4, h1, false_and, and_false, if_false]
      exact zero_mul _
  · simp only [h2, false_and, and_false, if_false]
    exact zero_mul _

end

theorem coe_sum {ι : Type} (s : Finset ι) (f : ι → ℝ) : (∑ i ∈ s, ((f i : ℝ) : EReal)) = ((∑ i ∈ s, f i : ℝ) : EReal) := by
  classical
  induction s using Finset.induction_on with
  | empty => rfl
  | insert a s ha ih => rw [Finset.sum_insert ha, Finset.sum_insert ha, ih, EReal.coe_add]

theorem res_apply (hp : ∀ i, i ≤ 1536 → p i ≤ 49152) (hk : ∀ n, n < 49152 → kap n < 1536) {b Q : ℕ} (hb : b < 192)
    {s0 s1 : Vec Ideal S8x128 .i32} {i0 i1 : Vec Ideal S1x128 .i32} {v0 v1 : Vec Ideal S1x128 .f32}
    (H0 : Half p kap v b Q s0 s1 i0 v0) (H1 : Half p kap v b (Q + 1) s0 s1 i1 v1) (x : Fin 48) (l : Fin 256) :
    res (F := Ideal) iotaLo oneC zeroC laneNo (BitVec.ofNat 32 Q) s0 s1 i0 v0 i1 v1 (ix2 x l)
      = ((∑ e : Fin 128, term p kap v (8 * b + x.val % 8) (256 * (x.val / 8) + l) (128 * Q + e)
          + ∑ e : Fin 128, term p kap v (8 * b + x.val % 8) (256 * (x.val / 8) + l) (128 * (Q + 1) + e) : ℝ) : EReal) := by
  have e0 : shapeCast S1x128 i0 shapeCasts_S1x128_S1x128 = i0 := by funext y; pointwise
  have e1 : shapeCast S1x128 i1 shapeCasts_S1x128_S1x128 = i1 := by funext y; pointwise
  have e2 : shapeCast S1x128 v0 shapeCasts_S1x128_S1x128 = v0 := by funext y; pointwise
  have e3 : shapeCast S1x128 v1 shapeCasts_S1x128_S1x128 = v1 := by funext y; pointwise
  unfold res
  rw [e0, e1, e2, e3]
  rw [show Scalar.addi (BitVec.ofNat 32 Q) 0#32 = BitVec.ofNat 32 Q by show BitVec.ofNat 32 Q + 0#32 = _; simp,
    show Scalar.addi (BitVec.ofNat 32 Q) 1#32 = BitVec.ofNat 32 (Q + 1) by rw [BitVec.ofNat_add]; rfl]
  rw [prod3_apply]
  · pointwise
    simp only [half_term hp hk hb H0, half_term hp hk hb H1, coe_sum, EReal.coe_add]
  · intro x y
    pointwise
    split
    · exact ⟨_, half_stack hp hk hb H0 _ _⟩
    · exact ⟨_, half_stack hp hk hb H1 _ _⟩

end Cert.KernelIdeal.Visit
end
-- ==== Proof.Val.Out.lean ====
/-
  The kernel's results over the extended reals, at an index: the aggregate and the weight gradient from the
  accumulator, the scales, the minima, the codes and the projection.
-/
module

public import proofs.«01_k».proof.Proof.Val.Put
public import proofs.«01_k».proof.Proof.Val.Res
public import proofs.«01_k».proof.Proof.Stages

@[expose] public section

set_option maxRecDepth 16384

noncomputable section

namespace Cert.KernelIdeal.Visit

open Cert.KernelIdeal Cert.KernelIdeal.Gen
open Idealize.ShloMosaic Idealize.SL.Sem
open Idealize.ShloMosaic.WordCmp

/-! ## The codes and the projection -/

/-- Field `t` of a packed byte, as a word and as a number. -/
def fieldW (z : BitVec 8) (t : ℕ) : BitVec 32 :=
  IntOp.andi (IntOp.shrsi ArithUnit.vector (BitVec.setWidth 32 z) (BitVec.ofNat 32 (2 * t))) 3#32
def field (z : BitVec 8) (t : ℕ) : ℝ := ((fieldW z t).toInt : ℝ)

/-- An integer as a number. -/
def sgn (r : BitVec 8) : ℝ := (r.toInt : ℝ)

set_option maxRecDepth 100000 in
theorem fieldNo_word : ∀ l : Fin 128, IntOp.muli
            (Scalar.select
              (IntOp.andi
                (IntOp.cmpi CmpIPredicate.ne
                  (IntOp.subi (BitVec.setWidth 32 (IntOp.cmpi CmpIPredicate.sgt (BitVec.ofNat 32 ↑l) 0#32))
                    (BitVec.setWidth 32 (IntOp.cmpi CmpIPredicate.slt (BitVec.ofNat 32 ↑l) 0#32)))
                  (Scalar.subi (Scalar.extui (Scalar.cmpi CmpIPredicate.sgt 32#32 0#32))
                    (Scalar.extui (Scalar.cmpi CmpIPredicate.slt 32#32 0#32))))
                (IntOp.cmpi CmpIPredicate.ne (IntOp.remsi ArithUnit.vector (BitVec.ofNat 32 ↑l) 32#32) 0#32))
              (IntOp.subi (IntOp.divsi ArithUnit.vector (BitVec.ofNat 32 ↑l) 32#32) 1#32)
              (IntOp.divsi ArithUnit.vector (BitVec.ofNat 32 ↑l) 32#32))
            2#32 = BitVec.ofNat 32 (2 * (l.val / 32)) := by decide +kernel

theorem codes_apply (z : Vec Ideal S1536x32 .i8) (k : Fin 1536) (l : Fin 128) :
    codes (F := Ideal) z (ix2 k l) = ((field (z (ix2 k ⟨l.val % 32, Nat.mod_lt _ (by decide)⟩)) (l.val / 32) : ℝ) : EReal) := by
  pointwise [codes, fieldNo]
  rw [fieldNo_word l]
  have hl := l.isLt
  show ((((IntOp.andi (IntOp.shrsi ArithUnit.vector _ _) 3#32).toInt : ℤ) : ℝ) : EReal) = _
  unfold field fieldW
  refine congrArg (fun w : BitVec 32 => (((IntOp.andi (IntOp.shrsi ArithUnit.vector w (BitVec.ofNat 32 (2 * (l.val / 32)))) 3#32).toInt : ℝ) : EReal)) ?_
  have key : ∀ (j : ℕ) (hj : j < 32), j = l.val % 32 →
      BitVec.setWidth 32 (z (ix2 k ⟨j, hj⟩)) = BitVec.setWidth 32 (z (ix2 k ⟨l.val % 32, Nat.mod_lt _ (by decide)⟩)) := by
    rintro j hj rfl; rfl
  split
  · exact key _ _ (by omega)
  split
  · exact key _ _ (by omega)
  split
  · exact key _ _ (by omega)
  · exact key _ _ (by omega)

set_option maxRecDepth 100000 in
theorem want_word : ∀ k : Fin 128, (IntOp.addi
            (IntOp.muli
              (Scalar.select
                (IntOp.andi
                  (IntOp.xori
                    (IntOp.cmpi CmpIPredicate.slt
                      (IntOp.remsi ArithUnit.vector (BitVec.ofNat 32 ↑k)
                        (Scalar.select (Scalar.cmpi CmpIPredicate.eq 32#32 0#32) 1#32 32#32))
                      0#32)
                    (Scalar.cmpi CmpIPredicate.slt (Scalar.select (Scalar.cmpi CmpIPredicate.eq 32#32 0#32) 1#32 32#32)
                      0#32))
                  (IntOp.cmpi CmpIPredicate.ne
                    (IntOp.remsi ArithUnit.vector (BitVec.ofNat 32 ↑k)
                      (Scalar.select (Scalar.cmpi CmpIPredicate.eq 32#32 0#32) 1#32 32#32))
                    0#32))
                (IntOp.addi
                  (IntOp.remsi ArithUnit.vector (BitVec.ofNat 32 ↑k)
                    (Scalar.select (Scalar.cmpi CmpIPredicate.eq 32#32 0#32) 1#32 32#32))
                  (Scalar.select (Scalar.cmpi CmpIPredicate.eq 32#32 0#32) 1#32 32#32))
                (IntOp.remsi ArithUnit.vector (BitVec.ofNat 32 ↑k)
                  (Scalar.select (Scalar.cmpi CmpIPredicate.eq 32#32 0#32) 1#32 32#32)))
              4#32)
            (Scalar.select
              (IntOp.andi
                (IntOp.cmpi CmpIPredicate.ne
                  (IntOp.subi (BitVec.setWidth 32 (IntOp.cmpi CmpIPredicate.sgt (BitVec.ofNat 32 ↑k) 0#32))
                    (BitVec.setWidth 32 (IntOp.cmpi CmpIPredicate.slt (BitVec.ofNat 32 ↑k) 0#32)))
                  (Scalar.subi (Scalar.extui (Scalar.cmpi CmpIPredicate.sgt 32#32 0#32))
                    (Scalar.extui (Scalar.cmpi CmpIPredicate.slt 32#32 0#32))))
                (IntOp.cmpi CmpIPredicate.ne (IntOp.remsi ArithUnit.vector (BitVec.ofNat 32 ↑k) 32#32) 0#32))
              (IntOp.subi (IntOp.divsi ArithUnit.vector (BitVec.ofNat 32 ↑k) 32#32) 1#32)
              (IntOp.divsi ArithUnit.vector (BitVec.ofNat 32 ↑k) 32#32))) = BitVec.ofNat 32 (4 * (k.val % 32) + k.val / 32) := by decide +kernel

theorem rtOf_apply (z : Vec Ideal S1024x128 .i8) (l : Fin 128) (d : Fin 1024) :
    rtOf (F := Ideal) z (ix2 l d) = ((sgn (z (ix2 d ⟨4 * (l.val % 32) + l.val / 32, by omega⟩)) : ℝ) : EReal) := by
  pointwise [rtOf, perm, dstMod, dstDiv]
  rw [want_word l]
  have hl := l.isLt
  rw [Finset.sum_eq_single (⟨4 * (l.val % 32) + l.val / 32, by omega⟩ : Fin 128)]
  · rw [select_cmpi_eq, if_pos rfl]
    rfl
  · intro x _ hx
    have := x.isLt
    rw [select_cmpi_eq, if_neg]
    intro h
    rw [ofNat_inj (by omega) (by omega)] at h
    exact hx (Fin.ext h)
  · intro h; exact absurd (Finset.mem_univ _) h

/-! ## A column block's step, a row block -/

theorem xStep_apply (x : FVec Ideal S256x128 .f32) (a : Vec Ideal S256x256 .f32) (s : Vec Ideal S256 .f32) (c : Vec Ideal S256x128 .bf16)
    (r : Fin 256) (l : Fin 128) (ξ : ℝ) (α σ γ : Fin 256 → ℝ) (hx : x (ix2 r l) = (ξ : EReal)) (ha : ∀ k, a (ix2 r k) = ((α k : ℝ) : EReal))
    (hs : ∀ k, s (ix1 k) = ((σ k : ℝ) : EReal)) (hc : ∀ k, c (ix2 k l) = ((γ k : ℝ) : EReal)) :
    xStep x a s c (ix2 r l) = ((ξ + ∑ k, α k * σ k * γ k : ℝ) : EReal) := by
  pointwise [xStep]
  simp only [hx, ha, hs, hc, ← EReal.coe_mul, ← EReal.coe_sub, sub_self, zero_mul, coe_sum, ← EReal.coe_add, Finset.sum_const_zero, add_zero]

theorem mtStep_apply (x : FVec Ideal S256x128 .f32) (a : Vec Ideal S256x256 .f32) (s : Vec Ideal S256 .f32)
    (r : Fin 256) (l : Fin 128) (ξ : ℝ) (α σ : Fin 256 → ℝ) (hx : x (ix2 r l) = (ξ : EReal)) (ha : ∀ k, a (ix2 r k) = ((α k : ℝ) : EReal))
    (hs : ∀ k, s (ix1 k) = ((σ k : ℝ) : EReal)) :
    mtStep x a s (ix2 r l) = ((ξ + (α ⟨l, by omega⟩ * σ ⟨l, by omega⟩ + α ⟨128 + l, by omega⟩ * σ ⟨128 + l, by omega⟩) : ℝ) : EReal) := by
  pointwise [mtStep]
  simp only [hx, ha, hs, ← EReal.coe_mul, ← EReal.coe_add, add_assoc]

/-- The scale of the projection. -/
theorem scale_real : ∃ κ : ℝ, Ideal.ofBits .f32 0x3DB504F3#32 = (κ : EReal) := by
  simp [Ideal.ofBits, Ideal.ieee, -EReal.coe_mul]
def scale : ℝ := scale_real.choose
theorem scale_eq : Ideal.ofBits .f32 0x3DB504F3#32 = (scale : EReal) := scale_real.choose_spec

theorem aggOf_apply (x m : FVec Ideal S256x128 .f32) (rt : Vec Ideal S384x1024 .bf16) (r : Fin 256) (d : Fin 1024) (ξ μ ρ : Fin 128 → ℝ)
    (hx : ∀ l, x (ix2 r l) = ((ξ l : ℝ) : EReal)) (hm : ∀ l, m (ix2 r l) = ((μ l : ℝ) : EReal))
    (hr : ∀ l : Fin 384, rt (ix2 l d) = ((ρ ⟨l.val % 128, Nat.mod_lt _ (by decide)⟩ : ℝ) : EReal)) :
    aggOf x m rt (ix2 r d) = (((∑ l, (ξ l + ∑ e, μ e) * ρ l) * scale : ℝ) : EReal) := by
  pointwise [aggOf, x3Of]
  simp only [hx, hm, hr, coe_sum, ← EReal.coe_add, ← EReal.coe_sub, sub_self]
  rw [show (1035273459#32 : BitVec 32) = 0x3DB504F3#32 from rfl, scale_eq, EReal.coe_mul]
  congr 1
  rw [← coe_sum]
  rw [show (∑ x : Fin 384, _ : EReal) = ∑ x : Fin (128 + 256), _ from rfl, Fin.sum_univ_add]
  rw [Finset.sum_eq_zero (s := (Finset.univ : Finset (Fin 256))), add_zero]
  · refine Finset.sum_congr rfl fun l _ => ?_
    have hl := l.isLt
    rw [dif_pos (by simp), EReal.coe_mul]
    congr 3
    apply Fin.ext
    simp only [Fin.val_castAdd]
    omega
  · intro l _
    rw [dif_neg (by simp)]
    split <;> exact zero_mul _

/-! ## The buffers -/

variable (α : ℕ → ℕ → ℝ) (σ μ : ℕ → ℝ) (γ ρ : ℕ → ℕ → ℝ)

/-- What the buffers hold, as numbers: the accumulator `α`, the scales `σ`, the minima `μ`, the codes `γ`, the
    projection `ρ`. -/
structure Bufs (fsc : C cc0_stg5_0 Ideal) (fmn : C cc0_stg6_0 Ideal) (fa : CAcc Ideal) (fc : C cc0_scratch2 Ideal) (ft : C cc0_scratch3 Ideal) : Prop where
  fa : ∀ i k : Fin 1536, (show EReal from fa (ix2 i k)) = ((α i k : ℝ) : EReal)
  fsc : ∀ k : Fin 1536, (show EReal from fsc (ix1 k)) = ((σ k : ℝ) : EReal)
  fmn : ∀ k : Fin 1536, (show EReal from fmn (ix1 k)) = ((μ k : ℝ) : EReal)
  fc : ∀ (k : Fin 1536) (l : Fin 128), (show EReal from fc (ix2 k l)) = ((γ k l : ℝ) : EReal)
  ft : ∀ (l : Fin 384) (d : Fin 1024), (show EReal from ft (ix2 l d)) = ((ρ (l % 128) d : ℝ) : EReal)

/-- The running sums after `c` column blocks of row block `i`. -/
def SumAt (i c : ℕ) (s : FVec Ideal S256x128 .f32 × FVec Ideal S256x128 .f32) : Prop :=
  (∀ (r : Fin 256) (l : Fin 128), s.1 (ix2 r l) = ((∑ n ∈ Finset.range (256 * c), α (256 * i + r) n * σ n * γ n l : ℝ) : EReal))
  ∧ ∀ (r : Fin 256) (l : Fin 128), s.2 (ix2 r l) = ((∑ q ∈ Finset.range (2 * c), α (256 * i + r) (128 * q + l) * μ (128 * q + l) : ℝ) : EReal)

variable {α σ μ γ ρ}
variable {fsc : C cc0_stg5_0 Ideal} {fmn : C cc0_stg6_0 Ideal} {fa : CAcc Ideal} {fc : C cc0_scratch2 Ideal} {ft : C cc0_scratch3 Ideal}

theorem sumAt_col (H : Bufs α σ μ γ ρ fsc fmn fa fc ft) {i c c' : ℕ} (hi : i < 6) (hc : c < 6) {s : FVec Ideal S256x128 .f32 × FVec Ideal S256x128 .f32}
    (hs : SumAt α σ μ γ i c s) (hc' : c' = c + 1) : SumAt α σ μ γ i c' (colA fsc fmn fa fc i c hi hc s) := by
  subst hc'
  have ea : ∀ r k : Fin 256, (show EReal from (Memref.whole cc0_scratch0).view.readAt (Elt Ideal) (Rect.unit (s := S1536x1536) ![256 * i, 256 * c] S256x256.size (acc_inb i c hi hc)).toLoadRect fa (ix2 r k))
      = ((α (256 * i + r) (256 * c + k) : ℝ) : EReal) := by
    intro r k
    have := r.isLt
    have := k.isLt
    refine (get2 (Memref.whole cc0_scratch0).view fa (256 * i) (256 * c) 256 256 (acc_inb i c hi hc) r k (by omega) (by omega)).trans ?_
    exact H.fa ⟨256 * i + r, by omega⟩ ⟨256 * c + k, by omega⟩
  have es : ∀ k : Fin 256, (show EReal from (Memref.whole cc0_stg5_0).view.readAt (Elt Ideal) (Rect.unit (s := S1536) ![256 * c] S256.size (vec_inb c hc)).toLoadRect fsc (ix1 k))
      = ((σ (256 * c + k) : ℝ) : EReal) := by
    intro k
    have := k.isLt
    refine Eq.trans ?_ (H.fsc ⟨256 * c + k, by omega⟩)
    show fsc _ = fsc _
    refine congrArg fsc (funext fun a => ?_)
    obtain rfl : a = 0 := Subsingleton.elim (α := Fin 1) a 0
    apply Fin.ext
    show 256 * c + 1 * k.val = 256 * c + k.val
    omega
  have em : ∀ k : Fin 256, (show EReal from (Memref.whole cc0_stg6_0).view.readAt (Elt Ideal) (Rect.unit (s := S1536) ![256 * c] S256.size (vec_inb c hc)).toLoadRect fmn (ix1 k))
      = ((μ (256 * c + k) : ℝ) : EReal) := by
    intro k
    have := k.isLt
    refine Eq.trans ?_ (H.fmn ⟨256 * c + k, by omega⟩)
    show fmn _ = fmn _
    refine congrArg fmn (funext fun a => ?_)
    obtain rfl : a = 0 := Subsingleton.elim (α := Fin 1) a 0
    apply Fin.ext
    show 256 * c + 1 * k.val = 256 * c + k.val
    omega
  have ec : ∀ (k : Fin 256) (l : Fin 128), (show EReal from (Memref.whole cc0_scratch2).view.readAt (Elt Ideal) (Rect.unit (s := S1536x128) ![256 * c, 0] S256x128.size (code_inb c hc)).toLoadRect fc (ix2 k l))
      = ((γ (256 * c + k) l : ℝ) : EReal) := by
    intro k l
    have := k.isLt
    have := l.isLt
    refine (get2 (Memref.whole cc0_scratch2).view fc (256 * c) 0 256 128 (code_inb c hc) k l (by omega) (by omega)).trans ?_
    refine (H.fc ⟨256 * c + k, by omega⟩ ⟨0 + l, by omega⟩).trans ?_
    simp only [Nat.zero_add]
  constructor
  · intro r l
    refine (xStep_apply s.1 _ _ _ r l _ (fun k => α (256 * i + r) (256 * c + k)) (fun k => σ (256 * c + k)) (fun k => γ (256 * c + k) l)
      (hs.1 r l) (ea r) es (fun k => ec k l)).trans ?_
    rw [show 256 * (c + 1) = 256 * c + 256 by omega, Finset.sum_range_add,
      Fin.sum_univ_eq_sum_range (fun k => α (256 * i + r) (256 * c + k) * σ (256 * c + k) * γ (256 * c + k) l)]
  · intro r l
    refine (mtStep_apply s.2 _ _ r l _ (fun k => α (256 * i + r) (256 * c + k)) (fun k => μ (256 * c + k)) (hs.2 r l) (ea r) em).trans ?_
    rw [show 2 * (c + 1) = 2 * c + 1 + 1 by omega, Finset.sum_range_succ, Finset.sum_range_succ, add_assoc]
    simp only [show 128 * (2 * c) = 256 * c by omega, show 128 * (2 * c + 1) + l.val = 256 * c + (128 + l.val) by omega]

theorem sumAt_row (H : Bufs α σ μ γ ρ fsc fmn fa fc ft) {i : ℕ} (hi : i < 6) : SumAt α σ μ γ i 6 (sumsA fsc fmn fa fc i hi) := by
  have h0 : SumAt α σ μ γ i 0 ((zeros, zeros) : FVec Ideal S256x128 .f32 × FVec Ideal S256x128 .f32) := by
    constructor
    · intro r l
      simp only [Nat.mul_zero, Finset.range_zero, Finset.sum_empty]
      exact (show zeros (F := Ideal) (ix2 r l) = (0 : EReal) by pointwise [zeros]).trans EReal.coe_zero.symm
    · intro r l
      simp only [Nat.mul_zero, Finset.range_zero, Finset.sum_empty]
      exact (show zeros (F := Ideal) (ix2 r l) = (0 : EReal) by pointwise [zeros]).trans EReal.coe_zero.symm
  exact sumAt_col H hi (c := 5) (by decide) (sumAt_col H hi (c := 4) (by decide) (sumAt_col H hi (c := 3) (by decide) (sumAt_col H hi (c := 2) (by decide)
    (sumAt_col H hi (c := 1) (by decide) (sumAt_col H hi (c := 0) (by decide) h0 rfl) rfl) rfl) rfl) rfl) rfl

theorem sum_lanes (f : ℕ → ℝ) (Q : ℕ) : ∑ l : Fin 128, ∑ q ∈ Finset.range Q, f (128 * q + l) = ∑ n ∈ Finset.range (128 * Q), f n := by
  rw [Finset.sum_comm]
  induction Q with
  | zero => rfl
  | succ Q ih =>
    rw [Finset.sum_range_succ, ih, show 128 * (Q + 1) = 128 * Q + 128 by omega, Finset.sum_range_add, Fin.sum_univ_eq_sum_range (fun l => f (128 * Q + l))]

/-- The aggregate at a row and a column. -/
def aggN (α : ℕ → ℕ → ℝ) (σ μ : ℕ → ℝ) (γ ρ : ℕ → ℕ → ℝ) (i d : ℕ) : ℝ :=
  (∑ l : Fin 128, (∑ n ∈ Finset.range 1536, α i n * σ n * γ n l + ∑ n ∈ Finset.range 1536, α i n * μ n) * ρ l d) * scale

theorem aggA_apply (H : Bufs α σ μ γ ρ fsc fmn fa fc ft) {i : ℕ} (hi : i < 6) (r : Fin 256) (d : Fin 1024) :
    aggA fsc fmn fa fc ft i hi (ix2 r d) = ((aggN α σ μ γ ρ (256 * i + r) d : ℝ) : EReal) := by
  have h := sumAt_row H hi
  unfold aggA
  refine (aggOf_apply _ _ _ r d _ _ (fun l => ρ l d) (h.1 r) (h.2 r) ?_).trans ?_
  · intro l
    have := l.isLt
    have := d.isLt
    refine (get2 (Memref.whole cc0_scratch3).view ft 0 0 384 1024 inb_S384x1024_S384x1024_0_0 l d (by omega) (by omega)).trans ?_
    refine (H.ft ⟨0 + l, by omega⟩ ⟨0 + d, by omega⟩).trans ?_
    simp only [Nat.zero_add]
  · unfold aggN
    simp only [sum_lanes (fun n => α (256 * i + r) n * μ n) (2 * 6)]

end Cert.KernelIdeal.Visit
end
-- ==== Proof.Val.Out2.lean ====
/-
  The two results of the epilogue at an element, over the extended reals.
-/
module

public import proofs.«01_k».proof.Proof.Val.Out

@[expose] public section

set_option maxRecDepth 16384

noncomputable section

namespace Cert.KernelIdeal.Visit

open Cert.KernelIdeal Cert.KernelIdeal.Gen
open Idealize.ShloMosaic Idealize.SL.Sem
open Idealize.ShloMosaic.WordCmp

variable {α : ℕ → ℕ → ℝ} {σ μ : ℕ → ℝ} {γ ρ : ℕ → ℕ → ℝ}
variable {fsc : C cc0_stg5_0 Ideal} {fmn : C cc0_stg6_0 Ideal} {fa : CAcc Ideal} {fc : C cc0_scratch2 Ideal} {ft : C cc0_scratch3 Ideal}

section
variable {κ : Kind} {sp : Space} {e : EltTy} {Val : EltTy → Type} {n0 n1 : ℕ}
variable (v : View sig κ sp (⟨2, ![n0, n1]⟩ : Shape) e) (f : v.ty.Contents Val)

/-- `put2` by cases, its mask given as one that holds everywhere. -/
theorem put2_elim (o0 o1 a0 a1 : ℕ) (h : ∀ a : Fin 2, ![o0, o1] a + ![a0, a1] a ≤ (⟨2, ![n0, n1]⟩ : Shape).size a)
    (w : (⟨2, ![a0, a1]⟩ : Shape).Idx → Val e) (U : Finset (⟨2, ![a0, a1]⟩ : Shape).Idx) (hU : ∀ x, x ∈ U) (i : Fin n0) (k : Fin n1) (x : Val e)
    (hin : ∀ hc : (o0 ≤ i.val ∧ i.val < o0 + a0) ∧ (o1 ≤ k.val ∧ k.val < o1 + a1), w (ix2 ⟨i.val - o0, by omega⟩ ⟨k.val - o1, by omega⟩) = x)
    (hout : ¬ ((o0 ≤ i.val ∧ i.val < o0 + a0) ∧ (o1 ≤ k.val ∧ k.val < o1 + a1)) → v.read Val f (ix2 i k) = x) :
    v.read Val ((v.slice (Rect.unit (s := (⟨2, ![n0, n1]⟩ : Shape)) ![o0, o1] ![a0, a1] h)).write Val f w U) (ix2 i k) = x := by
  obtain rfl : U = Finset.univ := Finset.eq_univ_iff_forall.2 hU
  rw [put2]
  split
  · rename_i hc; exact hin hc
  · rename_i hc; exact hout hc

end

/-! ## The two results -/

/-- The first `n` rows of the aggregate. -/
def AggUpto (g : ℕ → ℕ → ℝ) (n : ℕ) (fo : C cc0_stg10_0 Ideal) : Prop :=
  ∀ (i : Fin 1536) (d : Fin 1024), i.val < n → (show EReal from fo (ix2 i d)) = ((g i d : ℝ) : EReal)

theorem whole_agg (g : C cc0_stg10_0 Ideal) (k : Fin 1536) (d : Fin 1024) :
    (show EReal from g (ix2 k d)) = (Memref.whole cc0_stg10_0).view.read (Elt Ideal) g (ix2 k d) := rfl

theorem aggUpto_row {g : ℕ → ℕ → ℝ} {i n : ℕ} (hi : i < 6) {a : FVec Ideal S256x1024 .bf16} {fo : C cc0_stg10_0 Ideal}
    (ha : ∀ (r : Fin 256) (d : Fin 1024), a (ix2 r d) = ((g (256 * i + r) d : ℝ) : EReal)) (h : AggUpto g n fo) (hn : n = 256 * i) :
    AggUpto g (n + 256) (aggSt a fo i hi) := by
  intro k d hk
  have hd := d.isLt
  have key : ∀ (j : ℕ) (hj : j < 256) (e : ℕ) (he : e < 1024), 256 * i + j = k.val → e = d.val → a (ix2 ⟨j, hj⟩ ⟨e, he⟩) = ((g k d : ℝ) : EReal) := by
    rintro j hj e he h1 rfl
    rw [← h1]
    exact ha ⟨j, hj⟩ d
  refine (whole_agg _ k d).trans ?_
  unfold aggSt
  exact put2_elim (Val := Elt Ideal) (Memref.whole cc0_stg10_0).view fo (256 * i) 0 256 1024 (agg_inb i hi) a _ (fun x => Finset.mem_univ x) k d _
    (fun hc => key _ _ _ _ (by omega) (by omega)) (fun hc => h k d (by omega))

theorem aggOut_apply (H : Bufs α σ μ γ ρ fsc fmn fa fc ft) (fo : C cc0_stg10_0 Ideal) (i : Fin 1536) (d : Fin 1024) :
    (show EReal from aggOut fsc fmn fa fc ft fo (ix2 i d)) = ((aggN α σ μ γ ρ i d : ℝ) : EReal) := by
  have hz : AggUpto (aggN α σ μ γ ρ) 0 fo := fun i e hi => absurd hi (Nat.not_lt_zero _)
  have h := aggUpto_row (i := 5) (by decide) (aggA_apply H (by decide)) (aggUpto_row (i := 4) (by decide) (aggA_apply H (by decide))
    (aggUpto_row (i := 3) (by decide) (aggA_apply H (by decide)) (aggUpto_row (i := 2) (by decide) (aggA_apply H (by decide))
    (aggUpto_row (i := 1) (by decide) (aggA_apply H (by decide)) (aggUpto_row (i := 0) (by decide) (aggA_apply H (by decide)) hz rfl) rfl) rfl) rfl) rfl) rfl
  exact h i d i.isLt

/-- The weight gradient's sum over the first `n` rows. -/
def DwUpto (g : ℕ → ℕ → ℝ) (y : ℕ → ℕ → EReal) (n : ℕ) (fw : C cc0_stg9_0 Ideal) : Prop :=
  ∀ (d : Fin 1024) (o : Fin 320), (show EReal from fw (ix2 d o)) = ∑ k ∈ Finset.range n, ((g k d : ℝ) : EReal) * y k o

section Dw
variable {y : ℕ → ℕ → EReal} {fy : C cc0_stg8_0 Ideal} (hy : ∀ (i : Fin 1536) (o : Fin 320), (show EReal from fy (ix2 i o)) = y i o)

theorem dwSt_apply (d : FVec Ideal S1024x320 .f32) (fw : C cc0_stg9_0 Ideal) (x : Fin 1024) (o : Fin 320) :
    (show EReal from dwSt d fw (ix2 x o)) = d (ix2 x o) := by
  have hx := x.isLt
  have ho := o.isLt
  refine Eq.trans (put2 (Val := Elt Ideal) (Memref.whole cc0_stg9_0).view fw 0 0 1024 320 inb_S1024x320_S1024x320_0_0 d x o) ?_
  rw [dif_pos (by omega)]
  rfl

include hy in
theorem dwA_apply {g : ℕ → ℕ → ℝ} {i : ℕ} (hi : i < 6) {a : FVec Ideal S256x1024 .bf16}
    (ha : ∀ (r : Fin 256) (d : Fin 1024), a (ix2 r d) = ((g (256 * i + r) d : ℝ) : EReal)) (d : Fin 1024) (o : Fin 320) :
    dwA fy a i hi (ix2 d o) = ∑ k ∈ Finset.range 256, ((g (256 * i + k) d : ℝ) : EReal) * y (256 * i + k) o := by
  unfold dwA
  pointwise [dwOf]
  rw [← Fin.sum_univ_eq_sum_range (fun k => ((g (256 * i + k) d : ℝ) : EReal) * y (256 * i + k) o)]
  refine Finset.sum_congr rfl fun k _ => ?_
  have hk := k.isLt
  have ho := o.isLt
  rw [ha k d]
  congr 1
  refine (get2 (Memref.whole cc0_stg8_0).view fy (256 * i) 0 256 320 (dy_inb i hi) k o (by omega) (by omega)).trans ?_
  refine (hy ⟨256 * i + k, by omega⟩ ⟨0 + o, by omega⟩).trans ?_
  simp only [Nat.zero_add]

include hy in
theorem dwUpto_row {g : ℕ → ℕ → ℝ} {i n : ℕ} (hi : i < 6) {a : FVec Ideal S256x1024 .bf16} {fw : C cc0_stg9_0 Ideal}
    (ha : ∀ (r : Fin 256) (d : Fin 1024), a (ix2 r d) = ((g (256 * i + r) d : ℝ) : EReal)) (h : DwUpto g y n fw) (hn : n = 256 * i) :
    DwUpto g y (n + 256) (dwAdd (dwA fy a i hi) fw) := by
  subst hn
  intro d o
  unfold dwAdd
  rw [dwSt_apply]
  pointwise
  rw [dwA_apply hy hi ha d o, Finset.sum_range_add]
  congr 1
  refine Eq.trans ?_ (h d o)
  have hd := d.isLt
  have ho := o.isLt
  unfold dwLd
  refine (get2 (Memref.whole cc0_stg9_0).view fw 0 0 1024 320 inb_S1024x320_S1024x320_0_0 d o (by omega) (by omega)).trans ?_
  show fw _ = fw _
  refine congrArg fw ?_
  show ix2 _ _ = ix2 _ _
  congr 1 <;> (apply Fin.ext; simp only [Nat.zero_add])

include hy in
theorem dwOut_apply (H : Bufs α σ μ γ ρ fsc fmn fa fc ft) (fw : C cc0_stg9_0 Ideal) (d : Fin 1024) (o : Fin 320) :
    (show EReal from dwOut fsc fmn fy fa fc ft fw (ix2 d o)) = ∑ k ∈ Finset.range 1536, ((aggN α σ μ γ ρ k d : ℝ) : EReal) * y k o := by
  have h0 : DwUpto (aggN α σ μ γ ρ) y 256 (dwSt (dwA fy (aggA fsc fmn fa fc ft 0 (by decide)) 0 (by decide)) fw) := by
    intro d o
    rw [dwSt_apply, dwA_apply hy (by decide) (aggA_apply H (by decide)) d o]
    simp only [Nat.mul_zero, Nat.zero_add]
  have h := dwUpto_row hy (i := 5) (by decide) (aggA_apply H (by decide)) (dwUpto_row hy (i := 4) (by decide) (aggA_apply H (by decide))
    (dwUpto_row hy (i := 3) (by decide) (aggA_apply H (by decide)) (dwUpto_row hy (i := 2) (by decide) (aggA_apply H (by decide))
    (dwUpto_row hy (i := 1) (by decide) (aggA_apply H (by decide)) h0 rfl) rfl) rfl) rfl) rfl
  exact h d o

end Dw

/-! ## The stages before the epilogue -/

theorem codesA_apply (fz : C cc0_stg4_0 Ideal) (fc : C cc0_scratch2 Ideal) (k : Fin 1536) (l : Fin 128) :
    (show EReal from codesA fz fc (ix2 k l)) = ((field (fz (ix2 k ⟨l.val % 32, Nat.mod_lt _ (by decide)⟩)) (l.val / 32) : ℝ) : EReal) := by
  have hk := k.isLt
  have hl := l.isLt
  refine Eq.trans (put2 (Val := Elt Ideal) (Memref.whole cc0_scratch2).view fc 0 0 1536 128 inb_S1536x128_S1536x128_0_0 _ k l) ?_
  rw [dif_pos (by omega)]
  refine (codes_apply _ _ _).trans ?_
  simp only [Nat.sub_zero]
  refine congrArg (fun z => ((field z (l.val / 32) : ℝ) : EReal)) ?_
  refine (get2 (Memref.whole cc0_stg4_0).view fz 0 0 1536 32 inb_S1536x32_S1536x32_0_0 _ _ (by simp only; omega) (by simp only; omega)).trans ?_
  show fz _ = fz _
  refine congrArg fz ?_
  show ix2 _ _ = ix2 _ _
  congr 1 <;> (apply Fin.ext; simp only [Nat.zero_add])

theorem rtA_apply (fr : C cc0_stg7_0 Ideal) (ft : C cc0_scratch3 Ideal) (l : Fin 384) (d : Fin 1024) :
    (show EReal from rtA fr ft (ix2 l d)) = ((sgn (fr (ix2 d ⟨4 * (l.val % 128 % 32) + l.val % 128 / 32, by omega⟩)) : ℝ) : EReal) := by
  have hl := l.isLt
  have hd := d.isLt
  have key : ∀ j : Fin 128, (show EReal from rtVec fr (ix2 j d)) = ((sgn (fr (ix2 d ⟨4 * (j.val % 32) + j.val / 32, by omega⟩)) : ℝ) : EReal) := by
    intro j
    refine (rtOf_apply _ j d).trans ?_
    refine congrArg (fun z => ((sgn z : ℝ) : EReal)) ?_
    refine (get2 (Memref.whole cc0_stg7_0).view fr 0 0 1024 128 inb_S1024x128_S1024x128_0_0 _ _ (by omega) (by simp only; omega)).trans ?_
    show fr _ = fr _
    refine congrArg fr ?_
    show ix2 _ _ = ix2 _ _
    congr 1 <;> (apply Fin.ext; simp only [Nat.zero_add])
  have fin : ∀ (j : ℕ) (hj : j < 128) (e : ℕ) (he : e < 1024), j = l.val % 128 → e = d.val → (show EReal from rtVec fr (ix2 ⟨j, hj⟩ ⟨e, he⟩))
      = ((sgn (fr (ix2 d ⟨4 * (l.val % 128 % 32) + l.val % 128 / 32, by omega⟩)) : ℝ) : EReal) := by
    rintro j hj e he rfl rfl
    exact key ⟨_, hj⟩
  refine Eq.trans (put2 (Val := Elt Ideal) (Memref.whole cc0_scratch3).view _ 256 0 128 1024 (rt_inb 2 (by decide)) _ l d) ?_
  split
  · exact fin _ _ _ _ (by omega) (by omega)
  refine Eq.trans (put2 (Val := Elt Ideal) (Memref.whole cc0_scratch3).view _ 128 0 128 1024 (rt_inb 1 (by decide)) _ l d) ?_
  split
  · exact fin _ _ _ _ (by omega) (by omega)
  refine Eq.trans (put2 (Val := Elt Ideal) (Memref.whole cc0_scratch3).view _ 0 0 128 1024 (rt_inb 0 (by decide)) _ l d) ?_
  rw [dif_pos (by omega)]
  exact fin _ _ _ _ (by omega) (by omega)

end Cert.KernelIdeal.Visit
end
-- ==== Proof.Val.Inv.lean ====
/-
  The accumulator over the extended reals: what a visit leaves of it at an element, and the invariant of the
  loop. Rows done hold the sums over all edges; the rows under way hold the sums over the edge rows read.
-/
module

public import proofs.«01_k».proof.Proof.Val.Put
public import proofs.«01_k».proof.Proof.Val.Res
public import proofs.«01_k».proof.Proof.Stages
public import proofs.«01_k».proof.Proof.Scalars

@[expose] public section

set_option maxRecDepth 16384

noncomputable section

namespace Cert.KernelIdeal.Visit

open Cert.KernelIdeal Cert.KernelIdeal.Gen
open Idealize.ShloMosaic Idealize.SL.Sem
open Idealize.ShloMosaic.WordCmp

/-- Row starts in order, within the edges. -/
structure Rows (p : ℕ → ℕ) : Prop extends Within p where
  mono : ∀ i, i < 1536 → p i ≤ p (i + 1)

/-! ## The row starts in the lanes -/

section Starts
variable {F : FTy → Type} [FloatOps F]

theorem startRowA_apply (f1 : C cc0_stg1_0 F) (fs : CSt F) (k : ℕ) (hk : k < 12) (i : Fin 1544) (e : Fin 128) :
    startRowA f1 fs k hk (ix2 i e) = if hc : 128 * k ≤ i.val ∧ i.val < 128 * k + 128
      then f1 (ix1 (n0 := 1537) ⟨i.val, by omega⟩) else fs (ix2 i e) := by
  unfold startRowA
  refine (put2 (Memref.whole cc0_scratch1).view fs (128 * k) 0 128 128 (st_inb k hk) _ i e).trans ?_
  have he := e.isLt
  split
  · rename_i hc
    rw [dif_pos hc.1]
    pointwise [spread]
    show f1 _ = f1 _
    refine congrArg f1 ?_
    funext a
    obtain rfl : a = 0 := Subsingleton.elim (α := Fin 1) a 0
    apply Fin.ext
    show 128 * k + 1 * (i.val - 128 * k) = i.val
    omega
  · rename_i hc
    rw [dif_neg (fun h => hc ⟨h, by omega⟩)]
    rfl

/-- The first `n` rows of the starts are the row starts. -/
def Upto (p : ℕ → ℕ) (n : ℕ) (fs : CSt F) : Prop :=
  ∀ (i : Fin 1544) (e : Fin 128), i.val < n → (show BitVec 32 from fs (ix2 i e)) = BitVec.ofNat 32 (p i)

variable {p : ℕ → ℕ} {f0 : CPtr F} {f1 : C cc0_stg1_0 F}

theorem upto_row (h1 : ∀ (i : ℕ) (hi : i < 1537), (show BitVec 32 from f1 (ix1 (n0 := 1537) ⟨i, hi⟩)) = BitVec.ofNat 32 (p i)) {k n : ℕ} (hk : k < 12)
    {fs : CSt F} (h : Upto p n fs) (hn : n = 128 * k) : Upto p (n + 128) (startRowA f1 fs k hk) := by
  intro i e hi
  subst hn
  rw [startRowA_apply]
  split
  · exact h1 _ _
  · exact h i e (by omega)

theorem upto_starts (h0 : PtrIs f0 p) (h1 : ∀ (i : ℕ) (hi : i < 1537), (show BitVec 32 from f1 (ix1 (n0 := 1537) ⟨i, hi⟩)) = BitVec.ofNat 32 (p i))
    (fs : CSt F) : Upto p 1537 (startsA f0 f1 fs) := by
  have hz : Upto p 0 fs := fun i e hi => absurd hi (Nat.not_lt_zero _)
  have h := upto_row h1 (k := 11) (by decide) (upto_row h1 (k := 10) (by decide) (upto_row h1 (k := 9) (by decide) (upto_row h1 (k := 8) (by decide)
    (upto_row h1 (k := 7) (by decide) (upto_row h1 (k := 6) (by decide) (upto_row h1 (k := 5) (by decide) (upto_row h1 (k := 4) (by decide)
    (upto_row h1 (k := 3) (by decide) (upto_row h1 (k := 2) (by decide) (upto_row h1 (k := 1) (by decide) (upto_row h1 (k := 0) (by decide)
    hz rfl) rfl) rfl) rfl) rfl) rfl) rfl) rfl) rfl) rfl) rfl) rfl
  intro i e hi
  unfold startsA startLastA
  have he := e.isLt
  refine Eq.trans (put2 (Val := Elt F) (Memref.whole cc0_scratch1).view _ 1536 0 8 128 inb_S1544x128_S8x128_1536_0 _ i e) ?_
  split
  · rename_i hc
    pointwise [lastStart]
    rw [show i.val = 1536 by omega]
    exact h0 1536 le_rfl _ _ rfl
  · rename_i hc
    exact h i e (by omega)

end Starts

/-! ## A visit's six blocks -/

section Six
variable {F : FTy → Type} [FloatOps F]

theorem sixA_apply (fa : CAcc F) (B : ℕ) (hB : B < 256) (h1 : k0_chk1 (BitVec.ofNat 32 B)) (f : BitVec 1) (r : FVec F S48x256 .f32) (i k : Fin 1536) :
    sixA fa (BitVec.ofNat 32 B) h1 f r (ix2 i k) = if hc : 8 * min B 191 ≤ i.val ∧ i.val < 8 * min B 191 + 8
      then (FloatOps.addf (Scalar.select f (Scalar.ofBits .f32 0x00000000#32) (fa (ix2 i k)))
        (r (ix2 ⟨8 * (k.val / 256) + (i.val - 8 * min B 191), by have := k.isLt; omega⟩ ⟨k.val % 256, Nat.mod_lt _ (by decide)⟩)) : F .f32)
      else fa (ix2 i k) := by
  have hk := k.isLt
  unfold sixA
  by_cases hc : 8 * min B 191 ≤ i.val ∧ i.val < 8 * min B 191 + 8
  · rw [dif_pos hc]
    have hq : k.val / 256 = 0 ∨ k.val / 256 = 1 ∨ k.val / 256 = 2 ∨ k.val / 256 = 3 ∨ k.val / 256 = 4 ∨ k.val / 256 = 5 := by omega
    rcases hq with hq | hq | hq | hq | hq | hq <;>
    ( rw [blockA_apply _ _ _ _ _ (8 * min B 191) 1280 (off10_ofNat B hB)]
      first | rw [dif_neg (by omega)] | rw [dif_pos (by omega)]
      rw [blockA_apply _ _ _ _ _ (8 * min B 191) 1024 (off9_ofNat B hB)]
      first | rw [dif_neg (by omega)] | rw [dif_pos (by omega)]
      rw [blockA_apply _ _ _ _ _ (8 * min B 191) 768 (off8_ofNat B hB)]
      first | rw [dif_neg (by omega)] | rw [dif_pos (by omega)]
      rw [blockA_apply _ _ _ _ _ (8 * min B 191) 512 (off7_ofNat B hB)]
      first | rw [dif_neg (by omega)] | rw [dif_pos (by omega)]
      rw [blockA_apply _ _ _ _ _ (8 * min B 191) 256 (off6_ofNat B hB)]
      first | rw [dif_neg (by omega)] | rw [dif_pos (by omega)]
      rw [blockA_apply _ _ _ _ _ (8 * min B 191) 0 (off5_ofNat B hB)]
      first | rw [dif_neg (by omega)] | rw [dif_pos (by omega)]
      congr 1
      pointwise
      refine congrArg r ?_
      congr 1 <;> (apply Fin.ext; simp only; omega) )
  · rw [dif_neg hc]
    rw [blockA_apply _ _ _ _ _ (8 * min B 191) 1280 (off10_ofNat B hB), dif_neg (fun h => hc h.1),
      blockA_apply _ _ _ _ _ (8 * min B 191) 1024 (off9_ofNat B hB), dif_neg (fun h => hc h.1),
      blockA_apply _ _ _ _ _ (8 * min B 191) 768 (off8_ofNat B hB), dif_neg (fun h => hc h.1),
      blockA_apply _ _ _ _ _ (8 * min B 191) 512 (off7_ofNat B hB), dif_neg (fun h => hc h.1),
      blockA_apply _ _ _ _ _ (8 * min B 191) 256 (off6_ofNat B hB), dif_neg (fun h => hc h.1),
      blockA_apply _ _ _ _ _ (8 * min B 191) 0 (off5_ofNat B hB), dif_neg (fun h => hc h.1)]

end Six

/-! ## A visit -/

/-- What a visit reads: the row starts `p`, the edges' columns `kap`, the edges' values `v`. -/
structure Ins (p kap : ℕ → ℕ) (v : ℕ → ℝ) (fp : CPtr Ideal) (fs : CSt Ideal) (fi : CIdx Ideal) (fv : CVal Ideal) : Prop where
  rows : Rows p
  col : ∀ n, n < 49152 → kap n < 1536
  fp : PtrIs fp p
  fs : Upto p 1537 fs
  fi : ∀ (N : Fin 384) (e : Fin 128), (show BitVec 32 from fi (ix2 N e)) = BitVec.ofNat 32 (kap (128 * N + e))
  fv : ∀ (N : Fin 384) (e : Fin 128), (show EReal from fv (ix2 N e)) = ((v (128 * N + e) : ℝ) : EReal)

variable {p kap : ℕ → ℕ} {v : ℕ → ℝ} {fp : CPtr Ideal} {fs : CSt Ideal} {fi : CIdx Ideal} {fv : CVal Ideal}

theorem half_of (H : Ins p kap v fp fs fi fv) (B Q : ℕ) (hB : B < 256) (hQ : Q < 512) (h1 : k0_chk1 (BitVec.ofNat 32 B)) (h2 : k0_chk2 (BitVec.ofNat 32 Q)) (r : Fin 2) :
    Half p kap v (min B 191) (Q + r.val)
      (stAt fs (k0_off2 (BitVec.ofNat 32 B)) (k0_off2_inb _ h1)) (stAt fs (k0_off3 (BitVec.ofNat 32 B)) (k0_off3_inb _ h1))
      (idxAt fi (k0_off4 (BitVec.ofNat 32 Q) (BitVec.ofNat 32 r.val)) (k0_off4_inb _ h2 r)) (valAt fv (k0_off4 (BitVec.ofNat 32 Q) (BitVec.ofNat 32 r.val)) (k0_off4_inb _ h2 r)) := by
  have g : ∀ (off : Fin 2 → ℕ) (h : ∀ a, off a + S8x128.size a ≤ S1544x128.size a) (o : ℕ), off = ![o, 0] → o ≤ 1529 →
      ∀ (x : Fin 8) (e : Fin 128), (show BitVec 32 from stAt fs off h (ix2 x e)) = BitVec.ofNat 32 (p (o + x)) := by
    intro off h o he ho x e
    subst he
    have hx := x.isLt
    have := e.isLt
    refine (get2 (Memref.whole cc0_scratch1).view fs o 0 8 128 h x e (by omega) (by omega)).trans ?_
    exact H.fs ⟨o + x, by omega⟩ ⟨0 + e, by omega⟩ (by simp only; omega)
  have gi : ∀ (off : Fin 2 → ℕ) (h : ∀ a, off a + S1x128.size a ≤ S384x128.size a), off = ![min (Q + r.val) 383, 0] →
      ∀ (e : Fin 128), (show BitVec 32 from idxAt fi off h (ix2 (n0 := 1) 0 e)) = BitVec.ofNat 32 (kap (128 * min (Q + r.val) 383 + e)) := by
    intro off h he e
    subst he
    have := e.isLt
    refine (get2 (Memref.whole cc0_stg2_0).view fi (min (Q + r.val) 383) 0 1 128 h 0 e (by simp only [Fin.val_zero]; omega) (by omega)).trans ?_
    refine (H.fi ⟨min (Q + r.val) 383 + 0, by omega⟩ ⟨0 + e, by omega⟩).trans ?_
    simp only [Nat.add_zero, Nat.zero_add]
  have gv : ∀ (off : Fin 2 → ℕ) (h : ∀ a, off a + S1x128.size a ≤ S384x128.size a), off = ![min (Q + r.val) 383, 0] →
      ∀ (e : Fin 128), (show EReal from valAt fv off h (ix2 (n0 := 1) 0 e)) = ((v (128 * min (Q + r.val) 383 + e) : ℝ) : EReal) := by
    intro off h he e
    subst he
    have := e.isLt
    refine (get2 (Memref.whole cc0_stg3_0).view fv (min (Q + r.val) 383) 0 1 128 h 0 e (by simp only [Fin.val_zero]; omega) (by omega)).trans ?_
    refine (H.fv ⟨min (Q + r.val) 383 + 0, by omega⟩ ⟨0 + e, by omega⟩).trans ?_
    simp only [Nat.add_zero, Nat.zero_add]
  have hr := r.isLt
  constructor
  · omega
  · exact g _ _ _ (off2_ofNat B hB) (by omega)
  · intro x e
    rw [show 8 * min B 191 + x.val + 1 = 8 * min B 191 + 1 + x.val by omega]
    exact g _ _ _ (off3_ofNat B hB) (by omega) x e
  · exact gi _ _ (off4_ofNat Q hQ r)
  · exact gv _ _ (off4_ofNat Q hQ r)

/-- The sum over the first `Q` edge rows. -/
def part (p kap : ℕ → ℕ) (v : ℕ → ℝ) (i k Q : ℕ) : ℝ := ∑ n ∈ Finset.range (128 * Q), term p kap v i k n

theorem part_step (i k Q : ℕ) : part p kap v i k Q + (∑ e : Fin 128, term p kap v i k (128 * Q + e) + ∑ e : Fin 128, term p kap v i k (128 * (Q + 1) + e))
    = part p kap v i k (Q + 2) := by
  unfold part
  rw [show 128 * (Q + 2) = 128 * Q + 128 + 128 by omega, Finset.sum_range_add, Finset.sum_range_add, ← add_assoc,
    Fin.sum_univ_eq_sum_range (fun e => term p kap v i k (128 * Q + e)), Fin.sum_univ_eq_sum_range (fun e => term p kap v i k (128 * (Q + 1) + e))]
  rfl

theorem part_zero {i k Q : ℕ} (h : 128 * Q ≤ p i) : part p kap v i k Q = 0 := by
  unfold part
  refine Finset.sum_eq_zero fun n hn => ?_
  rw [Finset.mem_range] at hn
  exact if_neg (fun h' => absurd h'.1.1 (by omega))

theorem part_all {i k Q Q' : ℕ} (h : p (i + 1) ≤ 128 * Q) (h' : p (i + 1) ≤ 128 * Q') : part p kap v i k Q = part p kap v i k Q' := by
  have key : ∀ Q, p (i + 1) ≤ 128 * Q → part p kap v i k Q = ∑ n ∈ Finset.range (p (i + 1)), term p kap v i k n := by
    intro Q h
    refine (Finset.sum_subset (Finset.range_subset_range.2 h) fun n _ hn => ?_).symm
    rw [Finset.mem_range] at hn
    exact if_neg (fun h' => hn h'.1.2)
  rw [key Q h, key Q' h']

theorem visitA_apply (H : Ins p kap v fp fs fi fv) (B Q : ℕ) (hB : B < 256) (hQ : Q < 512) (h1 : k0_chk1 (BitVec.ofNat 32 B)) (h2 : k0_chk2 (BitVec.ofNat 32 Q))
    (fa : CAcc Ideal) (i k : Fin 1536) :
    (show EReal from visitA (F := Ideal) iotaLo oneC zeroC laneNo fp fs fi fv fa (BitVec.ofNat 32 B) (BitVec.ofNat 32 Q) h1 h2 (ix2 i k))
      = if 8 * min B 191 ≤ i.val ∧ i.val < 8 * min B 191 + 8
        then (if Q = p (8 * min B 191) / 128 then (0 : EReal) else fa (ix2 i k))
          + ((∑ e : Fin 128, term p kap v i k (128 * Q + e) + ∑ e : Fin 128, term p kap v i k (128 * (Q + 1) + e) : ℝ) : EReal)
        else fa (ix2 i k) := by
  have hk := k.isLt
  unfold visitA
  rw [sixA_apply fa B hB]
  by_cases hc : 8 * min B 191 ≤ i.val ∧ i.val < 8 * min B 191 + 8
  · rw [dif_pos hc, if_pos hc]
    have hp := H.rows.le (8 * min B 191) (by omega)
    rw [H.fp (8 * min B 191) (by omega) _ _ (off1_ofNat B hB), first_ofNat Q _ (by omega) (by omega), select_decide]
    have e := res_apply (kap := kap) H.rows.le H.col (by omega) (half_of H B Q hB hQ h1 h2 0) (half_of H B Q hB hQ h1 h2 1)
      ⟨8 * (k.val / 256) + (i.val - 8 * min B 191), by omega⟩ ⟨k.val % 256, Nat.mod_lt _ (by decide)⟩
    rw [show 8 * min B 191 + (8 * (k.val / 256) + (i.val - 8 * min B 191)) % 8 = i.val by omega,
      show 256 * ((8 * (k.val / 256) + (i.val - 8 * min B 191)) / 8) + k.val % 256 = k.val by omega] at e
    refine congrArg₂ (fun x y : EReal => x + y) ?_ e
    congr 1
    pointwise
  · rw [dif_neg hc, if_neg hc]

/-! ## The invariant -/

/-- Rows done hold the sums over all edges; the row block under way, once visited, those over the edge rows read. -/
def Acc (p kap : ℕ → ℕ) (v : ℕ → ℝ) (B Q : ℕ) (fa : CAcc Ideal) : Prop :=
  (∀ i k : Fin 1536, i.val < 8 * B → (show EReal from fa (ix2 i k)) = ((part p kap v i k 384 : ℝ) : EReal))
  ∧ (∀ i k : Fin 1536, 8 * B ≤ i.val → i.val < 8 * B + 8 → p (8 * B) / 128 < Q → (show EReal from fa (ix2 i k)) = ((part p kap v i k Q : ℝ) : EReal))
  ∧ (192 ≤ B → p 1536 ≤ 128 * Q ∧ p 1528 / 128 < Q)

theorem Rows.le_of_le (h : Rows p) {i j : ℕ} (hij : i ≤ j) (hj : j ≤ 1536) : p i ≤ p j := by
  induction j, hij using Nat.le_induction with
  | base => exact le_rfl
  | succ j hij ih => exact (ih (by omega)).trans (h.mono j (by omega))

theorem acc_step (H : Ins p kap v fp fs fi fv) (B Q : ℕ) (hB : B ≤ 200) (hQ : Q ≤ 402) (hok : Ok p 8 B Q) (h1 : k0_chk1 (BitVec.ofNat 32 B)) (h2 : k0_chk2 (BitVec.ofNat 32 Q))
    (fa : CAcc Ideal) (hA : Acc p kap v B Q fa) :
    Acc p kap v (nB p B Q) (nQ p B Q) (visitA (F := Ideal) iotaLo oneC zeroC laneNo fp fs fi fv fa (BitVec.ofNat 32 B) (BitVec.ofNat 32 Q) h1 h2) := by
  obtain ⟨a1, a2, a3⟩ := hA
  have hv := fun i k : Fin 1536 => visitA_apply H B Q (by omega) (by omega) h1 h2 fa i k
  generalize visitA (F := Ideal) iotaLo oneC zeroC laneNo fp fs fi fv fa (BitVec.ofNat 32 B) (BitVec.ofNat 32 Q) h1 h2 = fa' at hv ⊢
  unfold nB nQ
  rcases hok with ⟨hlt, hle, hor⟩ | ⟨hge, hle, hq⟩
  · rw [show min B 191 = B by omega] at hv ⊢
    -- the row block visited
    have inn : ∀ i k : Fin 1536, 8 * B ≤ i.val → i.val < 8 * B + 8 → (show EReal from fa' (ix2 i k)) = ((part p kap v i k (Q + 2) : ℝ) : EReal) := by
      intro i k g1 g2
      rw [hv i k, if_pos ⟨g1, g2⟩, ← part_step]
      refine Eq.trans (congrArg (· + _) ?_) (EReal.coe_add (part p kap v i k Q) _).symm
      by_cases hf : Q = p (8 * B) / 128
      · rw [if_pos hf, part_zero]
        · rfl
        · have := H.rows.le_of_le g1 (by omega); omega
      · rw [if_neg hf]
        exact a2 i k g1 g2 (by omega)
    have out : ∀ i k : Fin 1536, i.val < 8 * B → (show EReal from fa' (ix2 i k)) = ((part p kap v i k 384 : ℝ) : EReal) := by
      intro i k g
      rw [hv i k, if_neg (by omega)]
      exact a1 i k g
    by_cases hc : p (8 * (B + 1)) ≤ 128 * (Q + 2)
    · rw [if_pos hc]
      refine ⟨fun i k g => ?_, fun i k g1 g2 g3 => ?_, fun g => ?_⟩
      · by_cases gi : i.val < 8 * B
        · exact out i k gi
        · have q1 := H.rows.le_of_le (show i.val + 1 ≤ 8 * (B + 1) by omega) (by omega)
          have q2 := H.rows.le (i.val + 1) (by omega)
          rw [inn i k (by omega) (by omega), part_all (Q' := 384) (by omega) (by omega)]
      · have hi := i.isLt
        rw [if_pos ⟨hc, by omega⟩, show min (B + 1) 191 = B + 1 by omega] at g3
        omega
      · have hB' : B = 191 := by omega
        subst hB'
        rw [if_neg (by omega)]
        rw [show 8 * 191 = 1528 from rfl] at hle
        exact ⟨hc, by omega⟩
    · rw [if_neg hc, if_neg (by omega)]
      exact ⟨out, fun i k g1 g2 _ => inn i k g1 g2, fun g => by omega⟩
  · obtain ⟨b1, b2⟩ := a3 hge
    rw [show min B 191 = 191 by omega] at hv ⊢
    have out : ∀ i k : Fin 1536, (show EReal from fa' (ix2 i k)) = ((part p kap v i k 384 : ℝ) : EReal) := by
      intro i k
      have hi := i.isLt
      have e := a1 i k (by omega)
      rw [hv i k]
      split
      · rename_i hc
        have q1 := H.rows.le_of_le (show i.val + 1 ≤ 1536 by omega) le_rfl
        have q2 := H.rows.le (i.val + 1) (by omega)
        rw [show 8 * 191 = 1528 from rfl, if_neg (by omega)]
        rw [show part p kap v i k 384 = part p kap v i k (Q + 2) from part_all (by omega) (by omega), ← part_step]
        refine Eq.trans (congrArg (· + _) ?_) (EReal.coe_add (part p kap v i k Q) _).symm
        rw [show part p kap v i k Q = part p kap v i k 384 from part_all (by omega) (by omega)]
        exact e
      · exact e
    rw [if_neg (show ¬ (_ ∧ B + 1 < 192) by omega)]
    refine ⟨fun i k _ => out i k, fun i k g1 g2 _ => ?_, fun _ => ⟨by omega, by omega⟩⟩
    have hi := i.isLt
    split at g1 <;> omega

/-- The accumulator past the last row block. -/
theorem acc_done {B Q : ℕ} {fa : CAcc Ideal} (h : Acc p kap v B Q fa) (hB : 192 ≤ B) (i k : Fin 1536) :
    (show EReal from fa (ix2 i k)) = ((part p kap v i k 384 : ℝ) : EReal) :=
  h.1 i k (by have := i.isLt; omega)

theorem acc_start (fa : CAcc Ideal) : Acc p kap v 0 (p 0 / 128) fa :=
  ⟨fun i k h => absurd h (by omega), fun i k _ _ h => absurd h (by simp), fun h => absurd h (by decide)⟩

end Cert.KernelIdeal.Visit
end
-- ==== Proof.Val.Lands.lean ====
/-
  Where a scatter of rows lands.
-/
module

public import Idealize.ShloMosaic.Lib.Routing.OpsPair
public import Idealize.ShloMosaic.Lib.Routing.OpsOne
public import Idealize.ShloMosaic.PureOps.Ideal

@[expose] public section

noncomputable section

namespace Cert.ReferenceIdeal.Edges

open Idealize.ShloMosaic Idealize.ShloMosaic.ValueIdx Idealize.ShloMosaic.Routing

/-! ## Where an edge's row lands -/

/-- Row `n` of updates, one index word each, lands at `(r, c)` exactly when its word, read signed, is `r` and its column is `c`. -/
theorem lands_row {R C N w : ℕ} (d : ScatterDims (shape2 R C) (shape2 N 1) (shape2 N C)) (huw : d.updateWindowDims = [1]) (hiw : d.insertedWindowDims = [0])
    (hsd : d.scatterDimsToOperandDims = [0]) (hivd : d.indexVectorDim = 1) (idx : IVec (shape2 N 1) w) (n : Fin N) (y c : Fin C) (r : Fin R) :
    d.resultIdx? (ix2 n y) idx = some (ix2 r c) ↔ (idx (ix2 n (0 : Fin 1))).toInt = r.val ∧ y = c := by
  have hm : (0 : Fin 2) ∈ d.scatterDimsToOperandDims := by rw [hsd]; exact List.mem_singleton.2 rfl
  have hm1 : (1 : Fin 2) ∉ d.scatterDimsToOperandDims := by rw [hsd]; simp
  have hk : d.sKept = [1] := by
    show (shape2 R C).kept d.insertedWindowDims = _
    rw [hiw]
    rfl
  have hu : d.uScatter = [0] := by
    show (shape2 N C).kept d.updateWindowDims = _
    rw [huw]
    rfl
  have hsk : d.siKept = [0] := by
    show (List.finRange 2).filter (fun x => decide (x.val ≠ d.indexVectorDim)) = _
    rw [hivd]
    rfl
  have e : ∀ (l : List (Fin 2)) (i : ℕ) (h : i < l.length) (q : Fin 2), l = [q] → l[i]'h = q := by
    intro l i h q hl
    subst hl
    have : i = 0 := by simpa using h
    subst this
    rfl
  have hwin0 : d.window (ix2 n y) 0 = 0 := by
    unfold ScatterDims.window
    rw [dif_neg (by rw [hk]; simp)]
  have hwin1 : d.window (ix2 n y) 1 = y.val := by
    unfold ScatterDims.window
    rw [dif_pos (by rw [hk]; simp), e _ _ _ 1 huw]
  have hst1 : d.start (ix2 n y) idx 1 = 0 := by
    unfold ScatterDims.start
    rw [dif_neg hm1]
  have hst0 : d.start (ix2 n y) idx 0 = (idx (ix2 n (0 : Fin 1))).toInt := by
    unfold ScatterDims.start
    rw [dif_pos hm]
    have hsi : d.siIdx (ix2 n y) ⟨d.scatterDimsToOperandDims.idxOf 0, List.idxOf_lt_length_iff.2 hm⟩ = ix2 n (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        rw [e _ _ _ 0 hu]
      | ⟨1, _⟩ =>
        unfold ScatterDims.siIdx
        rw [dif_pos (by rw [hivd])]
        show List.idxOf (0 : Fin 2) d.scatterDimsToOperandDims = 0
        rw [hsd]; simp
    rw [hsi]
  rw [Routing.resultIdx?_ix2, hst0, hst1, hwin0, hwin1]
  constructor
  · rintro ⟨h1, h2⟩; exact ⟨by omega, Fin.ext (by omega)⟩
  · rintro ⟨h1, rfl⟩; exact ⟨by omega, by omega⟩

/-- A scatter that adds whole rows, read at an entry: the entry, plus that column of every row whose word is this row. -/
theorem add_rows {R C N w : ℕ} (d : ScatterDims (shape2 R C) (shape2 N 1) (shape2 N C)) (huw : d.updateWindowDims = [1]) (hiw : d.insertedWindowDims = [0])
    (hsd : d.scatterDimsToOperandDims = [0]) (hivd : d.indexVectorDim = 1) (x : (shape2 R C).Idx → EReal) (idx : IVec (shape2 N 1) w) (upd : (shape2 N C).Idx → EReal)
    (r : Fin R) (c : Fin C) :
    Ideal.hostScatterAdd d x idx upd (ix2 r c) = x (ix2 r c) + ∑ n : Fin N, if (idx (ix2 n (0 : Fin 1))).toInt = r.val then upd (ix2 n c) else 0 := by
  have back : ∀ j : (shape2 N C).Idx, ix2 (show Fin N from j 0) (show Fin C from j 1) = j := fun j => by
    funext a
    match a with
    | ⟨0, _⟩ => rfl
    | ⟨1, _⟩ => rfl
  unfold Ideal.hostScatterAdd
  refine congrArg (x (ix2 r c) + ·) ?_
  rw [← Finset.sum_filter]
  refine (Finset.sum_bij (fun n _ => ix2 n c) ?_ ?_ ?_ ?_).symm
  · intro n hn
    rw [Finset.mem_filter] at hn ⊢
    exact ⟨Finset.mem_univ _, (lands_row d huw hiw hsd hivd idx n c c r).2 ⟨hn.2, rfl⟩⟩
  · intro n _ n' _ e
    exact congrFun e (0 : Fin 2)
  · intro j hj
    rw [Finset.mem_filter] at hj
    have h2 := hj.2
    rw [← back j] at h2
    have h3 := (lands_row d huw hiw hsd hivd idx _ _ c r).1 h2
    refine ⟨j 0, ?_, ?_⟩
    · exact Finset.mem_filter.2 ⟨Finset.mem_univ _, h3.1⟩
    · rw [← h3.2]
      exact back j
  · intro n _
    rfl

end Cert.ReferenceIdeal.Edges

end
-- ==== Proof.Val.Ref.lean ====
/-
  The reference's rows: the decoded matrix times the projection, at an element, over the extended reals.
-/
module

public import proofs.«01_k».proof.Proof.Val.Out2
public import proofs.«01_k».proof.Proof.Val.Inv
public import proofs.«01_k».proof.Proof.Gen.ReferenceIdeal.Read
public import Idealize.ShloMosaic.Lib.KernelVsHost
public import proofs.«01_k».proof.Proof.Val.Lands

@[expose] public section

set_option maxRecDepth 16384

noncomputable section

namespace Cert.ReferenceIdeal.Edges

open Cert.ReferenceIdeal Cert.ReferenceIdeal.Gen Cert.ReferenceIdeal.Read
open Idealize.ShloMosaic Idealize.SL.Sem
open Cert.KernelIdeal.Visit (field fieldW sgn scale scale_eq coe_sum)

variable (x0 : (⟨S1536x32, .i8⟩ : BufTy).Contents (Elt Ideal)) (x1 x2 : (⟨S1536, .f32⟩ : BufTy).Contents (Elt Ideal))
  (x3 : (⟨S1024x128, .i8⟩ : BufTy).Contents (Elt Ideal))

/-- What field `t` of row `k` adds at column `d`. -/
def codeN (t : ℕ) (ht : t < 4) (k : Fin 1536) (d : Fin 1024) : ℝ :=
  ∑ j : Fin 32, field (x0 (ix2 k j)) t * sgn (x3 (ix2 d ⟨4 * j.val + t, by omega⟩))

theorem sgn_cast (φ : FTy) (r : BitVec 8) : (FloatOps.sitofp (F := Ideal) φ (BitVec.signExtend 32 r) : EReal) = ((sgn r : ℝ) : EReal) := by
  show ((((BitVec.signExtend 32 r).toInt : ℤ) : ℝ) : EReal) = _
  rw [BitVec.toInt_signExtend_of_le (by decide)]
  rfl

theorem code_prod (z r : BitVec 8) (t : ℕ) :
    (FloatOps.sitofp (F := Ideal) FTy.bf16 (IntOp.andi (IntOp.shrsi ArithUnit.host (BitVec.setWidth 32 z) (BitVec.ofNat 32 (2 * t))) 3#32) : EReal)
      * (FloatOps.sitofp (F := Ideal) FTy.bf16 (BitVec.signExtend 32 r) : EReal) = ((field z t * sgn r : ℝ) : EReal) := by
  rw [EReal.coe_mul, sgn_cast, shrsi_unit ArithUnit.host ArithUnit.vector]
  rfl

theorem v9_at (k : Fin 1536) (d : Fin 1024) :
    (show EReal from val_main_v9 (F := Ideal) x0 x3 (ix2 k d)) = ((codeN x0 x3 0 (by decide) k d : ℝ) : EReal) := by
  unfold codeN
  rw [← coe_sum]
  refine (val_main_v9_apply x0 x3 (ix2 k d)).trans ?_
  refine Finset.sum_congr rfl fun j _ => ?_
  pointwise [val_main_v7, val_main_v6, val_main_v5, val_main_v4, val_main_v3, val_main_v2, val_main_v8, val_main_c, val_main_c_0, val_main_v1, val_main_v0]
  rw [show lidx_main_v9 (ix2 k d) j = ix2 k j from funext fun a => match a with | ⟨0, _⟩ => rfl | ⟨1, _⟩ => rfl]
  refine (code_prod _ _ 0).trans (congrArg (fun x => ((field (x0 (ix2 k j)) 0 * sgn (x3 (ix2 d x)) : ℝ) : EReal)) (Fin.ext ?_))
  simp only

theorem v17_at (k : Fin 1536) (d : Fin 1024) :
    (show EReal from val_main_v17 (F := Ideal) x0 x3 (ix2 k d)) = ((codeN x0 x3 1 (by decide) k d : ℝ) : EReal) := by
  unfold codeN
  rw [← coe_sum]
  refine (val_main_v17_apply x0 x3 (ix2 k d)).trans ?_
  refine Finset.sum_congr rfl fun j _ => ?_
  pointwise [val_main_v15, val_main_v14, val_main_v13, val_main_v12, val_main_v11, val_main_v10, val_main_v16, val_main_c_1, val_main_c_2, val_main_v1, val_main_v0]
  rw [show lidx_main_v17 (ix2 k d) j = ix2 k j from funext fun a => match a with | ⟨0, _⟩ => rfl | ⟨1, _⟩ => rfl]
  refine (code_prod _ _ 1).trans (congrArg (fun x => ((field (x0 (ix2 k j)) 1 * sgn (x3 (ix2 d x)) : ℝ) : EReal)) (Fin.ext ?_))
  simp only
  omega

theorem v26_at (k : Fin 1536) (d : Fin 1024) :
    (show EReal from val_main_v26 (F := Ideal) x0 x3 (ix2 k d)) = ((codeN x0 x3 2 (by decide) k d : ℝ) : EReal) := by
  unfold codeN
  rw [← coe_sum]
  refine (val_main_v26_apply x0 x3 (ix2 k d)).trans ?_
  refine Finset.sum_congr rfl fun j _ => ?_
  pointwise [val_main_v24, val_main_v23, val_main_v22, val_main_v21, val_main_v20, val_main_v19, val_main_v25, val_main_c_3, val_main_c_4, val_main_v1, val_main_v0]
  rw [show lidx_main_v26 (ix2 k d) j = ix2 k j from funext fun a => match a with | ⟨0, _⟩ => rfl | ⟨1, _⟩ => rfl]
  refine (code_prod _ _ 2).trans (congrArg (fun x => ((field (x0 (ix2 k j)) 2 * sgn (x3 (ix2 d x)) : ℝ) : EReal)) (Fin.ext ?_))
  simp only
  omega

theorem v35_at (k : Fin 1536) (d : Fin 1024) :
    (show EReal from val_main_v35 (F := Ideal) x0 x3 (ix2 k d)) = ((codeN x0 x3 3 (by decide) k d : ℝ) : EReal) := by
  unfold codeN
  rw [← coe_sum]
  refine (val_main_v35_apply x0 x3 (ix2 k d)).trans ?_
  refine Finset.sum_congr rfl fun j _ => ?_
  pointwise [val_main_v33, val_main_v32, val_main_v31, val_main_v30, val_main_v29, val_main_v28, val_main_v34, val_main_c_5, val_main_c_6, val_main_v1, val_main_v0]
  rw [show lidx_main_v35 (ix2 k d) j = ix2 k j from funext fun a => match a with | ⟨0, _⟩ => rfl | ⟨1, _⟩ => rfl]
  refine (code_prod _ _ 3).trans (congrArg (fun x => ((field (x0 (ix2 k j)) 3 * sgn (x3 (ix2 d x)) : ℝ) : EReal)) (Fin.ext ?_))
  simp only
  omega

theorem v39_at (d : Fin 1024) : (show EReal from val_main_v39 (F := Ideal) x3 (ix1 d)) = ((∑ r : Fin 128, sgn (x3 (ix2 d r)) : ℝ) : EReal) := by
  rw [← coe_sum]
  refine (val_main_v39_apply x3 (ix1 d)).trans ?_
  pointwise [val_main_cst, val_main_v38, val_main_v37]
  refine Finset.sum_congr rfl fun r _ => ?_
  rw [show idx_main_v39 (ix1 d) r = ix2 d r from funext fun a => match a with | ⟨0, _⟩ => rfl | ⟨1, _⟩ => rfl]
  exact sgn_cast _ _

/-- A row of the decoded matrix, projected. -/
def rowN (σ μ : ℕ → ℝ) (k : Fin 1536) (d : Fin 1024) : ℝ :=
  (σ k * (((codeN x0 x3 0 (by decide) k d + codeN x0 x3 1 (by decide) k d) + codeN x0 x3 2 (by decide) k d) + codeN x0 x3 3 (by decide) k d)
    + μ k * ∑ r : Fin 128, sgn (x3 (ix2 d r))) * scale

theorem v50_at (σ μ : ℕ → ℝ) (h2 : ∀ k : Fin 1536, (show EReal from x2 (ix1 k)) = ((σ k : ℝ) : EReal))
    (h1 : ∀ k : Fin 1536, (show EReal from x1 (ix1 k)) = ((μ k : ℝ) : EReal)) (k : Fin 1536) (d : Fin 1024) :
    (show EReal from val_main_v50 (F := Ideal) x0 x1 x2 x3 (ix2 k d)) = ((rowN x0 x3 σ μ k d : ℝ) : EReal) := by
  unfold rowN
  rw [EReal.coe_mul, EReal.coe_add, EReal.coe_mul, EReal.coe_mul, EReal.coe_add, EReal.coe_add, EReal.coe_add,
    ← v9_at, ← v17_at, ← v26_at, ← v35_at, ← v39_at, ← h1, ← h2, ← scale_eq]
  pointwise [val_main_v50, val_main_v49, val_main_v48, val_main_v47, val_main_v46, val_main_v45, val_main_v44, val_main_v43, val_main_v42, val_main_v41, val_main_v40, val_main_v36, val_main_v27, val_main_v18, val_main_cst_7]

/-! ## The row of an edge -/

/-- How many row starts are at or before edge `n`. -/
def startsBy (p : ℕ → ℕ) (n : ℕ) : ℕ := Nat.count (fun j => p j ≤ n) 1537

theorem startsBy_lt {p : ℕ → ℕ} (hp : Cert.KernelIdeal.Visit.Rows p) (n j : ℕ) (hj : j < 1537) : j < startsBy p n ↔ p j ≤ n := by
  have mono : ∀ a b, a ≤ b → b < 1537 → p a ≤ p b := by
    intro a b hab hb
    induction b, hab using Nat.le_induction with
    | base => exact le_refl _
    | succ b hab ih => exact (ih (by omega)).trans (hp.mono b (by omega))
  unfold startsBy
  constructor
  · intro h
    by_contra hn
    have e : Nat.count (fun i => p i ≤ n) 1537 = Nat.count (fun i => p i ≤ n) j + Nat.count (fun i => p (j + i) ≤ n) (1537 - j) := by
      rw [← Nat.count_add]; congr 1; omega
    have z : Nat.count (fun i => p (j + i) ≤ n) (1537 - j) = 0 := by
      rw [Nat.count_iff_forall_not]
      intro i hi h'
      have := mono j (j + i) (by omega) (by omega)
      omega
    have l : Nat.count (fun i => p i ≤ n) j ≤ j := Nat.count_le (p := fun i => p i ≤ n)
    omega
  · intro h
    have e : Nat.count (fun i => p i ≤ n) (j + 1) = j + 1 := by
      rw [Nat.count_iff_forall]
      intro i hi
      exact (mono i j (by omega) hj).trans h
    have l := Nat.count_monotone (fun i => p i ≤ n) (show j + 1 ≤ 1537 by omega)
    omega

theorem startsBy_le (p : ℕ → ℕ) (n : ℕ) : startsBy p n ≤ 1537 := Nat.count_le (p := fun i => p i ≤ n)

theorem startsBy_eq {p : ℕ → ℕ} (hp : Cert.KernelIdeal.Visit.Rows p) (n i : ℕ) (hi : i < 1536) : startsBy p n = i + 1 ↔ p i ≤ n ∧ n < p (i + 1) := by
  have h1 := startsBy_lt hp n i (by omega)
  have h2 := startsBy_lt hp n (i + 1) (by omega)
  omega

variable (x4 : (⟨S1537, .i32⟩ : BufTy).Contents (Elt Ideal))

theorem v52_at {p : ℕ → ℕ} (hp : Cert.KernelIdeal.Visit.Rows p) (h4 : ∀ i : Fin 1537, (show BitVec 32 from x4 (ix1 i)) = BitVec.ofNat 32 (p i)) (n : Fin 49152) :
    (show BitVec 32 from val_main_v52 (F := Ideal) x4 (ix1 n)) = BitVec.ofNat 32 (startsBy p n) := by
  have key : ∀ j : Fin 1537, val_main_call0_call0_v4 (F := Ideal) x4 (ix2 j n) = 1#1 ↔ p j ≤ n.val := by
    intro j
    have hj := j.isLt
    have hn := n.isLt
    have hle := hp.le j (by omega)
    have e : val_main_call0_call0_v4 (F := Ideal) x4 (ix2 j n) = IntOp.cmpi .sle (show BitVec 32 from x4 (ix1 j)) (BitVec.ofNat 32 n.val) := by
      pointwise [val_main_call0_call0_v4, val_main_call0_call0_v3, val_main_call0_call0_v2, val_main_call0_call0_v1, val_main_call0_call0_v0, val_main_v51]
    rw [e, h4, WordCmp.cmpi_sle_of_lt (by rw [BitVec.toNat_ofNat]; omega) (by rw [BitVec.toNat_ofNat]; omega), WordCmp.ofBool_decide_eq_one_iff,
      BitVec.toNat_ofNat, BitVec.toNat_ofNat]
    omega
  apply BitVec.eq_of_toNat_eq
  rw [BitVec.toNat_ofNat, Nat.mod_eq_of_lt (Nat.lt_of_le_of_lt (startsBy_le p n) (by decide))]
  refine (StableHlo.Predicate.toNat_reduce_count_rows (n := 1537) (m := 49152) (by decide) (val_main_call0_call0_v4 (F := Ideal) x4) (by decide)
    reducesTo_S1537x49152_S49152_d0 h_S_ (ix1 n)).trans ?_
  unfold startsBy
  rw [← Routing.card_filter_fin 1537]
  refine congrArg Finset.card (Finset.filter_congr fun j _ => ?_)
  exact (iff_of_eq (congrArg (fun i => val_main_call0_call0_v4 (F := Ideal) x4 i = 1#1) (Routing.ij_eq_ix2 j n))).trans (key j)

end Cert.ReferenceIdeal.Edges
end
-- ==== Proof.Val.Ref2.lean ====
/-
  The reference's two results, as values: the aggregate is a sum over the edges of a row, and the weight gradient contracts it with the output gradient.
-/
module

public import proofs.«01_k».proof.Proof.Val.Ref

@[expose] public section

set_option maxRecDepth 16384

noncomputable section

namespace Cert.ReferenceIdeal.Edges

open Cert.ReferenceIdeal Cert.ReferenceIdeal.Gen Cert.ReferenceIdeal.Read
open Idealize.ShloMosaic Idealize.SL.Sem
open Cert.KernelIdeal.Visit (field sgn scale coe_sum)

variable (x0 : (⟨S1536x32, .i8⟩ : BufTy).Contents (Elt Ideal)) (x1 x2 : (⟨S1536, .f32⟩ : BufTy).Contents (Elt Ideal))
  (x3 : (⟨S1024x128, .i8⟩ : BufTy).Contents (Elt Ideal)) (x4 : (⟨S1537, .i32⟩ : BufTy).Contents (Elt Ideal))
  (x5 : (⟨S49152, .i32⟩ : BufTy).Contents (Elt Ideal)) (x6 : (⟨S49152, .f32⟩ : BufTy).Contents (Elt Ideal))
  (x7 : (⟨S1536x320, .bf16⟩ : BufTy).Contents (Elt Ideal))

/-- What the inputs are: row starts, columns, edge values, and each row's scale and least value. -/
structure Given (p kap : ℕ → ℕ) (v σ μ : ℕ → ℝ) : Prop where
  rows : Cert.KernelIdeal.Visit.Rows p
  col : ∀ n, kap n < 1536
  starts : ∀ i : Fin 1537, (show BitVec 32 from x4 (ix1 i)) = BitVec.ofNat 32 (p i)
  cols : ∀ n : Fin 49152, (show BitVec 32 from x5 (ix1 n)) = BitVec.ofNat 32 (kap n)
  vals : ∀ n : Fin 49152, (show EReal from x6 (ix1 n)) = ((v n : ℝ) : EReal)
  scl : ∀ k : Fin 1536, (show EReal from x2 (ix1 k)) = ((σ k : ℝ) : EReal)
  mn : ∀ k : Fin 1536, (show EReal from x1 (ix1 k)) = ((μ k : ℝ) : EReal)

variable {x0 x1 x2 x3 x4 x5 x6 x7} {p kap : ℕ → ℕ} {v σ μ : ℕ → ℝ}

theorem v61_at (H : Given x1 x2 x4 x5 x6 p kap v σ μ) (n : Fin 49152) :
    (show BitVec 32 from val_main_v61 (F := Ideal) x5 (ix2 n (0 : Fin 1))) = BitVec.ofNat 32 (kap n) := by
  have e : (show BitVec 32 from val_main_v61 (F := Ideal) x5 (ix2 n (0 : Fin 1)))
      = Scalar.select (IntOp.cmpi .slt (show BitVec 32 from x5 (ix1 n)) 0#32) (IntOp.addi (show BitVec 32 from x5 (ix1 n)) 1536#32) (show BitVec 32 from x5 (ix1 n)) := by
    pointwise [val_main_v61, val_main_v60, val_main_v59, val_main_v58, val_main_v57, val_main_v56, val_main_c_9, val_main_c_10]
  have hk := H.col n
  rw [e, H.cols n]
  exact Routing.wrap_of_lt _ _ (by rw [BitVec.toNat_ofNat]; omega)

theorem v66_at (H : Given x1 x2 x4 x5 x6 p kap v σ μ) (n : Fin 49152) (i : Fin 1536) :
    (show BitVec 32 from val_main_v66 (F := Ideal) x4 (ix2 n (0 : Fin 1))).toInt = (i.val : ℤ) ↔ p i ≤ n ∧ n < p (i + 1) := by
  have e : (show BitVec 32 from val_main_v66 (F := Ideal) x4 (ix2 n (0 : Fin 1))) = IntOp.subi (show BitVec 32 from val_main_v52 (F := Ideal) x4 (ix1 n)) 1#32 := by
    pointwise [val_main_v66, val_main_v54, val_main_v53, val_main_c_8]
  have hi := i.isLt
  have hs := startsBy_le p n
  rw [e, v52_at x4 H.rows H.starts n, ← startsBy_eq H.rows n i hi]
  show (BitVec.ofNat 32 (startsBy p n) - 1#32).toInt = _ ↔ _
  rw [BitVec.toInt_eq_toNat_cond, BitVec.toNat_sub, BitVec.toNat_ofNat, BitVec.toNat_ofNat]
  split <;> omega

theorem v64_at (H : Given x1 x2 x4 x5 x6 p kap v σ μ) (n : Fin 49152) (d : Fin 1024) :
    (show EReal from val_main_v64 (F := Ideal) x0 x1 x2 x3 x5 x6 (ix2 n d))
      = ((v n * rowN x0 x3 σ μ ⟨kap n, H.col n⟩ d : ℝ) : EReal) := by
  have e : (show EReal from val_main_v64 (F := Ideal) x0 x1 x2 x3 x5 x6 (ix2 n d))
      = (show EReal from x6 (ix1 n)) * (show EReal from val_main_v62 (F := Ideal) x0 x1 x2 x3 x5 (ix2 n d)) := by
    pointwise [val_main_v64, val_main_v63, val_main_v55]
  have g : val_main_v62 (F := Ideal) x0 x1 x2 x3 x5 (ix2 n d) = val_main_v50 (F := Ideal) x0 x1 x2 x3 (ix2 (⟨kap n, H.col n⟩ : Fin 1536) d) :=
    Routing.gather_row gather_S1536x1024_S49152x1_S49152x1024_1_0_n_n_0_1_11024 rfl rfl rfl rfl rfl _ _ n d ⟨kap n, H.col n⟩ (v61_at H n) (by decide)
  rw [e, g, H.vals n, EReal.coe_mul]
  exact congrArg (_ * ·) (v50_at x0 x1 x2 x3 σ μ H.scl H.mn ⟨kap n, H.col n⟩ d)

/-- One edge's part of row `i` of the aggregate, column `d`. -/
def edge (x0 : (⟨S1536x32, .i8⟩ : BufTy).Contents (Elt Ideal)) (x3 : (⟨S1024x128, .i8⟩ : BufTy).Contents (Elt Ideal)) (p kap : ℕ → ℕ) (v σ μ : ℕ → ℝ) (hk : ∀ n, kap n < 1536)
    (i : ℕ) (d : Fin 1024) (n : ℕ) : ℝ :=
  if p i ≤ n ∧ n < p (i + 1) then v n * rowN x0 x3 σ μ ⟨kap n, hk n⟩ d else 0

/-- Row `i` of the aggregate, column `d`. -/
def edges (x0 : (⟨S1536x32, .i8⟩ : BufTy).Contents (Elt Ideal)) (x3 : (⟨S1024x128, .i8⟩ : BufTy).Contents (Elt Ideal)) (p kap : ℕ → ℕ) (v σ μ : ℕ → ℝ) (hk : ∀ n, kap n < 1536)
    (i : ℕ) (d : Fin 1024) : ℝ :=
  ∑ n : Fin 49152, edge x0 x3 p kap v σ μ hk i d n

theorem add_words (y : FVec Ideal S1536x1024 .f32) (w : IVec S49152x1 32) (u : FVec Ideal S49152x1024 .f32) (i : Fin 1536) (d : Fin 1024) :
    (truncf .bf16 (Host.scatterAdd scatter_S1536x1024_S49152x1_S49152x1024_1_0_0_1 y w u) bitsLt_bf16_f32 (ix2 i d) : EReal)
      = Ideal.hostScatterAdd scatter_S1536x1024_S49152x1_S49152x1024_1_0_0_1 y w u (ix2 i d) := rfl

theorem sum_edges {N : ℕ} (a : Fin N → ℤ) (r : ℤ) (u : Fin N → EReal) (g : Fin N → ℝ) (h : ∀ n, (if a n = r then u n else 0) = ((g n : ℝ) : EReal)) :
    (∑ n, if a n = r then u n else 0) = ((∑ n, g n : ℝ) : EReal) := by
  rw [← coe_sum]
  exact Finset.sum_congr rfl fun n _ => h n

theorem v65_at (i : Fin 1536) (d : Fin 1024) : (show EReal from val_main_v65 (F := Ideal) (ix2 i d)) = 0 := by
  pointwise [val_main_v65, val_main_cst_11]

theorem v68_at (H : Given x1 x2 x4 x5 x6 p kap v σ μ) (i : Fin 1536) (d : Fin 1024) :
    (show EReal from val_main_v68 (F := Ideal) x0 x1 x2 x3 x4 x5 x6 (ix2 i d)) = ((edges x0 x3 p kap v σ μ H.col i d : ℝ) : EReal) := by
  have hw := fun n => v66_at H n i
  have hu := fun n => v64_at (x0 := x0) (x3 := x3) H n d
  have hz := v65_at i d
  unfold val_main_v68 val_main_v67
  generalize val_main_v65 (F := Ideal) = y at hz ⊢
  generalize val_main_v66 (F := Ideal) x4 = w at hw ⊢
  generalize val_main_v64 (F := Ideal) x0 x1 x2 x3 x5 x6 = u at hu ⊢
  refine (add_words y w u i d).trans ?_
  refine (add_rows scatter_S1536x1024_S49152x1_S49152x1024_1_0_0_1 rfl rfl rfl rfl y w u i d).trans ?_
  refine (congrArg (· + _) hz).trans ((zero_add _).trans ?_)
  refine sum_edges _ _ _ _ fun n => ?_
  unfold edge
  by_cases h : p i ≤ n ∧ n < p (i + 1)
  · rw [if_pos h]
    exact (if_pos ((hw n).2 h)).trans (hu n)
  · rw [if_neg h]
    exact (if_neg fun h' => h ((hw n).1 h')).trans EReal.coe_zero.symm

theorem v69_at (H : Given x1 x2 x4 x5 x6 p kap v σ μ) (d : Fin 1024) (o : Fin 320) :
    (show EReal from val_main_v69 (F := Ideal) x0 x1 x2 x3 x4 x5 x6 x7 (ix2 d o))
      = ∑ k : Fin 1536, ((edges x0 x3 p kap v σ μ H.col k d : ℝ) : EReal) * (show EReal from x7 (ix2 k o)) := by
  have hv := fun k => v68_at (x0 := x0) (x3 := x3) H k d
  refine (val_main_v69_apply x0 x1 x2 x3 x4 x5 x6 x7 (ix2 d o)).trans ?_
  generalize val_main_v68 (F := Ideal) x0 x1 x2 x3 x4 x5 x6 = y at hv ⊢
  refine Finset.sum_congr rfl fun k _ => ?_
  have e1 : lidx_main_v69 (ix2 d o) k = ix2 k d := by
    funext a
    match a with
    | ⟨0, _⟩ => rfl
    | ⟨1, _⟩ => rfl
  have e2 : ridx_main_v69 (ix2 d o) k = ix2 k o := by
    funext a
    match a with
    | ⟨0, _⟩ => rfl
    | ⟨1, _⟩ => rfl
  rw [e1, e2]
  exact congrArg (· * _) (hv k)

end Cert.ReferenceIdeal.Edges

end
-- ==== Proof.Val.Agree.lean ====
/-
  The kernel's aggregate, summed column by column, is the reference's, summed edge by edge.
-/
module

public import proofs.«01_k».proof.Proof.Val.Ref2

@[expose] public section

set_option maxRecDepth 16384

noncomputable section

namespace Cert.ReferenceIdeal.Edges

open Cert.ReferenceIdeal Cert.ReferenceIdeal.Gen Cert.ReferenceIdeal.Read
open Idealize.ShloMosaic Idealize.SL.Sem
open Cert.KernelIdeal.Visit (field sgn scale coe_sum term part aggN)

/-- The code at row `k`, place `l` of the kernel's unpacked buffer. -/
def gam (x0 : (⟨S1536x32, .i8⟩ : BufTy).Contents (Elt Ideal)) (k l : ℕ) : ℝ :=
  if h : k < 1536 then field (x0 (ix2 ⟨k, h⟩ ⟨l % 32, Nat.mod_lt _ (by decide)⟩)) (l / 32) else 0

/-- The sign at place `l`, column `d` of the kernel's turned projection. -/
def rho (x3 : (⟨S1024x128, .i8⟩ : BufTy).Contents (Elt Ideal)) (l d : ℕ) : ℝ :=
  if h : d < 1024 then sgn (x3 (ix2 ⟨d, h⟩ ⟨4 * (l % 128 % 32) + l % 128 / 32, by omega⟩)) else 0

variable (x0 : (⟨S1536x32, .i8⟩ : BufTy).Contents (Elt Ideal)) (x3 : (⟨S1024x128, .i8⟩ : BufTy).Contents (Elt Ideal))
  (p kap : ℕ → ℕ) (v σ μ : ℕ → ℝ)

theorem sum_cols (hk : ∀ n, kap n < 1536) (f : ℕ → ℝ) (i : ℕ) :
    ∑ k ∈ Finset.range 1536, part p kap v i k 384 * f k = ∑ n ∈ Finset.range 49152, if p i ≤ n ∧ n < p (i + 1) then v n * f (kap n) else 0 := by
  unfold part
  rw [show 128 * 384 = 49152 from rfl]
  simp only [Finset.sum_mul]
  rw [Finset.sum_comm]
  refine Finset.sum_congr rfl fun n _ => ?_
  rw [Finset.sum_eq_single (kap n)]
  · unfold term
    by_cases h : p i ≤ n ∧ n < p (i + 1)
    · rw [if_pos ⟨h, rfl⟩, if_pos h]
    · rw [if_neg fun h' => h h'.1, if_neg h, zero_mul]
  · intro k _ hne
    unfold term
    rw [if_neg fun h' => hne h'.2.symm, zero_mul]
  · intro h
    exact absurd (Finset.mem_range.2 (hk n)) h

theorem sum_places (g : ℕ → ℝ) : ∑ l : Fin 128, g l = ((∑ j : Fin 32, g j + ∑ j : Fin 32, g (32 + j)) + ∑ j : Fin 32, g (64 + j)) + ∑ j : Fin 32, g (96 + j) := by
  rw [Fin.sum_univ_eq_sum_range g 128, show (128 : ℕ) = ((32 + 32) + 32) + 32 from rfl, Finset.sum_range_add, Finset.sum_range_add, Finset.sum_range_add]
  simp only [Fin.sum_univ_eq_sum_range (fun j => g j) 32, Fin.sum_univ_eq_sum_range (fun j => g (32 + j)) 32, Fin.sum_univ_eq_sum_range (fun j => g (64 + j)) 32,
    Fin.sum_univ_eq_sum_range (fun j => g (96 + j)) 32]

theorem place_code (t : ℕ) (ht : t < 4) (k : Fin 1536) (d : Fin 1024) (j : Fin 32) (l : ℕ) (hl : l = 32 * t + j.val) :
    gam x0 k l * rho x3 l d = field (x0 (ix2 k j)) t * sgn (x3 (ix2 d ⟨4 * j.val + t, by omega⟩)) := by
  have hj := j.isLt
  subst hl
  unfold gam rho
  rw [dif_pos k.isLt, dif_pos d.isLt]
  have e1 : (32 * t + j.val) / 32 = t := by omega
  have e2 : (⟨(32 * t + j.val) % 32, Nat.mod_lt _ (by decide)⟩ : Fin 32) = j := Fin.ext (by simp only; omega)
  have e3 : (⟨4 * ((32 * t + j.val) % 128 % 32) + (32 * t + j.val) % 128 / 32, by omega⟩ : Fin 128) = ⟨4 * j.val + t, by omega⟩ := Fin.ext (by simp only; omega)
  rw [e1, e2, e3]

theorem sum_codes (k : Fin 1536) (d : Fin 1024) :
    ∑ l : Fin 128, gam x0 k l * rho x3 l d
      = ((codeN x0 x3 0 (by decide) k d + codeN x0 x3 1 (by decide) k d) + codeN x0 x3 2 (by decide) k d) + codeN x0 x3 3 (by decide) k d := by
  rw [sum_places fun l => gam x0 k l * rho x3 l d]
  unfold codeN
  refine congrArg₂ (· + ·) (congrArg₂ (· + ·) (congrArg₂ (· + ·) ?_ ?_) ?_) ?_ <;> refine Finset.sum_congr rfl fun j _ => ?_
  · exact place_code x0 x3 0 (by decide) k d j _ (by omega)
  · exact place_code x0 x3 1 (by decide) k d j _ (by omega)
  · exact place_code x0 x3 2 (by decide) k d j _ (by omega)
  · exact place_code x0 x3 3 (by decide) k d j _ (by omega)

theorem sum_signs (d : Fin 1024) : ∑ l : Fin 128, rho x3 l d = ∑ r : Fin 128, sgn (x3 (ix2 d r)) := by
  refine Finset.sum_bij' (fun l _ => (⟨4 * (l.val % 32) + l.val / 32, by omega⟩ : Fin 128)) (fun r _ => (⟨32 * (r.val % 4) + r.val / 4, by omega⟩ : Fin 128))
    (fun _ _ => Finset.mem_univ _) (fun _ _ => Finset.mem_univ _) ?_ ?_ ?_
  · intro l _
    have := l.isLt
    apply Fin.ext
    simp only
    omega
  · intro r _
    have := r.isLt
    apply Fin.ext
    simp only
    omega
  · intro l _
    have := l.isLt
    unfold rho
    rw [dif_pos d.isLt]
    refine congrArg (fun r => sgn (x3 (ix2 d r))) (Fin.ext ?_)
    simp only
    omega

/-- The two aggregates are one number. -/
theorem agree (hk : ∀ n, kap n < 1536) (i : ℕ) (d : Fin 1024) :
    aggN (fun i k => part p kap v i k 384) σ μ (gam x0) (rho x3) i d = edges x0 x3 p kap v σ μ hk i d := by
  unfold edges
  have e : aggN (fun i k => part p kap v i k 384) σ μ (gam x0) (rho x3) i d
      = ∑ k ∈ Finset.range 1536, part p kap v i k 384 * ((σ k * ∑ l : Fin 128, gam x0 k l * rho x3 l d + μ k * ∑ l : Fin 128, rho x3 l d) * scale) := by
    unfold aggN
    generalize scale = s
    simp only [Finset.mul_sum, Finset.sum_mul, add_mul, mul_add, Finset.sum_add_distrib]
    refine congrArg₂ (· + ·) ?_ ?_
    · rw [Finset.sum_comm]
      refine Finset.sum_congr rfl fun k _ => Finset.sum_congr rfl fun l _ => ?_
      ring
    · rw [Finset.sum_comm]
      refine Finset.sum_congr rfl fun k _ => Finset.sum_congr rfl fun l _ => ?_
      ring
  rw [e, sum_cols p kap v hk, ← Fin.sum_univ_eq_sum_range (fun n => if p i ≤ n ∧ n < p (i + 1) then v n * _ else 0) 49152]
  refine Finset.sum_congr rfl fun n _ => ?_
  unfold edge
  refine if_congr Iff.rfl ?_ rfl
  have h1 := sum_codes x0 x3 ⟨kap n, hk n⟩ d
  have h2 := sum_signs x3 d
  simp only at h1
  rw [h1, h2]
  rfl

end Cert.ReferenceIdeal.Edges

end
-- ==== Proof.Val.Inputs.lean ====
/-
  What the kernel's windows hold of the arguments, and what the reference reads: row starts, columns, finite edge values, finite scales and least values.
-/
module

public import proofs.«01_k».proof.Proof.Frame
public import proofs.«01_k».proof.Proof.Val.Agree
public import proofs.«01_k».proof.Pre_rows_in_order_and_finite
public import Idealize.ShloMosaic.Lib.Pointwise
public import Idealize.ShloMosaic.Lib.Pipeline.ValueKit

@[expose] public section

set_option maxRecDepth 16384

noncomputable section

namespace Cert.KernelIdeal.Visit

open Cert.KernelIdeal Cert.KernelIdeal.Gen
open Idealize.ShloMosaic Idealize.ShloMosaic.TcCoe Idealize.SL.Sem
open Idealize.ShloMosaic.WordCmp
open Cert.ReferenceIdeal.Edges (Given gam rho)

variable (m : (ℓ : Loc nD τ sig) → Buf (Elt Ideal) ℓ) (c : Dev nD)

/-- The argument arrays on a core. -/
abbrev a0 : (⟨S1536x32, .i8⟩ : BufTy).Contents (Elt Ideal) := m ((c.tc : Thread nD τ).loc main_arg0)
abbrev a1 : (⟨S1536, .f32⟩ : BufTy).Contents (Elt Ideal) := m ((c.tc : Thread nD τ).loc main_arg1)
abbrev a2 : (⟨S1536, .f32⟩ : BufTy).Contents (Elt Ideal) := m ((c.tc : Thread nD τ).loc main_arg2)
abbrev a3 : (⟨S1024x128, .i8⟩ : BufTy).Contents (Elt Ideal) := m ((c.tc : Thread nD τ).loc main_arg3)
abbrev a4 : (⟨S1537, .i32⟩ : BufTy).Contents (Elt Ideal) := m ((c.tc : Thread nD τ).loc main_arg4)
abbrev a5 : (⟨S49152, .i32⟩ : BufTy).Contents (Elt Ideal) := m ((c.tc : Thread nD τ).loc main_arg5)
abbrev a6 : (⟨S49152, .f32⟩ : BufTy).Contents (Elt Ideal) := m ((c.tc : Thread nD τ).loc main_arg6)
abbrev a7 : (⟨S1536x320, .bf16⟩ : BufTy).Contents (Elt Ideal) := m ((c.tc : Thread nD τ).loc main_arg7)

/-! ## What the precondition says -/

/-- At most an ordinary number in absolute value. -/
def Fin32 (x : EReal) : Prop := FloatOps.cmpf (F := Ideal) (φ := .f32) .olt (FloatOps.hostAbsf (F := Ideal) (φ := .f32) x) (FloatOps.ofBits .f32 0x7F800000#32) = 1#1

theorem real_of {x : EReal} (h : Fin32 x) : x = ((x.toReal : ℝ) : EReal) := by
  have e : Ideal.ofBits .f32 0x7F800000#32 = ⊤ := by simp [Ideal.ofBits, Ideal.ieee]
  have h' : Ideal.cmp .olt (max x (-x)) (Ideal.ofBits .f32 0x7F800000#32) = 1#1 := h
  rw [e] at h'
  simp only [Ideal.cmp, ofBool_eq_one_iff, decide_eq_true_eq, max_lt_iff] at h'
  refine (EReal.coe_toReal (ne_of_lt h'.1) ?_).symm
  rintro rfl
  exact absurd h'.2 (by simp)

/-- The conditions on the row starts. -/
structure Ordered : Prop extends Bounded m c where
  mono : ∀ (i : ℕ) (hi : i < 1536), IntOp.cmpi .sle (show BitVec 32 from m ((c.tc : Thread nD τ).loc main_arg4) (ptrIx i (by omega)))
    (show BitVec 32 from m ((c.tc : Thread nD τ).loc main_arg4) (ptrIx (i + 1) (by omega))) = 1#1

theorem rows_of_ordered (h : Ordered m c) : Rows (rowStart m c) where
  toWithin := h.toBounded.within
  mono i hi := by
    unfold rowStart
    rw [dif_pos (show i < 1537 by omega), dif_pos (show i + 1 < 1537 by omega)]
    have k1 := start_le (h.ge (ptrIx i (by omega))) (h.le _)
    have k2 := start_le (h.ge (ptrIx (i + 1) (by omega))) (h.le _)
    have g := h.mono i hi
    rw [cmpi_sle_of_lt (by omega) (by omega), ofBool_decide_eq_one_iff] at g
    exact g

structure Fine : Prop where
  ordered : Ordered m c
  ge : ∀ n : Fin 49152, IntOp.cmpi .sge (show BitVec 32 from a5 m c (ix1 n)) 0#32 = 1#1
  lt : ∀ n : Fin 49152, IntOp.cmpi .slt (show BitVec 32 from a5 m c (ix1 n)) 1536#32 = 1#1
  vals : ∀ n : Fin 49152, Fin32 (a6 m c (ix1 n))
  scl : ∀ k : Fin 1536, Fin32 (a2 m c (ix1 k))
  mn : ∀ k : Fin 1536, Fin32 (a1 m c (ix1 k))

theorem ordered_of_fine_pre [Cert.Pre_rows_in_order_and_finite.Facts]
    (x0 : IVec S1536x32 8) (x1 x2 : FVec Ideal S1536 .f32) (x3 : IVec S1024x128 8) (x5 : IVec S49152 32) (x6 : FVec Ideal S49152 .f32) (x7 : FVec Ideal S1536x320 .bf16)
    (h0 : (Cert.Pre_rows_in_order_and_finite.fn (F := Ideal) x0 x1 x2 x3 (m ((c.tc : Thread nD τ).loc main_arg4)) x5 x6 x7).1 = fun _ => 1#1)
    (h1 : (Cert.Pre_rows_in_order_and_finite.fn (F := Ideal) x0 x1 x2 x3 (m ((c.tc : Thread nD τ).loc main_arg4)) x5 x6 x7).2.1 = fun _ => 1#1)
    (h2 : (Cert.Pre_rows_in_order_and_finite.fn (F := Ideal) x0 x1 x2 x3 (m ((c.tc : Thread nD τ).loc main_arg4)) x5 x6 x7).2.2.1 = fun _ => 1#1) :
    Ordered m c where
  ge i := congrFun h0 i
  le i := congrFun h1 i
  mono i hi := by
    have := congrFun h2 (ix1 (n0 := 1536) ⟨i, hi⟩)
    refine Eq.trans ?_ this
    pointwise [Cert.Pre_rows_in_order_and_finite.fn, Cert.Pre_rows_in_order_and_finite.fn_part1]
    simp only [ptrIx, Nat.add_comm]

theorem fine_of_pre [Cert.Pre_rows_in_order_and_finite.Facts]
    (h : (Cert.Pre_rows_in_order_and_finite.fn (F := Ideal) (a0 m c) (a1 m c) (a2 m c) (a3 m c) (a4 m c) (a5 m c) (a6 m c) (a7 m c)).1 = (fun _ => 1#1)
      ∧ (Cert.Pre_rows_in_order_and_finite.fn (F := Ideal) (a0 m c) (a1 m c) (a2 m c) (a3 m c) (a4 m c) (a5 m c) (a6 m c) (a7 m c)).2.1 = (fun _ => 1#1)
      ∧ (Cert.Pre_rows_in_order_and_finite.fn (F := Ideal) (a0 m c) (a1 m c) (a2 m c) (a3 m c) (a4 m c) (a5 m c) (a6 m c) (a7 m c)).2.2.1 = (fun _ => 1#1)
      ∧ (Cert.Pre_rows_in_order_and_finite.fn (F := Ideal) (a0 m c) (a1 m c) (a2 m c) (a3 m c) (a4 m c) (a5 m c) (a6 m c) (a7 m c)).2.2.2.1 = (fun _ => 1#1)
      ∧ (Cert.Pre_rows_in_order_and_finite.fn (F := Ideal) (a0 m c) (a1 m c) (a2 m c) (a3 m c) (a4 m c) (a5 m c) (a6 m c) (a7 m c)).2.2.2.2.1 = (fun _ => 1#1)
      ∧ (Cert.Pre_rows_in_order_and_finite.fn (F := Ideal) (a0 m c) (a1 m c) (a2 m c) (a3 m c) (a4 m c) (a5 m c) (a6 m c) (a7 m c)).2.2.2.2.2.1 = (fun _ => 1#1)
      ∧ (Cert.Pre_rows_in_order_and_finite.fn (F := Ideal) (a0 m c) (a1 m c) (a2 m c) (a3 m c) (a4 m c) (a5 m c) (a6 m c) (a7 m c)).2.2.2.2.2.2.1 = (fun _ => 1#1)
      ∧ (Cert.Pre_rows_in_order_and_finite.fn (F := Ideal) (a0 m c) (a1 m c) (a2 m c) (a3 m c) (a4 m c) (a5 m c) (a6 m c) (a7 m c)).2.2.2.2.2.2.2 = (fun _ => 1#1)) :
    Fine m c := by
  obtain ⟨h0, h1, h2, h3, h4, h5, h6, h7⟩ := h
  exact ⟨ordered_of_fine_pre m c _ _ _ _ _ _ _ h0 h1 h2, fun n => congrFun h3 (ix1 n), fun n => congrFun h4 (ix1 n), fun n => congrFun h5 (ix1 n),
    fun k => congrFun h6 (ix1 k), fun k => congrFun h7 (ix1 k)⟩

/-! ## The arguments as numbers -/

def kapOf (n : ℕ) : ℕ := if h : n < 49152 then (show BitVec 32 from a5 m c (ix1 ⟨n, h⟩)).toNat else 0
def valOf (n : ℕ) : ℝ := if h : n < 49152 then (show EReal from a6 m c (ix1 ⟨n, h⟩)).toReal else 0
def sclOf (k : ℕ) : ℝ := if h : k < 1536 then (show EReal from a2 m c (ix1 ⟨k, h⟩)).toReal else 0
def mnOf (k : ℕ) : ℝ := if h : k < 1536 then (show EReal from a1 m c (ix1 ⟨k, h⟩)).toReal else 0

variable {m c}

theorem kapOf_lt (h : Fine m c) (n : ℕ) : kapOf m c n < 1536 := by
  have key : ∀ x : BitVec 32, IntOp.cmpi .sge x 0#32 = 1#1 → IntOp.cmpi .slt x 1536#32 = 1#1 → x.toNat < 1536 := by
    intro x h1 h2
    have g1 : (0#32).sle x = true := by
      have : BitVec.ofBool ((0#32).sle x) = 1#1 := h1
      simpa [ofBool_eq_one_iff] using this
    have g2 : x.slt 1536#32 = true := by
      have : BitVec.ofBool (x.slt 1536#32) = 1#1 := h2
      simpa [ofBool_eq_one_iff] using this
    rw [BitVec.sle_iff_toInt_le] at g1
    rw [BitVec.slt_iff_toInt_lt] at g2
    rw [show (0#32).toInt = 0 by decide] at g1
    rw [show (1536#32).toInt = 1536 by decide] at g2
    rw [BitVec.toInt_eq_toNat_cond] at g1 g2
    split at g1 <;> split at g2 <;> omega
  unfold kapOf
  split
  · exact key _ (h.ge _) (h.lt _)
  · decide

theorem kapOf_word (n : Fin 49152) : (show BitVec 32 from a5 m c (ix1 n)) = BitVec.ofNat 32 (kapOf m c n) := by
  unfold kapOf
  rw [dif_pos n.isLt]
  exact (BitVec.eq_of_toNat_eq (by simp)).symm

theorem valOf_eq (h : Fine m c) (n : Fin 49152) : (show EReal from a6 m c (ix1 n)) = ((valOf m c n : ℝ) : EReal) := by
  unfold valOf
  rw [dif_pos n.isLt]
  exact real_of (h.vals n)

theorem sclOf_eq (h : Fine m c) (k : Fin 1536) : (show EReal from a2 m c (ix1 k)) = ((sclOf m c k : ℝ) : EReal) := by
  unfold sclOf
  rw [dif_pos k.isLt]
  exact real_of (h.scl k)

theorem mnOf_eq (h : Fine m c) (k : Fin 1536) : (show EReal from a1 m c (ix1 k)) = ((mnOf m c k : ℝ) : EReal) := by
  unfold mnOf
  rw [dif_pos k.isLt]
  exact real_of (h.mn k)

theorem start_word (i : ℕ) (hi : i < 1537) : (show BitVec 32 from a4 m c (ix1 (n0 := 1537) ⟨i, hi⟩)) = BitVec.ofNat 32 (rowStart m c i) := by
  unfold rowStart
  rw [dif_pos hi]
  exact (BitVec.eq_of_toNat_eq (by simp [ptrIx])).symm

/-- What the reference reads. -/
theorem given (h : Fine m c) : Given (a1 m c) (a2 m c) (a4 m c) (a5 m c) (a6 m c) (rowStart m c) (kapOf m c) (valOf m c) (sclOf m c) (mnOf m c) where
  rows := rows_of_ordered m c h.ordered
  col := kapOf_lt h
  starts i := start_word i i.isLt
  cols := kapOf_word
  vals := valOf_eq h
  scl := sclOf_eq h
  mn := mnOf_eq h

/-! ## The windows -/

variable (m c)

theorem cast_at {α : Type} (X : S49152.Idx → α) (h : S49152.ShapeCasts S384x128) (N : Fin 384) (e : Fin 128) (n : Fin 49152) (hn : n.val = 128 * N + e) :
    shapeCast S384x128 X h (ix2 N e) = X (ix1 n) := by
  pointwise []
  refine congrArg X (congrArg ix1 (Fin.ext ?_))
  simp only
  omega

theorem V_v0 (N : Fin 384) (e : Fin 128) (n : Fin 49152) (hn : n.val = 128 * N + e) : V m c main_v0 (ix2 N e) = a5 m c (ix1 n) := by
  unfold V; after_results
  exact cast_at _ _ N e n hn

theorem V_v1 (N : Fin 384) (e : Fin 128) (n : Fin 49152) (hn : n.val = 128 * N + e) : V m c main_v1 (ix2 N e) = a6 m c (ix1 n) := by
  unfold V; after_results
  exact cast_at _ _ N e n hn

theorem ptrV_eq : ptrV m c = a4 m c := by
  unfold ptrV
  rw [show V m c main_arg4 = a4 m c from V_ptr m c]
  generalize a4 m c = X
  funext y; show X _ = X _; congr 1; funext a; apply Fin.ext; blk_simp
  rw [show win0_1.index pt0 a = 0 by fin_cases a <;> rfl]; omega

theorem idxW_eq : idxW m c = V m c main_v0 := by
  unfold idxW
  generalize V m c main_v0 = X
  funext y; show X _ = X _; congr 1; funext a; apply Fin.ext; blk_simp
  rw [show win0_2.index pt0 a = 0 by fin_cases a <;> rfl]; omega

theorem valW_eq : valW m c = V m c main_v1 := by
  unfold valW
  generalize V m c main_v1 = X
  funext y; show X _ = X _; congr 1; funext a; apply Fin.ext; blk_simp
  rw [show win0_3.index pt0 a = 0 by fin_cases a <;> rfl]; omega

theorem zW_eq : zW m c = a0 m c := by
  unfold zW
  rw [show V m c main_arg0 = a0 m c by unfold V; after_results]
  generalize a0 m c = X
  funext y; show X _ = X _; congr 1; funext a; apply Fin.ext; blk_simp
  rw [show win0_4.index pt0 a = 0 by fin_cases a <;> rfl]; omega

theorem scW_eq : scW m c = a2 m c := by
  unfold scW
  rw [show V m c main_arg2 = a2 m c by unfold V; after_results]
  generalize a2 m c = X
  funext y; show X _ = X _; congr 1; funext a; apply Fin.ext; blk_simp
  rw [show win0_5.index pt0 a = 0 by fin_cases a <;> rfl]; omega

theorem mnW_eq : mnW m c = a1 m c := by
  unfold mnW
  rw [show V m c main_arg1 = a1 m c by unfold V; after_results]
  generalize a1 m c = X
  funext y; show X _ = X _; congr 1; funext a; apply Fin.ext; blk_simp
  rw [show win0_6.index pt0 a = 0 by fin_cases a <;> rfl]; omega

theorem rW_eq : rW m c = a3 m c := by
  unfold rW
  rw [show V m c main_arg3 = a3 m c by unfold V; after_results]
  generalize a3 m c = X
  funext y; show X _ = X _; congr 1; funext a; apply Fin.ext; blk_simp
  rw [show win0_7.index pt0 a = 0 by fin_cases a <;> rfl]; omega

theorem yW_eq : yW m c = a7 m c := by
  unfold yW
  rw [show V m c main_arg7 = a7 m c by unfold V; after_results]
  generalize a7 m c = X
  funext y; show X _ = X _; congr 1; funext a; apply Fin.ext; blk_simp
  rw [show win0_8.index pt0 a = 0 by fin_cases a <;> rfl]; omega

variable {m c}

/-- What the visits find. -/
theorem ins (h : Fine m c) (fs : CSt Ideal) :
    Ins (rowStart m c) (kapOf m c) (valOf m c) (ptrW m c) (startsA (ptrW m c) (ptrV m c) fs) (idxW m c) (valW m c) where
  rows := rows_of_ordered m c h.ordered
  col n _ := kapOf_lt h n
  fp := ptrIs m c
  fs := upto_starts (ptrIs m c) (fun i hi => by rw [ptrV_eq]; exact start_word i hi) fs
  fi N e := by
    have hN := N.isLt
    have he := e.isLt
    rw [idxW_eq]
    exact (V_v0 m c N e ⟨128 * N + e, by omega⟩ rfl).trans (kapOf_word _)
  fv N e := by
    have hN := N.isLt
    have he := e.isLt
    rw [valW_eq]
    exact (V_v1 m c N e ⟨128 * N + e, by omega⟩ rfl).trans (valOf_eq h _)

/-- What the epilogue finds, from an accumulator that is done. -/
theorem bufs (h : Fine m c) {fa : CAcc Ideal} (hA : ∀ i k : Fin 1536, (show EReal from fa (ix2 i k)) = ((part (rowStart m c) (kapOf m c) (valOf m c) i k 384 : ℝ) : EReal))
    (fc : C cc0_scratch2 Ideal) (ft : C cc0_scratch3 Ideal) :
    Bufs (fun i k => part (rowStart m c) (kapOf m c) (valOf m c) i k 384) (sclOf m c) (mnOf m c) (gam (a0 m c)) (rho (a3 m c))
      (scW m c) (mnW m c) fa (codesA (zW m c) fc) (rtA (rW m c) ft) where
  fa := hA
  fsc k := by rw [scW_eq]; exact sclOf_eq h k
  fmn k := by rw [mnW_eq]; exact mnOf_eq h k
  fc k l := by
    rw [zW_eq, codesA_apply]
    unfold gam
    rw [dif_pos k.isLt]
  ft l d := by
    rw [rW_eq, rtA_apply]
    unfold rho
    rw [dif_pos d.isLt]
    refine congrArg (fun z => ((sgn (a3 m c (ix2 d z)) : ℝ) : EReal)) (Fin.ext ?_)
    simp only
    omega

end Cert.KernelIdeal.Visit

end
-- ==== Proof.Val.Results.lean ====
/-
  The kernel's two results are the reference's.
-/
module

public import proofs.«01_k».proof.Proof.Val.Inputs
public import Idealize.ShloMosaic.Lib.Pipeline.ArrRel

@[expose] public section

set_option maxRecDepth 16384

noncomputable section

namespace Cert.KernelIdeal.Visit

open Cert.KernelIdeal Cert.KernelIdeal.Gen
open Idealize.ShloMosaic Idealize.ShloMosaic.TcCoe Idealize.SL.Sem
open Idealize.ShloMosaic.WordCmp
open Cert.ReferenceIdeal.Edges (Given gam rho edges agree v68_at v69_at)

variable {m : (ℓ : Loc nD τ sig) → Buf (Elt Ideal) ℓ}

/-- The plan that keeps the accumulator's value. -/
def sums (h : ∀ c, Fine m c) : Plan m :=
  planOf (rowStart m) (fun c => (h c).ordered.toBounded.within) (ptrIs m) (fun c B Q fa => Acc (rowStart m c) (kapOf m c) (valOf m c) B Q fa)
    (fun c fs B Q fa h1 h2 hB hQ hok hA => acc_step (ins (h c) fs) B Q hB hQ hok h1 h2 fa hA) (fun c fa => acc_start fa)

theorem sums_done (h : ∀ c, Fine m c) (c : Dev nD) {fa : CAcc Ideal} (hd : (sums h).Done c fa) (i k : Fin 1536) :
    (show EReal from fa (ix2 i k)) = ((part (rowStart m c) (kapOf m c) (valOf m c) i k 384 : ℝ) : EReal) := by
  obtain ⟨b, q, ⟨B, Q, rfl, rfl, hok, hA⟩, hn⟩ := hd
  have hb := hok.lt (h c).ordered.toBounded.within le_rfl
  refine acc_done hA ?_ i k
  by_contra hlt
  exact hn ((cmpi_slt_ofNat_eq_one_iff (w := 32) (by omega) (by decide)).2 (by omega))

/-- The aggregate the body leaves. -/
theorem agg_is (h : ∀ c, Fine m c) (c : Dev nD) {X : C cc0_stg10_0 Ideal} (hX : (sums h).Agg c X) (i : Fin 1536) (d : Fin 1024) :
    (show EReal from X (ix2 i d)) = ((edges (a0 m c) (a3 m c) (rowStart m c) (kapOf m c) (valOf m c) (sclOf m c) (mnOf m c) (kapOf_lt (h c)) i d : ℝ) : EReal) := by
  obtain ⟨fa, fc, ft, fo, hd, rfl⟩ := hX
  exact (aggOut_apply (bufs (h c) (sums_done h c hd) fc ft) fo i d).trans
    (congrArg (fun r : ℝ => (r : EReal)) (agree (a0 m c) (a3 m c) (rowStart m c) (kapOf m c) (valOf m c) (sclOf m c) (mnOf m c) (kapOf_lt (h c)) i d))

/-- The output gradient, at any two numbers. -/
def yN (m : (ℓ : Loc nD τ sig) → Buf (Elt Ideal) ℓ) (c : Dev nD) (i o : ℕ) : EReal :=
  if g : i < 1536 ∧ o < 320 then (show EReal from a7 m c (ix2 ⟨i, g.1⟩ ⟨o, g.2⟩)) else 0

theorem yN_at (c : Dev nD) (i : Fin 1536) (o : Fin 320) : yN m c i o = (show EReal from a7 m c (ix2 i o)) := by
  unfold yN
  rw [dif_pos (And.intro i.isLt o.isLt)]

/-- The weight gradient the body leaves. -/
theorem dw_is (h : ∀ c, Fine m c) (c : Dev nD) {X : C cc0_stg9_0 Ideal} (hX : (sums h).Dw c X) (d : Fin 1024) (o : Fin 320) :
    (show EReal from X (ix2 d o)) = ∑ k : Fin 1536,
      ((edges (a0 m c) (a3 m c) (rowStart m c) (kapOf m c) (valOf m c) (sclOf m c) (mnOf m c) (kapOf_lt (h c)) k d : ℝ) : EReal) * (show EReal from a7 m c (ix2 k o)) := by
  obtain ⟨fa, fc, ft, fw, hd, rfl⟩ := hX
  have hy : ∀ (i : Fin 1536) (o : Fin 320), (show EReal from yW m c (ix2 i o)) = yN m c i o := fun i o => by
    rw [yW_eq, yN_at]
  refine (dwOut_apply hy (bufs (h c) (sums_done h c hd) fc ft) fw d o).trans ?_
  rw [← Fin.sum_univ_eq_sum_range (fun k => ((_ : ℝ) : EReal) * yN m c k o) 1536]
  refine Finset.sum_congr rfl fun k _ => ?_
  exact congrArg₂ (· * ·) (congrArg (fun r : ℝ => (r : EReal)) (agree (a0 m c) (a3 m c) (rowStart m c) (kapOf m c) (valOf m c) (sclOf m c) (mnOf m c) (kapOf_lt (h c)) k d)) (yN_at c k o)

/-- The reference's results on the kernel's arguments. -/
def refAgg (m : (ℓ : Loc nD τ sig) → Buf (Elt Ideal) ℓ) (c : Dev nD) : Buf (Elt Ideal) ((c.tc : Thread nD τ).loc main_v2_1) :=
  Cert.ReferenceIdeal.Read.val_main_v68 (F := Ideal) (a0 m c) (a1 m c) (a2 m c) (a3 m c) (a4 m c) (a5 m c) (a6 m c)
def refDw (m : (ℓ : Loc nD τ sig) → Buf (Elt Ideal) ℓ) (c : Dev nD) : Buf (Elt Ideal) ((c.tc : Thread nD τ).loc main_v2_0) :=
  Cert.ReferenceIdeal.Read.val_main_v69 (F := Ideal) (a0 m c) (a1 m c) (a2 m c) (a3 m c) (a4 m c) (a5 m c) (a6 m c) (a7 m c)

theorem refAgg_of (m : (ℓ : Loc nD τ sig) → Buf (Elt Ideal) ℓ) (c : Dev nD) {y0 : (⟨S1536x32, .i8⟩ : BufTy).Contents (Elt Ideal)} {y1 y2 : (⟨S1536, .f32⟩ : BufTy).Contents (Elt Ideal)}
    {y3 : (⟨S1024x128, .i8⟩ : BufTy).Contents (Elt Ideal)} {y4 : (⟨S1537, .i32⟩ : BufTy).Contents (Elt Ideal)}
    {y5 : (⟨S49152, .i32⟩ : BufTy).Contents (Elt Ideal)} {y6 : (⟨S49152, .f32⟩ : BufTy).Contents (Elt Ideal)}
    (e0 : y0 = a0 m c) (e1 : y1 = a1 m c) (e2 : y2 = a2 m c) (e3 : y3 = a3 m c) (e4 : y4 = a4 m c) (e5 : y5 = a5 m c) (e6 : y6 = a6 m c) :
    Cert.ReferenceIdeal.Read.val_main_v68 (F := Ideal) y0 y1 y2 y3 y4 y5 y6 = refAgg m c := by
  subst e0 e1 e2 e3 e4 e5 e6
  rfl

theorem refDw_of (m : (ℓ : Loc nD τ sig) → Buf (Elt Ideal) ℓ) (c : Dev nD) {y0 : (⟨S1536x32, .i8⟩ : BufTy).Contents (Elt Ideal)} {y1 y2 : (⟨S1536, .f32⟩ : BufTy).Contents (Elt Ideal)}
    {y3 : (⟨S1024x128, .i8⟩ : BufTy).Contents (Elt Ideal)} {y4 : (⟨S1537, .i32⟩ : BufTy).Contents (Elt Ideal)}
    {y5 : (⟨S49152, .i32⟩ : BufTy).Contents (Elt Ideal)} {y6 : (⟨S49152, .f32⟩ : BufTy).Contents (Elt Ideal)} {y7 : (⟨S1536x320, .bf16⟩ : BufTy).Contents (Elt Ideal)}
    (e0 : y0 = a0 m c) (e1 : y1 = a1 m c) (e2 : y2 = a2 m c) (e3 : y3 = a3 m c) (e4 : y4 = a4 m c) (e5 : y5 = a5 m c) (e6 : y6 = a6 m c) (e7 : y7 = a7 m c) :
    Cert.ReferenceIdeal.Read.val_main_v69 (F := Ideal) y0 y1 y2 y3 y4 y5 y6 y7 = refDw m c := by
  subst e0 e1 e2 e3 e4 e5 e6 e7
  rfl

theorem split2 {n0 n1 : ℕ} (j : (⟨2, ![n0, n1]⟩ : Shape).Idx) : ∃ (a : Fin n0) (b : Fin n1), j = ix2 a b :=
  ⟨j 0, j 1, by
    funext a
    match a with
    | ⟨0, _⟩ => rfl
    | ⟨1, _⟩ => rfl⟩

theorem agg_eq (h : ∀ c, Fine m c) (c : Dev nD) {X : C cc0_stg10_0 Ideal} (hX : (sums h).Agg c X) : X = refAgg m c := by
  funext j
  obtain ⟨i, d, rfl⟩ := split2 (n0 := 1536) (n1 := 1024) j
  exact (agg_is h c hX i d).trans (v68_at (x0 := a0 m c) (x3 := a3 m c) (given (h c)) i d).symm

theorem dw_eq (h : ∀ c, Fine m c) (c : Dev nD) {X : C cc0_stg9_0 Ideal} (hX : (sums h).Dw c X) : X = refDw m c := by
  funext j
  obtain ⟨d, o, rfl⟩ := split2 (n0 := 1024) (n1 := 320) j
  exact (dw_is h c hX d o).trans (v69_at (x0 := a0 m c) (x3 := a3 m c) (x7 := a7 m c) (given (h c)) d o).symm

theorem whole9 : (((cfg0 (F := Ideal))).win (9 : Fin 11)).WholeAt (pt0 (F := Ideal)) := by decide +kernel
theorem whole10 : (((cfg0 (F := Ideal))).win (10 : Fin 11)).WholeAt (pt0 (F := Ideal)) := by decide +kernel

/-- A run leaves the reference's results. -/
theorem results (h : ∀ c, Fine m c) (r : PUnit × MemSt nD τ sig (Elt Ideal))
    (hr : Pipeline.RDat.FramePost (cfg0 (F := Ideal)) (rdat (sums h)) (V m) r) (c : Dev nD) :
    r.2.mem ((c.tc : Thread nD τ).loc main_v2_0) = refDw m c ∧ r.2.mem ((c.tc : Thread nD τ).loc main_v2_1) = refAgg m c := by
  constructor
  · obtain ⟨X, ⟨Y, _, hX⟩, hj⟩ := Pipeline.RDat.ArrAt.emb_eq_of_wholeAt ((hr c).1 (9 : Fin 11)) whole9
    refine Eq.trans ?_ (dw_eq h c (X := X) hX)
    funext j
    exact hj j
  · obtain ⟨X, ⟨Y, _, hX⟩, hj⟩ := Pipeline.RDat.ArrAt.emb_eq_of_wholeAt ((hr c).1 (10 : Fin 11)) whole10
    refine Eq.trans ?_ (agg_eq h c (X := X) hX)
    funext j
    exact hj j

/-- The kernel's run: the reference's results, and the arguments as they were. -/
theorem value (ρ : Dev nD → PrngReg) (h : ∀ c, Fine m c) :
    θ_run defs (onTc (τ := τ) (main (F := Ideal))) ⟨m, fun _ => 0, ρ⟩ (fun r => ∀ c : Dev nD,
      r.2.mem ((c.tc : Thread nD τ).loc main_v2_0) = refDw m c
      ∧ r.2.mem ((c.tc : Thread nD τ).loc main_v2_1) = refAgg m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r hr c => ⟨(results h r hr.1 c).1, (results h r hr.1 c).2, args_kept (sums h) r hr.1 c⟩) (run ρ (sums h))

end Cert.KernelIdeal.Visit

end
-- ==== Proof.lean ====
/-
  The proof of `Cert.Claim`: the frames of the two kernels and of the reference, and that the kernel's results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Quiescent
public import proofs.«01_k».proof.Proof.Frame
public import proofs.«01_k».proof.Proof.K.Frame
public import proofs.«01_k».proof.Proof.Val.Results

@[expose] public section

noncomputable section

namespace Cert.Proof

open Idealize.ShloMosaic Idealize.SL.Sem Cert.Kernel

/-- The shapes of the bounds of the row starts fit. -/
theorem starts_facts : Cert.Pre_starts_in_bounds.Facts := ⟨by decide⟩

/-- The shapes of the condition on the row starts, the columns and the finite numbers fit. -/
theorem fine_facts : Cert.Pre_rows_in_order_and_finite.Facts := ⟨by decide, by decide, by decide, by decide, by decide⟩

section
attribute [local instance] Cert.Kernel.Gen.facts Cert.KernelIdeal.Gen.facts Cert.ReferenceIdeal.Gen.facts starts_facts fine_facts

theorem frame_kernel : Cert.quiescent_Kernel := fun m g h =>
  Cert.Kernel.Visit.frame g fun c => Cert.Kernel.Visit.bounded_of_pre m c _ _ _ _ _ _ _ (h c).1 (h c).2

theorem frame_kernelIdeal : Cert.quiescent_KernelIdeal := fun m g h =>
  Cert.KernelIdeal.Visit.frame g fun c => Cert.KernelIdeal.Visit.bounded_of_pre m c _ _ _ _ _ _ _ (h c).1 (h c).2

theorem frame_kernelIdeal_fine : Cert.quiescent_KernelIdeal_pre_rows_in_order_and_finite := fun m g h =>
  Cert.KernelIdeal.Visit.frame g fun c => (Cert.KernelIdeal.Visit.fine_of_pre m c (h c)).ordered.toBounded

theorem frame_reference : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run m g)

theorem frame_reference_fine : Cert.quiescent_ReferenceIdeal_pre_rows_in_order_and_finite := fun m g _ => frame_reference m g trivial

/-- The kernel's results are the reference's, where the rows are in order, the columns are rows, and the edge values, scales and least values are finite. -/
theorem results_agree : Cert.algebraic_KernelIdeal_ReferenceIdeal_pre_rows_in_order_and_finite := fun m g m' g' h hagree =>
  ⟨Cert.KernelIdeal.Visit.refDw m, Cert.KernelIdeal.Visit.refAgg m,
    Cert.KernelIdeal.Visit.value g fun c => Cert.KernelIdeal.Visit.fine_of_pre m c (h c),
    (θ_run Cert.ReferenceIdeal.defs _ _).mono
      (fun r hr c => by
        obtain ⟨e0, e1, e2, e3, e4, e5, e6, e7⟩ := hagree c
        exact ⟨(hr c).1.trans (Cert.KernelIdeal.Visit.refDw_of m c e0 e1 e2 e3 e4 e5 e6 e7),
          (hr c).2.1.trans (Cert.KernelIdeal.Visit.refAgg_of m c e0 e1 e2 e3 e4 e5 e6), (hr c).2.2⟩)
      (Cert.ReferenceIdeal.Value.run m' g')⟩

end

theorem claim : Cert.Claim := ⟨Cert.Kernel.Gen.facts, Cert.KernelIdeal.Gen.facts, Cert.ReferenceIdeal.Gen.facts, starts_facts, fine_facts,
  frame_kernel, frame_kernelIdeal, frame_kernelIdeal_fine, frame_reference, frame_reference_fine, trivial, results_agree⟩

end Cert.Proof

end
